-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxReferenceIdeal (m : (ℓ : Loc Cert.FoxReferenceIdeal.nD Cert.FoxReferenceIdeal.τ Cert.FoxReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Online (m : (ℓ : Loc Cert.Online.nD Cert.Online.τ Cert.Online.sig) → Buf (Elt Bits) ℓ) : Prop :=
  True

def Pre_OnlineIdeal (m : (ℓ : Loc Cert.OnlineIdeal.nD Cert.OnlineIdeal.τ Cert.OnlineIdeal.sig) → Buf (Elt Ideal) ℓ) : Prop :=
  True

def Pre_OnlineIdeal_finite_logits [hPre_finite_logits : Cert.Pre_finite_logits.Facts] (m : (ℓ : Loc Cert.OnlineIdeal.nD Cert.OnlineIdeal.τ Cert.OnlineIdeal.sig) → Buf (Elt Ideal) ℓ) : Prop :=
  ∀ c : Dev Cert.OnlineIdeal.nD,
    (Cert.Pre_finite_logits.fn (F := Ideal) (m ((c.tc : Thread Cert.OnlineIdeal.nD Cert.OnlineIdeal.τ).loc Cert.OnlineIdeal.main_arg0)) (m ((c.tc : Thread Cert.OnlineIdeal.nD Cert.OnlineIdeal.τ).loc Cert.OnlineIdeal.main_arg1)) (m ((c.tc : Thread Cert.OnlineIdeal.nD Cert.OnlineIdeal.τ).loc Cert.OnlineIdeal.main_arg2)) (m ((c.tc : Thread Cert.OnlineIdeal.nD Cert.OnlineIdeal.τ).loc Cert.OnlineIdeal.main_arg3)) (m ((c.tc : Thread Cert.OnlineIdeal.nD Cert.OnlineIdeal.τ).loc Cert.OnlineIdeal.main_arg4))).1 = (fun _ => 1#1)
    ∧ (Cert.Pre_finite_logits.fn (F := Ideal) (m ((c.tc : Thread Cert.OnlineIdeal.nD Cert.OnlineIdeal.τ).loc Cert.OnlineIdeal.main_arg0)) (m ((c.tc : Thread Cert.OnlineIdeal.nD Cert.OnlineIdeal.τ).loc Cert.OnlineIdeal.main_arg1)) (m ((c.tc : Thread Cert.OnlineIdeal.nD Cert.OnlineIdeal.τ).loc Cert.OnlineIdeal.main_arg2)) (m ((c.tc : Thread Cert.OnlineIdeal.nD Cert.OnlineIdeal.τ).loc Cert.OnlineIdeal.main_arg3)) (m ((c.tc : Thread Cert.OnlineIdeal.nD Cert.OnlineIdeal.τ).loc Cert.OnlineIdeal.main_arg4))).2.1 = (fun _ => 1#1)
    ∧ (Cert.Pre_finite_logits.fn (F := Ideal) (m ((c.tc : Thread Cert.OnlineIdeal.nD Cert.OnlineIdeal.τ).loc Cert.OnlineIdeal.main_arg0)) (m ((c.tc : Thread Cert.OnlineIdeal.nD Cert.OnlineIdeal.τ).loc Cert.OnlineIdeal.main_arg1)) (m ((c.tc : Thread Cert.OnlineIdeal.nD Cert.OnlineIdeal.τ).loc Cert.OnlineIdeal.main_arg2)) (m ((c.tc : Thread Cert.OnlineIdeal.nD Cert.OnlineIdeal.τ).loc Cert.OnlineIdeal.main_arg3)) (m ((c.tc : Thread Cert.OnlineIdeal.nD Cert.OnlineIdeal.τ).loc Cert.OnlineIdeal.main_arg4))).2.2 = (fun _ => 1#1)

def Pre_OnlineReferenceIdeal (m : (ℓ : Loc Cert.OnlineReferenceIdeal.nD Cert.OnlineReferenceIdeal.τ Cert.OnlineReferenceIdeal.sig) → Buf (Elt Ideal) ℓ) : Prop :=
  True

def Pre_OnlineReferenceIdeal_finite_logits [hPre_finite_logits : Cert.Pre_finite_logits.Facts] (m : (ℓ : Loc Cert.OnlineReferenceIdeal.nD Cert.OnlineReferenceIdeal.τ Cert.OnlineReferenceIdeal.sig) → Buf (Elt Ideal) ℓ) : Prop :=
  ∀ c : Dev Cert.OnlineReferenceIdeal.nD,
    (Cert.Pre_finite_logits.fn (F := Ideal) (m ((c.tc : Thread Cert.OnlineReferenceIdeal.nD Cert.OnlineReferenceIdeal.τ).loc Cert.OnlineReferenceIdeal.main_arg0)) (m ((c.tc : Thread Cert.OnlineReferenceIdeal.nD Cert.OnlineReferenceIdeal.τ).loc Cert.OnlineReferenceIdeal.main_arg1)) (m ((c.tc : Thread Cert.OnlineReferenceIdeal.nD Cert.OnlineReferenceIdeal.τ).loc Cert.OnlineReferenceIdeal.main_arg2)) (m ((c.tc : Thread Cert.OnlineReferenceIdeal.nD Cert.OnlineReferenceIdeal.τ).loc Cert.OnlineReferenceIdeal.main_arg3)) (m ((c.tc : Thread Cert.OnlineReferenceIdeal.nD Cert.OnlineReferenceIdeal.τ).loc Cert.OnlineReferenceIdeal.main_arg4))).1 = (fun _ => 1#1)
    ∧ (Cert.Pre_finite_logits.fn (F := Ideal) (m ((c.tc : Thread Cert.OnlineReferenceIdeal.nD Cert.OnlineReferenceIdeal.τ).loc Cert.OnlineReferenceIdeal.main_arg0)) (m ((c.tc : Thread Cert.OnlineReferenceIdeal.nD Cert.OnlineReferenceIdeal.τ).loc Cert.OnlineReferenceIdeal.main_arg1)) (m ((c.tc : Thread Cert.OnlineReferenceIdeal.nD Cert.OnlineReferenceIdeal.τ).loc Cert.OnlineReferenceIdeal.main_arg2)) (m ((c.tc : Thread Cert.OnlineReferenceIdeal.nD Cert.OnlineReferenceIdeal.τ).loc Cert.OnlineReferenceIdeal.main_arg3)) (m ((c.tc : Thread Cert.OnlineReferenceIdeal.nD Cert.OnlineReferenceIdeal.τ).loc Cert.OnlineReferenceIdeal.main_arg4))).2.1 = (fun _ => 1#1)
    ∧ (Cert.Pre_finite_logits.fn (F := Ideal) (m ((c.tc : Thread Cert.OnlineReferenceIdeal.nD Cert.OnlineReferenceIdeal.τ).loc Cert.OnlineReferenceIdeal.main_arg0)) (m ((c.tc : Thread Cert.OnlineReferenceIdeal.nD Cert.OnlineReferenceIdeal.τ).loc Cert.OnlineReferenceIdeal.main_arg1)) (m ((c.tc : Thread Cert.OnlineReferenceIdeal.nD Cert.OnlineReferenceIdeal.τ).loc Cert.OnlineReferenceIdeal.main_arg2)) (m ((c.tc : Thread Cert.OnlineReferenceIdeal.nD Cert.OnlineReferenceIdeal.τ).loc Cert.OnlineReferenceIdeal.main_arg3)) (m ((c.tc : Thread Cert.OnlineReferenceIdeal.nD Cert.OnlineReferenceIdeal.τ).loc Cert.OnlineReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5)
      ∧ r.2.mem ((c.tc : Thread Cert.Fox.nD Cert.Fox.τ).loc Cert.Fox.main_arg6) = m ((c.tc : Thread Cert.Fox.nD Cert.Fox.τ).loc Cert.Fox.main_arg6)
      ∧ r.2.mem ((c.tc : Thread Cert.Fox.nD Cert.Fox.τ).loc Cert.Fox.main_arg7) = m ((c.tc : Thread Cert.Fox.nD Cert.Fox.τ).loc Cert.Fox.main_arg7))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
      ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4)
      ∧ r.2.mem ((c.tc : Thread Cert.FoxReferenceIdeal.nD Cert.FoxReferenceIdeal.τ).loc Cert.FoxReferenceIdeal.main_arg5) = m ((c.tc : Thread Cert.FoxReferenceIdeal.nD Cert.FoxReferenceIdeal.τ).loc Cert.FoxReferenceIdeal.main_arg5)
      ∧ r.2.mem ((c.tc : Thread Cert.FoxReferenceIdeal.nD Cert.FoxReferenceIdeal.τ).loc Cert.FoxReferenceIdeal.main_arg6) = m ((c.tc : Thread Cert.FoxReferenceIdeal.nD Cert.FoxReferenceIdeal.τ).loc Cert.FoxReferenceIdeal.main_arg6)
      ∧ r.2.mem ((c.tc : Thread Cert.FoxReferenceIdeal.nD Cert.FoxReferenceIdeal.τ).loc Cert.FoxReferenceIdeal.main_arg7) = m ((c.tc : Thread Cert.FoxReferenceIdeal.nD Cert.FoxReferenceIdeal.τ).loc Cert.FoxReferenceIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5))
      ∧ r.2.sem = fun _ => 0)

def quiescent_Online [hOnline : Cert.Online.Facts] : Prop :=
  ∀ (m : (ℓ : Loc Cert.Online.nD Cert.Online.τ Cert.Online.sig) → Buf (Elt Bits) ℓ) (g : Dev Cert.Online.nD → PrngReg), Pre_Online m →
    θ_run (Cert.Online.defs (F := Bits)) (onTc (τ := Cert.Online.τ) (Cert.Online.main (F := Bits))) ⟨m, fun _ => 0, g⟩ (fun r => (∀ c : Dev Cert.Online.nD,
      r.2.mem ((c.tc : Thread Cert.Online.nD Cert.Online.τ).loc Cert.Online.main_arg0) = m ((c.tc : Thread Cert.Online.nD Cert.Online.τ).loc Cert.Online.main_arg0)
      ∧ r.2.mem ((c.tc : Thread Cert.Online.nD Cert.Online.τ).loc Cert.Online.main_arg1) = m ((c.tc : Thread Cert.Online.nD Cert.Online.τ).loc Cert.Online.main_arg1)
      ∧ r.2.mem ((c.tc : Thread Cert.Online.nD Cert.Online.τ).loc Cert.Online.main_arg2) = m ((c.tc : Thread Cert.Online.nD Cert.Online.τ).loc Cert.Online.main_arg2)
      ∧ r.2.mem ((c.tc : Thread Cert.Online.nD Cert.Online.τ).loc Cert.Online.main_arg3) = m ((c.tc : Thread Cert.Online.nD Cert.Online.τ).loc Cert.Online.main_arg3)
      ∧ r.2.mem ((c.tc : Thread Cert.Online.nD Cert.Online.τ).loc Cert.Online.main_arg4) = m ((c.tc : Thread Cert.Online.nD Cert.Online.τ).loc Cert.Online.main_arg4))
      ∧ r.2.sem = fun _ => 0)

def quiescent_OnlineIdeal [hOnlineIdeal : Cert.OnlineIdeal.Facts] : Prop :=
  ∀ (m : (ℓ : Loc Cert.OnlineIdeal.nD Cert.OnlineIdeal.τ Cert.OnlineIdeal.sig) → Buf (Elt Ideal) ℓ) (g : Dev Cert.OnlineIdeal.nD → PrngReg), Pre_OnlineIdeal m →
    θ_run (Cert.OnlineIdeal.defs (F := Ideal)) (onTc (τ := Cert.OnlineIdeal.τ) (Cert.OnlineIdeal.main (F := Ideal))) ⟨m, fun _ => 0, g⟩ (fun r => (∀ c : Dev Cert.OnlineIdeal.nD,
      r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
      ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
      ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
      ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3)
      ∧ r.2.mem ((c.tc : Thread Cert.OnlineIdeal.nD Cert.OnlineIdeal.τ).loc Cert.OnlineIdeal.main_arg4) = m ((c.tc : Thread Cert.OnlineIdeal.nD Cert.OnlineIdeal.τ).loc Cert.OnlineIdeal.main_arg4))
      ∧ r.2.sem = fun _ => 0)

def quiescent_OnlineIdeal_pre_finite_logits [hOnlineIdeal : Cert.OnlineIdeal.Facts] [hPre_finite_logits : Cert.Pre_finite_logits.Facts] : Prop :=
  ∀ (m : (ℓ : Loc Cert.OnlineIdeal.nD Cert.OnlineIdeal.τ Cert.OnlineIdeal.sig) → Buf (Elt Ideal) ℓ) (g : Dev Cert.OnlineIdeal.nD → PrngReg), Pre_OnlineIdeal_finite_logits m →
    θ_run (Cert.OnlineIdeal.defs (F := Ideal)) (onTc (τ := Cert.OnlineIdeal.τ) (Cert.OnlineIdeal.main (F := Ideal))) ⟨m, fun _ => 0, g⟩ (fun r => (∀ c : Dev Cert.OnlineIdeal.nD,
      r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
      ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
      ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
      ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3)
      ∧ r.2.mem ((c.tc : Thread Cert.OnlineIdeal.nD Cert.OnlineIdeal.τ).loc Cert.OnlineIdeal.main_arg4) = m ((c.tc : Thread Cert.OnlineIdeal.nD Cert.OnlineIdeal.τ).loc Cert.OnlineIdeal.main_arg4))
      ∧ r.2.sem = fun _ => 0)

def quiescent_OnlineReferenceIdeal [hOnlineReferenceIdeal : Cert.OnlineReferenceIdeal.Facts] : Prop :=
  ∀ (m : (ℓ : Loc Cert.OnlineReferenceIdeal.nD Cert.OnlineReferenceIdeal.τ Cert.OnlineReferenceIdeal.sig) → Buf (Elt Ideal) ℓ) (g : Dev Cert.OnlineReferenceIdeal.nD → PrngReg), Pre_OnlineReferenceIdeal m →
    θ_run (Cert.OnlineReferenceIdeal.defs (F := Ideal)) (onTc (τ := Cert.OnlineReferenceIdeal.τ) (Cert.OnlineReferenceIdeal.main (F := Ideal))) ⟨m, fun _ => 0, g⟩ (fun r => (∀ c : Dev Cert.OnlineReferenceIdeal.nD,
      r.2.mem ((c.tc : Thread Cert.OnlineReferenceIdeal.nD Cert.OnlineReferenceIdeal.τ).loc Cert.OnlineReferenceIdeal.main_arg0) = m ((c.tc : Thread Cert.OnlineReferenceIdeal.nD Cert.OnlineReferenceIdeal.τ).loc Cert.OnlineReferenceIdeal.main_arg0)
      ∧ r.2.mem ((c.tc : Thread Cert.OnlineReferenceIdeal.nD Cert.OnlineReferenceIdeal.τ).loc Cert.OnlineReferenceIdeal.main_arg1) = m ((c.tc : Thread Cert.OnlineReferenceIdeal.nD Cert.OnlineReferenceIdeal.τ).loc Cert.OnlineReferenceIdeal.main_arg1)
      ∧ r.2.mem ((c.tc : Thread Cert.OnlineReferenceIdeal.nD Cert.OnlineReferenceIdeal.τ).loc Cert.OnlineReferenceIdeal.main_arg2) = m ((c.tc : Thread Cert.OnlineReferenceIdeal.nD Cert.OnlineReferenceIdeal.τ).loc Cert.OnlineReferenceIdeal.main_arg2)
      ∧ r.2.mem ((c.tc : Thread Cert.OnlineReferenceIdeal.nD Cert.OnlineReferenceIdeal.τ).loc Cert.OnlineReferenceIdeal.main_arg3) = m ((c.tc : Thread Cert.OnlineReferenceIdeal.nD Cert.OnlineReferenceIdeal.τ).loc Cert.OnlineReferenceIdeal.main_arg3)
      ∧ r.2.mem ((c.tc : Thread Cert.OnlineReferenceIdeal.nD Cert.OnlineReferenceIdeal.τ).loc Cert.OnlineReferenceIdeal.main_arg4) = m ((c.tc : Thread Cert.OnlineReferenceIdeal.nD Cert.OnlineReferenceIdeal.τ).loc Cert.OnlineReferenceIdeal.main_arg4))
      ∧ r.2.sem = fun _ => 0)

def quiescent_OnlineReferenceIdeal_pre_finite_logits [hOnlineReferenceIdeal : Cert.OnlineReferenceIdeal.Facts] [hPre_finite_logits : Cert.Pre_finite_logits.Facts] : Prop :=
  ∀ (m : (ℓ : Loc Cert.OnlineReferenceIdeal.nD Cert.OnlineReferenceIdeal.τ Cert.OnlineReferenceIdeal.sig) → Buf (Elt Ideal) ℓ) (g : Dev Cert.OnlineReferenceIdeal.nD → PrngReg), Pre_OnlineReferenceIdeal_finite_logits m →
    θ_run (Cert.OnlineReferenceIdeal.defs (F := Ideal)) (onTc (τ := Cert.OnlineReferenceIdeal.τ) (Cert.OnlineReferenceIdeal.main (F := Ideal))) ⟨m, fun _ => 0, g⟩ (fun r => (∀ c : Dev Cert.OnlineReferenceIdeal.nD,
      r.2.mem ((c.tc : Thread Cert.OnlineReferenceIdeal.nD Cert.OnlineReferenceIdeal.τ).loc Cert.OnlineReferenceIdeal.main_arg0) = m ((c.tc : Thread Cert.OnlineReferenceIdeal.nD Cert.OnlineReferenceIdeal.τ).loc Cert.OnlineReferenceIdeal.main_arg0)
      ∧ r.2.mem ((c.tc : Thread Cert.OnlineReferenceIdeal.nD Cert.OnlineReferenceIdeal.τ).loc Cert.OnlineReferenceIdeal.main_arg1) = m ((c.tc : Thread Cert.OnlineReferenceIdeal.nD Cert.OnlineReferenceIdeal.τ).loc Cert.OnlineReferenceIdeal.main_arg1)
      ∧ r.2.mem ((c.tc : Thread Cert.OnlineReferenceIdeal.nD Cert.OnlineReferenceIdeal.τ).loc Cert.OnlineReferenceIdeal.main_arg2) = m ((c.tc : Thread Cert.OnlineReferenceIdeal.nD Cert.OnlineReferenceIdeal.τ).loc Cert.OnlineReferenceIdeal.main_arg2)
      ∧ r.2.mem ((c.tc : Thread Cert.OnlineReferenceIdeal.nD Cert.OnlineReferenceIdeal.τ).loc Cert.OnlineReferenceIdeal.main_arg3) = m ((c.tc : Thread Cert.OnlineReferenceIdeal.nD Cert.OnlineReferenceIdeal.τ).loc Cert.OnlineReferenceIdeal.main_arg3)
      ∧ r.2.mem ((c.tc : Thread Cert.OnlineReferenceIdeal.nD Cert.OnlineReferenceIdeal.τ).loc Cert.OnlineReferenceIdeal.main_arg4) = m ((c.tc : Thread Cert.OnlineReferenceIdeal.nD Cert.OnlineReferenceIdeal.τ).loc Cert.OnlineReferenceIdeal.main_arg4))
      ∧ r.2.sem = fun _ => 0)

def preserves_Kernel_KernelIdeal : Prop :=
  IdealRules.named_const.Statement Cert.KernelIdeal.κ "minus_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)) →
    ∃ (v0 : (c : Dev Cert.FrontIdeal.nD) → Buf (Elt Ideal) ((c.tc : Thread Cert.FrontIdeal.nD Cert.FrontIdeal.τ).loc Cert.FrontIdeal.main_v13_0)) (v1 : (c : Dev Cert.FrontIdeal.nD) → Buf (Elt Ideal) ((c.tc : Thread Cert.FrontIdeal.nD Cert.FrontIdeal.τ).loc Cert.FrontIdeal.main_v13_1)) (v2 : (c : Dev Cert.FrontIdeal.nD) → Buf (Elt Ideal) ((c.tc : Thread Cert.FrontIdeal.nD Cert.FrontIdeal.τ).loc Cert.FrontIdeal.main_v13_2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v13_0) = v0 c
          ∧ r.2.mem ((c.tc : Thread Cert.FrontIdeal.nD Cert.FrontIdeal.τ).loc Cert.FrontIdeal.main_v13_1) = v1 c
          ∧ r.2.mem ((c.tc : Thread Cert.FrontIdeal.nD Cert.FrontIdeal.τ).loc Cert.FrontIdeal.main_v13_2) = v2 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v19) = v0 c
          ∧ r.2.mem ((c.tc : Thread Cert.FrontReferenceIdeal.nD Cert.FrontReferenceIdeal.τ).loc Cert.FrontReferenceIdeal.main_v22) = v1 c
          ∧ r.2.mem ((c.tc : Thread Cert.FrontReferenceIdeal.nD Cert.FrontReferenceIdeal.τ).loc Cert.FrontReferenceIdeal.main_v23) = v2 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4))

def preserves_Fox_FoxIdeal : Prop :=
  IdealRules.named_const.Statement Cert.FoxIdeal.κ "log2e" .f32 0x3FB8AA3B#32 (((Real.log 2)⁻¹ : ℝ) : EReal)

def algebraic_FoxIdeal_FoxReferenceIdeal [hFoxIdeal : Cert.FoxIdeal.Facts] [hFoxReferenceIdeal : Cert.FoxReferenceIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)
      ∧ m' ((c.tc : Thread Cert.FoxReferenceIdeal.nD Cert.FoxReferenceIdeal.τ).loc Cert.FoxReferenceIdeal.main_arg4) = m ((c.tc : Thread Cert.FoxIdeal.nD Cert.FoxIdeal.τ).loc Cert.FoxIdeal.main_arg4)
      ∧ m' ((c.tc : Thread Cert.FoxReferenceIdeal.nD Cert.FoxReferenceIdeal.τ).loc Cert.FoxReferenceIdeal.main_arg5) = m ((c.tc : Thread Cert.FoxIdeal.nD Cert.FoxIdeal.τ).loc Cert.FoxIdeal.main_arg5)
      ∧ m' ((c.tc : Thread Cert.FoxReferenceIdeal.nD Cert.FoxReferenceIdeal.τ).loc Cert.FoxReferenceIdeal.main_arg6) = m ((c.tc : Thread Cert.FoxIdeal.nD Cert.FoxIdeal.τ).loc Cert.FoxIdeal.main_arg6)
      ∧ m' ((c.tc : Thread Cert.FoxReferenceIdeal.nD Cert.FoxReferenceIdeal.τ).loc Cert.FoxReferenceIdeal.main_arg7) = m ((c.tc : Thread Cert.FoxIdeal.nD Cert.FoxIdeal.τ).loc Cert.FoxIdeal.main_arg7)) →
    ∃ (v0 : (c : Dev Cert.FoxIdeal.nD) → Buf (Elt Ideal) ((c.tc : Thread Cert.FoxIdeal.nD Cert.FoxIdeal.τ).loc Cert.FoxIdeal.main_v31_0)) (v1 : (c : Dev Cert.FoxIdeal.nD) → Buf (Elt Ideal) ((c.tc : Thread Cert.FoxIdeal.nD Cert.FoxIdeal.τ).loc Cert.FoxIdeal.main_v31_1)) (v2 : (c : Dev Cert.FoxIdeal.nD) → Buf (Elt Ideal) ((c.tc : Thread Cert.FoxIdeal.nD Cert.FoxIdeal.τ).loc Cert.FoxIdeal.main_v31_2)) (v3 : (c : Dev Cert.FoxIdeal.nD) → Buf (Elt Ideal) ((c.tc : Thread Cert.FoxIdeal.nD Cert.FoxIdeal.τ).loc Cert.FoxIdeal.main_v31_3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v31_0) = v0 c
          ∧ r.2.mem ((c.tc : Thread Cert.FoxIdeal.nD Cert.FoxIdeal.τ).loc Cert.FoxIdeal.main_v31_1) = v1 c
          ∧ r.2.mem ((c.tc : Thread Cert.FoxIdeal.nD Cert.FoxIdeal.τ).loc Cert.FoxIdeal.main_v31_2) = v2 c
          ∧ r.2.mem ((c.tc : Thread Cert.FoxIdeal.nD Cert.FoxIdeal.τ).loc Cert.FoxIdeal.main_v31_3) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
          ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
          ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
          ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v68) = v0 c
          ∧ r.2.mem ((c.tc : Thread Cert.FoxReferenceIdeal.nD Cert.FoxReferenceIdeal.τ).loc Cert.FoxReferenceIdeal.main_v69) = v1 c
          ∧ r.2.mem ((c.tc : Thread Cert.FoxReferenceIdeal.nD Cert.FoxReferenceIdeal.τ).loc Cert.FoxReferenceIdeal.main_v70) = v2 c
          ∧ r.2.mem ((c.tc : Thread Cert.FoxReferenceIdeal.nD Cert.FoxReferenceIdeal.τ).loc Cert.FoxReferenceIdeal.main_v72) = v3 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4)
          ∧ r.2.mem ((c.tc : Thread Cert.FoxReferenceIdeal.nD Cert.FoxReferenceIdeal.τ).loc Cert.FoxReferenceIdeal.main_arg5) = m' ((c.tc : Thread Cert.FoxReferenceIdeal.nD Cert.FoxReferenceIdeal.τ).loc Cert.FoxReferenceIdeal.main_arg5)
          ∧ r.2.mem ((c.tc : Thread Cert.FoxReferenceIdeal.nD Cert.FoxReferenceIdeal.τ).loc Cert.FoxReferenceIdeal.main_arg6) = m' ((c.tc : Thread Cert.FoxReferenceIdeal.nD Cert.FoxReferenceIdeal.τ).loc Cert.FoxReferenceIdeal.main_arg6)
          ∧ r.2.mem ((c.tc : Thread Cert.FoxReferenceIdeal.nD Cert.FoxReferenceIdeal.τ).loc Cert.FoxReferenceIdeal.main_arg7) = m' ((c.tc : Thread Cert.FoxReferenceIdeal.nD Cert.FoxReferenceIdeal.τ).loc Cert.FoxReferenceIdeal.main_arg7))

def preserves_First_FirstIdeal : Prop :=
  IdealRules.named_const.Statement Cert.FirstIdeal.κ "log2e" .f32 0x3FB8AA3B#32 (((Real.log 2)⁻¹ : ℝ) : EReal)

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v28_0)) (v1 : (c : Dev Cert.FirstIdeal.nD) → Buf (Elt Ideal) ((c.tc : Thread Cert.FirstIdeal.nD Cert.FirstIdeal.τ).loc Cert.FirstIdeal.main_v28_1)) (v2 : (c : Dev Cert.FirstIdeal.nD) → Buf (Elt Ideal) ((c.tc : Thread Cert.FirstIdeal.nD Cert.FirstIdeal.τ).loc Cert.FirstIdeal.main_v28_2)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v28_0) = v0 c
          ∧ r.2.mem ((c.tc : Thread Cert.FirstIdeal.nD Cert.FirstIdeal.τ).loc Cert.FirstIdeal.main_v28_1) = v1 c
          ∧ r.2.mem ((c.tc : Thread Cert.FirstIdeal.nD Cert.FirstIdeal.τ).loc Cert.FirstIdeal.main_v28_2) = v2 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v66) = v0 c
          ∧ r.2.mem ((c.tc : Thread Cert.FirstReferenceIdeal.nD Cert.FirstReferenceIdeal.τ).loc Cert.FirstReferenceIdeal.main_v67) = v1 c
          ∧ r.2.mem ((c.tc : Thread Cert.FirstReferenceIdeal.nD Cert.FirstReferenceIdeal.τ).loc Cert.FirstReferenceIdeal.main_v69) = v2 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5))

def preserves_Online_OnlineIdeal : Prop :=
  IdealRules.named_const.Statement Cert.OnlineIdeal.κ "minus_log2e" .f32 0xBFB8AA3B#32 ((-((Real.log 2)⁻¹) : ℝ) : EReal)

def algebraic_OnlineIdeal_OnlineReferenceIdeal_pre_finite_logits [hOnlineIdeal : Cert.OnlineIdeal.Facts] [hOnlineReferenceIdeal : Cert.OnlineReferenceIdeal.Facts] [hPre_finite_logits : Cert.Pre_finite_logits.Facts] : Prop :=
  ∀ (m : (ℓ : Loc Cert.OnlineIdeal.nD Cert.OnlineIdeal.τ Cert.OnlineIdeal.sig) → Buf (Elt Ideal) ℓ) (g : Dev Cert.OnlineIdeal.nD → PrngReg)
    (m' : (ℓ : Loc Cert.OnlineReferenceIdeal.nD Cert.OnlineReferenceIdeal.τ Cert.OnlineReferenceIdeal.sig) → Buf (Elt Ideal) ℓ) (g' : Dev Cert.OnlineReferenceIdeal.nD → PrngReg), Pre_OnlineIdeal_finite_logits m →
    (∀ c : Dev Cert.OnlineIdeal.nD,
      m' ((c.tc : Thread Cert.OnlineReferenceIdeal.nD Cert.OnlineReferenceIdeal.τ).loc Cert.OnlineReferenceIdeal.main_arg0) = m ((c.tc : Thread Cert.OnlineIdeal.nD Cert.OnlineIdeal.τ).loc Cert.OnlineIdeal.main_arg0)
      ∧ m' ((c.tc : Thread Cert.OnlineReferenceIdeal.nD Cert.OnlineReferenceIdeal.τ).loc Cert.OnlineReferenceIdeal.main_arg1) = m ((c.tc : Thread Cert.OnlineIdeal.nD Cert.OnlineIdeal.τ).loc Cert.OnlineIdeal.main_arg1)
      ∧ m' ((c.tc : Thread Cert.OnlineReferenceIdeal.nD Cert.OnlineReferenceIdeal.τ).loc Cert.OnlineReferenceIdeal.main_arg2) = m ((c.tc : Thread Cert.OnlineIdeal.nD Cert.OnlineIdeal.τ).loc Cert.OnlineIdeal.main_arg2)
      ∧ m' ((c.tc : Thread Cert.OnlineReferenceIdeal.nD Cert.OnlineReferenceIdeal.τ).loc Cert.OnlineReferenceIdeal.main_arg3) = m ((c.tc : Thread Cert.OnlineIdeal.nD Cert.OnlineIdeal.τ).loc Cert.OnlineIdeal.main_arg3)
      ∧ m' ((c.tc : Thread Cert.OnlineReferenceIdeal.nD Cert.OnlineReferenceIdeal.τ).loc Cert.OnlineReferenceIdeal.main_arg4) = m ((c.tc : Thread Cert.OnlineIdeal.nD Cert.OnlineIdeal.τ).loc Cert.OnlineIdeal.main_arg4)) →
    ∃ (v0 : (c : Dev Cert.OnlineIdeal.nD) → Buf (Elt Ideal) ((c.tc : Thread Cert.OnlineIdeal.nD Cert.OnlineIdeal.τ).loc Cert.OnlineIdeal.main_v18)),
      θ_run (Cert.OnlineIdeal.defs (F := Ideal)) (onTc (τ := Cert.OnlineIdeal.τ) (Cert.OnlineIdeal.main (F := Ideal))) ⟨m, fun _ => 0, g⟩ (fun r => ∀ c : Dev Cert.OnlineIdeal.nD,
          r.2.mem ((c.tc : Thread Cert.OnlineIdeal.nD Cert.OnlineIdeal.τ).loc Cert.OnlineIdeal.main_v18) = v0 c
          ∧ r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
          ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
          ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
          ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3)
          ∧ r.2.mem ((c.tc : Thread Cert.OnlineIdeal.nD Cert.OnlineIdeal.τ).loc Cert.OnlineIdeal.main_arg4) = m ((c.tc : Thread Cert.OnlineIdeal.nD Cert.OnlineIdeal.τ).loc Cert.OnlineIdeal.main_arg4))
      ∧ θ_run (Cert.OnlineReferenceIdeal.defs (F := Ideal)) (onTc (τ := Cert.OnlineReferenceIdeal.τ) (Cert.OnlineReferenceIdeal.main (F := Ideal))) ⟨m', fun _ => 0, g'⟩ (fun r => ∀ c : Dev Cert.OnlineReferenceIdeal.nD,
          r.2.mem ((c.tc : Thread Cert.OnlineReferenceIdeal.nD Cert.OnlineReferenceIdeal.τ).loc Cert.OnlineReferenceIdeal.main_v37) = v0 c
          ∧ r.2.mem ((c.tc : Thread Cert.OnlineReferenceIdeal.nD Cert.OnlineReferenceIdeal.τ).loc Cert.OnlineReferenceIdeal.main_arg0) = m' ((c.tc : Thread Cert.OnlineReferenceIdeal.nD Cert.OnlineReferenceIdeal.τ).loc Cert.OnlineReferenceIdeal.main_arg0)
          ∧ r.2.mem ((c.tc : Thread Cert.OnlineReferenceIdeal.nD Cert.OnlineReferenceIdeal.τ).loc Cert.OnlineReferenceIdeal.main_arg1) = m' ((c.tc : Thread Cert.OnlineReferenceIdeal.nD Cert.OnlineReferenceIdeal.τ).loc Cert.OnlineReferenceIdeal.main_arg1)
          ∧ r.2.mem ((c.tc : Thread Cert.OnlineReferenceIdeal.nD Cert.OnlineReferenceIdeal.τ).loc Cert.OnlineReferenceIdeal.main_arg2) = m' ((c.tc : Thread Cert.OnlineReferenceIdeal.nD Cert.OnlineReferenceIdeal.τ).loc Cert.OnlineReferenceIdeal.main_arg2)
          ∧ r.2.mem ((c.tc : Thread Cert.OnlineReferenceIdeal.nD Cert.OnlineReferenceIdeal.τ).loc Cert.OnlineReferenceIdeal.main_arg3) = m' ((c.tc : Thread Cert.OnlineReferenceIdeal.nD Cert.OnlineReferenceIdeal.τ).loc Cert.OnlineReferenceIdeal.main_arg3)
          ∧ r.2.mem ((c.tc : Thread Cert.OnlineReferenceIdeal.nD Cert.OnlineReferenceIdeal.τ).loc Cert.OnlineReferenceIdeal.main_arg4) = m' ((c.tc : Thread Cert.OnlineReferenceIdeal.nD Cert.OnlineReferenceIdeal.τ).loc Cert.OnlineReferenceIdeal.main_arg4))

def Claim : Prop :=
  ∃ (hKernel : Cert.Kernel.Facts) (hKernelIdeal : Cert.KernelIdeal.Facts) (hReferenceIdeal : Cert.ReferenceIdeal.Facts) (hFront : Cert.Front.Facts) (hFrontIdeal : Cert.FrontIdeal.Facts) (hFrontReferenceIdeal : Cert.FrontReferenceIdeal.Facts) (hFox : Cert.Fox.Facts) (hFoxIdeal : Cert.FoxIdeal.Facts) (hFoxReferenceIdeal : Cert.FoxReferenceIdeal.Facts) (hFirst : Cert.First.Facts) (hFirstIdeal : Cert.FirstIdeal.Facts) (hFirstReferenceIdeal : Cert.FirstReferenceIdeal.Facts) (hOnline : Cert.Online.Facts) (hOnlineIdeal : Cert.OnlineIdeal.Facts) (hOnlineReferenceIdeal : Cert.OnlineReferenceIdeal.Facts) (hPre_finite : Cert.Pre_finite.Facts) (hPre_finite_logits : Cert.Pre_finite_logits.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Front (hFront := hFront)
    ∧ quiescent_FrontIdeal (hFrontIdeal := hFrontIdeal)
    ∧ quiescent_FrontReferenceIdeal (hFrontReferenceIdeal := hFrontReferenceIdeal)
    ∧ quiescent_Fox (hFox := hFox)
    ∧ quiescent_FoxIdeal (hFoxIdeal := hFoxIdeal)
    ∧ quiescent_FoxReferenceIdeal (hFoxReferenceIdeal := hFoxReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Online (hOnline := hOnline)
    ∧ quiescent_OnlineIdeal (hOnlineIdeal := hOnlineIdeal)
    ∧ quiescent_OnlineIdeal_pre_finite_logits (hOnlineIdeal := hOnlineIdeal) (hPre_finite_logits := hPre_finite_logits)
    ∧ quiescent_OnlineReferenceIdeal (hOnlineReferenceIdeal := hOnlineReferenceIdeal)
    ∧ quiescent_OnlineReferenceIdeal_pre_finite_logits (hOnlineReferenceIdeal := hOnlineReferenceIdeal) (hPre_finite_logits := hPre_finite_logits)
    ∧ preserves_Kernel_KernelIdeal
    ∧ algebraic_KernelIdeal_ReferenceIdeal_pre_finite (hKernelIdeal := hKernelIdeal) (hReferenceIdeal := hReferenceIdeal) (hPre_finite := hPre_finite)
    ∧ preserves_Front_FrontIdeal
    ∧ algebraic_FrontIdeal_FrontReferenceIdeal (hFrontIdeal := hFrontIdeal) (hFrontReferenceIdeal := hFrontReferenceIdeal)
    ∧ preserves_Fox_FoxIdeal
    ∧ algebraic_FoxIdeal_FoxReferenceIdeal (hFoxIdeal := hFoxIdeal) (hFoxReferenceIdeal := hFoxReferenceIdeal)
    ∧ preserves_First_FirstIdeal
    ∧ algebraic_FirstIdeal_FirstReferenceIdeal (hFirstIdeal := hFirstIdeal) (hFirstReferenceIdeal := hFirstReferenceIdeal)
    ∧ preserves_Online_OnlineIdeal
    ∧ algebraic_OnlineIdeal_OnlineReferenceIdeal_pre_finite_logits (hOnlineIdeal := hOnlineIdeal) (hOnlineReferenceIdeal := hOnlineReferenceIdeal) (hPre_finite_logits := hPre_finite_logits)
-- ==== Pre_finite.lean ====
abbrev S4x8192x8x128 : Shape := ⟨4, ![4, 8192, 8, 128]⟩
abbrev S4x8192x1024 : Shape := ⟨3, ![4, 8192, 1024]⟩
abbrev S4x8192x8 : Shape := ⟨3, ![4, 8192, 8]⟩
abbrev S128 : Shape := ⟨1, ![128]⟩
abbrev S_ : Shape := ⟨0, ![]⟩

class Facts : Prop where
  bcast_S_S4x8192x8x128 : S_.BroadcastsInDim S4x8192x8x128 (![] : Fin 0 → Fin S4x8192x8x128.rank)
  bcast_S_S4x8192x8 : S_.BroadcastsInDim S4x8192x8 (![] : Fin 0 → Fin S4x8192x8.rank)
  bcast_S_S128 : S_.BroadcastsInDim S128 (![] : Fin 0 → Fin S128.rank)

variable [Facts]

def fn {F : FTy → Type} [FloatOps F] (main_arg0 : FVec F S4x8192x8x128 .f32) (main_arg1 : FVec F S4x8192x8x128 .f32) (main_arg2 : FVec F S4x8192x8x128 .f32) (main_arg3 : FVec F S4x8192x1024 .f32) (main_arg4 : FVec F S4x8192x8 .f32) (main_arg5 : FVec F S128 .f32) (main_arg6 : FVec F S128 .f32) : IVec S4x8192x8x128 1 × IVec S4x8192x8x128 1 × IVec S4x8192x8 1 × IVec S128 1 × IVec S128 1 :=
  let main_v0 : FVec F S4x8192x8x128 .f32 := Host.absf main_arg0
  let main_cst : FVec F S_ .f32 := constant S_ .f32 0x7F800000#32
  let main_v1 : FVec F S4x8192x8x128 .f32 := broadcastInDim S4x8192x8x128 ![] bcast_S_S4x8192x8x128 main_cst
  let main_v2 : IVec S4x8192x8x128 1 := cmpf .olt main_v0 main_v1
  let main_v3 : FVec F S4x8192x8x128 .f32 := Host.absf main_arg1
  let main_cst_0 : FVec F S_ .f32 := constant S_ .f32 0x7F800000#32
  let main_v4 : FVec F S4x8192x8x128 .f32 := broadcastInDim S4x8192x8x128 ![] bcast_S_S4x8192x8x128 main_cst_0
  let main_v5 : IVec S4x8192x8x128 1 := cmpf .olt main_v3 main_v4
  let main_v6 : FVec F S4x8192x8 .f32 := Host.absf main_arg4
  let main_cst_1 : FVec F S_ .f32 := constant S_ .f32 0x7F800000#32
  let main_v7 : FVec F S4x8192x8 .f32 := broadcastInDim S4x8192x8 ![] bcast_S_S4x8192x8 main_cst_1
  let main_v8 : IVec S4x8192x8 1 := cmpf .olt main_v6 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg6
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  (main_v2, main_v5, main_v8, main_v11, main_v14)
-- ==== Pre_finite_logits.lean ====
abbrev S4x8192x8x128 : Shape := ⟨4, ![4, 8192, 8, 128]⟩
abbrev S4x8192x1024 : Shape := ⟨3, ![4, 8192, 1024]⟩
abbrev S4x8192x8 : Shape := ⟨3, ![4, 8192, 8]⟩
abbrev S_ : Shape := ⟨0, ![]⟩

class Facts : Prop where
  bcast_S_S4x8192x8x128 : S_.BroadcastsInDim S4x8192x8x128 (![] : Fin 0 → Fin S4x8192x8x128.rank)
  bcast_S_S4x8192x8 : S_.BroadcastsInDim S4x8192x8 (![] : Fin 0 → Fin S4x8192x8.rank)

variable [Facts]

def fn {F : FTy → Type} [FloatOps F] (main_arg0 : FVec F S4x8192x8x128 .f32) (main_arg1 : FVec F S4x8192x8x128 .f32) (main_arg2 : FVec F S4x8192x8x128 .f32) (main_arg3 : FVec F S4x8192x1024 .f32) (main_arg4 : FVec F S4x8192x8 .f32) : IVec S4x8192x8x128 1 × IVec S4x8192x8x128 1 × IVec S4x8192x8 1 :=
  let main_v0 : FVec F S4x8192x8x128 .f32 := Host.absf main_arg0
  let main_cst : FVec F S_ .f32 := constant S_ .f32 0x7F800000#32
  let main_v1 : FVec F S4x8192x8x128 .f32 := broadcastInDim S4x8192x8x128 ![] bcast_S_S4x8192x8x128 main_cst
  let main_v2 : IVec S4x8192x8x128 1 := cmpf .olt main_v0 main_v1
  let main_v3 : FVec F S4x8192x8x128 .f32 := Host.absf main_arg1
  let main_cst_0 : FVec F S_ .f32 := constant S_ .f32 0x7F800000#32
  let main_v4 : FVec F S4x8192x8x128 .f32 := broadcastInDim S4x8192x8x128 ![] bcast_S_S4x8192x8x128 main_cst_0
  let main_v5 : IVec S4x8192x8x128 1 := cmpf .olt main_v3 main_v4
  let main_v6 : FVec F S4x8192x8 .f32 := Host.absf main_arg4
  let main_cst_1 : FVec F S_ .f32 := constant S_ .f32 0x7F800000#32
  let main_v7 : FVec F S4x8192x8 .f32 := broadcastInDim S4x8192x8 ![] bcast_S_S4x8192x8 main_cst_1
  let main_v8 : IVec S4x8192x8 1 := cmpf .olt main_v6 main_v7
  (main_v2, main_v5, main_v8)
-- ==== Kernel.lean ====
abbrev S4x8192x8x128 : Shape := ⟨4, ![4, 8192, 8, 128]⟩
abbrev S4x8192x1024 : Shape := ⟨3, ![4, 8192, 1024]⟩
abbrev S4x8192x8 : Shape := ⟨3, ![4, 8192, 8]⟩
abbrev S128 : Shape := ⟨1, ![128]⟩
abbrev S_ : Shape := ⟨0, ![]⟩
abbrev S4x8192x4096 : Shape := ⟨3, ![4, 8192, 4096]⟩
abbrev S4x8192x120 : Shape := ⟨3, ![4, 8192, 120]⟩
abbrev S4x8192x128 : Shape := ⟨3, ![4, 8192, 128]⟩
abbrev S4x8x8192 : Shape := ⟨3, ![4, 8, 8192]⟩
abbrev S1x128 : Shape := ⟨2, ![1, 128]⟩
abbrev S1x2048x128 : Shape := ⟨3, ![1, 2048, 128]⟩
abbrev S1x8192x128 : Shape := ⟨3, ![1, 8192, 128]⟩
abbrev S1x8x8192 : Shape := ⟨3, ![1, 8, 8192]⟩
abbrev S2048x128 : Shape := ⟨2, ![2048, 128]⟩
abbrev S2048 : Shape := ⟨1, ![2048]⟩
abbrev S2048x1 : Shape := ⟨2, ![2048, 1]⟩
abbrev S1x1 : Shape := ⟨2, ![1, 1]⟩
abbrev S512x128 : Shape := ⟨2, ![512, 128]⟩
abbrev S2048x256 : Shape := ⟨2, ![2048, 256]⟩
abbrev S1x512x128 : Shape := ⟨3, ![1, 512, 128]⟩
abbrev S512x256 : Shape := ⟨2, ![512, 256]⟩
abbrev S1x1x512 : Shape := ⟨3, ![1, 1, 512]⟩
abbrev S1x512 : Shape := ⟨2, ![1, 512]⟩
abbrev S2048x512 : Shape := ⟨2, ![2048, 512]⟩
abbrev S512x512 : Shape := ⟨2, ![512, 512]⟩
abbrev S1536x512 : Shape := ⟨2, ![1536, 512]⟩
abbrev S1536x128 : Shape := ⟨2, ![1536, 128]⟩
abbrev S1536x1 : Shape := ⟨2, ![1536, 1]⟩
abbrev S1024x512 : Shape := ⟨2, ![1024, 512]⟩
abbrev S1536x256 : Shape := ⟨2, ![1536, 256]⟩
abbrev S1024x128 : Shape := ⟨2, ![1024, 128]⟩
abbrev S1024x1 : Shape := ⟨2, ![1024, 1]⟩
abbrev S1024x256 : Shape := ⟨2, ![1024, 256]⟩
abbrev S512x1 : Shape := ⟨2, ![512, 1]⟩

abbrev nBuf : Space → Nat
  | .hbm => 44
  | .vmem => 15
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x8x128, .f32⟩
  | .hbm, ⟨2, _⟩ => ⟨S4x8192x8x128, .f32⟩
  | .hbm, ⟨3, _⟩ => ⟨S4x8192x1024, .f32⟩
  | .hbm, ⟨4, _⟩ => ⟨S4x8192x8, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x8192x8x128, .f32⟩
  | .hbm, ⟨15, _⟩ => ⟨S4x8192x8x128, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x4096, .f32⟩
  | .hbm, ⟨20, _⟩ => ⟨S4x8192x4096, .bf16⟩
  | .hbm, ⟨21, _⟩ => ⟨S4x8192x8, .f32⟩
  | .hbm, ⟨22, _⟩ => ⟨S4x8192x8, .f32⟩
  | .hbm, ⟨23, _⟩ => ⟨S_, .f32⟩
  | .hbm, ⟨24, _⟩ => ⟨S4x8192x120, .f32⟩
  | .hbm, ⟨25, _⟩ => ⟨S4x8192x128, .f32⟩
  | .hbm, ⟨26, _⟩ => ⟨S4x8192x8, .f32⟩
  | .hbm, ⟨27, _⟩ => ⟨S4x8192x8, .f32⟩
  | .hbm, ⟨28, _⟩ => ⟨S4x8x8192, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x128, .f32⟩
  | .hbm, ⟨43, _⟩ => ⟨S4x8192x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x8x8192, .f32⟩
  | .local _ .vmem, ⟨11, _⟩ => ⟨S1x8x8192, .f32⟩
  | .local _ .vmem, ⟨12, _⟩ => ⟨S1x128, .f32⟩
  | .local _ .vmem, ⟨13, _⟩ => ⟨S1x2048x128, .bf16⟩
  | .local _ .vmem, ⟨14, _⟩ => ⟨S1x2048x128, .bf16⟩
  | _, _ => ⟨S4x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_15 : BitVec 32 := 0#32
  let arg2 : BitVec 32 := BitVec.ofNat 32 (i 2).val
  let c4_i32 : BitVec 32 := 4#32
  let v16 : BitVec 32 := Scalar.muli arg2 c4_i32
  let c0_i32 : BitVec 32 := 0#32
  let v18 : BitVec 1 := Scalar.cmpi .sgt v16 c0_i32
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c4_i32_9 : BitVec 32 := 4#32
  let c0_i32_11 : BitVec 32 := 0#32
  let v23 : BitVec 1 := Scalar.cmpi .sgt c4_i32_9 c0_i32_11
  let v24 : BitVec 32 := Scalar.extui v23
  let c0_i32_12 : BitVec 32 := 0#32
  let v25 : BitVec 1 := Scalar.cmpi .slt c4_i32_9 c0_i32_12
  let v26 : BitVec 32 := Scalar.extui v25
  let v27 : BitVec 32 := Scalar.subi v24 v26
  let v28 : BitVec 1 := Scalar.cmpi .ne v22 v27
  let v29 : BitVec 32 := Scalar.remsi v16 c4_i32_9
  let c0_i32_13 : BitVec 32 := 0#32
  let v30 : BitVec 1 := Scalar.cmpi .ne v29 c0_i32_13
  let v31 : BitVec 1 := Scalar.andi v28 v30
  let v17 : BitVec 32 := Scalar.divsi v16 c4_i32_9
  let c1_i32 : BitVec 32 := 1#32
  let v32 : BitVec 32 := Scalar.subi v17 c1_i32
  let v33 : BitVec 32 := Scalar.select v31 v32 v17
  let v35 : BitVec 32 := Scalar.subi v33 c0_i32_15
  let c1_i32_16 : BitVec 32 := 1#32
  let v37 : BitVec 32 := Scalar.divsi v35 c1_i32_16
  let v38 : BitVec 32 := Scalar.muli v37 c1_i32_16
  let v39 : BitVec 32 := Scalar.addi c0_i32_15 v38
  let c1_i32_17 : BitVec 32 := 1#32
  ⟨c0_i32_15, v39, c1_i32_17⟩
def k0_mult1 (i : grid0.Coords) (k0_t1 : Fin (k0_t1_loop i).trips) : BitVec 32 :=
  let c0_i32_15 : BitVec 32 := 0#32
  let c1_i32_17 : BitVec 32 := 1#32
  let arg11 : BitVec 32 := Scf.iv c0_i32_15 c1_i32_17 k0_t1
  let c4_i32_64 : BitVec 32 := 4#32
  let v198 : BitVec 32 := Scalar.muli arg11 c4_i32_64
  let c0_i32_65 : BitVec 32 := 0#32
  let v199 : BitVec 32 := Scalar.addi v198 c0_i32_65
  let c512_i32_66 : BitVec 32 := 512#32
  let v200 : BitVec 32 := Scalar.muli v199 c512_i32_66
  v200
def k0_off1 (i : grid0.Coords) (k0_t1 : Fin (k0_t1_loop i).trips) (c0_i32_65 : BitVec 32) : Fin 3 → Nat :=
  let c0_67 : Index := 0#32
  let c0_i32_15 : BitVec 32 := 0#32
  let c1_i32_17 : BitVec 32 := 1#32
  let arg11 : BitVec 32 := Scf.iv c0_i32_15 c1_i32_17 k0_t1
  let c4_i32_64 : BitVec 32 := 4#32
  let v198 : BitVec 32 := Scalar.muli arg11 c4_i32_64
  let v199 : BitVec 32 := Scalar.addi v198 c0_i32_65
  let c512_i32_66 : BitVec 32 := 512#32
  let v200 : BitVec 32 := Scalar.muli v199 c512_i32_66
  let v201 : BitVec 32 := v200
  let v202 : Index := Scalar.indexCast v201
  let c0_68 : Index := 0#32
  ![0, v202.toNat, 0]
def k0_off2 (i : grid0.Coords) (k0_t1 : Fin (k0_t1_loop i).trips) (c0_i32_65 : BitVec 32) : Fin 3 → Nat :=
  let c0_71 : Index := 0#32
  let arg1 : BitVec 32 := BitVec.ofNat 32 (i 1).val
  let v209 : Index := Scalar.indexCast arg1
  let c0_i32_15 : BitVec 32 := 0#32
  let c1_i32_17 : BitVec 32 := 1#32
  let arg11 : BitVec 32 := Scf.iv c0_i32_15 c1_i32_17 k0_t1
  let c4_i32_64 : BitVec 32 := 4#32
  let v198 : BitVec 32 := Scalar.muli arg11 c4_i32_64
  let v199 : BitVec 32 := Scalar.addi v198 c0_i32_65
  let c512_i32_66 : BitVec 32 := 512#32
  let v200 : BitVec 32 := Scalar.muli v199 c512_i32_66
  let v201 : BitVec 32 := v200
  let v210 : Index := Scalar.indexCast v201
  ![0, v209.toNat, v210.toNat]
def k0_mult2 (i : grid0.Coords) (k0_t1 : Fin (k0_t1_loop i).trips) : BitVec 32 :=
  let c0_i32_15 : BitVec 32 := 0#32
  let c1_i32_17 : BitVec 32 := 1#32
  let arg11 : BitVec 32 := Scf.iv c0_i32_15 c1_i32_17 k0_t1
  let c4_i32_74 : BitVec 32 := 4#32
  let v222 : BitVec 32 := Scalar.muli arg11 c4_i32_74
  let c1_i32_75 : BitVec 32 := 1#32
  let v223 : BitVec 32 := Scalar.addi v222 c1_i32_75
  let c512_i32_76 : BitVec 32 := 512#32
  let v224 : BitVec 32 := Scalar.muli v223 c512_i32_76
  v224
def k0_mult3 (i : grid0.Coords) (k0_t1 : Fin (k0_t1_loop i).trips) : BitVec 32 :=
  let c0_i32_15 : BitVec 32 := 0#32
  let c1_i32_17 : BitVec 32 := 1#32
  let arg11 : BitVec 32 := Scf.iv c0_i32_15 c1_i32_17 k0_t1
  let c4_i32_84 : BitVec 32 := 4#32
  let v246 : BitVec 32 := Scalar.muli arg11 c4_i32_84
  let c2_i32 : BitVec 32 := 2#32
  let v247 : BitVec 32 := Scalar.addi v246 c2_i32
  let c512_i32_85 : BitVec 32 := 512#32
  let v248 : BitVec 32 := Scalar.muli v247 c512_i32_85
  v248
def k0_mult4 (i : grid0.Coords) (k0_t1 : Fin (k0_t1_loop i).trips) : BitVec 32 :=
  let c0_i32_15 : BitVec 32 := 0#32
  let c1_i32_17 : BitVec 32 := 1#32
  let arg11 : BitVec 32 := Scf.iv c0_i32_15 c1_i32_17 k0_t1
  let c4_i32_93 : BitVec 32 := 4#32
  let v270 : BitVec 32 := Scalar.muli arg11 c4_i32_93
  let c3_i32 : BitVec 32 := 3#32
  let v271 : BitVec 32 := Scalar.addi v270 c3_i32
  let c512_i32_94 : BitVec 32 := 512#32
  let v272 : BitVec 32 := Scalar.muli v271 c512_i32_94
  v272
@[reducible] def k0_t2_loop (i : grid0.Coords) : Scf.Loop 32 :=
  let c0_i32_15 : BitVec 32 := 0#32
  let arg2 : BitVec 32 := BitVec.ofNat 32 (i 2).val
  let c4_i32 : BitVec 32 := 4#32
  let v16 : BitVec 32 := Scalar.muli arg2 c4_i32
  let c0_i32 : BitVec 32 := 0#32
  let v18 : BitVec 1 := Scalar.cmpi .sgt v16 c0_i32
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c4_i32_9 : BitVec 32 := 4#32
  let c0_i32_11 : BitVec 32 := 0#32
  let v23 : BitVec 1 := Scalar.cmpi .sgt c4_i32_9 c0_i32_11
  let v24 : BitVec 32 := Scalar.extui v23
  let c0_i32_12 : BitVec 32 := 0#32
  let v25 : BitVec 1 := Scalar.cmpi .slt c4_i32_9 c0_i32_12
  let v26 : BitVec 32 := Scalar.extui v25
  let v27 : BitVec 32 := Scalar.subi v24 v26
  let v28 : BitVec 1 := Scalar.cmpi .ne v22 v27
  let v29 : BitVec 32 := Scalar.remsi v16 c4_i32_9
  let c0_i32_13 : BitVec 32 := 0#32
  let v30 : BitVec 1 := Scalar.cmpi .ne v29 c0_i32_13
  let v31 : BitVec 1 := Scalar.andi v28 v30
  let v17 : BitVec 32 := Scalar.divsi v16 c4_i32_9
  let c1_i32 : BitVec 32 := 1#32
  let v32 : BitVec 32 := Scalar.subi v17 c1_i32
  let v33 : BitVec 32 := Scalar.select v31 v32 v17
  let v35 : BitVec 32 := Scalar.subi v33 c0_i32_15
  let c1_i32_16 : BitVec 32 := 1#32
  let v37 : BitVec 32 := Scalar.divsi v35 c1_i32_16
  let v38 : BitVec 32 := Scalar.muli v37 c1_i32_16
  let v39 : BitVec 32 := Scalar.addi c0_i32_15 v38
  let v36 : BitVec 32 := Scalar.addi c0_i32_15 v35
  let c1_i32_18 : BitVec 32 := 1#32
  ⟨v39, v36, c1_i32_18⟩
def k0_mult5 (i : grid0.Coords) (k0_t2 : Fin (k0_t2_loop i).trips) : BitVec 32 :=
  let c0_i32_15 : BitVec 32 := 0#32
  let arg2 : BitVec 32 := BitVec.ofNat 32 (i 2).val
  let c4_i32 : BitVec 32 := 4#32
  let v16 : BitVec 32 := Scalar.muli arg2 c4_i32
  let c0_i32 : BitVec 32 := 0#32
  let v18 : BitVec 1 := Scalar.cmpi .sgt v16 c0_i32
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c4_i32_9 : BitVec 32 := 4#32
  let c0_i32_11 : BitVec 32 := 0#32
  let v23 : BitVec 1 := Scalar.cmpi .sgt c4_i32_9 c0_i32_11
  let v24 : BitVec 32 := Scalar.extui v23
  let c0_i32_12 : BitVec 32 := 0#32
  let v25 : BitVec 1 := Scalar.cmpi .slt c4_i32_9 c0_i32_12
  let v26 : BitVec 32 := Scalar.extui v25
  let v27 : BitVec 32 := Scalar.subi v24 v26
  let v28 : BitVec 1 := Scalar.cmpi .ne v22 v27
  let v29 : BitVec 32 := Scalar.remsi v16 c4_i32_9
  let c0_i32_13 : BitVec 32 := 0#32
  let v30 : BitVec 1 := Scalar.cmpi .ne v29 c0_i32_13
  let v31 : BitVec 1 := Scalar.andi v28 v30
  let v17 : BitVec 32 := Scalar.divsi v16 c4_i32_9
  let c1_i32 : BitVec 32 := 1#32
  let v32 : BitVec 32 := Scalar.subi v17 c1_i32
  let v33 : BitVec 32 := Scalar.select v31 v32 v17
  let v35 : BitVec 32 := Scalar.subi v33 c0_i32_15
  let c1_i32_16 : BitVec 32 := 1#32
  let v37 : BitVec 32 := Scalar.divsi v35 c1_i32_16
  let v38 : BitVec 32 := Scalar.muli v37 c1_i32_16
  let v39 : BitVec 32 := Scalar.addi c0_i32_15 v38
  let c1_i32_18 : BitVec 32 := 1#32
  let arg11 : BitVec 32 := Scf.iv v39 c1_i32_18 k0_t2
  let c4_i32_64 : BitVec 32 := 4#32
  let v198 : BitVec 32 := Scalar.muli arg11 c4_i32_64
  let c0_i32_65 : BitVec 32 := 0#32
  let v199 : BitVec 32 := Scalar.addi v198 c0_i32_65
  let c512_i32_66 : BitVec 32 := 512#32
  let v200 : BitVec 32 := Scalar.muli v199 c512_i32_66
  v200
def k0_off3 (i : grid0.Coords) (k0_t2 : Fin (k0_t2_loop i).trips) (c0_i32_65 : BitVec 32) : Fin 3 → Nat :=
  let c0_67 : Index := 0#32
  let c0_i32_15 : BitVec 32 := 0#32
  let arg2 : BitVec 32 := BitVec.ofNat 32 (i 2).val
  let c4_i32 : BitVec 32 := 4#32
  let v16 : BitVec 32 := Scalar.muli arg2 c4_i32
  let c0_i32 : BitVec 32 := 0#32
  let v18 : BitVec 1 := Scalar.cmpi .sgt v16 c0_i32
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c4_i32_9 : BitVec 32 := 4#32
  let c0_i32_11 : BitVec 32 := 0#32
  let v23 : BitVec 1 := Scalar.cmpi .sgt c4_i32_9 c0_i32_11
  let v24 : BitVec 32 := Scalar.extui v23
  let c0_i32_12 : BitVec 32 := 0#32
  let v25 : BitVec 1 := Scalar.cmpi .slt c4_i32_9 c0_i32_12
  let v26 : BitVec 32 := Scalar.extui v25
  let v27 : BitVec 32 := Scalar.subi v24 v26
  let v28 : BitVec 1 := Scalar.cmpi .ne v22 v27
  let v29 : BitVec 32 := Scalar.remsi v16 c4_i32_9
  let c0_i32_13 : BitVec 32 := 0#32
  let v30 : BitVec 1 := Scalar.cmpi .ne v29 c0_i32_13
  let v31 : BitVec 1 := Scalar.andi v28 v30
  let v17 : BitVec 32 := Scalar.divsi v16 c4_i32_9
  let c1_i32 : BitVec 32 := 1#32
  let v32 : BitVec 32 := Scalar.subi v17 c1_i32
  let v33 : BitVec 32 := Scalar.select v31 v32 v17
  let v35 : BitVec 32 := Scalar.subi v33 c0_i32_15
  let c1_i32_16 : BitVec 32 := 1#32
  let v37 : BitVec 32 := Scalar.divsi v35 c1_i32_16
  let v38 : BitVec 32 := Scalar.muli v37 c1_i32_16
  let v39 : BitVec 32 := Scalar.addi c0_i32_15 v38
  let c1_i32_18 : BitVec 32 := 1#32
  let arg11 : BitVec 32 := Scf.iv v39 c1_i32_18 k0_t2
  let c4_i32_64 : BitVec 32 := 4#32
  let v198 : BitVec 32 := Scalar.muli arg11 c4_i32_64
  let v199 : BitVec 32 := Scalar.addi v198 c0_i32_65
  let c512_i32_66 : BitVec 32 := 512#32
  let v200 : BitVec 32 := Scalar.muli v199 c512_i32_66
  let v201 : BitVec 32 := v200
  let v202 : Index := Scalar.indexCast v201
  let c0_68 : Index := 0#32
  ![0, v202.toNat, 0]
def k0_off4 (i : grid0.Coords) (k0_t2 : Fin (k0_t2_loop i).trips) (c0_i32_65 : BitVec 32) : Fin 3 → Nat :=
  let c0_71 : Index := 0#32
  let arg1 : BitVec 32 := BitVec.ofNat 32 (i 1).val
  let v209 : Index := Scalar.indexCast arg1
  let c0_i32_15 : BitVec 32 := 0#32
  let arg2 : BitVec 32 := BitVec.ofNat 32 (i 2).val
  let c4_i32 : BitVec 32 := 4#32
  let v16 : BitVec 32 := Scalar.muli arg2 c4_i32
  let c0_i32 : BitVec 32 := 0#32
  let v18 : BitVec 1 := Scalar.cmpi .sgt v16 c0_i32
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c4_i32_9 : BitVec 32 := 4#32
  let c0_i32_11 : BitVec 32 := 0#32
  let v23 : BitVec 1 := Scalar.cmpi .sgt c4_i32_9 c0_i32_11
  let v24 : BitVec 32 := Scalar.extui v23
  let c0_i32_12 : BitVec 32 := 0#32
  let v25 : BitVec 1 := Scalar.cmpi .slt c4_i32_9 c0_i32_12
  let v26 : BitVec 32 := Scalar.extui v25
  let v27 : BitVec 32 := Scalar.subi v24 v26
  let v28 : BitVec 1 := Scalar.cmpi .ne v22 v27
  let v29 : BitVec 32 := Scalar.remsi v16 c4_i32_9
  let c0_i32_13 : BitVec 32 := 0#32
  let v30 : BitVec 1 := Scalar.cmpi .ne v29 c0_i32_13
  let v31 : BitVec 1 := Scalar.andi v28 v30
  let v17 : BitVec 32 := Scalar.divsi v16 c4_i32_9
  let c1_i32 : BitVec 32 := 1#32
  let v32 : BitVec 32 := Scalar.subi v17 c1_i32
  let v33 : BitVec 32 := Scalar.select v31 v32 v17
  let v35 : BitVec 32 := Scalar.subi v33 c0_i32_15
  let c1_i32_16 : BitVec 32 := 1#32
  let v37 : BitVec 32 := Scalar.divsi v35 c1_i32_16
  let v38 : BitVec 32 := Scalar.muli v37 c1_i32_16
  let v39 : BitVec 32 := Scalar.addi c0_i32_15 v38
  let c1_i32_18 : BitVec 32 := 1#32
  let arg11 : BitVec 32 := Scf.iv v39 c1_i32_18 k0_t2
  let c4_i32_64 : BitVec 32 := 4#32
  let v198 : BitVec 32 := Scalar.muli arg11 c4_i32_64
  let v199 : BitVec 32 := Scalar.addi v198 c0_i32_65
  let c512_i32_66 : BitVec 32 := 512#32
  let v200 : BitVec 32 := Scalar.muli v199 c512_i32_66
  let v201 : BitVec 32 := v200
  let v210 : Index := Scalar.indexCast v201
  ![0, v209.toNat, v210.toNat]
def k0_mult6 (i : grid0.Coords) (k0_t2 : Fin (k0_t2_loop i).trips) : BitVec 32 :=
  let c0_i32_15 : BitVec 32 := 0#32
  let arg2 : BitVec 32 := BitVec.ofNat 32 (i 2).val
  let c4_i32 : BitVec 32 := 4#32
  let v16 : BitVec 32 := Scalar.muli arg2 c4_i32
  let c0_i32 : BitVec 32 := 0#32
  let v18 : BitVec 1 := Scalar.cmpi .sgt v16 c0_i32
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c4_i32_9 : BitVec 32 := 4#32
  let c0_i32_11 : BitVec 32 := 0#32
  let v23 : BitVec 1 := Scalar.cmpi .sgt c4_i32_9 c0_i32_11
  let v24 : BitVec 32 := Scalar.extui v23
  let c0_i32_12 : BitVec 32 := 0#32
  let v25 : BitVec 1 := Scalar.cmpi .slt c4_i32_9 c0_i32_12
  let v26 : BitVec 32 := Scalar.extui v25
  let v27 : BitVec 32 := Scalar.subi v24 v26
  let v28 : BitVec 1 := Scalar.cmpi .ne v22 v27
  let v29 : BitVec 32 := Scalar.remsi v16 c4_i32_9
  let c0_i32_13 : BitVec 32 := 0#32
  let v30 : BitVec 1 := Scalar.cmpi .ne v29 c0_i32_13
  let v31 : BitVec 1 := Scalar.andi v28 v30
  let v17 : BitVec 32 := Scalar.divsi v16 c4_i32_9
  let c1_i32 : BitVec 32 := 1#32
  let v32 : BitVec 32 := Scalar.subi v17 c1_i32
  let v33 : BitVec 32 := Scalar.select v31 v32 v17
  let v35 : BitVec 32 := Scalar.subi v33 c0_i32_15
  let c1_i32_16 : BitVec 32 := 1#32
  let v37 : BitVec 32 := Scalar.divsi v35 c1_i32_16
  let v38 : BitVec 32 := Scalar.muli v37 c1_i32_16
  let v39 : BitVec 32 := Scalar.addi c0_i32_15 v38
  let c1_i32_18 : BitVec 32 := 1#32
  let arg11 : BitVec 32 := Scf.iv v39 c1_i32_18 k0_t2
  let c4_i32_74 : BitVec 32 := 4#32
  let v222 : BitVec 32 := Scalar.muli arg11 c4_i32_74
  let c1_i32_75 : BitVec 32 := 1#32
  let v223 : BitVec 32 := Scalar.addi v222 c1_i32_75
  let c512_i32_76 : BitVec 32 := 512#32
  let v224 : BitVec 32 := Scalar.muli v223 c512_i32_76
  v224
def k0_mult7 (i : grid0.Coords) (k0_t2 : Fin (k0_t2_loop i).trips) : BitVec 32 :=
  let c0_i32_15 : BitVec 32 := 0#32
  let arg2 : BitVec 32 := BitVec.ofNat 32 (i 2).val
  let c4_i32 : BitVec 32 := 4#32
  let v16 : BitVec 32 := Scalar.muli arg2 c4_i32
  let c0_i32 : BitVec 32 := 0#32
  let v18 : BitVec 1 := Scalar.cmpi .sgt v16 c0_i32
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c4_i32_9 : BitVec 32 := 4#32
  let c0_i32_11 : BitVec 32 := 0#32
  let v23 : BitVec 1 := Scalar.cmpi .sgt c4_i32_9 c0_i32_11
  let v24 : BitVec 32 := Scalar.extui v23
  let c0_i32_12 : BitVec 32 := 0#32
  let v25 : BitVec 1 := Scalar.cmpi .slt c4_i32_9 c0_i32_12
  let v26 : BitVec 32 := Scalar.extui v25
  let v27 : BitVec 32 := Scalar.subi v24 v26
  let v28 : BitVec 1 := Scalar.cmpi .ne v22 v27
  let v29 : BitVec 32 := Scalar.remsi v16 c4_i32_9
  let c0_i32_13 : BitVec 32 := 0#32
  let v30 : BitVec 1 := Scalar.cmpi .ne v29 c0_i32_13
  let v31 : BitVec 1 := Scalar.andi v28 v30
  let v17 : BitVec 32 := Scalar.divsi v16 c4_i32_9
  let c1_i32 : BitVec 32 := 1#32
  let v32 : BitVec 32 := Scalar.subi v17 c1_i32
  let v33 : BitVec 32 := Scalar.select v31 v32 v17
  let v35 : BitVec 32 := Scalar.subi v33 c0_i32_15
  let c1_i32_16 : BitVec 32 := 1#32
  let v37 : BitVec 32 := Scalar.divsi v35 c1_i32_16
  let v38 : BitVec 32 := Scalar.muli v37 c1_i32_16
  let v39 : BitVec 32 := Scalar.addi c0_i32_15 v38
  let c1_i32_18 : BitVec 32 := 1#32
  let arg11 : BitVec 32 := Scf.iv v39 c1_i32_18 k0_t2
  let c4_i32_84 : BitVec 32 := 4#32
  let v246 : BitVec 32 := Scalar.muli arg11 c4_i32_84
  let c2_i32 : BitVec 32 := 2#32
  let v247 : BitVec 32 := Scalar.addi v246 c2_i32
  let c512_i32_85 : BitVec 32 := 512#32
  let v248 : BitVec 32 := Scalar.muli v247 c512_i32_85
  v248
def k0_mult8 (i : grid0.Coords) (k0_t2 : Fin (k0_t2_loop i).trips) : BitVec 32 :=
  let c0_i32_15 : BitVec 32 := 0#32
  let arg2 : BitVec 32 := BitVec.ofNat 32 (i 2).val
  let c4_i32 : BitVec 32 := 4#32
  let v16 : BitVec 32 := Scalar.muli arg2 c4_i32
  let c0_i32 : BitVec 32 := 0#32
  let v18 : BitVec 1 := Scalar.cmpi .sgt v16 c0_i32
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c4_i32_9 : BitVec 32 := 4#32
  let c0_i32_11 : BitVec 32 := 0#32
  let v23 : BitVec 1 := Scalar.cmpi .sgt c4_i32_9 c0_i32_11
  let v24 : BitVec 32 := Scalar.extui v23
  let c0_i32_12 : BitVec 32 := 0#32
  let v25 : BitVec 1 := Scalar.cmpi .slt c4_i32_9 c0_i32_12
  let v26 : BitVec 32 := Scalar.extui v25
  let v27 : BitVec 32 := Scalar.subi v24 v26
  let v28 : BitVec 1 := Scalar.cmpi .ne v22 v27
  let v29 : BitVec 32 := Scalar.remsi v16 c4_i32_9
  let c0_i32_13 : BitVec 32 := 0#32
  let v30 : BitVec 1 := Scalar.cmpi .ne v29 c0_i32_13
  let v31 : BitVec 1 := Scalar.andi v28 v30
  let v17 : BitVec 32 := Scalar.divsi v16 c4_i32_9
  let c1_i32 : BitVec 32 := 1#32
  let v32 : BitVec 32 := Scalar.subi v17 c1_i32
  let v33 : BitVec 32 := Scalar.select v31 v32 v17
  let v35 : BitVec 32 := Scalar.subi v33 c0_i32_15
  let c1_i32_16 : BitVec 32 := 1#32
  let v37 : BitVec 32 := Scalar.divsi v35 c1_i32_16
  let v38 : BitVec 32 := Scalar.muli v37 c1_i32_16
  let v39 : BitVec 32 := Scalar.addi c0_i32_15 v38
  let c1_i32_18 : BitVec 32 := 1#32
  let arg11 : BitVec 32 := Scf.iv v39 c1_i32_18 k0_t2
  let c4_i32_93 : BitVec 32 := 4#32
  let v270 : BitVec 32 := Scalar.muli arg11 c4_i32_93
  let c3_i32 : BitVec 32 := 3#32
  let v271 : BitVec 32 := Scalar.addi v270 c3_i32
  let c512_i32_94 : BitVec 32 := 512#32
  let v272 : BitVec 32 := Scalar.muli v271 c512_i32_94
  v272
def k0_mult9 (i : grid0.Coords) : BitVec 32 :=
  let arg2 : BitVec 32 := BitVec.ofNat 32 (i 2).val
  let c2048_i32 : BitVec 32 := 2048#32
  let v42 : BitVec 32 := Scalar.muli arg2 c2048_i32
  let c0_i32_19 : BitVec 32 := 0#32
  let v43 : BitVec 32 := Scalar.addi v42 c0_i32_19
  v43
def k0_off5 (i : grid0.Coords) (c0_i32_19 : BitVec 32) : Fin 3 → Nat :=
  let c0_20 : Index := 0#32
  let arg2 : BitVec 32 := BitVec.ofNat 32 (i 2).val
  let c2048_i32 : BitVec 32 := 2048#32
  let v42 : BitVec 32 := Scalar.muli arg2 c2048_i32
  let v43 : BitVec 32 := Scalar.addi v42 c0_i32_19
  let v44 : BitVec 32 := v43
  let v45 : Index := Scalar.indexCast v44
  let c0_21 : Index := 0#32
  ![0, v45.toNat, 0]
def k0_off6 (i : grid0.Coords) (c0_i32_19 : BitVec 32) : Fin 3 → Nat :=
  let c0_24 : Index := 0#32
  let arg1 : BitVec 32 := BitVec.ofNat 32 (i 1).val
  let v52 : Index := Scalar.indexCast arg1
  let arg2 : BitVec 32 := BitVec.ofNat 32 (i 2).val
  let c2048_i32 : BitVec 32 := 2048#32
  let v42 : BitVec 32 := Scalar.muli arg2 c2048_i32
  let v43 : BitVec 32 := Scalar.addi v42 c0_i32_19
  let v44 : BitVec 32 := v43
  let v53 : Index := Scalar.indexCast v44
  ![0, v52.toNat, v53.toNat]
def k0_mult10 (i : grid0.Coords) : BitVec 32 :=
  let arg2 : BitVec 32 := BitVec.ofNat 32 (i 2).val
  let c2048_i32_28 : BitVec 32 := 2048#32
  let v73 : BitVec 32 := Scalar.muli arg2 c2048_i32_28
  let c512_i32 : BitVec 32 := 512#32
  let v74 : BitVec 32 := Scalar.addi v73 c512_i32
  v74
def k0_mult11 (i : grid0.Coords) : BitVec 32 :=
  let arg2 : BitVec 32 := BitVec.ofNat 32 (i 2).val
  let c2048_i32_37 : BitVec 32 := 2048#32
  let v109 : BitVec 32 := Scalar.muli arg2 c2048_i32_37
  let c1024_i32 : BitVec 32 := 1024#32
  let v110 : BitVec 32 := Scalar.addi v109 c1024_i32
  v110
def k0_mult12 (i : grid0.Coords) : BitVec 32 :=
  let arg2 : BitVec 32 := BitVec.ofNat 32 (i 2).val
  let c2048_i32_46 : BitVec 32 := 2048#32
  let v145 : BitVec 32 := Scalar.muli arg2 c2048_i32_46
  let c1536_i32 : BitVec 32 := 1536#32
  let v146 : BitVec 32 := Scalar.addi v145 c1536_i32
  v146
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "minus_log2e" => some ((-((Real.log 2)⁻¹) : ℝ) : EReal)
  | _ => none
-- ==== ReferenceIdeal.lean ====
abbrev S4x8192x8x128 : Shape := ⟨4, ![4, 8192, 8, 128]⟩
abbrev S4x8192x1024 : Shape := ⟨3, ![4, 8192, 1024]⟩
abbrev S4x8192x8 : Shape := ⟨3, ![4, 8192, 8]⟩
abbrev S128 : Shape := ⟨1, ![128]⟩
abbrev S4x8x8192x128 : Shape := ⟨4, ![4, 8, 8192, 128]⟩
abbrev S4x8x8192 : Shape := ⟨3, ![4, 8, 8192]⟩
abbrev S8192 : Shape := ⟨1, ![8192]⟩
abbrev S4x8x8192x8192 : Shape := ⟨4, ![4, 8, 8192, 8192]⟩
abbrev S_ : Shape := ⟨0, ![]⟩
abbrev S4x8x8192x1 : Shape := ⟨4, ![4, 8, 8192, 1]⟩
abbrev S4x8x1x8192 : Shape := ⟨4, ![4, 8, 1, 8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x8x128, .f32⟩
  | .hbm, ⟨2, _⟩ => ⟨S4x8192x8x128, .f32⟩
  | .hbm, ⟨3, _⟩ => ⟨S4x8192x1024, .f32⟩
  | .hbm, ⟨4, _⟩ => ⟨S4x8192x8, .f32⟩
  | .hbm, ⟨5, _⟩ => ⟨S128, .f32⟩
  | .hbm, ⟨6, _⟩ => ⟨S128, .f32⟩
  | .hbm, ⟨7, _⟩ => ⟨S4x8x8192x128, .f32⟩
  | .hbm, ⟨8, _⟩ => ⟨S4x8x8192x128, .f32⟩
  | .hbm, ⟨9, _⟩ => ⟨S4x8x8192x128, .f32⟩
  | .hbm, ⟨10, _⟩ => ⟨S4x8x8192, .f32⟩
  | .hbm, ⟨11, _⟩ => ⟨S8192, .i32⟩
  | .hbm, ⟨12, _⟩ => ⟨S4x8x8192x8192, .f32⟩
  | .hbm, ⟨13, _⟩ => ⟨S_, .f32⟩
  | .hbm, ⟨14, _⟩ => ⟨S_, .f32⟩
  | .hbm, ⟨15, _⟩ => ⟨S4x8x8192x8192, .f32⟩
  | .hbm, ⟨16, _⟩ => ⟨S4x8x8192x8192, .f32⟩
  | .hbm, ⟨17, _⟩ => ⟨S4x8x8192x1, .f32⟩
  | .hbm, ⟨18, _⟩ => ⟨S4x8x1x8192, .f32⟩
  | .hbm, ⟨19, _⟩ => ⟨S4x8x8192x8192, .f32⟩
  | .hbm, ⟨20, _⟩ => ⟨S4x8x8192x8192, .f32⟩
  | .hbm, ⟨21, _⟩ => ⟨S4x8x8192x8192, .f32⟩
  | .hbm, ⟨22, _⟩ => ⟨S4x8x8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S4x8x8192x8192, .i1⟩
  | .hbm, ⟨31, _⟩ => ⟨S4x8x8192x8192, .f32⟩
  | .hbm, ⟨32, _⟩ => ⟨S4x8x8192x8192, .f32⟩
  | .hbm, ⟨33, _⟩ => ⟨S_, .f32⟩
  | .hbm, ⟨34, _⟩ => ⟨S4x8x8192, .f32⟩
  | .hbm, ⟨35, _⟩ => ⟨S_, .f32⟩
  | .hbm, ⟨36, _⟩ => ⟨S4x8x8192, .f32⟩
  | .hbm, ⟨37, _⟩ => ⟨S4x8x8192, .f32⟩
  | .hbm, ⟨38, _⟩ => ⟨S4x8x8192x1, .f32⟩
  | .hbm, ⟨39, _⟩ => ⟨S4x8x8192x8192, .f32⟩
  | .hbm, ⟨40, _⟩ => ⟨S4x8x8192x8192, .f32⟩
  | .hbm, ⟨41, _⟩ => ⟨S4x8x8192x8192, .f32⟩
  | .hbm, ⟨42, _⟩ => ⟨S_, .f32⟩
  | .hbm, ⟨43, _⟩ => ⟨S4x8x8192, .f32⟩
  | .hbm, ⟨44, _⟩ => ⟨S4x8x8192x1, .f32⟩
  | .hbm, ⟨45, _⟩ => ⟨S4x8x8192x8192, .f32⟩
  | .hbm, ⟨46, _⟩ => ⟨S4x8x8192x8192, .f32⟩
  | .hbm, ⟨47, _⟩ => ⟨S4x8x8192x128, .f32⟩
  | .hbm, ⟨48, _⟩ => ⟨S4x8192x8x128, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S_, .f32⟩
  | .hbm, ⟨53, _⟩ => ⟨S4x8192x1024, .f32⟩
  | .hbm, ⟨54, _⟩ => ⟨S4x8192x1024, .f32⟩
  | .hbm, ⟨55, _⟩ => ⟨S_, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .bf16⟩
  | _, _ => ⟨S4x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Front.lean ====
abbrev S4x8192x1024 : Shape := ⟨3, ![4, 8192, 1024]⟩
abbrev S1024x1024 : Shape := ⟨2, ![1024, 1024]⟩
abbrev S1024 : Shape := ⟨1, ![1024]⟩
abbrev S1024x3088 : Shape := ⟨2, ![1024, 3088]⟩
abbrev S1024x3072 : Shape := ⟨2, ![1024, 3072]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S32768x1024 : Shape := ⟨2, ![32768, 1024]⟩
abbrev S1x128 : Shape := ⟨2, ![1, 128]⟩
abbrev S1x1024 : Shape := ⟨2, ![1, 1024]⟩
abbrev S32768x3072 : Shape := ⟨2, ![32768, 3072]⟩
abbrev S32768x128 : Shape := ⟨2, ![32768, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩

abbrev nBuf : Space → Nat
  | .hbm => 24
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x3088, .f32⟩
  | .hbm, ⟨5, _⟩ => ⟨S1024x3072, .f32⟩
  | .hbm, ⟨6, _⟩ => ⟨S1024x3072, .bf16⟩
  | .hbm, ⟨7, _⟩ => ⟨S_, .f32⟩
  | .hbm, ⟨8, _⟩ => ⟨S1024x128, .f32⟩
  | .hbm, ⟨9, _⟩ => ⟨S1024x16, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S1024x128, .bf16⟩
  | .hbm, ⟨14, _⟩ => ⟨S32768x1024, .f32⟩
  | .hbm, ⟨15, _⟩ => ⟨S32768x1024, .f32⟩
  | .hbm, ⟨16, _⟩ => ⟨S32768x1024, .bf16⟩
  | .hbm, ⟨17, _⟩ => ⟨S_, .f32⟩
  | .hbm, ⟨18, _⟩ => ⟨S1x128, .f32⟩
  | .hbm, ⟨19, _⟩ => ⟨S1024x1024, .bf16⟩
  | .hbm, ⟨20, _⟩ => ⟨S1x1024, .f32⟩
  | .hbm, ⟨21, _⟩ => ⟨S32768x1024, .f32⟩
  | .hbm, ⟨22, _⟩ => ⟨S32768x3072, .bf16⟩
  | .hbm, ⟨23, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x3072, .bf16⟩
  | .local _ .vmem, ⟨7, _⟩ => ⟨S1024x128, .bf16⟩
  | .local _ .vmem, ⟨8, _⟩ => ⟨S1x128, .f32⟩
  | .local _ .vmem, ⟨9, _⟩ => ⟨S1024x1024, .f32⟩
  | .local _ .vmem, ⟨10, _⟩ => ⟨S1024x1024, .f32⟩
  | .local _ .vmem, ⟨11, _⟩ => ⟨S1024x3072, .bf16⟩
  | .local _ .vmem, ⟨12, _⟩ => ⟨S1024x3072, .bf16⟩
  | .local _ .vmem, ⟨13, _⟩ => ⟨S1024x128, .f32⟩
  | .local _ .vmem, ⟨14, _⟩ => ⟨S1024x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FrontReferenceIdeal.lean ====
abbrev S4x8192x1024 : Shape := ⟨3, ![4, 8192, 1024]⟩
abbrev S1024x1024 : Shape := ⟨2, ![1024, 1024]⟩
abbrev S1024 : Shape := ⟨1, ![1024]⟩
abbrev S1024x3088 : Shape := ⟨2, ![1024, 3088]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3088 : Shape := ⟨3, ![4, 8192, 3088]⟩
abbrev S4x8192x16 : Shape := ⟨3, ![4, 8192, 16]⟩
abbrev S4x8192x112 : Shape := ⟨3, ![4, 8192, 112]⟩
abbrev S4x8192x128 : Shape := ⟨3, ![4, 8192, 128]⟩
abbrev S32768x1024 : Shape := ⟨2, ![32768, 1024]⟩
abbrev S4x8192x3072 : Shape := ⟨3, ![4, 8192, 3072]⟩
abbrev S32768x3072 : Shape := ⟨2, ![32768, 3072]⟩
abbrev S32768x128 : Shape := ⟨2, ![32768, 128]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x3088, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x3088, .f32⟩
  | .hbm, ⟨24, _⟩ => ⟨S4x8192x16, .f32⟩
  | .hbm, ⟨25, _⟩ => ⟨S_, .f32⟩
  | .hbm, ⟨26, _⟩ => ⟨S4x8192x112, .f32⟩
  | .hbm, ⟨27, _⟩ => ⟨S4x8192x128, .f32⟩
  | .hbm, ⟨28, _⟩ => ⟨S32768x1024, .f32⟩
  | .hbm, ⟨29, _⟩ => ⟨S4x8192x3072, .f32⟩
  | .hbm, ⟨30, _⟩ => ⟨S32768x3072, .f32⟩
  | .hbm, ⟨31, _⟩ => ⟨S32768x3072, .bf16⟩
  | .hbm, ⟨32, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Fox.lean ====
abbrev S4x8192x1024 : Shape := ⟨3, ![4, 8192, 1024]⟩
abbrev S1024x1024 : Shape := ⟨2, ![1024, 1024]⟩
abbrev S1024 : Shape := ⟨1, ![1024]⟩
abbrev S1024x4104 : Shape := ⟨2, ![1024, 4104]⟩
abbrev S8 : Shape := ⟨1, ![8]⟩
abbrev S128 : Shape := ⟨1, ![128]⟩
abbrev S1024x4096 : Shape := ⟨2, ![1024, 4096]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x128 : Shape := ⟨2, ![1, 128]⟩
abbrev S8x128 : Shape := ⟨2, ![8, 128]⟩
abbrev S2048 : Shape := ⟨1, ![2048]⟩
abbrev S1x2048 : Shape := ⟨2, ![1, 2048]⟩
abbrev S32768x1024 : Shape := ⟨2, ![32768, 1024]⟩
abbrev S1x1024 : Shape := ⟨2, ![1, 1024]⟩
abbrev S2 : Shape := ⟨1, ![2]⟩
abbrev S32768x4096 : Shape := ⟨2, ![32768, 4096]⟩
abbrev S32768x128 : Shape := ⟨2, ![32768, 128]⟩
abbrev S4x8x8192 : Shape := ⟨3, ![4, 8, 8192]⟩
abbrev S1x8x1024 : Shape := ⟨3, ![1, 8, 1024]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S8x1024 : Shape := ⟨2, ![8, 1024]⟩
abbrev S1024x512 : Shape := ⟨2, ![1024, 512]⟩
abbrev S1024x1 : Shape := ⟨2, ![1024, 1]⟩

abbrev nBuf : Space → Nat
  | .hbm => 51
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4104, .f32⟩
  | .hbm, ⟨5, _⟩ => ⟨S8, .f32⟩
  | .hbm, ⟨6, _⟩ => ⟨S128, .f32⟩
  | .hbm, ⟨7, _⟩ => ⟨S128, .f32⟩
  | .hbm, ⟨8, _⟩ => ⟨S1024x4096, .f32⟩
  | .hbm, ⟨9, _⟩ => ⟨S1024x4096, .bf16⟩
  | .hbm, ⟨10, _⟩ => ⟨S_, .f32⟩
  | .hbm, ⟨11, _⟩ => ⟨S1024x128, .f32⟩
  | .hbm, ⟨12, _⟩ => ⟨S1024x8, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S8x128, .f32⟩
  | .hbm, ⟨28, _⟩ => ⟨S1024, .f32⟩
  | .hbm, ⟨29, _⟩ => ⟨S1x128, .f32⟩
  | .hbm, ⟨30, _⟩ => ⟨S8x128, .f32⟩
  | .hbm, ⟨31, _⟩ => ⟨S1024, .f32⟩
  | .hbm, ⟨32, _⟩ => ⟨S2048, .f32⟩
  | .hbm, ⟨33, _⟩ => ⟨S1x2048, .f32⟩
  | .hbm, ⟨34, _⟩ => ⟨S32768x1024, .f32⟩
  | .hbm, ⟨35, _⟩ => ⟨S32768x1024, .f32⟩
  | .hbm, ⟨36, _⟩ => ⟨S32768x1024, .bf16⟩
  | .hbm, ⟨37, _⟩ => ⟨S1024x1024, .bf16⟩
  | .hbm, ⟨38, _⟩ => ⟨S1x1024, .f32⟩
  | .hbm, ⟨39, _⟩ => ⟨S_, .f32⟩
  | .hbm, ⟨40, _⟩ => ⟨S1x128, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S1x128, .f32⟩
  | .hbm, ⟨47, _⟩ => ⟨S32768x1024, .f32⟩
  | .hbm, ⟨48, _⟩ => ⟨S32768x4096, .bf16⟩
  | .hbm, ⟨49, _⟩ => ⟨S32768x128, .f32⟩
  | .hbm, ⟨50, _⟩ => ⟨S4x8x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S1024x128, .bf16⟩
  | .local _ .vmem, ⟨8, _⟩ => ⟨S1x2048, .f32⟩
  | .local _ .vmem, ⟨9, _⟩ => ⟨S1x128, .f32⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S1024x128, .f32⟩
  | .local _ .vmem, ⟨15, _⟩ => ⟨S1024x128, .f32⟩
  | .local _ .vmem, ⟨16, _⟩ => ⟨S1x8x1024, .f32⟩
  | .local _ .vmem, ⟨17, _⟩ => ⟨S1x8x1024, .f32⟩
  | .local _ .vmem, ⟨18, _⟩ => ⟨S1x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v31_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FoxIdeal.lean ====
variable {F : FTy → Type} [FloatOps F] [Named F]
def κ : String → Option EReal := fun
  | "log2e" => some (((Real.log 2)⁻¹ : ℝ) : EReal)
  | _ => none
-- ==== FoxReferenceIdeal.lean ====
abbrev S4x8192x1024 : Shape := ⟨3, ![4, 8192, 1024]⟩
abbrev S1024x1024 : Shape := ⟨2, ![1024, 1024]⟩
abbrev S1024 : Shape := ⟨1, ![1024]⟩
abbrev S1024x4104 : Shape := ⟨2, ![1024, 4104]⟩
abbrev S8 : Shape := ⟨1, ![8]⟩
abbrev S128 : Shape := ⟨1, ![128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4104 : Shape := ⟨3, ![4, 8192, 4104]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x2048 : Shape := ⟨3, ![4, 8192, 2048]⟩
abbrev S4x8192x4096 : Shape := ⟨3, ![4, 8192, 4096]⟩
abbrev S1x1x8 : Shape := ⟨3, ![1, 1, 8]⟩
abbrev S4x8192x120 : Shape := ⟨3, ![4, 8192, 120]⟩
abbrev S4x8192x128 : Shape := ⟨3, ![4, 8192, 128]⟩
abbrev S32768x1024 : Shape := ⟨2, ![32768, 1024]⟩
abbrev S32768x4096 : Shape := ⟨2, ![32768, 4096]⟩
abbrev S32768x128 : Shape := ⟨2, ![32768, 128]⟩
abbrev S4x8x8192 : Shape := ⟨3, ![4, 8, 8192]⟩

abbrev nBuf : Space → Nat
  | .hbm => 111
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4104, .f32⟩
  | .hbm, ⟨5, _⟩ => ⟨S8, .f32⟩
  | .hbm, ⟨6, _⟩ => ⟨S128, .f32⟩
  | .hbm, ⟨7, _⟩ => ⟨S128, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x4104, .f32⟩
  | .hbm, ⟨27, _⟩ => ⟨S4x8192x1024, .f32⟩
  | .hbm, ⟨28, _⟩ => ⟨S4x8192x8x128, .f32⟩
  | .hbm, ⟨29, _⟩ => ⟨S4x8192x8x128, .f32⟩
  | .hbm, ⟨30, _⟩ => ⟨S_, .f32⟩
  | .hbm, ⟨31, _⟩ => ⟨S4x8192x8, .f32⟩
  | .hbm, ⟨32, _⟩ => ⟨S4x8192x8x1, .f32⟩
  | .hbm, ⟨33, _⟩ => ⟨S_, .f32⟩
  | .hbm, ⟨34, _⟩ => ⟨S4x8192x8x1, .f32⟩
  | .hbm, ⟨35, _⟩ => ⟨S4x8192x8x1, .f32⟩
  | .hbm, ⟨36, _⟩ => ⟨S_, .f32⟩
  | .hbm, ⟨37, _⟩ => ⟨S4x8192x8x1, .f32⟩
  | .hbm, ⟨38, _⟩ => ⟨S4x8192x8x1, .f32⟩
  | .hbm, ⟨39, _⟩ => ⟨S4x8192x8x1, .f32⟩
  | .hbm, ⟨40, _⟩ => ⟨S4x8192x8x128, .f32⟩
  | .hbm, ⟨41, _⟩ => ⟨S4x8192x8x128, .f32⟩
  | .hbm, ⟨42, _⟩ => ⟨S1x1x1x128, .f32⟩
  | .hbm, ⟨43, _⟩ => ⟨S4x8192x8x128, .f32⟩
  | .hbm, ⟨44, _⟩ => ⟨S4x8192x8x128, .f32⟩
  | .hbm, ⟨45, _⟩ => ⟨S_, .f32⟩
  | .hbm, ⟨46, _⟩ => ⟨S_, .f32⟩
  | .hbm, ⟨47, _⟩ => ⟨S4x8192x8x128, .f32⟩
  | .hbm, ⟨48, _⟩ => ⟨S4x8192x8x128, .f32⟩
  | .hbm, ⟨49, _⟩ => ⟨S_, .f32⟩
  | .hbm, ⟨50, _⟩ => ⟨S_, .f32⟩
  | .hbm, ⟨51, _⟩ => ⟨S4x8192x8x128, .f32⟩
  | .hbm, ⟨52, _⟩ => ⟨S4x8192x8x128, .f32⟩
  | .hbm, ⟨53, _⟩ => ⟨S4x8192x1024, .f32⟩
  | .hbm, ⟨54, _⟩ => ⟨S4x8192x8x128, .f32⟩
  | .hbm, ⟨55, _⟩ => ⟨S4x8192x8x128, .f32⟩
  | .hbm, ⟨56, _⟩ => ⟨S_, .f32⟩
  | .hbm, ⟨57, _⟩ => ⟨S4x8192x8, .f32⟩
  | .hbm, ⟨58, _⟩ => ⟨S4x8192x8x1, .f32⟩
  | .hbm, ⟨59, _⟩ => ⟨S_, .f32⟩
  | .hbm, ⟨60, _⟩ => ⟨S4x8192x8x1, .f32⟩
  | .hbm, ⟨61, _⟩ => ⟨S4x8192x8x1, .f32⟩
  | .hbm, ⟨62, _⟩ => ⟨S_, .f32⟩
  | .hbm, ⟨63, _⟩ => ⟨S4x8192x8x1, .f32⟩
  | .hbm, ⟨64, _⟩ => ⟨S4x8192x8x1, .f32⟩
  | .hbm, ⟨65, _⟩ => ⟨S4x8192x8x1, .f32⟩
  | .hbm, ⟨66, _⟩ => ⟨S4x8192x8x128, .f32⟩
  | .hbm, ⟨67, _⟩ => ⟨S4x8192x8x128, .f32⟩
  | .hbm, ⟨68, _⟩ => ⟨S1x1x1x128, .f32⟩
  | .hbm, ⟨69, _⟩ => ⟨S4x8192x8x128, .f32⟩
  | .hbm, ⟨70, _⟩ => ⟨S4x8192x8x128, .f32⟩
  | .hbm, ⟨71, _⟩ => ⟨S4x8192x1024, .f32⟩
  | .hbm, ⟨72, _⟩ => ⟨S4x8192x1024, .f32⟩
  | .hbm, ⟨73, _⟩ => ⟨S4x8192x2048, .f32⟩
  | .hbm, ⟨74, _⟩ => ⟨S4x8192x4096, .f32⟩
  | .hbm, ⟨75, _⟩ => ⟨S4x8192x4096, .bf16⟩
  | .hbm, ⟨76, _⟩ => ⟨S4x8192x8, .f32⟩
  | .hbm, ⟨77, _⟩ => ⟨S1x1x8, .f32⟩
  | .hbm, ⟨78, _⟩ => ⟨S4x8192x8, .f32⟩
  | .hbm, ⟨79, _⟩ => ⟨S4x8192x8, .f32⟩
  | .hbm, ⟨80, _⟩ => ⟨S_, .f32⟩
  | .hbm, ⟨81, _⟩ => ⟨S4x8192x120, .f32⟩
  | .hbm, ⟨82, _⟩ => ⟨S4x8192x128, .f32⟩
  | .hbm, ⟨83, _⟩ => ⟨S4x8192x128, .f32⟩
  | .hbm, ⟨84, _⟩ => ⟨S_, .f32⟩
  | .hbm, ⟨85, _⟩ => ⟨S4x8192x128, .f32⟩
  | .hbm, ⟨86, _⟩ => ⟨S4x8192x128, .f32⟩
  | .hbm, ⟨87, _⟩ => ⟨S4x8192x128, .f32⟩
  | .hbm, ⟨88, _⟩ => ⟨S4x8192x128, .f32⟩
  | .hbm, ⟨89, _⟩ => ⟨S4x8192x128, .i1⟩
  | .hbm, ⟨90, _⟩ => ⟨S4x8192x128, .f32⟩
  | .hbm, ⟨91, _⟩ => ⟨S4x8192x128, .f32⟩
  | .hbm, ⟨92, _⟩ => ⟨S4x8192x128, .f32⟩
  | .hbm, ⟨93, _⟩ => ⟨S4x8192x128, .f32⟩
  | .hbm, ⟨94, _⟩ => ⟨S4x8192x128, .f32⟩
  | .hbm, ⟨95, _⟩ => ⟨S4x8192x128, .f32⟩
  | .hbm, ⟨96, _⟩ => ⟨S4x8192x128, .f32⟩
  | .hbm, ⟨97, _⟩ => ⟨S4x8192x128, .f32⟩
  | .hbm, ⟨98, _⟩ => ⟨S4x8192x128, .f32⟩
  | .hbm, ⟨99, _⟩ => ⟨S_, .f32⟩
  | .hbm, ⟨100, _⟩ => ⟨S_, .f32⟩
  | .hbm, ⟨101, _⟩ => ⟨S4x8192x128, .f32⟩
  | .hbm, ⟨102, _⟩ => ⟨S_, .f32⟩
  | .hbm, ⟨103, _⟩ => ⟨S_, .f32⟩
  | .hbm, ⟨104, _⟩ => ⟨S4x8192x128, .f32⟩
  | .hbm, ⟨105, _⟩ => ⟨S4x8192x128, .f32⟩
  | .hbm, ⟨106, _⟩ => ⟨S32768x1024, .f32⟩
  | .hbm, ⟨107, _⟩ => ⟨S32768x4096, .bf16⟩
  | .hbm, ⟨108, _⟩ => ⟨S32768x128, .f32⟩
  | .hbm, ⟨109, _⟩ => ⟨S4x8192x8, .f32⟩
  | .hbm, ⟨110, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_call0_v0 : Ref sig .tc := ⟨.hbm, 83, rfl⟩
abbrev main_call0_call0_cst : Ref sig .tc := ⟨.hbm, 84, rfl⟩
abbrev main_call0_call0_v0 : Ref sig .tc := ⟨.hbm, 85, rfl⟩
abbrev main_call0_call0_v1 : Ref sig .tc := ⟨.hbm, 86, rfl⟩
abbrev main_call0_call0_v2 : Ref sig .tc := ⟨.hbm, 87, rfl⟩
abbrev main_call0_call0_v3 : Ref sig .tc := ⟨.hbm, 88, rfl⟩
abbrev main_call0_call0_v4 : Ref sig .tc := ⟨.hbm, 89, rfl⟩
abbrev main_call0_call0_v5 : Ref sig .tc := ⟨.hbm, 90, rfl⟩
abbrev main_call0_call0_v6 : Ref sig .tc := ⟨.hbm, 91, rfl⟩
abbrev main_call0_call0_v7 : Ref sig .tc := ⟨.hbm, 92, rfl⟩
abbrev main_call0_call0_v8 : Ref sig .tc := ⟨.hbm, 93, rfl⟩
abbrev main_call0_call0_v9 : Ref sig .tc := ⟨.hbm, 94, rfl⟩
abbrev main_call0_call0_v10 : Ref sig .tc := ⟨.hbm, 95, rfl⟩
abbrev main_call0_call0_v11 : Ref sig .tc := ⟨.hbm, 96, rfl⟩
abbrev main_call0_v1 : Ref sig .tc := ⟨.hbm, 97, rfl⟩
abbrev main_v63 : Ref sig .tc := ⟨.hbm, 98, rfl⟩
abbrev main_call1_call0_cst : Ref sig .tc := ⟨.hbm, 99, rfl⟩
abbrev main_call1_call0_v0 : Ref sig .tc := ⟨.hbm, 100, rfl⟩
abbrev main_v64 : Ref sig .tc := ⟨.hbm, 101, rfl⟩
abbrev main_cst_11 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩

abbrev nD : Nat := 1
abbrev τ : Topo := Topo.v7x

variable {F : FTy → Type} [FloatOps F]
-- ==== First.lean ====
abbrev S4x8192x1024 : Shape := ⟨3, ![4, 8192, 1024]⟩
abbrev S1024 : Shape := ⟨1, ![1024]⟩
abbrev S1024x4104 : Shape := ⟨2, ![1024, 4104]⟩
abbrev S8 : Shape := ⟨1, ![8]⟩
abbrev S128 : Shape := ⟨1, ![128]⟩
abbrev S1024x4096 : Shape := ⟨2, ![1024, 4096]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1x128 : Shape := ⟨2, ![1, 128]⟩
abbrev S8x128 : Shape := ⟨2, ![8, 128]⟩
abbrev S2048 : Shape := ⟨1, ![2048]⟩
abbrev S1x2048 : Shape := ⟨2, ![1, 2048]⟩
abbrev S32768x1024 : Shape := ⟨2, ![32768, 1024]⟩
abbrev S1x1024 : Shape := ⟨2, ![1, 1024]⟩
abbrev S2 : Shape := ⟨1, ![2]⟩
abbrev S32768x4096 : Shape := ⟨2, ![32768, 4096]⟩
abbrev S32768x128 : Shape := ⟨2, ![32768, 128]⟩
abbrev S4x8x8192 : Shape := ⟨3, ![4, 8, 8192]⟩
abbrev S1024x1024 : Shape := ⟨2, ![1024, 1024]⟩
abbrev S1x8x1024 : Shape := ⟨3, ![1, 8, 1024]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S8x1024 : Shape := ⟨2, ![8, 1024]⟩
abbrev S1024x512 : Shape := ⟨2, ![1024, 512]⟩
abbrev S1024x1 : Shape := ⟨2, ![1024, 1]⟩

abbrev nBuf : Space → Nat
  | .hbm => 45
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S128, .f32⟩
  | .hbm, ⟨5, _⟩ => ⟨S128, .f32⟩
  | .hbm, ⟨6, _⟩ => ⟨S1024x4096, .f32⟩
  | .hbm, ⟨7, _⟩ => ⟨S1024x4096, .bf16⟩
  | .hbm, ⟨8, _⟩ => ⟨S_, .f32⟩
  | .hbm, ⟨9, _⟩ => ⟨S1024x128, .f32⟩
  | .hbm, ⟨10, _⟩ => ⟨S1024x8, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S1024x128, .bf16⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S1x128, .f32⟩
  | .hbm, ⟨25, _⟩ => ⟨S8x128, .f32⟩
  | .hbm, ⟨26, _⟩ => ⟨S1024, .f32⟩
  | .hbm, ⟨27, _⟩ => ⟨S1x128, .f32⟩
  | .hbm, ⟨28, _⟩ => ⟨S8x128, .f32⟩
  | .hbm, ⟨29, _⟩ => ⟨S1024, .f32⟩
  | .hbm, ⟨30, _⟩ => ⟨S2048, .f32⟩
  | .hbm, ⟨31, _⟩ => ⟨S1x2048, .f32⟩
  | .hbm, ⟨32, _⟩ => ⟨S32768x1024, .f32⟩
  | .hbm, ⟨33, _⟩ => ⟨S1x1024, .f32⟩
  | .hbm, ⟨34, _⟩ => ⟨S_, .f32⟩
  | .hbm, ⟨35, _⟩ => ⟨S1x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x128, .f32⟩
  | .hbm, ⟨42, _⟩ => ⟨S32768x4096, .bf16⟩
  | .hbm, ⟨43, _⟩ => ⟨S32768x128, .f32⟩
  | .hbm, ⟨44, _⟩ => ⟨S4x8x8192, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S1x2048, .f32⟩
  | .local _ .vmem, ⟨6, _⟩ => ⟨S1x128, .f32⟩
  | .local _ .vmem, ⟨7, _⟩ => ⟨S1024x4096, .bf16⟩
  | .local _ .vmem, ⟨8, _⟩ => ⟨S1024x4096, .bf16⟩
  | .local _ .vmem, ⟨9, _⟩ => ⟨S1024x128, .f32⟩
  | .local _ .vmem, ⟨10, _⟩ => ⟨S1024x128, .f32⟩
  | .local _ .vmem, ⟨11, _⟩ => ⟨S1x8x1024, .f32⟩
  | .local _ .vmem, ⟨12, _⟩ => ⟨S1x8x1024, .f32⟩
  | .local _ .vmem, ⟨13, _⟩ => ⟨S1x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FirstIdeal.lean ====
variable {F : FTy → Type} [FloatOps F] [Named F]
def κ : String → Option EReal := fun
  | "log2e" => some (((Real.log 2)⁻¹ : ℝ) : EReal)
  | _ => none
-- ==== FirstReferenceIdeal.lean ====
abbrev S4x8192x1024 : Shape := ⟨3, ![4, 8192, 1024]⟩
abbrev S1024 : Shape := ⟨1, ![1024]⟩
abbrev S1024x4104 : Shape := ⟨2, ![1024, 4104]⟩
abbrev S8 : Shape := ⟨1, ![8]⟩
abbrev S128 : Shape := ⟨1, ![128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4104 : Shape := ⟨3, ![4, 8192, 4104]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x2048 : Shape := ⟨3, ![4, 8192, 2048]⟩
abbrev S4x8192x4096 : Shape := ⟨3, ![4, 8192, 4096]⟩
abbrev S1x1x8 : Shape := ⟨3, ![1, 1, 8]⟩
abbrev S4x8192x120 : Shape := ⟨3, ![4, 8192, 120]⟩
abbrev S4x8192x128 : Shape := ⟨3, ![4, 8192, 128]⟩
abbrev S32768x4096 : Shape := ⟨2, ![32768, 4096]⟩
abbrev S32768x128 : Shape := ⟨2, ![32768, 128]⟩
abbrev S4x8x8192 : Shape := ⟨3, ![4, 8, 8192]⟩

abbrev nBuf : Space → Nat
  | .hbm => 106
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S128, .f32⟩
  | .hbm, ⟨5, _⟩ => ⟨S128, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x4104, .f32⟩
  | .hbm, ⟨23, _⟩ => ⟨S4x8192x1024, .f32⟩
  | .hbm, ⟨24, _⟩ => ⟨S4x8192x8x128, .f32⟩
  | .hbm, ⟨25, _⟩ => ⟨S4x8192x8x128, .f32⟩
  | .hbm, ⟨26, _⟩ => ⟨S_, .f32⟩
  | .hbm, ⟨27, _⟩ => ⟨S4x8192x8, .f32⟩
  | .hbm, ⟨28, _⟩ => ⟨S4x8192x8x1, .f32⟩
  | .hbm, ⟨29, _⟩ => ⟨S_, .f32⟩
  | .hbm, ⟨30, _⟩ => ⟨S4x8192x8x1, .f32⟩
  | .hbm, ⟨31, _⟩ => ⟨S4x8192x8x1, .f32⟩
  | .hbm, ⟨32, _⟩ => ⟨S_, .f32⟩
  | .hbm, ⟨33, _⟩ => ⟨S4x8192x8x1, .f32⟩
  | .hbm, ⟨34, _⟩ => ⟨S4x8192x8x1, .f32⟩
  | .hbm, ⟨35, _⟩ => ⟨S4x8192x8x1, .f32⟩
  | .hbm, ⟨36, _⟩ => ⟨S4x8192x8x128, .f32⟩
  | .hbm, ⟨37, _⟩ => ⟨S4x8192x8x128, .f32⟩
  | .hbm, ⟨38, _⟩ => ⟨S1x1x1x128, .f32⟩
  | .hbm, ⟨39, _⟩ => ⟨S4x8192x8x128, .f32⟩
  | .hbm, ⟨40, _⟩ => ⟨S4x8192x8x128, .f32⟩
  | .hbm, ⟨41, _⟩ => ⟨S_, .f32⟩
  | .hbm, ⟨42, _⟩ => ⟨S_, .f32⟩
  | .hbm, ⟨43, _⟩ => ⟨S4x8192x8x128, .f32⟩
  | .hbm, ⟨44, _⟩ => ⟨S4x8192x8x128, .f32⟩
  | .hbm, ⟨45, _⟩ => ⟨S_, .f32⟩
  | .hbm, ⟨46, _⟩ => ⟨S_, .f32⟩
  | .hbm, ⟨47, _⟩ => ⟨S4x8192x8x128, .f32⟩
  | .hbm, ⟨48, _⟩ => ⟨S4x8192x8x128, .f32⟩
  | .hbm, ⟨49, _⟩ => ⟨S4x8192x1024, .f32⟩
  | .hbm, ⟨50, _⟩ => ⟨S4x8192x8x128, .f32⟩
  | .hbm, ⟨51, _⟩ => ⟨S4x8192x8x128, .f32⟩
  | .hbm, ⟨52, _⟩ => ⟨S_, .f32⟩
  | .hbm, ⟨53, _⟩ => ⟨S4x8192x8, .f32⟩
  | .hbm, ⟨54, _⟩ => ⟨S4x8192x8x1, .f32⟩
  | .hbm, ⟨55, _⟩ => ⟨S_, .f32⟩
  | .hbm, ⟨56, _⟩ => ⟨S4x8192x8x1, .f32⟩
  | .hbm, ⟨57, _⟩ => ⟨S4x8192x8x1, .f32⟩
  | .hbm, ⟨58, _⟩ => ⟨S_, .f32⟩
  | .hbm, ⟨59, _⟩ => ⟨S4x8192x8x1, .f32⟩
  | .hbm, ⟨60, _⟩ => ⟨S4x8192x8x1, .f32⟩
  | .hbm, ⟨61, _⟩ => ⟨S4x8192x8x1, .f32⟩
  | .hbm, ⟨62, _⟩ => ⟨S4x8192x8x128, .f32⟩
  | .hbm, ⟨63, _⟩ => ⟨S4x8192x8x128, .f32⟩
  | .hbm, ⟨64, _⟩ => ⟨S1x1x1x128, .f32⟩
  | .hbm, ⟨65, _⟩ => ⟨S4x8192x8x128, .f32⟩
  | .hbm, ⟨66, _⟩ => ⟨S4x8192x8x128, .f32⟩
  | .hbm, ⟨67, _⟩ => ⟨S4x8192x1024, .f32⟩
  | .hbm, ⟨68, _⟩ => ⟨S4x8192x1024, .f32⟩
  | .hbm, ⟨69, _⟩ => ⟨S4x8192x2048, .f32⟩
  | .hbm, ⟨70, _⟩ => ⟨S4x8192x4096, .f32⟩
  | .hbm, ⟨71, _⟩ => ⟨S4x8192x4096, .bf16⟩
  | .hbm, ⟨72, _⟩ => ⟨S4x8192x8, .f32⟩
  | .hbm, ⟨73, _⟩ => ⟨S1x1x8, .f32⟩
  | .hbm, ⟨74, _⟩ => ⟨S4x8192x8, .f32⟩
  | .hbm, ⟨75, _⟩ => ⟨S4x8192x8, .f32⟩
  | .hbm, ⟨76, _⟩ => ⟨S_, .f32⟩
  | .hbm, ⟨77, _⟩ => ⟨S4x8192x120, .f32⟩
  | .hbm, ⟨78, _⟩ => ⟨S4x8192x128, .f32⟩
  | .hbm, ⟨79, _⟩ => ⟨S4x8192x128, .f32⟩
  | .hbm, ⟨80, _⟩ => ⟨S_, .f32⟩
  | .hbm, ⟨81, _⟩ => ⟨S4x8192x128, .f32⟩
  | .hbm, ⟨82, _⟩ => ⟨S4x8192x128, .f32⟩
  | .hbm, ⟨83, _⟩ => ⟨S4x8192x128, .f32⟩
  | .hbm, ⟨84, _⟩ => ⟨S4x8192x128, .f32⟩
  | .hbm, ⟨85, _⟩ => ⟨S4x8192x128, .i1⟩
  | .hbm, ⟨86, _⟩ => ⟨S4x8192x128, .f32⟩
  | .hbm, ⟨87, _⟩ => ⟨S4x8192x128, .f32⟩
  | .hbm, ⟨88, _⟩ => ⟨S4x8192x128, .f32⟩
  | .hbm, ⟨89, _⟩ => ⟨S4x8192x128, .f32⟩
  | .hbm, ⟨90, _⟩ => ⟨S4x8192x128, .f32⟩
  | .hbm, ⟨91, _⟩ => ⟨S4x8192x128, .f32⟩
  | .hbm, ⟨92, _⟩ => ⟨S4x8192x128, .f32⟩
  | .hbm, ⟨93, _⟩ => ⟨S4x8192x128, .f32⟩
  | .hbm, ⟨94, _⟩ => ⟨S4x8192x128, .f32⟩
  | .hbm, ⟨95, _⟩ => ⟨S_, .f32⟩
  | .hbm, ⟨96, _⟩ => ⟨S_, .f32⟩
  | .hbm, ⟨97, _⟩ => ⟨S4x8192x128, .f32⟩
  | .hbm, ⟨98, _⟩ => ⟨S_, .f32⟩
  | .hbm, ⟨99, _⟩ => ⟨S_, .f32⟩
  | .hbm, ⟨100, _⟩ => ⟨S4x8192x128, .f32⟩
  | .hbm, ⟨101, _⟩ => ⟨S4x8192x128, .f32⟩
  | .hbm, ⟨102, _⟩ => ⟨S32768x4096, .bf16⟩
  | .hbm, ⟨103, _⟩ => ⟨S32768x128, .f32⟩
  | .hbm, ⟨104, _⟩ => ⟨S4x8192x8, .f32⟩
  | .hbm, ⟨105, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_call0_v0 : Ref sig .tc := ⟨.hbm, 79, rfl⟩
abbrev main_call0_call0_cst : Ref sig .tc := ⟨.hbm, 80, rfl⟩
abbrev main_call0_call0_v0 : Ref sig .tc := ⟨.hbm, 81, rfl⟩
abbrev main_call0_call0_v1 : Ref sig .tc := ⟨.hbm, 82, rfl⟩
abbrev main_call0_call0_v2 : Ref sig .tc := ⟨.hbm, 83, rfl⟩
abbrev main_call0_call0_v3 : Ref sig .tc := ⟨.hbm, 84, rfl⟩
abbrev main_call0_call0_v4 : Ref sig .tc := ⟨.hbm, 85, rfl⟩
abbrev main_call0_call0_v5 : Ref sig .tc := ⟨.hbm, 86, rfl⟩
abbrev main_call0_call0_v6 : Ref sig .tc := ⟨.hbm, 87, rfl⟩
abbrev main_call0_call0_v7 : Ref sig .tc := ⟨.hbm, 88, rfl⟩
abbrev main_call0_call0_v8 : Ref sig .tc := ⟨.hbm, 89, rfl⟩
abbrev main_call0_call0_v9 : Ref sig .tc := ⟨.hbm, 90, rfl⟩
abbrev main_call0_call0_v10 : Ref sig .tc := ⟨.hbm, 91, rfl⟩
abbrev main_call0_call0_v11 : Ref sig .tc := ⟨.hbm, 92, rfl⟩
abbrev main_call0_v1 : Ref sig .tc := ⟨.hbm, 93, rfl⟩
abbrev main_v61 : Ref sig .tc := ⟨.hbm, 94, rfl⟩
abbrev main_call1_call0_cst : Ref sig .tc := ⟨.hbm, 95, rfl⟩
abbrev main_call1_call0_v0 : Ref sig .tc := ⟨.hbm, 96, rfl⟩
abbrev main_v62 : Ref sig .tc := ⟨.hbm, 97, rfl⟩
abbrev main_cst_11 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]
-- ==== Online.lean ====
abbrev S4x8192x8x128 : Shape := ⟨4, ![4, 8192, 8, 128]⟩
abbrev S4x8192x1024 : Shape := ⟨3, ![4, 8192, 1024]⟩
abbrev S4x8192x8 : Shape := ⟨3, ![4, 8192, 8]⟩
abbrev S_ : Shape := ⟨0, ![]⟩
abbrev S4x8192x4096 : Shape := ⟨3, ![4, 8192, 4096]⟩
abbrev S4x8192x120 : Shape := ⟨3, ![4, 8192, 120]⟩
abbrev S4x8192x128 : Shape := ⟨3, ![4, 8192, 128]⟩
abbrev S4x8x8192 : Shape := ⟨3, ![4, 8, 8192]⟩
abbrev S1x1024x128 : Shape := ⟨3, ![1, 1024, 128]⟩
abbrev S1x8192x128 : Shape := ⟨3, ![1, 8192, 128]⟩
abbrev S1x8x8192 : Shape := ⟨3, ![1, 8, 8192]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 28
  | .vmem => 14
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x8x128, .f32⟩
  | .hbm, ⟨2, _⟩ => ⟨S4x8192x8x128, .f32⟩
  | .hbm, ⟨3, _⟩ => ⟨S4x8192x1024, .f32⟩
  | .hbm, ⟨4, _⟩ => ⟨S4x8192x8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8192x8x128, .f32⟩
  | .hbm, ⟨13, _⟩ => ⟨S4x8192x8x128, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x4096, .f32⟩
  | .hbm, ⟨18, _⟩ => ⟨S4x8192x4096, .bf16⟩
  | .hbm, ⟨19, _⟩ => ⟨S4x8192x8, .f32⟩
  | .hbm, ⟨20, _⟩ => ⟨S4x8192x8, .f32⟩
  | .hbm, ⟨21, _⟩ => ⟨S_, .f32⟩
  | .hbm, ⟨22, _⟩ => ⟨S4x8192x120, .f32⟩
  | .hbm, ⟨23, _⟩ => ⟨S4x8192x128, .f32⟩
  | .hbm, ⟨24, _⟩ => ⟨S4x8192x8, .f32⟩
  | .hbm, ⟨25, _⟩ => ⟨S4x8192x8, .f32⟩
  | .hbm, ⟨26, _⟩ => ⟨S4x8x8192, .f32⟩
  | .hbm, ⟨27, _⟩ => ⟨S4x8192x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .f32⟩
  | .local _ .vmem, ⟨9, _⟩ => ⟨S1x1024x128, .f32⟩
  | .local _ .vmem, ⟨10, _⟩ => ⟨S1x8x8192, .f32⟩
  | .local _ .vmem, ⟨11, _⟩ => ⟨S1x8x8192, .f32⟩
  | .local _ .vmem, ⟨12, _⟩ => ⟨S1x1024x128, .bf16⟩
  | .local _ .vmem, ⟨13, _⟩ => ⟨S1x1024x128, .bf16⟩
  | _, _ => ⟨S4x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32 : BitVec 32 := 0#32
  let arg2 : BitVec 32 := BitVec.ofNat 32 (i 2).val
  let c2_i32 : BitVec 32 := 2#32
  let v29 : BitVec 32 := Scalar.muli arg2 c2_i32
  let v30 : BitVec 32 := Scalar.subi v29 c0_i32
  let c1_i32 : BitVec 32 := 1#32
  let v32 : BitVec 32 := Scalar.divsi v30 c1_i32
  let v33 : BitVec 32 := Scalar.muli v32 c1_i32
  let v34 : BitVec 32 := Scalar.addi c0_i32 v33
  let c1_i32_19 : BitVec 32 := 1#32
  ⟨c0_i32, v34, c1_i32_19⟩
def k0_mult1 (i : grid0.Coords) (k0_t1 : Fin (k0_t1_loop i).trips) : BitVec 32 :=
  let c0_i32 : BitVec 32 := 0#32
  let c1_i32_19 : BitVec 32 := 1#32
  let arg10 : BitVec 32 := Scf.iv c0_i32 c1_i32_19 k0_t1
  let c512_i32_67 : BitVec 32 := 512#32
  let v175 : BitVec 32 := Scalar.muli arg10 c512_i32_67
  v175
def k0_off1 (i : grid0.Coords) (k0_t1 : Fin (k0_t1_loop i).trips) : Fin 3 → Nat :=
  let c0_68 : Index := 0#32
  let c0_i32 : BitVec 32 := 0#32
  let c1_i32_19 : BitVec 32 := 1#32
  let arg10 : BitVec 32 := Scf.iv c0_i32 c1_i32_19 k0_t1
  let c512_i32_67 : BitVec 32 := 512#32
  let v175 : BitVec 32 := Scalar.muli arg10 c512_i32_67
  let v176 : BitVec 32 := v175
  let v177 : Index := Scalar.indexCast v176
  let c0_69 : Index := 0#32
  ![0, v177.toNat, 0]
def k0_off2 (i : grid0.Coords) (k0_t1 : Fin (k0_t1_loop i).trips) : Fin 3 → Nat :=
  let c0_72 : Index := 0#32
  let arg1 : BitVec 32 := BitVec.ofNat 32 (i 1).val
  let v183 : Index := Scalar.indexCast arg1
  let c0_i32 : BitVec 32 := 0#32
  let c1_i32_19 : BitVec 32 := 1#32
  let arg10 : BitVec 32 := Scf.iv c0_i32 c1_i32_19 k0_t1
  let c512_i32_67 : BitVec 32 := 512#32
  let v175 : BitVec 32 := Scalar.muli arg10 c512_i32_67
  let v176 : BitVec 32 := v175
  let v184 : Index := Scalar.indexCast v176
  ![0, v183.toNat, v184.toNat]
@[reducible] def k0_t2_loop (i : grid0.Coords) : Scf.Loop 32 :=
  let c0_i32 : BitVec 32 := 0#32
  let arg2 : BitVec 32 := BitVec.ofNat 32 (i 2).val
  let c2_i32 : BitVec 32 := 2#32
  let v29 : BitVec 32 := Scalar.muli arg2 c2_i32
  let v30 : BitVec 32 := Scalar.subi v29 c0_i32
  let c1_i32 : BitVec 32 := 1#32
  let v32 : BitVec 32 := Scalar.divsi v30 c1_i32
  let v33 : BitVec 32 := Scalar.muli v32 c1_i32
  let v34 : BitVec 32 := Scalar.addi c0_i32 v33
  let v31 : BitVec 32 := Scalar.addi c0_i32 v30
  let c1_i32_20 : BitVec 32 := 1#32
  ⟨v34, v31, c1_i32_20⟩
def k0_mult2 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v29 : BitVec 32 := Scalar.muli arg2 c2_i32
  let v30 : BitVec 32 := Scalar.subi v29 c0_i32
  let c1_i32 : BitVec 32 := 1#32
  let v32 : BitVec 32 := Scalar.divsi v30 c1_i32
  let v33 : BitVec 32 := Scalar.muli v32 c1_i32
  let v34 : BitVec 32 := Scalar.addi c0_i32 v33
  let c1_i32_20 : BitVec 32 := 1#32
  let arg10 : BitVec 32 := Scf.iv v34 c1_i32_20 k0_t2
  let c512_i32_67 : BitVec 32 := 512#32
  let v175 : BitVec 32 := Scalar.muli arg10 c512_i32_67
  v175
def k0_off3 (i : grid0.Coords) (k0_t2 : Fin (k0_t2_loop i).trips) : Fin 3 → Nat :=
  let c0_68 : Index := 0#32
  let c0_i32 : BitVec 32 := 0#32
  let arg2 : BitVec 32 := BitVec.ofNat 32 (i 2).val
  let c2_i32 : BitVec 32 := 2#32
  let v29 : BitVec 32 := Scalar.muli arg2 c2_i32
  let v30 : BitVec 32 := Scalar.subi v29 c0_i32
  let c1_i32 : BitVec 32 := 1#32
  let v32 : BitVec 32 := Scalar.divsi v30 c1_i32
  let v33 : BitVec 32 := Scalar.muli v32 c1_i32
  let v34 : BitVec 32 := Scalar.addi c0_i32 v33
  let c1_i32_20 : BitVec 32 := 1#32
  let arg10 : BitVec 32 := Scf.iv v34 c1_i32_20 k0_t2
  let c512_i32_67 : BitVec 32 := 512#32
  let v175 : BitVec 32 := Scalar.muli arg10 c512_i32_67
  let v176 : BitVec 32 := v175
  let v177 : Index := Scalar.indexCast v176
  let c0_69 : Index := 0#32
  ![0, v177.toNat, 0]
def k0_off4 (i : grid0.Coords) (k0_t2 : Fin (k0_t2_loop i).trips) : Fin 3 → Nat :=
  let c0_72 : Index := 0#32
  let arg1 : BitVec 32 := BitVec.ofNat 32 (i 1).val
  let v183 : Index := Scalar.indexCast arg1
  let c0_i32 : BitVec 32 := 0#32
  let arg2 : BitVec 32 := BitVec.ofNat 32 (i 2).val
  let c2_i32 : BitVec 32 := 2#32
  let v29 : BitVec 32 := Scalar.muli arg2 c2_i32
  let v30 : BitVec 32 := Scalar.subi v29 c0_i32
  let c1_i32 : BitVec 32 := 1#32
  let v32 : BitVec 32 := Scalar.divsi v30 c1_i32
  let v33 : BitVec 32 := Scalar.muli v32 c1_i32
  let v34 : BitVec 32 := Scalar.addi c0_i32 v33
  let c1_i32_20 : BitVec 32 := 1#32
  let arg10 : BitVec 32 := Scf.iv v34 c1_i32_20 k0_t2
  let c512_i32_67 : BitVec 32 := 512#32
  let v175 : BitVec 32 := Scalar.muli arg10 c512_i32_67
  let v176 : BitVec 32 := v175
  let v184 : Index := Scalar.indexCast v176
  ![0, v183.toNat, v184.toNat]
def k0_mult3 (i : grid0.Coords) : BitVec 32 :=
  let arg2 : BitVec 32 := BitVec.ofNat 32 (i 2).val
  let c1024_i32 : BitVec 32 := 1024#32
  let v37 : BitVec 32 := Scalar.muli arg2 c1024_i32
  let c0_i32_21 : BitVec 32 := 0#32
  let v38 : BitVec 32 := Scalar.addi v37 c0_i32_21
  v38
def k0_off5 (i : grid0.Coords) (c0_i32_21 : BitVec 32) : Fin 3 → Nat :=
  let c0_22 : Index := 0#32
  let arg2 : BitVec 32 := BitVec.ofNat 32 (i 2).val
  let c1024_i32 : BitVec 32 := 1024#32
  let v37 : BitVec 32 := Scalar.muli arg2 c1024_i32
  let v38 : BitVec 32 := Scalar.addi v37 c0_i32_21
  let v39 : BitVec 32 := v38
  let v40 : Index := Scalar.indexCast v39
  let c0_23 : Index := 0#32
  ![0, v40.toNat, 0]
def k0_off6 (i : grid0.Coords) (c0_i32_21 : BitVec 32) : Fin 3 → Nat :=
  let c0_26 : Index := 0#32
  let arg1 : BitVec 32 := BitVec.ofNat 32 (i 1).val
  let v46 : Index := Scalar.indexCast arg1
  let arg2 : BitVec 32 := BitVec.ofNat 32 (i 2).val
  let c1024_i32 : BitVec 32 := 1024#32
  let v37 : BitVec 32 := Scalar.muli arg2 c1024_i32
  let v38 : BitVec 32 := Scalar.addi v37 c0_i32_21
  let v39 : BitVec 32 := v38
  let v47 : Index := Scalar.indexCast v39
  ![0, v46.toNat, v47.toNat]
def k0_mult4 (i : grid0.Coords) : BitVec 32 :=
  let arg2 : BitVec 32 := BitVec.ofNat 32 (i 2).val
  let c1024_i32_37 : BitVec 32 := 1024#32
  let v99 : BitVec 32 := Scalar.muli arg2 c1024_i32_37
  let c512_i32 : BitVec 32 := 512#32
  let v100 : BitVec 32 := Scalar.addi v99 c512_i32
  v100
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== OnlineIdeal.lean ====
variable {F : FTy → Type} [FloatOps F] [Named F]
def κ : String → Option EReal := fun
  | "minus_log2e" => some ((-((Real.log 2)⁻¹) : ℝ) : EReal)
  | _ => none
-- ==== OnlineReferenceIdeal.lean ====
abbrev S4x8192x8x128 : Shape := ⟨4, ![4, 8192, 8, 128]⟩
abbrev S4x8192x1024 : Shape := ⟨3, ![4, 8192, 1024]⟩
abbrev S4x8192x8 : Shape := ⟨3, ![4, 8192, 8]⟩
abbrev S4x8x8192x128 : Shape := ⟨4, ![4, 8, 8192, 128]⟩
abbrev S4x8x8192 : Shape := ⟨3, ![4, 8, 8192]⟩
abbrev S8192 : Shape := ⟨1, ![8192]⟩
abbrev S4x8x8192x8192 : Shape := ⟨4, ![4, 8, 8192, 8192]⟩
abbrev S_ : Shape := ⟨0, ![]⟩
abbrev S4x8x8192x1 : Shape := ⟨4, ![4, 8, 8192, 1]⟩
abbrev S4x8x1x8192 : Shape := ⟨4, ![4, 8, 1, 8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x8x128, .f32⟩
  | .hbm, ⟨2, _⟩ => ⟨S4x8192x8x128, .f32⟩
  | .hbm, ⟨3, _⟩ => ⟨S4x8192x1024, .f32⟩
  | .hbm, ⟨4, _⟩ => ⟨S4x8192x8, .f32⟩
  | .hbm, ⟨5, _⟩ => ⟨S4x8x8192x128, .f32⟩
  | .hbm, ⟨6, _⟩ => ⟨S4x8x8192x128, .f32⟩
  | .hbm, ⟨7, _⟩ => ⟨S4x8x8192x128, .f32⟩
  | .hbm, ⟨8, _⟩ => ⟨S4x8x8192, .f32⟩
  | .hbm, ⟨9, _⟩ => ⟨S8192, .i32⟩
  | .hbm, ⟨10, _⟩ => ⟨S4x8x8192x8192, .f32⟩
  | .hbm, ⟨11, _⟩ => ⟨S_, .f32⟩
  | .hbm, ⟨12, _⟩ => ⟨S_, .f32⟩
  | .hbm, ⟨13, _⟩ => ⟨S4x8x8192x8192, .f32⟩
  | .hbm, ⟨14, _⟩ => ⟨S4x8x8192x8192, .f32⟩
  | .hbm, ⟨15, _⟩ => ⟨S4x8x8192x1, .f32⟩
  | .hbm, ⟨16, _⟩ => ⟨S4x8x1x8192, .f32⟩
  | .hbm, ⟨17, _⟩ => ⟨S4x8x8192x8192, .f32⟩
  | .hbm, ⟨18, _⟩ => ⟨S4x8x8192x8192, .f32⟩
  | .hbm, ⟨19, _⟩ => ⟨S4x8x8192x8192, .f32⟩
  | .hbm, ⟨20, _⟩ => ⟨S4x8x8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S4x8x8192x8192, .i1⟩
  | .hbm, ⟨29, _⟩ => ⟨S4x8x8192x8192, .f32⟩
  | .hbm, ⟨30, _⟩ => ⟨S4x8x8192x8192, .f32⟩
  | .hbm, ⟨31, _⟩ => ⟨S_, .f32⟩
  | .hbm, ⟨32, _⟩ => ⟨S4x8x8192, .f32⟩
  | .hbm, ⟨33, _⟩ => ⟨S_, .f32⟩
  | .hbm, ⟨34, _⟩ => ⟨S4x8x8192, .f32⟩
  | .hbm, ⟨35, _⟩ => ⟨S4x8x8192, .f32⟩
  | .hbm, ⟨36, _⟩ => ⟨S4x8x8192x1, .f32⟩
  | .hbm, ⟨37, _⟩ => ⟨S4x8x8192x8192, .f32⟩
  | .hbm, ⟨38, _⟩ => ⟨S4x8x8192x8192, .f32⟩
  | .hbm, ⟨39, _⟩ => ⟨S4x8x8192x8192, .f32⟩
  | .hbm, ⟨40, _⟩ => ⟨S_, .f32⟩
  | .hbm, ⟨41, _⟩ => ⟨S4x8x8192, .f32⟩
  | .hbm, ⟨42, _⟩ => ⟨S4x8x8192x1, .f32⟩
  | .hbm, ⟨43, _⟩ => ⟨S4x8x8192x8192, .f32⟩
  | .hbm, ⟨44, _⟩ => ⟨S4x8x8192x8192, .f32⟩
  | .hbm, ⟨45, _⟩ => ⟨S4x8x8192x128, .f32⟩
  | .hbm, ⟨46, _⟩ => ⟨S4x8192x8x128, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192x1024, .f32⟩
  | .hbm, ⟨52, _⟩ => ⟨S4x8192x1024, .f32⟩
  | .hbm, ⟨53, _⟩ => ⟨S_, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .bf16⟩
  | _, _ => ⟨S4x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.Tile.lean ====
/-
  WHAT ONE BLOCK OF KEYS ADDS to the accumulator. The kernel keeps, per query row, 128 lanes of weighted values and 128
  lanes of the weights' own sum (the values' array continued by ones). One block of 512 keys adds, in each lane, the
  sum over its keys of weight times value; here that is read off the kernel's printed expressions, element by element.
-/
module

public import proofs.«01_k».proof.Proof.Gen.KernelIdeal.Value
public import Idealize.ShloMosaic.Lib.Pointwise
public import Idealize.ShloMosaic.Lib.Pipeline.Value
public import Idealize.ShloMosaic.Lib.Tactic

@[expose] public section

set_option maxRecDepth 16384

noncomputable section

namespace Cert.Proof

open Idealize.ShloMosaic Idealize.SL.Sem Cert.KernelIdeal Cert.KernelIdeal.Gen

/-- The base-two exponent of query row `r` against key `j`: the scaled score, less the key's gate, plus the row's. -/
def expo (x0 : FVec Ideal S2048x128 .bf16) (x1 : FVec Ideal S1x8192x128 .bf16) (x5 : FVec Ideal S1x8x8192 .f32)
    (dq : FVec Ideal S2048x1 .f32) (h : Fin 8) (r : Fin 2048) (j : Fin 8192) : EReal :=
  (∑ d : Fin 128, x0 (ix2 r d) * x1 (ix3 0 j d)) - x5 (ix3 0 h j) + dq (ix2 r 0)

/-- Lane `l` of key `j`'s extended value row: the value in the first 128 lanes, one in the others. -/
def lane (x2 : FVec Ideal S1x8192x128 .bf16) (j : Fin 8192) (l : Fin 256) : EReal :=
  if h : l.val < 128 then x2 (ix3 0 j ⟨l.val, h⟩) else 1

/-- What key `j` adds to row `r`, lane `l` (nothing beyond the last key). -/
def term (x0 : FVec Ideal S2048x128 .bf16) (x1 x2 : FVec Ideal S1x8192x128 .bf16) (x5 : FVec Ideal S1x8x8192 .f32)
    (dq : FVec Ideal S2048x1 .f32) (h : Fin 8) (r : Fin 2048) (l : Fin 256) (j : ℕ) : EReal :=
  if hj : j < 8192 then
    FloatOps.exp2 (F := Ideal) (φ := .f32) (expo x0 x1 x5 dq h r ⟨j, hj⟩) * lane x2 ⟨j, hj⟩ l
  else 0

/-- The block of 512 keys (or values) `kb` is the array's rows from `b` on. -/
def RowsFrom (x : FVec Ideal S1x8192x128 .bf16) (b : ℕ) (kb : FVec Ideal S1x512x128 .bf16) : Prop :=
  ∀ (j : Fin 512) (d : Fin 128) (hj : b + j.val < 8192), kb (ix3 0 j d) = x (ix3 0 ⟨b + j.val, hj⟩ d)

/-- The block of 512 gates `cb` is head `h`'s gates from key `b` on. -/
def GatesFrom (x : FVec Ideal S1x8x8192 .f32) (h : Fin 8) (b : ℕ) (cb : FVec Ideal S1x1x512 .f32) : Prop :=
  ∀ (j : Fin 512) (hj : b + j.val < 8192), cb (ix3 0 0 j) = x (ix3 0 h ⟨b + j.val, hj⟩)

/-- A load of 512 rows at row `b` reads the rows from `b` on. -/
theorem rowsFrom_ld (x : FVec Ideal S1x8192x128 .bf16) (off : Fin 3 → ℕ) (b : ℕ) (h : off = ![0, b, 0])
    (inb : ∀ a, off a + S1x512x128.size a ≤ S1x8192x128.size a) :
    RowsFrom x b (View.ld (Val := Elt Ideal) (e' := .bf16) x (Rect.unit (s := S1x8192x128) off S1x512x128.size inb)) := by
  subst h
  intro j d hj
  pointwise

/-- A load of 512 gates of head `h` at key `b` reads the gates from `b` on. -/
theorem gatesFrom_ld (x : FVec Ideal S1x8x8192 .f32) (off : Fin 3 → ℕ) (h : Fin 8) (b : ℕ) (ho : off = ![0, h.val, b])
    (inb : ∀ a, off a + S1x1x512.size a ≤ S1x8x8192.size a) :
    GatesFrom x h b (View.ld (Val := Elt Ideal) (e' := .f32) x (Rect.unit (s := S1x8x8192) off S1x1x512.size inb)) := by
  subst ho
  intro j hj
  pointwise

/-- The ones that continue the values. -/
theorem ones_at (j : Fin 512) (l : Fin 128) : k0_pay18 (F := Ideal) (ix2 j l) = 1 := by
  pointwise [k0_pay18]

/-- The word of minus infinity is the bottom of the extended reals. -/
theorem neg_inf : Ideal.ofBits .f32 0xFF800000#32 = ⊥ := by
  simp [Ideal.ofBits, Ideal.ieee]

section
variable (x0 : FVec Ideal S2048x128 .bf16) (x1 x2 : FVec Ideal S1x8192x128 .bf16)
    (x5 : FVec Ideal S1x8x8192 .f32) (dq : FVec Ideal S2048x1 .f32) (h : Fin 8)

/-- The sum over one block of 512 keys beginning at key `b`. -/
theorem block_sum (r : Fin 2048) (l : Fin 256) (b : ℕ) (hb : b + 512 ≤ 8192)
    (kb vb : FVec Ideal S1x512x128 .bf16) (cb : FVec Ideal S1x1x512 .f32)
    (hk : RowsFrom x1 b kb) (hv : RowsFrom x2 b vb) (hc : GatesFrom x5 h b cb) :
    (∑ x : Fin 512, FloatOps.exp2 (F := Ideal) (φ := .f32)
        (∑ x_1 : Fin 128, x0 (ix2 r x_1) * kb (ix3 0 x x_1) - cb (ix3 0 0 x) + dq (ix2 r 0)) *
          (if h : l.val < 128 then vb (ix3 0 x ⟨l.val, h⟩) else k0_pay18 (F := Ideal) (ix2 x ⟨l.val - 128, by omega⟩)))
      = ∑ j ∈ Finset.range 512, term x0 x1 x2 x5 dq h r l (b + j) := by
  rw [Finset.sum_range]
  refine Finset.sum_congr rfl fun j _ => ?_
  have hj : b + j.val < 8192 := by omega
  unfold term expo lane
  rw [dif_pos hj]
  simp only [hk j _ hj, hv j _ hj, hc j hj, ones_at]

/-- What a key of the query block's own 2048 adds to row `r`: nothing when it comes after the row. -/
def masked (r : Fin 2048) (l : Fin 256) (b j : ℕ) : EReal :=
  if j ≤ r.val then term x0 x1 x2 x5 dq h r l (b + j) else 0

/-- A block of keys all at or before row `r` is added whole. -/
theorem below_sum (r : Fin 2048) (l : Fin 256) (b c : ℕ) (hb : b + c + 512 ≤ 8192) (hr : c + 511 ≤ r.val)
    (kb vb : FVec Ideal S1x512x128 .bf16) (cb : FVec Ideal S1x1x512 .f32)
    (hk : RowsFrom x1 (b + c) kb) (hv : RowsFrom x2 (b + c) vb) (hc : GatesFrom x5 h (b + c) cb) :
    (∑ x : Fin 512, FloatOps.exp2 (F := Ideal) (φ := .f32)
        (∑ x_1 : Fin 128, x0 (ix2 r x_1) * kb (ix3 0 x x_1) - cb (ix3 0 0 x) + dq (ix2 r 0)) *
          (if h : l.val < 128 then vb (ix3 0 x ⟨l.val, h⟩) else k0_pay18 (F := Ideal) (ix2 x ⟨l.val - 128, by omega⟩)))
      = ∑ j ∈ Finset.range 512, masked x0 x1 x2 x5 dq h r l b (c + j) := by
  rw [block_sum x0 x1 x2 x5 dq h r l (b + c) hb kb vb cb hk hv hc]
  refine Finset.sum_congr rfl fun j hj => ?_
  rw [Finset.mem_range] at hj
  unfold masked
  rw [if_pos (by omega), add_assoc]

/-- The block of keys that holds row `r`'s own place: a key after it has the exponent minus infinity, hence weight zero. -/
theorem diagonal_sum (r : Fin 2048) (l : Fin 256) (b c : ℕ) (hb : b + c + 512 ≤ 8192) (hr : c ≤ r.val)
    (kb vb : FVec Ideal S1x512x128 .bf16) (cb : FVec Ideal S1x1x512 .f32)
    (hk : RowsFrom x1 (b + c) kb) (hv : RowsFrom x2 (b + c) vb) (hc : GatesFrom x5 h (b + c) cb) :
    (∑ x : Fin 512, FloatOps.exp2 (F := Ideal) (φ := .f32)
        (Scalar.select (IntOp.cmpi .sge (BitVec.ofNat 32 (r.val - c)) (BitVec.ofNat 32 x.val))
          (∑ x_1 : Fin 128, x0 (ix2 r x_1) * kb (ix3 0 x x_1) - cb (ix3 0 0 x) + dq (ix2 r 0))
          (Ideal.ofBits .f32 0xFF800000#32)) *
          (if h : l.val < 128 then vb (ix3 0 x ⟨l.val, h⟩) else k0_pay18 (F := Ideal) (ix2 x ⟨l.val - 128, by omega⟩)))
      = ∑ j ∈ Finset.range 512, masked x0 x1 x2 x5 dq h r l b (c + j) := by
  rw [Finset.sum_range]
  refine Finset.sum_congr rfl fun j _ => ?_
  have hj : b + c + j.val < 8192 := by omega
  rw [WordCmp.cmpi_sge_ofNat (by omega) (by omega), Scalar.select_decide]
  unfold masked
  by_cases hjr : j.val ≤ r.val - c
  · rw [if_pos hjr, if_pos (by omega)]
    unfold term expo lane
    rw [dif_pos (show b + (c + j.val) < 8192 by omega)]
    simp only [hk j _ hj, hv j _ hj, hc j hj, ones_at, add_assoc]
  · rw [if_neg hjr, if_neg (by omega), neg_inf]
    show Ideal.exp2 ⊥ * _ = 0
    rw [Ideal.exp2_bot, zero_mul]

/-- A block of keys all after row `r` adds nothing. -/
theorem above_sum (r : Fin 2048) (l : Fin 256) (b c : ℕ) (hr : r.val < c) :
    ∑ j ∈ Finset.range 512, masked x0 x1 x2 x5 dq h r l b (c + j) = 0 :=
  Finset.sum_eq_zero fun j _ => if_neg (by omega)

/-- Four runs of 512 make one of 2048. -/
theorem sum_four (f : ℕ → EReal) :
    ∑ j ∈ Finset.range 2048, f j = ∑ j ∈ Finset.range 512, f (0 + j) + ∑ j ∈ Finset.range 512, f (512 + j)
      + ∑ j ∈ Finset.range 512, f (1024 + j) + ∑ j ∈ Finset.range 512, f (1536 + j) := by
  rw [show (2048 : ℕ) = 512 + 512 + 512 + 512 from rfl, Finset.sum_range_add, Finset.sum_range_add,
    Finset.sum_range_add]
  simp only [zero_add]

/-- ONE TRIP of the loop over whole groups of keys: four blocks of 512 keys, in order. -/
theorem trip_sum (b : ℕ) (hb : b + 2048 ≤ 8192)
    (k0 k1 k2 k3 w0 w1 w2 w3 : FVec Ideal S1x512x128 .bf16) (c0 c1 c2 c3 : FVec Ideal S1x1x512 .f32)
    (hk0 : RowsFrom x1 (b + 0) k0) (hk1 : RowsFrom x1 (b + 512) k1) (hk2 : RowsFrom x1 (b + 1024) k2)
    (hk3 : RowsFrom x1 (b + 1536) k3) (hw0 : RowsFrom x2 (b + 0) w0) (hw1 : RowsFrom x2 (b + 512) w1)
    (hw2 : RowsFrom x2 (b + 1024) w2) (hw3 : RowsFrom x2 (b + 1536) w3) (hc0 : GatesFrom x5 h (b + 0) c0)
    (hc1 : GatesFrom x5 h (b + 512) c1) (hc2 : GatesFrom x5 h (b + 1024) c2) (hc3 : GatesFrom x5 h (b + 1536) c3)
    (acc : FVec Ideal S2048x256 .f32) (r : Fin 2048) (l : Fin 256) :
    k0_pay20 dq x0 k0_pay18 (k0_pay6 dq x0 k0_pay18 (k0_pay2 dq x0 k0_pay18 acc k0 w0 c0) (k0_pay3 k0_pay18 w1)
        (k0_pay4 c1) (k0_pay5 x0 k1) k2 w2 c2) (k0_pay7 k3) (k0_pay8 w3) c3 (ix2 r l)
      = acc (ix2 r l) + ∑ j ∈ Finset.range 2048, term x0 x1 x2 x5 dq h r l (b + j) := by
  pointwise [k0_pay20, k0_pay6, k0_pay2, k0_pay3, k0_pay4, k0_pay5, k0_pay7, k0_pay8]
  rw [block_sum x0 x1 x2 x5 dq h r l (b + 0) (by omega) k0 w0 c0 hk0 hw0 hc0,
    block_sum x0 x1 x2 x5 dq h r l (b + 512) (by omega) k1 w1 c1 hk1 hw1 hc1,
    block_sum x0 x1 x2 x5 dq h r l (b + 1024) (by omega) k2 w2 c2 hk2 hw2 hc2,
    block_sum x0 x1 x2 x5 dq h r l (b + 1536) (by omega) k3 w3 c3 hk3 hw3 hc3,
    sum_four fun j => term x0 x1 x2 x5 dq h r l (b + j)]
  simp only [add_assoc]

/-- The first block of the query block's own keys, added to every row. -/
theorem own0_sum (b : ℕ) (hb : b + 2048 ≤ 8192) (kb vb : FVec Ideal S1x512x128 .bf16) (cb : FVec Ideal S1x1x512 .f32)
    (hk : RowsFrom x1 (b + 0) kb) (hv : RowsFrom x2 (b + 0) vb) (hc : GatesFrom x5 h (b + 0) cb)
    (acc : FVec Ideal S2048x256 .f32) (r : Fin 2048) (l : Fin 256) :
    k0_pay22 dq x0 k0_pay18 acc kb vb cb (ix2 r l)
      = acc (ix2 r l) + ∑ j ∈ Finset.range 512, masked x0 x1 x2 x5 dq h r l b (0 + j) := by
  pointwise [k0_pay22]
  by_cases h1 : r.val < 512
  · simp only [dif_pos h1]
    have e := diagonal_sum x0 x1 x2 x5 dq h r l b 0 (by omega) (by omega) kb vb cb hk hv hc
    simp only [Nat.sub_zero, zero_add] at e
    rw [e]
  · simp only [dif_neg h1, show (⟨512 + (r.val - 512), by omega⟩ : Fin 2048) = r from Fin.ext (by simp only; omega)]
    rw [below_sum x0 x1 x2 x5 dq h r l b 0 (by omega) (by omega) kb vb cb hk hv hc]
    simp only [zero_add]

/-- The second, added to the rows from 512 on. -/
theorem own1_sum (b : ℕ) (hb : b + 2048 ≤ 8192) (kb vb : FVec Ideal S1x512x128 .bf16) (cb : FVec Ideal S1x1x512 .f32)
    (hk : RowsFrom x1 (b + 512) kb) (hv : RowsFrom x2 (b + 512) vb) (hc : GatesFrom x5 h (b + 512) cb)
    (acc : FVec Ideal S2048x256 .f32) (r : Fin 2048) (l : Fin 256) :
    k0_pay24 dq x0 k0_pay18 acc (k0_pay23 kb) vb cb (ix2 r l)
      = acc (ix2 r l) + ∑ j ∈ Finset.range 512, masked x0 x1 x2 x5 dq h r l b (512 + j) := by
  pointwise [k0_pay24, k0_pay23]
  by_cases h1 : r.val < 512
  · rw [dif_pos h1, above_sum x0 x1 x2 x5 dq h r l b 512 h1, add_zero]
  · rw [dif_neg h1]
    by_cases h2 : r.val - 512 < 512
    · simp only [dif_pos h2, show (⟨512 + (r.val - 512), by omega⟩ : Fin 2048) = r from Fin.ext (by simp only; omega)]
      rw [diagonal_sum x0 x1 x2 x5 dq h r l b 512 (by omega) (by omega) kb vb cb hk hv hc]
    · simp only [dif_neg h2, show (⟨512 + (r.val - 512), by omega⟩ : Fin 2048) = r from Fin.ext (by simp only; omega),
        show (⟨512 + (512 + (r.val - 512 - 512)), by omega⟩ : Fin 2048) = r from Fin.ext (by simp only; omega)]
      rw [below_sum x0 x1 x2 x5 dq h r l b 512 (by omega) (by omega) kb vb cb hk hv hc]

/-- The third, added to the rows from 1024 on. -/
theorem own2_sum (b : ℕ) (hb : b + 2048 ≤ 8192) (kb vb : FVec Ideal S1x512x128 .bf16) (cb : FVec Ideal S1x1x512 .f32)
    (hk : RowsFrom x1 (b + 1024) kb) (hv : RowsFrom x2 (b + 1024) vb) (hc : GatesFrom x5 h (b + 1024) cb)
    (acc : FVec Ideal S2048x256 .f32) (r : Fin 2048) (l : Fin 256) :
    k0_pay28 dq acc (k0_pay25 k0_pay18 vb) (k0_pay26 cb) (k0_pay27 x0 kb) (ix2 r l)
      = acc (ix2 r l) + ∑ j ∈ Finset.range 512, masked x0 x1 x2 x5 dq h r l b (1024 + j) := by
  pointwise [k0_pay28, k0_pay25, k0_pay26, k0_pay27]
  by_cases h1 : r.val < 1024
  · rw [dif_pos h1, above_sum x0 x1 x2 x5 dq h r l b 1024 h1, add_zero]
  · rw [dif_neg h1]
    by_cases h2 : r.val - 1024 < 512
    · simp only [dif_pos h2, show (⟨1024 + (r.val - 1024), by omega⟩ : Fin 2048) = r from Fin.ext (by simp only; omega)]
      rw [diagonal_sum x0 x1 x2 x5 dq h r l b 1024 (by omega) (by omega) kb vb cb hk hv hc]
    · simp only [dif_neg h2, show (⟨1024 + (r.val - 1024), by omega⟩ : Fin 2048) = r from Fin.ext (by simp only; omega),
        show (⟨1024 + (512 + (r.val - 1024 - 512)), by omega⟩ : Fin 2048) = r from Fin.ext (by simp only; omega)]
      rw [below_sum x0 x1 x2 x5 dq h r l b 1024 (by omega) (by omega) kb vb cb hk hv hc]

/-- The gate `z` applied to a row's normalised value: `z` times its logistic, written in base two. -/
def gate (z : EReal) : EReal :=
  z * Ideal.div 1 (1 + Ideal.exp2 (z * ((-((Real.log 2)⁻¹) : ℝ) : EReal)))

/-- The fourth block added to the rows from 1536 on, then each row's value lane over its sum lane, times the gate. -/
theorem own3_out (b : ℕ) (hb : b + 2048 ≤ 8192) (kb vb : FVec Ideal S1x512x128 .bf16) (cb : FVec Ideal S1x1x512 .f32)
    (hk : RowsFrom x1 (b + 1536) kb) (hv : RowsFrom x2 (b + 1536) vb) (hc : GatesFrom x5 h (b + 1536) cb)
    (acc : FVec Ideal S2048x256 .f32) (z : FVec Ideal S1x2048x128 .bf16) (r : Fin 2048) (d : Fin 128) :
    k0_pay1 acc (k0_pay29 k0_pay18 vb) (k0_pay30 dq x0 kb cb) (constant S512x256 .f32 0x00000000#32) z (ix3 0 r d)
      = Ideal.div
          (acc (ix2 r ⟨d.val, by omega⟩)
            + ∑ j ∈ Finset.range 512, masked x0 x1 x2 x5 dq h r ⟨d.val, by omega⟩ b (1536 + j))
          (acc (ix2 r 128) + ∑ j ∈ Finset.range 512, masked x0 x1 x2 x5 dq h r 128 b (1536 + j))
        * gate (z (ix3 0 r d)) := by
  pointwise [k0_pay1, k0_pay29, k0_pay30]
  have hn : (Named.named (F := Ideal) κ "minus_log2e" 0xBFB8AA3B#32 : Ideal .f32) = ((-((Real.log 2)⁻¹) : ℝ) : EReal) :=
    IdealRules.named_const.ideal_named_scalar _ _ _ _ rfl
  rw [hn]
  unfold gate
  congr 1
  by_cases h1 : r.val < 1536
  · rw [dif_pos h1, dif_pos h1, above_sum x0 x1 x2 x5 dq h r _ b 1536 h1, above_sum x0 x1 x2 x5 dq h r _ b 1536 h1,
      add_zero, add_zero]
  · have e1 := diagonal_sum x0 x1 x2 x5 dq h r ⟨d.val, by omega⟩ b 1536 (by omega) (by omega) kb vb cb hk hv hc
    have e2 := diagonal_sum x0 x1 x2 x5 dq h r 128 b 1536 (by omega) (by omega) kb vb cb hk hv hc
    simp only [dif_pos d.isLt] at e1
    simp only [show ¬((128 : Fin 256).val < 128) by decide, dif_neg, not_false_eq_true, ones_at] at e2
    simp only [dif_neg h1, ones_at,
      show (⟨1536 + (r.val - 1536), by omega⟩ : Fin 2048) = r from Fin.ext (by simp only; omega)]
    rw [← e1, ← e2]

end

end Cert.Proof
-- ==== Proof.Block.lean ====
/-
  WHAT ONE GRID POINT WRITES. The block of 2048 query rows of one head: the loop over the groups of 2048 earlier keys,
  then the query block's own 2048 keys under the causal mask, then the division by the weights' sum and the gate. The
  accumulator ends holding, in each lane, the sum over all keys up to the row's own.
-/
module

public import proofs.«01_k».proof.Proof.Tile

@[expose] public section

set_option maxRecDepth 16384

noncomputable section

namespace Cert.Proof

open Idealize.ShloMosaic Idealize.SL.Sem Cert.KernelIdeal Cert.KernelIdeal.Gen

theorem hz3 : (![0, 0, 0] : Fin 3 → Nat) = fun _ => 0 := funext fun a => by fin_cases a <;> rfl

/-- The rows of keys or values that a trip loads. -/
abbrev rows1 (i : grid0.Coords) (k : Fin (k0_t1_loop i).trips) (u : Fin 4) (x : FVec Ideal S1x8192x128 .bf16) :
    FVec Ideal S1x512x128 .bf16 :=
  View.ld (Val := Elt Ideal) (e' := .bf16) x (Rect.unit (s := S1x8192x128) (k0_off1 i k (BitVec.ofNat 32 u.val)) S1x512x128.size (k0_off1_inb i k u))

/-- The gates that a trip loads. -/
abbrev gates1 (i : grid0.Coords) (k : Fin (k0_t1_loop i).trips) (u : Fin 4) (x : FVec Ideal S1x8x8192 .f32) :
    FVec Ideal S1x1x512 .f32 :=
  View.ld (Val := Elt Ideal) (e' := .f32) x (Rect.unit (s := S1x8x8192) (k0_off2 i k (BitVec.ofNat 32 u.val)) S1x1x512.size (k0_off2_inb i k u))

/-- The rows of keys or values of the query block's own place. -/
abbrev rowsOwn (i : grid0.Coords) (u : Fin 4) (x : FVec Ideal S1x8192x128 .bf16) : FVec Ideal S1x512x128 .bf16 :=
  View.ld (Val := Elt Ideal) (e' := .bf16) x (Rect.unit (s := S1x8192x128) (k0_off5 i (BitVec.ofNat 32 (512 * u.val))) S1x512x128.size (k0_off5_inb i u))

/-- The gates of the query block's own place. -/
abbrev gatesOwn (i : grid0.Coords) (u : Fin 4) (x : FVec Ideal S1x8x8192 .f32) : FVec Ideal S1x1x512 .f32 :=
  View.ld (Val := Elt Ideal) (e' := .f32) x (Rect.unit (s := S1x8x8192) (k0_off6 i (BitVec.ofNat 32 (512 * u.val))) S1x1x512.size (k0_off6_inb i u))

/-- The load of a trip, from the buffer's contents. -/
abbrev rowsRaw (a : Memref sig .tc .vmem S1x8192x128 .bf16) (i : grid0.Coords) (k : Fin (k0_t1_loop i).trips) (u : Fin 4)
    (X : BufTy.Contents (Elt Ideal) a.view.ty) : FVec Ideal S1x512x128 .bf16 :=
  View.readAt (Elt Ideal) a.view (Rect.unit (s := S1x8192x128) (k0_off1 i k (BitVec.ofNat 32 u.val)) S1x512x128.size (k0_off1_inb i k u)).toLoadRect X

/-- The gates' load of a trip, from the buffer's contents. -/
abbrev gatesRaw (a : Memref sig .tc .vmem S1x8x8192 .f32) (i : grid0.Coords) (k : Fin (k0_t1_loop i).trips) (u : Fin 4)
    (X : BufTy.Contents (Elt Ideal) a.view.ty) : FVec Ideal S1x1x512 .f32 :=
  View.readAt (Elt Ideal) a.view (Rect.unit (s := S1x8x8192) (k0_off2 i k (BitVec.ofNat 32 u.val)) S1x1x512.size (k0_off2_inb i k u)).toLoadRect X

/-- The head of a grid point. -/
abbrev head (i : grid0.Coords) : Fin 8 := ⟨(i 1).val, (i 1).isLt⟩

/-- The bound on the logits: the first lane of its row. -/
abbrev bound1 (x : FVec Ideal S1x128 .f32) : FVec Ideal S1x1 .f32 :=
  View.ld (Val := Elt Ideal) (e' := .f32) x (Rect.unit (s := S1x128) ![0, 0] S1x1.size inb_S1x128_S1x1_0_0)

/-- One trip of the loop, as the printed expressions of its loads. -/
theorem trip_eq (𝒱 : Variants) (c : Dev nD) (bd : Option 𝒱.V) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x2048x128 .bf16) (harg6 : arg6.IsWhole) (arg7 : Memref sig .tc .vmem S1x2048x128 .f32) (harg7 : arg7.IsWhole) (arg8 : Memref sig .tc .vmem S1x8x8192 .f32) (harg8 : arg8.IsWhole) (arg9 : Memref sig .tc .vmem S1x128 .f32) (harg9 : arg9.IsWhole) (arg10 : Memref sig .tc .vmem S1x2048x128 .bf16) (harg10 : arg10.IsWhole)
    (arg1 arg2 : BitVec 32) (v12 : FVec Ideal S2048x1 .f32) (v14 : FVec Ideal S2048x128 .bf16) (v15 : FVec Ideal S512x128 .bf16) (v34 : FVec Ideal S2048x256 .f32) (c0_i32_15 v35 : BitVec 32)
    (x1 x2 : FVec Ideal S1x8192x128 .bf16) (x5 : FVec Ideal S1x8x8192 .f32) (k : Fin (k0_t1_loop i).trips) (acc : FVec Ideal S2048x256 .f32) :
    tripR_k0_t1 (F := Ideal) 𝒱 c bd i arg3 harg3 arg4 harg4 arg5 harg5 arg6 harg6 arg7 harg7 arg8 harg8 arg9 harg9 arg10 harg10 arg1 arg2 v12 v14 v15 v34 c0_i32_15 v35 (harg4.unread x1) (harg5.unread x2) (harg8.unread x5) k acc
      = k0_pay20 v12 v14 v15 (k0_pay6 v12 v14 v15 (k0_pay2 v12 v14 v15 acc (rows1 i k 0 x1) (rows1 i k 0 x2) (gates1 i k 0 x5))
          (k0_pay3 v15 (rows1 i k 1 x2)) (k0_pay4 (gates1 i k 1 x5)) (k0_pay5 v14 (rows1 i k 1 x1))
          (rows1 i k 2 x1) (rows1 i k 2 x2) (gates1 i k 2 x5)) (k0_pay7 (rows1 i k 3 x1)) (k0_pay8 (rows1 i k 3 x2)) (gates1 i k 3 x5) := by
  have e : ∀ a4 a5 a8, tripR_k0_t1 (F := Ideal) 𝒱 c bd i arg3 harg3 arg4 harg4 arg5 harg5 arg6 harg6 arg7 harg7 arg8 harg8 arg9 harg9 arg10 harg10 arg1 arg2 v12 v14 v15 v34 c0_i32_15 v35 a4 a5 a8 k acc
      = k0_pay20 v12 v14 v15 (k0_pay6 v12 v14 v15 (k0_pay2 v12 v14 v15 acc (rowsRaw arg4 i k 0 a4) (rowsRaw arg5 i k 0 a5) (gatesRaw arg8 i k 0 a8))
          (k0_pay3 v15 (rowsRaw arg5 i k 1 a5)) (k0_pay4 (gatesRaw arg8 i k 1 a8)) (k0_pay5 v14 (rowsRaw arg4 i k 1 a4))
          (rowsRaw arg4 i k 2 a4) (rowsRaw arg5 i k 2 a5) (gatesRaw arg8 i k 2 a8)) (k0_pay7 (rowsRaw arg4 i k 3 a4)) (k0_pay8 (rowsRaw arg5 i k 3 a5)) (gatesRaw arg8 i k 3 a8) := by
    intro a4 a5 a8
    unfold tripR_k0_t1 trip_k0_t1
    dsimp only
    sl_unfold_words
    unfold k0_pay6 k0_pay2 k0_pay3 k0_pay4 k0_pay5 k0_pay7 k0_pay8
    rfl
  rw [e]
  unfold rowsRaw gatesRaw
  simp only [View.readAt_eq_ld, harg4.read_unread, harg5.read_unread, harg8.read_unread]

/-- The loop over groups runs once per earlier group of 2048 keys. -/
theorem trips_eq : ∀ i : grid0.Coords, (k0_t1_loop i).trips = (i 2).val := by
  decide +kernel

/-- The loop over a remaining part of a group runs never: the group size is the query block's. -/
theorem trips2_eq (i : grid0.Coords) : (k0_t2_loop i).trips = 0 := Nat.le_zero.mp (k0_t2_abs i).2.1

/-- The accumulator before trip `n`: every key of the first `n` groups added. -/
theorem loop_sum (𝒱 : Variants) (c : Dev nD) (bd : Option 𝒱.V) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x2048x128 .bf16) (harg6 : arg6.IsWhole) (arg7 : Memref sig .tc .vmem S1x2048x128 .f32) (harg7 : arg7.IsWhole) (arg8 : Memref sig .tc .vmem S1x8x8192 .f32) (harg8 : arg8.IsWhole) (arg9 : Memref sig .tc .vmem S1x128 .f32) (harg9 : arg9.IsWhole) (arg10 : Memref sig .tc .vmem S1x2048x128 .bf16) (harg10 : arg10.IsWhole)
    (arg1 arg2 : BitVec 32) (v12 : FVec Ideal S2048x1 .f32) (v14 : FVec Ideal S2048x128 .bf16) (v34 : FVec Ideal S2048x256 .f32) (c0_i32_15 v35 : BitVec 32)
    (x1 x2 : FVec Ideal S1x8192x128 .bf16) (x5 : FVec Ideal S1x8x8192 .f32) (r : Fin 2048) (l : Fin 256) :
    ∀ n : ℕ, n ≤ (k0_t1_loop i).trips →
    st_k0_t1 (F := Ideal) 𝒱 c bd i arg3 harg3 arg4 harg4 arg5 harg5 arg6 harg6 arg7 harg7 arg8 harg8 arg9 harg9 arg10 harg10 arg1 arg2 v12 v14 k0_pay18 v34 c0_i32_15 v35 (harg4.unread x1) (harg5.unread x2) (harg8.unread x5) k0_pay19 n (ix2 r l)
      = ∑ j ∈ Finset.range (2048 * n), term v14 x1 x2 x5 v12 (head i) r l j
  | 0, _ => by
    rw [st_k0_t1_zero, Nat.mul_zero, Finset.sum_range_zero]
    pointwise [k0_pay19]
  | n + 1, hn => by
    have h2 : (i 2).val < 4 := (i 2).isLt
    have ht := trips_eq i
    have hs := st_k0_t1_succ (F := Ideal) 𝒱 c bd i arg3 harg3 arg4 harg4 arg5 harg5 arg6 harg6 arg7 harg7 arg8 harg8 arg9 harg9 arg10 harg10 arg1 arg2 v12 v14 k0_pay18 v34 c0_i32_15 v35 (harg4.unread x1) (harg5.unread x2) (harg8.unread x5) k0_pay19 ⟨n, hn⟩
    rw [hs, trip_eq, trip_sum v14 x1 x2 x5 v12 (head i) (2048 * n) (by omega) (rows1 i ⟨n, hn⟩ 0 x1) (rows1 i ⟨n, hn⟩ 1 x1) (rows1 i ⟨n, hn⟩ 2 x1) (rows1 i ⟨n, hn⟩ 3 x1)
      (rows1 i ⟨n, hn⟩ 0 x2) (rows1 i ⟨n, hn⟩ 1 x2) (rows1 i ⟨n, hn⟩ 2 x2) (rows1 i ⟨n, hn⟩ 3 x2)
      (gates1 i ⟨n, hn⟩ 0 x5) (gates1 i ⟨n, hn⟩ 1 x5) (gates1 i ⟨n, hn⟩ 2 x5) (gates1 i ⟨n, hn⟩ 3 x5)
      (rowsFrom_ld x1 _ _ (k0_off1_eq i ⟨n, hn⟩ 0) _) (rowsFrom_ld x1 _ _ (k0_off1_eq i ⟨n, hn⟩ 1) _) (rowsFrom_ld x1 _ _ (k0_off1_eq i ⟨n, hn⟩ 2) _) (rowsFrom_ld x1 _ _ (k0_off1_eq i ⟨n, hn⟩ 3) _)
      (rowsFrom_ld x2 _ _ (k0_off1_eq i ⟨n, hn⟩ 0) _) (rowsFrom_ld x2 _ _ (k0_off1_eq i ⟨n, hn⟩ 1) _) (rowsFrom_ld x2 _ _ (k0_off1_eq i ⟨n, hn⟩ 2) _) (rowsFrom_ld x2 _ _ (k0_off1_eq i ⟨n, hn⟩ 3) _)
      (gatesFrom_ld x5 _ _ _ (k0_off2_eq i ⟨n, hn⟩ 0) _) (gatesFrom_ld x5 _ _ _ (k0_off2_eq i ⟨n, hn⟩ 1) _) (gatesFrom_ld x5 _ _ _ (k0_off2_eq i ⟨n, hn⟩ 2) _) (gatesFrom_ld x5 _ _ _ (k0_off2_eq i ⟨n, hn⟩ 3) _)]
    show st_k0_t1 (F := Ideal) 𝒱 c bd i arg3 harg3 arg4 harg4 arg5 harg5 arg6 harg6 arg7 harg7 arg8 harg8 arg9 harg9 arg10 harg10 arg1 arg2 v12 v14 k0_pay18 v34 c0_i32_15 v35 (harg4.unread x1) (harg5.unread x2) (harg8.unread x5) k0_pay19 n (ix2 r l) + _ = _
    rw [loop_sum 𝒱 c bd i arg3 harg3 arg4 harg4 arg5 harg5 arg6 harg6 arg7 harg7 arg8 harg8 arg9 harg9 arg10 harg10 arg1 arg2 v12 v14 v34 c0_i32_15 v35 x1 x2 x5 r l n (by omega), Nat.mul_succ, Finset.sum_range_add]

/-- The keys up to row `r`'s own place: those of the earlier groups, and the own group's under the mask. -/
theorem all_keys (x0 : FVec Ideal S2048x128 .bf16) (x1 x2 : FVec Ideal S1x8192x128 .bf16) (x5 : FVec Ideal S1x8x8192 .f32)
    (dq : FVec Ideal S2048x1 .f32) (h : Fin 8) (r : Fin 2048) (l : Fin 256) (b : ℕ) :
    ∑ j ∈ Finset.range b, term x0 x1 x2 x5 dq h r l j
        + ∑ j ∈ Finset.range 512, masked x0 x1 x2 x5 dq h r l b (0 + j)
        + ∑ j ∈ Finset.range 512, masked x0 x1 x2 x5 dq h r l b (512 + j)
        + ∑ j ∈ Finset.range 512, masked x0 x1 x2 x5 dq h r l b (1024 + j)
        + ∑ j ∈ Finset.range 512, masked x0 x1 x2 x5 dq h r l b (1536 + j)
      = ∑ j ∈ Finset.range (b + r.val + 1), term x0 x1 x2 x5 dq h r l j := by
  have h4 := sum_four (masked x0 x1 x2 x5 dq h r l b)
  have hm : ∑ j ∈ Finset.range 2048, masked x0 x1 x2 x5 dq h r l b j
      = ∑ j ∈ Finset.range (r.val + 1), term x0 x1 x2 x5 dq h r l (b + j) := by
    unfold masked
    rw [← Finset.sum_filter]
    refine Finset.sum_congr (Finset.ext fun j => ?_) fun _ _ => rfl
    rw [Finset.mem_filter, Finset.mem_range, Finset.mem_range]
    omega
  rw [add_assoc b, Finset.sum_range_add, ← hm, h4]
  simp only [add_assoc]

/-- The whole block as the printed expressions: the loops, the four own blocks, the division and the gate. -/
theorem out_eq (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x2048x128 .bf16) (harg6 : arg6.IsWhole) (arg7 : Memref sig .tc .vmem S1x2048x128 .f32) (harg7 : arg7.IsWhole) (arg8 : Memref sig .tc .vmem S1x8x8192 .f32) (harg8 : arg8.IsWhole) (arg9 : Memref sig .tc .vmem S1x128 .f32) (harg9 : arg9.IsWhole) (arg10 : Memref sig .tc .vmem S1x2048x128 .bf16) (harg10 : arg10.IsWhole)
    (x0 : FVec Ideal S1x2048x128 .bf16) (x1 x2 : FVec Ideal S1x8192x128 .bf16) (x3 : FVec Ideal S1x2048x128 .bf16) (x4 : FVec Ideal S1x2048x128 .f32) (x5 : FVec Ideal S1x8x8192 .f32) (x6 : FVec Ideal S1x128 .f32) :
    ∃ a : FVec Ideal S2048x256 .f32,
      (∀ r l, a (ix2 r l) = ∑ j ∈ Finset.range (2048 * (i 2).val),
        term (k0_pay17 x0) x1 x2 x5 (k0_pay16 i x4 (bound1 x6)) (head i) r l j)
      ∧ out0_A_7 (F := Ideal) c i arg3 harg3 arg4 harg4 arg5 harg5 arg6 harg6 arg7 harg7 arg8 harg8 arg9 harg9 arg10 harg10 x0 x1 x2 x3 x4 x5 x6
        = (let dq := k0_pay16 (F := Ideal) i x4 (bound1 x6)
           let q := k0_pay17 (F := Ideal) x0
           k0_pay1 (k0_pay28 dq (k0_pay24 dq q k0_pay18 (k0_pay22 dq q k0_pay18 a (rowsOwn i 0 x1) (rowsOwn i 0 x2) (gatesOwn i 0 x5))
                (k0_pay23 (rowsOwn i 1 x1)) (rowsOwn i 1 x2) (gatesOwn i 1 x5))
              (k0_pay25 k0_pay18 (rowsOwn i 2 x2)) (k0_pay26 (gatesOwn i 2 x5)) (k0_pay27 q (rowsOwn i 2 x1)))
            (k0_pay29 k0_pay18 (rowsOwn i 3 x2)) (k0_pay30 dq q (rowsOwn i 3 x1) (gatesOwn i 3 x5)) (constant S512x256 .f32 0x00000000#32) x3) := by
  refine ⟨?a, ?h, ?e⟩
  case e =>
    unfold out0_A_7
    refine (View.read_writes_eq_canon _ _ _ (cover0_A_7 (F := Ideal) c i arg3 harg3 arg4 harg4 arg5 harg5 arg6 harg6 arg7 harg7 arg8 harg8 arg9 harg9 arg10 harg10 x0 x1 x2 x3 x4 x5 x6)).trans ?_
    unfold kernelRun0_A
    dsimp only
    sl_unfold_words
    rw [View.canon_unit_zero hz3]
    simp only [View.readAt_eq_ld, harg3.read_unread, harg4.read_unread, harg5.read_unread, harg6.read_unread, harg7.read_unread, harg8.read_unread, harg9.read_unread, View.ld_unit_zero (S := S1x2048x128) hz3]
    rfl
  case h =>
    intro r l
    show st_k0_t2 (F := Ideal) _ _ _ i arg3 harg3 arg4 harg4 arg5 harg5 arg6 harg6 arg7 harg7 arg8 harg8 arg9 harg9 arg10 harg10 _ _ _ _ _ _ _ _ _ _ _ _ _ (k0_t2_loop i).trips (ix2 r l) = _
    rw [trips2_eq, st_k0_t2_zero]
    show st_k0_t1 (F := Ideal) _ _ _ i arg3 harg3 arg4 harg4 arg5 harg5 arg6 harg6 arg7 harg7 arg8 harg8 arg9 harg9 arg10 harg10 _ _ _ _ _ _ _ _ _ _ _ _ (k0_t1_loop i).trips (ix2 r l) = _
    rw [loop_sum _ _ _ i arg3 harg3 arg4 harg4 arg5 harg5 arg6 harg6 arg7 harg7 arg8 harg8 arg9 harg9 arg10 harg10 _ _ _ _ _ _ _ x1 x2 x5 r l _ le_rfl, trips_eq]

/-- ONE BLOCK OF THE RESULT: row `r` of the query block holds, in lane `d`, the sum of weight times value over the keys
up to the row's own place, over the sum of the weights, times the gate. -/
theorem out_at (c : Dev nD) (i : grid0.Coords) (arg3 : Memref sig .tc .vmem S1x2048x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x2048x128 .bf16) (harg6 : arg6.IsWhole) (arg7 : Memref sig .tc .vmem S1x2048x128 .f32) (harg7 : arg7.IsWhole) (arg8 : Memref sig .tc .vmem S1x8x8192 .f32) (harg8 : arg8.IsWhole) (arg9 : Memref sig .tc .vmem S1x128 .f32) (harg9 : arg9.IsWhole) (arg10 : Memref sig .tc .vmem S1x2048x128 .bf16) (harg10 : arg10.IsWhole)
    (x0 : FVec Ideal S1x2048x128 .bf16) (x1 x2 : FVec Ideal S1x8192x128 .bf16) (x3 : FVec Ideal S1x2048x128 .bf16) (x4 : FVec Ideal S1x2048x128 .f32) (x5 : FVec Ideal S1x8x8192 .f32) (x6 : FVec Ideal S1x128 .f32) (r : Fin 2048) (d : Fin 128) :
    out0_A_7 (F := Ideal) c i arg3 harg3 arg4 harg4 arg5 harg5 arg6 harg6 arg7 harg7 arg8 harg8 arg9 harg9 arg10 harg10 x0 x1 x2 x3 x4 x5 x6 (ix3 0 r d)
      = Ideal.div
          (∑ j ∈ Finset.range (2048 * (i 2).val + r.val + 1),
            term (k0_pay17 x0) x1 x2 x5 (k0_pay16 i x4 (bound1 x6)) (head i) r ⟨d.val, by omega⟩ j)
          (∑ j ∈ Finset.range (2048 * (i 2).val + r.val + 1),
            term (k0_pay17 x0) x1 x2 x5 (k0_pay16 i x4 (bound1 x6)) (head i) r 128 j)
        * gate (x3 (ix3 0 r d)) := by
  have h2 : (i 2).val < 4 := (i 2).isLt
  have hb : 2048 * (i 2).val + 2048 ≤ 8192 := by omega
  obtain ⟨a, ha, e⟩ := out_eq c i arg3 harg3 arg4 harg4 arg5 harg5 arg6 harg6 arg7 harg7 arg8 harg8 arg9 harg9 arg10 harg10 x0 x1 x2 x3 x4 x5 x6
  have hk := fun u => rowsFrom_ld x1 _ _ (k0_off5_eq i u) (k0_off5_inb i u)
  have hv := fun u => rowsFrom_ld x2 _ _ (k0_off5_eq i u) (k0_off5_inb i u)
  have hc := fun u => gatesFrom_ld x5 _ (head i) _ (k0_off6_eq i u) (k0_off6_inb i u)
  rw [e]
  dsimp only
  rw [own3_out (k0_pay17 x0) x1 x2 x5 (k0_pay16 i x4 (bound1 x6)) (head i) _ hb (rowsOwn i 3 x1) (rowsOwn i 3 x2) (gatesOwn i 3 x5) (hk 3) (hv 3) (hc 3)]
  rw [own2_sum (k0_pay17 x0) x1 x2 x5 (k0_pay16 i x4 (bound1 x6)) (head i) _ hb (rowsOwn i 2 x1) (rowsOwn i 2 x2) (gatesOwn i 2 x5) (hk 2) (hv 2) (hc 2),
    own2_sum (k0_pay17 x0) x1 x2 x5 (k0_pay16 i x4 (bound1 x6)) (head i) _ hb (rowsOwn i 2 x1) (rowsOwn i 2 x2) (gatesOwn i 2 x5) (hk 2) (hv 2) (hc 2)]
  rw [own1_sum (k0_pay17 x0) x1 x2 x5 (k0_pay16 i x4 (bound1 x6)) (head i) _ hb (rowsOwn i 1 x1) (rowsOwn i 1 x2) (gatesOwn i 1 x5) (hk 1) (hv 1) (hc 1),
    own1_sum (k0_pay17 x0) x1 x2 x5 (k0_pay16 i x4 (bound1 x6)) (head i) _ hb (rowsOwn i 1 x1) (rowsOwn i 1 x2) (gatesOwn i 1 x5) (hk 1) (hv 1) (hc 1)]
  rw [own0_sum (k0_pay17 x0) x1 x2 x5 (k0_pay16 i x4 (bound1 x6)) (head i) _ hb (rowsOwn i 0 x1) (rowsOwn i 0 x2) (gatesOwn i 0 x5) (hk 0) (hv 0) (hc 0),
    own0_sum (k0_pay17 x0) x1 x2 x5 (k0_pay16 i x4 (bound1 x6)) (head i) _ hb (rowsOwn i 0 x1) (rowsOwn i 0 x2) (gatesOwn i 0 x5) (hk 0) (hv 0) (hc 0)]
  rw [ha, ha, all_keys, all_keys]

end Cert.Proof
-- ==== Proof.Prep.lean ====
/-
  THE ARRAYS THE KERNEL IS HANDED. The host scales the queries, joins queries, keys, values and gates into one array,
  and takes the gates' sums to base two; each is read here at an index.
-/
module

public import proofs.«01_k».proof.Proof.Block
public import Idealize.ShloMosaic.Lib.StableHlo.Run

@[expose] public section

set_option maxRecDepth 16384

noncomputable section

namespace Cert.Proof

open Idealize.ShloMosaic Idealize.ShloMosaic.TcCoe Idealize.SL.Sem Cert.KernelIdeal Cert.KernelIdeal.Gen Idealize.ShloMosaic.StableHlo

/-- One over the natural logarithm of two, as the host computes it. -/
def hostLog2e : FVec Ideal S_ .f32 :=
  Host.divf (constant S_ .f32 0x3F800000#32) (Host.log (constant S_ .f32 0x40000000#32))

/-- The scores' scale, as the host computes it. -/
def hostScale : FVec Ideal S_ .f32 := Host.divf hostLog2e (Host.sqrt (constant S_ .f32 0x43000000#32))

/-- The joined array as the host computes it. -/
def hostY (q k v : FVec Ideal S4x8192x8x128 .f32) (z : FVec Ideal S4x8192x1024 .f32) : FVec Ideal S4x8192x4096 .bf16 :=
  truncf .bf16 (concatenate S4x8192x4096 2
    [⟨S4x8192x1024, shapeCast S4x8192x1024 (mulf q (broadcastInDim S4x8192x8x128 ![] bcast_S_S4x8192x8x128 hostScale))
        shapeCasts_S4x8192x8x128_S4x8192x1024⟩,
      ⟨S4x8192x1024, shapeCast S4x8192x1024 k shapeCasts_S4x8192x8x128_S4x8192x1024⟩,
      ⟨S4x8192x1024, shapeCast S4x8192x1024 v shapeCasts_S4x8192x8x128_S4x8192x1024⟩,
      ⟨S4x8192x1024, z⟩]
    concatenates_S4x8192x1024_S4x8192x1024_S4x8192x1024_S4x8192x1024_S4x8192x4096_d2) bitsLt_bf16_f32

/-- The gates' sums, a column per head, as the host computes them. -/
def hostCol (g : FVec Ideal S4x8192x8 .f32) : FVec Ideal S4x8192x128 .f32 :=
  concatenate S4x8192x128 2
    [⟨S4x8192x8, mulf g (broadcastInDim S4x8192x8 ![] bcast_S_S4x8192x8 hostLog2e)⟩,
      ⟨S4x8192x120, broadcastInDim S4x8192x120 ![] bcast_S_S4x8192x120 (constant S_ .f32 0x00000000#32)⟩]
    concatenates_S4x8192x8_S4x8192x120_S4x8192x128_d2

/-- The gates' sums, a row per head, as the host computes them. -/
def hostRow (g : FVec Ideal S4x8192x8 .f32) : FVec Ideal S4x8x8192 .f32 :=
  transpose S4x8x8192 [0, 2, 1] (mulf g (broadcastInDim S4x8192x8 ![] bcast_S_S4x8192x8 hostLog2e))
    transposes_S4x8192x8_S4x8x8192_0_2_1

/-- The bound on the logits, as the host computes it. -/
def hostBound (u w : FVec Ideal S128 .f32) : FVec Ideal S_ .f32 :=
  mulf (mulf (mulf (constant S_ .f32 0x43000000#32)
      (Host.reduce FloatOps.maximumf (Host.absf (mulf u (broadcastInDim S128 ![] bcast_S_S128 hostScale)))
        (constant S_ .f32 0xFF800000#32) reducesTo_S128_S_d0 h_S_))
    (Host.reduce FloatOps.maximumf (Host.absf w) (constant S_ .f32 0xFF800000#32) reducesTo_S128_S_d0 h_S_))
    (constant S_ .f32 0x3F828F5C#32)

section
variable (m : (ℓ : Loc nD τ sig) → Buf (Elt Ideal) ℓ) (c : Dev nD)

/-- The joined array that the kernel finds. -/
theorem V_y : V m c main_v10 = hostY (m ((c : Thread nD τ).loc main_arg0)) (m ((c : Thread nD τ).loc main_arg1))
    (m ((c : Thread nD τ).loc main_arg2)) (m ((c : Thread nD τ).loc main_arg3)) := by
  unfold_abbrev_sides
  after_results
  rfl

/-- The columns of gates' sums that the kernel finds. -/
theorem V_col : V m c main_v14 = hostCol (m ((c : Thread nD τ).loc main_arg4)) := by
  unfold_abbrev_sides
  after_results
  rfl

/-- The rows of gates' sums that the kernel finds. -/
theorem V_row : V m c main_v17 = hostRow (m ((c : Thread nD τ).loc main_arg4)) := by
  unfold_abbrev_sides
  after_results
  rfl

/-- The row of the bound that the kernel finds. -/
theorem V_bound : V m c main_v27 = broadcastInDim S1x128 ![] bcast_S_S1x128
    (hostBound (m ((c : Thread nD τ).loc main_arg5)) (m ((c : Thread nD τ).loc main_arg6))) := by
  unfold_abbrev_sides
  after_results
  rfl

end

/-- The word of two. -/
theorem word_two : Ideal.ofBits .f32 0x40000000#32 = ((2 : ℝ) : EReal) := by
  simp [Ideal.ofBits, Ideal.ieee, -EReal.coe_mul]; norm_num

/-- The word of 128. -/
theorem word_128 : Ideal.ofBits .f32 0x43000000#32 = ((128 : ℝ) : EReal) := by
  simp [Ideal.ofBits, Ideal.ieee, -EReal.coe_mul]; norm_num

/-- The bound's safety factor is a real number. -/
theorem word_real : ∃ x : ℝ, Ideal.ofBits .f32 0x3F828F5C#32 = (x : EReal) := by
  refine ⟨8556380 / 8388608, ?_⟩
  simp [Ideal.ofBits, Ideal.ieee, -EReal.coe_mul]
  norm_num

/-- The host's factor to base two is one over the natural logarithm of two. -/
theorem hostLog2e_eq : hostLog2e ix0 = (((Real.log 2)⁻¹ : ℝ) : EReal) := by
  pointwise [hostLog2e]
  rw [word_two, Ideal.log_coe, if_neg (by norm_num), Ideal.div_coe (Real.log_pos one_lt_two).ne', one_mul, one_div]

/-- The host's scale is that over the root of the head's width. -/
theorem hostScale_eq : hostScale ix0 = (((Real.log 2)⁻¹ * (√128)⁻¹ : ℝ) : EReal) := by
  pointwise [hostScale]
  rw [hostLog2e_eq, word_128, Ideal.sqrt_coe, if_neg (by norm_num),
    Ideal.div_coe (Real.sqrt_ne_zero'.mpr (by norm_num)), one_div, ← EReal.coe_mul]

section
variable (q k v : FVec Ideal S4x8192x8x128 .f32) (z : FVec Ideal S4x8192x1024 .f32) (g : FVec Ideal S4x8192x8 .f32)
variable (b : Fin 4) (s : Fin 8192) (h : Fin 8) (d : Fin 128)

/-- The joined array's first columns are the scaled queries. -/
theorem hostY_q : hostY q k v z (ix3 b s ⟨128 * h.val + d.val, by omega⟩)
    = q (ix4 b s h d) * (((Real.log 2)⁻¹ * (√128)⁻¹ : ℝ) : EReal) := by
  pointwise [hostY]
  rw [dif_pos (by omega), hostScale_eq]

/-- The next are the keys. -/
theorem hostY_k : hostY q k v z (ix3 b s ⟨1024 + (128 * h.val + d.val), by omega⟩) = k (ix4 b s h d) := by
  pointwise [hostY]
  rw [dif_pos (by omega)]

/-- The next are the values. -/
theorem hostY_v : hostY q k v z (ix3 b s ⟨2048 + (128 * h.val + d.val), by omega⟩) = v (ix4 b s h d) := by
  pointwise [hostY]
  rw [dif_neg (by omega), dif_neg (by omega), dif_pos (by omega)]
  refine congrArg v ?_
  congr 1 <;> apply Fin.ext <;> dsimp only <;> omega

/-- The last are the gates. -/
theorem hostY_z : hostY q k v z (ix3 b s ⟨3072 + (128 * h.val + d.val), by omega⟩)
    = z (ix3 b s ⟨128 * h.val + d.val, by omega⟩) := by
  pointwise [hostY]
  rw [dif_neg (by omega), dif_neg (by omega), dif_neg (by omega)]
  refine congrArg z ?_
  congr 1; apply Fin.ext; dsimp only; omega

/-- A column's entry is the gates' sum to base two. -/
theorem hostCol_at : hostCol g (ix3 b s ⟨h.val, by omega⟩) = g (ix3 b s h) * (((Real.log 2)⁻¹ : ℝ) : EReal) := by
  pointwise [hostCol]
  rw [hostLog2e_eq]

/-- A row's entry is the same. -/
theorem hostRow_at : hostRow g (ix3 b h s) = g (ix3 b s h) * (((Real.log 2)⁻¹ : ℝ) : EReal) := by
  pointwise [hostRow]
  rw [hostLog2e_eq]

end

/-- The largest of finitely many real numbers, counted from minus infinity, is a real number. -/
theorem fold_max_real {n : ℕ} (f : Fin (n + 1) → EReal) (hf : ∀ k, ∃ x : ℝ, f k = x) :
    ∃ x : ℝ, Finset.fold max (⊥ : EReal) f Finset.univ = x := by
  obtain ⟨k, -, hk⟩ := Finset.exists_mem_eq_sup Finset.univ ⟨0, Finset.mem_univ 0⟩ f
  obtain ⟨x, hx⟩ := hf k
  exact ⟨x, (show Finset.univ.sup f = _ from hk).trans hx⟩

/-- The bound on the logits is a real number when the gains are. -/
theorem hostBound_real (u w : FVec Ideal S128 .f32) (hu : ∀ i, ∃ x : ℝ, u i = x) (hw : ∀ i, ∃ x : ℝ, w i = x) :
    ∃ x : ℝ, hostBound u w ix0 = x := by
  pointwise [hostBound]
  rw [neg_inf]
  obtain ⟨x, hx⟩ := fold_max_real (n := 127) (fun k => FloatOps.absf (F := Ideal) (φ := .f32) (u (ix1 k) * hostScale ix0)) (by
    intro k
    obtain ⟨y, hy⟩ := hu (ix1 k)
    refine ⟨|y * ((Real.log 2)⁻¹ * (√128)⁻¹)|, ?_⟩
    rw [hy, hostScale_eq, ← EReal.coe_mul]
    rfl)
  obtain ⟨y, hy⟩ := fold_max_real (n := 127) (fun k => FloatOps.absf (F := Ideal) (φ := .f32) (w (ix1 k))) (by
    intro k
    obtain ⟨y, hy⟩ := hw (ix1 k)
    refine ⟨|y|, ?_⟩
    rw [hy]
    rfl)
  obtain ⟨c, hc⟩ := word_real
  refine ⟨128 * x * y * c, ?_⟩
  rw [hx, hy, hc, word_128, ← EReal.coe_mul, ← EReal.coe_mul, ← EReal.coe_mul]

end Cert.Proof
-- ==== Proof.Softmax.lean ====
/-
  THE EQUATION. Weights that are all scaled by one positive number give the same quotient: whatever bound or maximum is
  taken off the exponents before they are raised, and to whatever base, the weighted mean of the values is the one of
  the weights `exp` of the scores. The values and the gate may be any extended reals.
-/
module

public import Idealize.ShloMosaic.PureOps.Ideal.Laws
public import Idealize.ShloMosaic.Lib.IdealHost

@[expose] public section

noncomputable section

namespace Cert.Proof

open Idealize.ShloMosaic

/-- A factor that is a nonnegative real number goes into a finite sum of extended reals. -/
theorem sum_mul_real {ι : Type} (S : Finset ι) (f : ι → EReal) (c : ℝ) (hc : 0 ≤ c) :
    (∑ j ∈ S, f j) * (c : EReal) = ∑ j ∈ S, f j * (c : EReal) := by
  classical
  induction S using Finset.induction_on with
  | empty => rw [Finset.sum_empty, Finset.sum_empty, zero_mul]
  | insert a S ha ih =>
    rw [Finset.sum_insert ha, Finset.sum_insert ha, ← ih,
      EReal.right_distrib_of_nonneg_of_ne_top (EReal.coe_nonneg.mpr hc) (EReal.coe_ne_top c)]

/-- A sum of real numbers among the extended reals is the real sum. -/
theorem sum_real {ι : Type} (S : Finset ι) (f : ι → ℝ) : ∑ j ∈ S, (f j : EReal) = ((∑ j ∈ S, f j : ℝ) : EReal) := by
  classical
  induction S using Finset.induction_on with
  | empty => rw [Finset.sum_empty, Finset.sum_empty, EReal.coe_zero]
  | insert a S ha ih => rw [Finset.sum_insert ha, Finset.sum_insert ha, ih, EReal.coe_add]

/-- The weighted mean of the values `v` over the keys of `S`, with the weights `exp` of the scores `t`. -/
def mean {ι : Type} (S : Finset ι) (t : ι → ℝ) (v : ι → EReal) : EReal :=
  ∑ j ∈ S, ((Real.exp (t j) / ∑ i ∈ S, Real.exp (t i) : ℝ) : EReal) * v j

/-- A quotient of sums with weights all scaled by `α` is the mean. -/
theorem mean_of_scaled {ι : Type} (S : Finset ι) (hS : S.Nonempty) (t : ι → ℝ) (v : ι → EReal) (α : ℝ) (hα : 0 < α) :
    Ideal.div (∑ j ∈ S, ((α * Real.exp (t j) : ℝ) : EReal) * v j)
        (∑ j ∈ S, ((α * Real.exp (t j) : ℝ) : EReal) * 1)
      = mean S t v := by
  have hE : 0 < ∑ i ∈ S, Real.exp (t i) := Finset.sum_pos (fun i _ => Real.exp_pos _) hS
  simp only [mul_one]
  rw [sum_real, ← Finset.mul_sum, Ideal.div_coe (mul_pos hα hE).ne', sum_mul_real _ _ _ (by positivity)]
  refine Finset.sum_congr rfl fun j _ => ?_
  rw [mul_right_comm, ← EReal.coe_mul]
  congr 2
  field_simp

/-- Weights divided one by one by their sum, scaled by `β`, give the mean as well. -/
theorem mean_of_each {ι : Type} (S : Finset ι) (hS : S.Nonempty) (t : ι → ℝ) (v : ι → EReal) (β : ℝ) (hβ : 0 < β) :
    ∑ j ∈ S, Ideal.div ((β * Real.exp (t j) : ℝ) : EReal) (∑ i ∈ S, ((β * Real.exp (t i) : ℝ) : EReal)) * v j
      = mean S t v := by
  have hE : 0 < ∑ i ∈ S, Real.exp (t i) := Finset.sum_pos (fun i _ => Real.exp_pos _) hS
  unfold mean
  refine Finset.sum_congr rfl fun j _ => ?_
  rw [sum_real, ← Finset.mul_sum, Ideal.div_coe (mul_pos hβ hE).ne', ← EReal.coe_mul]
  congr 2
  field_simp

/-- A power of two of an exponent taken to base two is the exponential, scaled by what was taken off. -/
theorem rpow_two (t B : ℝ) :
    Real.rpow 2 ((Real.log 2)⁻¹ * t - B) = Real.exp (-(Real.log 2 * B)) * Real.exp t := by
  have h2 : Real.log 2 ≠ 0 := (Real.log_pos one_lt_two).ne'
  show (2 : ℝ) ^ ((Real.log 2)⁻¹ * t - B) = _
  rw [Real.rpow_def_of_pos two_pos, ← Real.exp_add]
  congr 1
  field_simp
  ring

/-- The gate's exponential to base two is the natural one of the negated gate, at every extended real. -/
theorem exp2_neg (z : EReal) :
    Ideal.exp2 (z * ((-((Real.log 2)⁻¹) : ℝ) : EReal)) = Ideal.exp (-z) := by
  have h2 : 0 < Real.log 2 := Real.log_pos one_lt_two
  have hn : (-((Real.log 2)⁻¹) : ℝ) < 0 := neg_lt_zero.mpr (inv_pos.mpr h2)
  induction z using EReal.rec with
  | bot => rw [EReal.bot_mul_coe_of_neg hn, EReal.neg_bot, Ideal.exp2_top, Ideal.exp_top]
  | top => rw [EReal.top_mul_coe_of_neg hn, EReal.neg_top, Ideal.exp2_bot, Ideal.exp_bot]
  | coe x =>
    rw [← EReal.coe_mul, ← EReal.coe_neg, Ideal.exp2_coe, Ideal.exp_coe]
    have e := rpow_two (-x) 0
    simp only [mul_zero, sub_zero, neg_zero, Real.exp_zero, one_mul] at e
    rw [show x * -(Real.log 2)⁻¹ = (Real.log 2)⁻¹ * -x by ring, e]

/-- A sum over the first `n + 1` numbers of what is read at a key is the sum over the keys up to `n`. -/
theorem sum_upto {N : ℕ} (f : Fin N → EReal) (n : ℕ) (hn : n < N) :
    ∑ j ∈ Finset.range (n + 1), (if hj : j < N then f ⟨j, hj⟩ else 0)
      = ∑ j ∈ Finset.univ.filter (fun j : Fin N => j.val ≤ n), f j := by
  refine (Finset.sum_bij (fun (j : Fin N) _ => j.val) ?_ ?_ ?_ ?_).symm
  · intro j hj
    rw [Finset.mem_filter] at hj
    exact Finset.mem_range.mpr (Nat.lt_succ_of_le hj.2)
  · exact fun a _ b _ e => Fin.ext e
  · intro j hj
    have hj := Finset.mem_range.mp hj
    exact ⟨⟨j, by omega⟩, Finset.mem_filter.mpr ⟨Finset.mem_univ _, by dsimp only; omega⟩, rfl⟩
  · intro j _
    rw [dif_pos j.isLt]

end Cert.Proof
-- ==== Proof.Array.lean ====
/-
  FROM BLOCKS TO THE ARRAY. Each grid point (batch, head, block of queries) writes its block of the result; here the
  blocks the point is handed are read off the arrays the host prepared, and the result array is stated whole.
-/
module

public import proofs.«01_k».proof.Proof.Prep
public import proofs.«01_k».proof.Proof.Softmax
public import proofs.«01_k».proof.Proof.Gen.KernelIdeal.Value

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

section
variable (Y : FVec Ideal S4x8192x4096 .bf16) (C : FVec Ideal S4x8192x128 .f32) (R : FVec Ideal S4x8x8192 .f32)
  (B : FVec Ideal S1x128 .f32)

/-- The weight of key `j` for query `s` of head `h` of batch `b`. -/
def weight (b : Fin 4) (h : Fin 8) (s j : Fin 8192) : EReal :=
  Ideal.exp2 ((∑ d : Fin 128, Y (ix3 b s ⟨128 * h.val + d.val, by omega⟩) * Y (ix3 b j ⟨1024 + (128 * h.val + d.val), by omega⟩))
    - R (ix3 b h j) + (C (ix3 b s ⟨h.val, by omega⟩) - B (ix2 0 0)))

/-- The keys a query at `s` sees. -/
def seen (s : Fin 8192) : Finset (Fin 8192) := Finset.univ.filter fun j => j.val ≤ s.val

/-- The result at lane `d` of head `h`: the weighted values over the weights, times the gate. -/
def attend (b : Fin 4) (h : Fin 8) (s : Fin 8192) (d : Fin 128) : EReal :=
  Ideal.div (∑ j ∈ seen s, weight Y C R B b h s j * Y (ix3 b j ⟨2048 + (128 * h.val + d.val), by omega⟩))
      (∑ j ∈ seen s, weight Y C R B b h s j * 1)
    * gate (Y (ix3 b s ⟨3072 + (128 * h.val + d.val), by omega⟩))

/-- The result array. -/
def attendArray : FVec Ideal S4x8192x1024 .bf16 := fun i =>
  attend Y C R B (i 0) ⟨(i 2).val / 128, by have := (i 2).isLt; exact Nat.div_lt_of_lt_mul this⟩ (i 1)
    ⟨(i 2).val % 128, Nat.mod_lt _ (by norm_num)⟩
/-- A block's weighted sum over the keys up to a query, when its blocks lie in the arrays at the batch `b`, the head `h`
    and the query `s`. -/
theorem point_sum (b : Fin 4) (h : Fin 8) (s : Fin 8192)
    (q : FVec Ideal S2048x128 .bf16) (x1 x2 : FVec Ideal S1x8192x128 .bf16) (x5 : FVec Ideal S1x8x8192 .f32)
    (dq : FVec Ideal S2048x1 .f32) (r : Fin 2048) (l : Fin 256) (w : Fin 8192 → EReal)
    (h0 : ∀ d, q (ix2 r d) = Y (ix3 b s ⟨128 * h.val + d.val, by omega⟩))
    (h1 : ∀ j d, x1 (ix3 0 j d) = Y (ix3 b j ⟨1024 + (128 * h.val + d.val), by omega⟩))
    (h5 : ∀ j, x5 (ix3 0 h j) = R (ix3 b h j))
    (hq : dq (ix2 r 0) = C (ix3 b s ⟨h.val, by omega⟩) - B (ix2 0 0))
    (hw : ∀ j, lane x2 j l = w j) :
    ∑ j ∈ Finset.range (s.val + 1), term q x1 x2 x5 dq h r l j
      = ∑ j ∈ seen s, weight Y C R B b h s j * w j := by
  refine Eq.trans ?_ (sum_upto (fun j => weight Y C R B b h s j * w j) s.val s.isLt)
  refine Finset.sum_congr rfl fun j hj => ?_
  have hj' : j < 8192 := by have := Finset.mem_range.mp hj; have := s.isLt; omega
  unfold term
  rw [dif_pos hj', dif_pos hj', hw]
  refine congrArg (· * w ⟨j, hj'⟩) ?_
  unfold weight expo
  refine congrArg Ideal.exp2 ?_
  rw [hq, h5, Finset.sum_congr rfl fun d _ => by rw [h0, h1]]
end

/-- A block's first query is the point's third coordinate's. -/
theorem pay17_at (x0 : FVec Ideal S1x2048x128 .bf16) (r : Fin 2048) (d : Fin 128) :
    k0_pay17 x0 (ix2 r d) = x0 (ix3 0 r d) := by
  pointwise [k0_pay17]

/-- The queries' side of the gates' sums at row `r`: the head's lane of the column, less the bound. -/
theorem pay16_at (i : grid0.Coords) (x4 : FVec Ideal S1x2048x128 .f32) (x6 : FVec Ideal S1x128 .f32) (r : Fin 2048) :
    k0_pay16 i x4 (bound1 x6) (ix2 r 0) = x4 (ix3 0 r ⟨(head i).val, by omega⟩) - x6 (ix2 0 0) := by
  pointwise [k0_pay16, bound1]
  congr 1
  rw [Finset.sum_eq_single (⟨(head i).val, by omega⟩ : Fin 128)]
  · rw [WordCmp.cmpi_eq_ofNat (by have := (head i).isLt; omega) (by have := (head i).isLt; omega), Scalar.select_decide, if_pos rfl]
  · intro x _ hx
    have hx' : x.val ≠ (i 1).val := fun e => hx (Fin.ext e)
    rw [WordCmp.cmpi_eq_ofNat (by omega) (by have := (head i).isLt; omega), Scalar.select_decide, if_neg hx']
  · exact fun h => absurd (Finset.mem_univ _) h

section
variable (m : (ℓ : Loc nD τ sig) → Buf (Elt Ideal) ℓ) (c : Dev nD)

/-- Where the blocks of a point lie. -/
theorem index_eq : ∀ t : Fin grid0.N,
    (win0_0.index t 0 = t.val / 32 ∧ win0_0.index t 1 = t.val % 4 ∧ win0_0.index t 2 = t.val / 4 % 8)
    ∧ (win0_1.index t 0 = t.val / 32 ∧ win0_1.index t 1 = 0 ∧ win0_1.index t 2 = 8 + t.val / 4 % 8)
    ∧ (win0_2.index t 0 = t.val / 32 ∧ win0_2.index t 1 = 0 ∧ win0_2.index t 2 = 16 + t.val / 4 % 8)
    ∧ (win0_3.index t 0 = t.val / 32 ∧ win0_3.index t 1 = t.val % 4 ∧ win0_3.index t 2 = 24 + t.val / 4 % 8)
    ∧ (win0_4.index t 0 = t.val / 32 ∧ win0_4.index t 1 = t.val % 4 ∧ win0_4.index t 2 = 0)
    ∧ (win0_5.index t 0 = t.val / 32 ∧ win0_5.index t 1 = 0 ∧ win0_5.index t 2 = 0)
    ∧ (win0_6.index t 0 = 0 ∧ win0_6.index t 1 = 0)
    ∧ (win0_7.index t 0 = t.val / 32 ∧ win0_7.index t 1 = t.val % 4 ∧ win0_7.index t 2 = t.val / 4 % 8)
    ∧ (grid0.coords t 0).val = t.val / 32 ∧ (grid0.coords t 1).val = t.val / 4 % 8 ∧ (grid0.coords t 2).val = t.val % 4 := by
  decide +kernel

/-- The batch of a point. -/
def batch (t : Fin cfg0.N) : Fin 4 := ⟨t.val / 32, by have := t.isLt.trans_eq (show cfg0.N = 128 from N_0); omega⟩
/-- The head of a point. -/
def headOf (t : Fin cfg0.N) : Fin 8 := ⟨t.val / 4 % 8, by omega⟩
/-- The query at row `r` of a point's block. -/
def query (t : Fin cfg0.N) (r : Fin 2048) : Fin 8192 := ⟨2048 * (t.val % 4) + r.val, by omega⟩

/-- A point's block of queries. -/
theorem blk0 (t : Fin cfg0.N) (r : Fin 2048) (d : Fin 128) : iblk m c 0 t (ix3 0 r d)
    = V m c main_v10 (ix3 (batch t) (query t r) ⟨128 * (headOf t).val + d.val, by omega⟩) := by
  obtain ⟨⟨h0, h1, h2⟩, -⟩ := index_eq t
  unfold iblk
  rw [View.read_apply]
  show V m c main_v10 _ = _
  congr 1
  funext a
  apply Fin.ext
  match a with
  | ⟨0, _⟩ => show win0_0.index t 0 * 1 + 1 * 0 = t.val / 32; omega
  | ⟨1, _⟩ => show win0_0.index t 1 * 2048 + 1 * r.val = 2048 * (t.val % 4) + r.val; omega
  | ⟨2, _⟩ => show win0_0.index t 2 * 128 + 1 * d.val = 128 * (t.val / 4 % 8) + d.val; omega

/-- A point's keys. -/
theorem blk1 (t : Fin cfg0.N) (j : Fin 8192) (d : Fin 128) : iblk m c 1 t (ix3 0 j d)
    = V m c main_v10 (ix3 (batch t) j ⟨1024 + (128 * (headOf t).val + d.val), by omega⟩) := by
  obtain ⟨-, ⟨h0, h1, h2⟩, -⟩ := index_eq t
  unfold iblk
  rw [View.read_apply]
  show V m c main_v10 _ = _
  congr 1
  funext a
  apply Fin.ext
  match a with
  | ⟨0, _⟩ => show win0_1.index t 0 * 1 + 1 * 0 = t.val / 32; omega
  | ⟨1, _⟩ => show win0_1.index t 1 * 8192 + 1 * j.val = j.val; omega
  | ⟨2, _⟩ => show win0_1.index t 2 * 128 + 1 * d.val = 1024 + (128 * (t.val / 4 % 8) + d.val); omega

/-- A point's values. -/
theorem blk2 (t : Fin cfg0.N) (j : Fin 8192) (d : Fin 128) : iblk m c 2 t (ix3 0 j d)
    = V m c main_v10 (ix3 (batch t) j ⟨2048 + (128 * (headOf t).val + d.val), by omega⟩) := by
  obtain ⟨-, -, ⟨h0, h1, h2⟩, -⟩ := index_eq t
  unfold iblk
  rw [View.read_apply]
  show V m c main_v10 _ = _
  congr 1
  funext a
  apply Fin.ext
  match a with
  | ⟨0, _⟩ => show win0_2.index t 0 * 1 + 1 * 0 = t.val / 32; omega
  | ⟨1, _⟩ => show win0_2.index t 1 * 8192 + 1 * j.val = j.val; omega
  | ⟨2, _⟩ => show win0_2.index t 2 * 128 + 1 * d.val = 2048 + (128 * (t.val / 4 % 8) + d.val); omega

/-- A point's gates. -/
theorem blk3 (t : Fin cfg0.N) (r : Fin 2048) (d : Fin 128) : iblk m c 3 t (ix3 0 r d)
    = V m c main_v10 (ix3 (batch t) (query t r) ⟨3072 + (128 * (headOf t).val + d.val), by omega⟩) := by
  obtain ⟨-, -, -, ⟨h0, h1, h2⟩, -⟩ := index_eq t
  unfold iblk
  rw [View.read_apply]
  show V m c main_v10 _ = _
  congr 1
  funext a
  apply Fin.ext
  match a with
  | ⟨0, _⟩ => show win0_3.index t 0 * 1 + 1 * 0 = t.val / 32; omega
  | ⟨1, _⟩ => show win0_3.index t 1 * 2048 + 1 * r.val = 2048 * (t.val % 4) + r.val; omega
  | ⟨2, _⟩ => show win0_3.index t 2 * 128 + 1 * d.val = 3072 + (128 * (t.val / 4 % 8) + d.val); omega

/-- A point's columns of gates' sums. -/
theorem blk4 (t : Fin cfg0.N) (r : Fin 2048) (d : Fin 128) : iblk m c 4 t (ix3 0 r d)
    = V m c main_v14 (ix3 (batch t) (query t r) d) := by
  obtain ⟨-, -, -, -, ⟨h0, h1, h2⟩, -⟩ := index_eq t
  unfold iblk
  rw [View.read_apply]
  show V m c main_v14 _ = _
  congr 1
  funext a
  apply Fin.ext
  match a with
  | ⟨0, _⟩ => show win0_4.index t 0 * 1 + 1 * 0 = t.val / 32; omega
  | ⟨1, _⟩ => show win0_4.index t 1 * 2048 + 1 * r.val = 2048 * (t.val % 4) + r.val; omega
  | ⟨2, _⟩ => show win0_4.index t 2 * 128 + 1 * d.val = d.val; omega

/-- A point's rows of gates' sums. -/
theorem blk5 (t : Fin cfg0.N) (h : Fin 8) (j : Fin 8192) : iblk m c 5 t (ix3 0 h j)
    = V m c main_v17 (ix3 (batch t) h j) := by
  obtain ⟨-, -, -, -, -, ⟨h0, h1, h2⟩, -⟩ := index_eq t
  unfold iblk
  rw [View.read_apply]
  show V m c main_v17 _ = _
  congr 1
  funext a
  apply Fin.ext
  match a with
  | ⟨0, _⟩ => show win0_5.index t 0 * 1 + 1 * 0 = t.val / 32; omega
  | ⟨1, _⟩ => show win0_5.index t 1 * 8 + 1 * h.val = h.val; omega
  | ⟨2, _⟩ => show win0_5.index t 2 * 8192 + 1 * j.val = j.val; omega

/-- A point's bound. -/
theorem blk6 (t : Fin cfg0.N) : iblk m c 6 t (ix2 0 0) = V m c main_v27 (ix2 0 0) := by
  obtain ⟨-, -, -, -, -, -, ⟨h0, h1⟩, -⟩ := index_eq t
  unfold iblk
  rw [View.read_apply]
  show V m c main_v27 _ = _
  congr 1
  funext a
  apply Fin.ext
  match a with
  | ⟨0, _⟩ => show win0_6.index t 0 * 1 + 1 * 0 = 0; omega
  | ⟨1, _⟩ => show win0_6.index t 1 * 128 + 1 * 0 = 0; omega

/-- The result array of a launch. -/
abbrev result : FVec Ideal S4x8192x1024 .bf16 :=
  attendArray (V m c main_v10) (V m c main_v14) (V m c main_v17) (V m c main_v27)

/-- What a point writes back is its block of the result. -/
theorem flushed_eq (t : Fin cfg0.N) :
    (dats m 0 c).flushed 7 t = ((cfg0.win 7).blk t).view.read (Elt Ideal) (result m c) := by
  rw [Value.flushed7_A]
  funext j
  obtain ⟨-, -, -, -, -, -, -, ⟨o0, o1, o2⟩, hb, hh, hq⟩ := index_eq t
  have hhead : head (grid0.coords t) = headOf t := Fin.ext hh
  obtain ⟨z, r, d, rfl⟩ : ∃ (z : Fin 1) (r : Fin 2048) (d : Fin 128), j = ix3 z r d :=
    ⟨j 0, j 1, j 2, by funext a; match a with | ⟨0, _⟩ => rfl | ⟨1, _⟩ => rfl | ⟨2, _⟩ => rfl⟩
  obtain rfl : z = 0 := Subsingleton.elim _ _
  refine (out_at c (grid0.coords t) _ _ _ _ _ _ _ _ _ _ _ _ _ _ _ _ _ _ _ _ _ _ _ r d).trans ?_
  have key : ((cfg0.win 7).blk t).view.read (Elt Ideal) (result m c) (ix3 0 r d)
      = result m c (ix3 (batch t) (query t r) ⟨128 * (headOf t).val + d.val, by omega⟩) := by
    rw [View.read_apply]
    show result m c _ = _
    congr 1
    funext a
    apply Fin.ext
    match a with
    | ⟨0, _⟩ => show win0_7.index t 0 * 1 + 1 * 0 = t.val / 32; omega
    | ⟨1, _⟩ => show win0_7.index t 1 * 2048 + 1 * r.val = 2048 * (t.val % 4) + r.val; omega
    | ⟨2, _⟩ => show win0_7.index t 2 * 128 + 1 * d.val = 128 * (t.val / 4 % 8) + d.val; omega
  refine Eq.trans ?_ key.symm
  have split : result m c (ix3 (batch t) (query t r) ⟨128 * (headOf t).val + d.val, by omega⟩)
      = attend (V m c main_v10) (V m c main_v14) (V m c main_v17) (V m c main_v27) (batch t) (headOf t) (query t r) d := by
    show attend _ _ _ _ (batch t) _ (query t r) _ = _
    congr 1 <;> apply Fin.ext
    · show (128 * (headOf t).val + d.val) / 128 = (headOf t).val; omega
    · show (128 * (headOf t).val + d.val) % 128 = d.val; omega
  refine Eq.trans ?_ split.symm
  have hn : 2048 * (grid0.coords t 2).val + r.val = (query t r).val := by rw [hq]; rfl
  let Cc : FVec Ideal S4x8192x128 .f32 := V m c main_v14
  let Bb : FVec Ideal S1x128 .f32 := V m c main_v27
  have hdq : k0_pay16 (grid0.coords t) (iblk m c 4 t) (bound1 (iblk m c 6 t)) (ix2 r 0)
      = Cc (ix3 (batch t) (query t r) ⟨(headOf t).val, by omega⟩) - Bb (ix2 0 0) := by
    rw [pay16_at, blk4, blk6]
    refine congrArg (fun l => Cc (ix3 (batch t) (query t r) l) - Bb (ix2 0 0)) (Fin.ext ?_)
    exact hh
  have sums : ∀ (l : Fin 256) (w : Fin 8192 → EReal), (∀ j, lane (iblk m c 2 t) j l = w j) → _ := fun l w hw =>
    point_sum (V m c main_v10) (V m c main_v14) (V m c main_v17) (V m c main_v27) (batch t) (headOf t) (query t r)
      (k0_pay17 (iblk m c 0 t)) (iblk m c 1 t) (iblk m c 2 t) (iblk m c 5 t)
      (k0_pay16 (grid0.coords t) (iblk m c 4 t) (bound1 (iblk m c 6 t))) r l w
      (fun d => (pay17_at _ r d).trans (blk0 m c t r d)) (fun j d => blk1 m c t j d) (fun j => blk5 m c t _ j) hdq hw
  unfold attend
  rw [hhead, hn]
  rw [sums ⟨d.val, by omega⟩ (fun j => V m c main_v10 (ix3 (batch t) j ⟨2048 + (128 * (headOf t).val + d.val), by omega⟩))
      (fun j => by unfold lane; rw [dif_pos d.isLt]; exact blk2 m c t j d),
    sums 128 (fun _ => 1) (fun j => by unfold lane; rw [dif_neg (by decide)]), blk3]

/-- So the result array ends holding the result. -/
theorem final : (dats m 0 c).arrAt 7 cfg0.N = result m c := by
  refine (dats m 0 c).arrAt_eq_of_cover 7 (result m c) (fun t _ => flushed_eq m c t) fun i => ?_
  have i0 : (i 0).val < 4 := (i 0).isLt
  have i1 : (i 1).val < 8192 := (i 1).isLt
  have i2 : (i 2).val < 1024 := (i 2).isLt
  have hN : cfg0.N = 128 := N_0
  let t : Fin cfg0.N := ⟨32 * (i 0).val + (4 * ((i 2).val / 128) + (i 1).val / 2048), by rw [hN]; omega⟩
  have ht : t.val = 32 * (i 0).val + (4 * ((i 2).val / 128) + (i 1).val / 2048) := rfl
  obtain ⟨-, -, -, -, -, -, -, ⟨o0, o1, o2⟩, -⟩ := index_eq t
  refine ⟨t, flush0_7 t, ?_⟩
  show i ∈ ((View.whole main_v28).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    omega
  | ⟨1, _⟩ =>
    show win0_7.index t 1 * 2048 ≤ (i 1).val ∧ (i 1).val < win0_7.index t 1 * 2048 + 2048
    omega
  | ⟨2, _⟩ =>
    show win0_7.index t 2 * 128 ≤ (i 2).val ∧ (i 2).val < win0_7.index t 2 * 128 + 128
    omega

end

end Cert.Proof
-- ==== Proof.Ref.lean ====
/-
  THE REFERENCE, READ AT AN INDEX.
-/
module

public import proofs.«01_k».proof.Proof.Prep
public import proofs.«01_k».proof.Proof.Softmax
public import proofs.«01_k».proof.Proof.Gen.ReferenceIdeal.Read

@[expose] public section

set_option maxRecDepth 16384

noncomputable section

namespace Cert.Proof.Ref

open Idealize.ShloMosaic Idealize.ShloMosaic.TcCoe Idealize.SL.Sem Cert.ReferenceIdeal Cert.ReferenceIdeal.Read

variable (q k v : FVec Ideal S4x8192x8x128 .f32) (z : FVec Ideal S4x8192x1024 .f32) (g : FVec Ideal S4x8192x8 .f32)
variable (b : Fin 4) (h : Fin 8) (s j : Fin 8192)

/-- The reference's score before the mask. -/
theorem score_at : val_main_v14 (F := Ideal) q k g (ix4 b h s j)
    = Ideal.div (∑ d : Fin 128, q (ix4 b s h d) * k (ix4 b j h d)) (Ideal.sqrt (Ideal.ofBits .f32 0x43000000#32))
      + (g (ix3 b s h) - g (ix3 b j h)) := by
  pointwise [val_main_v14, val_main_v13, val_main_v12, val_main_v11, val_main_v10, val_main_v9, val_main_v8, val_main_v7,
    val_main_v6, val_main_cst, val_main_v5, val_main_v3, val_main_v1, val_main_v0]

/-- The reference's score under the mask. -/
theorem masked_at : val_main_v20 (F := Ideal) q k g (ix4 b h s j)
    = if j.val ≤ s.val then val_main_v14 (F := Ideal) q k g (ix4 b h s j) else ⊥ := by
  unfold val_main_v20
  generalize val_main_v14 (F := Ideal) q k g = Y
  pointwise [val_main_call0_v1, val_main_call0_v2, val_main_call0_v0, val_main_cst_0, val_main_v19, val_main_v18,
    val_main_v17, val_main_v16, val_main_v15, val_main_v4]
  rw [WordCmp.cmpi_sge_ofNat (by omega) (by omega), Scalar.select_decide]
  congr 1

/-- A largest entry counted from minus infinity is a real number, when no entry is plus infinity and one is not minus
    infinity. -/
theorem reduce_max_real {σ τ υ : Shape} {axes : List (Fin σ.rank)} (x : σ.Idx → EReal) (init : υ.Idx → EReal)
    (e : σ.ReducesTo axes τ) (hu : 0 < υ.numel) (i : τ.Idx) (hi : init (Shape.Idx.first hu) = ⊥) (hx : ∀ n, x n ≠ ⊤)
    (n : σ.Idx) (hn : e.drop n = i) (hb : x n ≠ ⊥) :
    ∃ r : ℝ, Host.reduce (FloatOps.maximumf (F := Ideal) (φ := .f32)) x init e hu i = (r : EReal) := by
  rw [Host.reduce_eq_fold, hi]
  show ∃ r : ℝ, (Finset.univ.filter fun n => e.drop n = i).sup x = (r : EReal)
  have hm : n ∈ Finset.univ.filter fun n => e.drop n = i := Finset.mem_filter.mpr ⟨Finset.mem_univ _, hn⟩
  obtain ⟨k, -, hk⟩ := Finset.exists_mem_eq_sup _ ⟨n, hm⟩ x
  have hle : x n ≤ x k := hk ▸ Finset.le_sup (f := x) hm
  refine ⟨(x k).toReal, hk.trans (EReal.coe_toReal (hx k) fun h0 => hb (le_bot_iff.mp (h0 ▸ hle))).symm⟩

/-- The number the reference takes off a row's scores is a real number. -/
theorem max_real (hx : ∀ i, val_main_v20 (F := Ideal) q k g i ≠ (⊤ : EReal))
    (hb : val_main_v20 (F := Ideal) q k g (ix4 b h s j) ≠ (⊥ : EReal)) :
    ∃ r : ℝ, val_main_v23 (F := Ideal) q k g (ix3 b h s) = (r : EReal) := by
  obtain ⟨r, hr⟩ : ∃ r : ℝ, val_main_v21 (F := Ideal) q k g (ix3 b h s) = (r : EReal) := reduce_max_real (val_main_v20 (F := Ideal) q k g) (val_main_cst_1 (F := Ideal))
    Facts₀.reducesTo_S4x8x8192x8192_S4x8x8192_d3 Facts₀.h_S_ (ix3 b h s) neg_inf hx (ix4 b h s j)
    (by funext a; apply Fin.ext; match a with | ⟨0, _⟩ => rfl | ⟨1, _⟩ => rfl | ⟨2, _⟩ => rfl) hb
  refine ⟨r, ?_⟩
  rw [val_main_v23_apply, val_main_v22_apply, val_main_cst_2_apply]
  have e : (FloatOps.ofBits (F := Ideal) .f32 0xFF800000#32 : EReal) = ⊥ := neg_inf
  rw [e]
  generalize val_main_v21 (F := Ideal) q k g = M at hr ⊢
  exact (congrArg (max (⊥ : EReal)) hr).trans (max_eq_right bot_le)

/-- The reference's weights before they are divided by their sum. -/
theorem exp_at : val_main_v27 (F := Ideal) q k g (ix4 b h s j)
    = Ideal.exp (val_main_v20 (F := Ideal) q k g (ix4 b h s j) - val_main_v23 (F := Ideal) q k g (ix3 b h s)) := by
  unfold val_main_v27 val_main_v26 val_main_v25 val_main_v24
  generalize val_main_v20 (F := Ideal) q k g = Y
  generalize val_main_v23 (F := Ideal) q k g = M
  pointwise []

/-- The sum of the reference's weights. -/
theorem sum_at : val_main_v28 (F := Ideal) q k g (ix3 b h s)
    = 0 + ∑ j, val_main_v27 (F := Ideal) q k g (ix4 b h s j) := by
  unfold val_main_v28
  generalize val_main_v27 (F := Ideal) q k g = Y
  pointwise [val_main_cst_3]

/-- The reference's mean of the values. -/
theorem mean_at (d : Fin 128) : val_main_v34 (F := Ideal) q k v g (ix3 b s ⟨128 * h.val + d.val, by omega⟩)
    = ∑ j, Ideal.div (val_main_v27 (F := Ideal) q k g (ix4 b h s j)) (val_main_v28 (F := Ideal) q k g (ix3 b h s)) * v (ix4 b j h d) := by
  unfold val_main_v34 val_main_v33 val_main_v32 val_main_v31 val_main_v30 val_main_v29
  generalize val_main_v27 (F := Ideal) q k g = Y
  generalize val_main_v28 (F := Ideal) q k g = E
  pointwise [val_main_v2]

/-- The reference's gate. -/
theorem silu_at (i : S4x8192x1024.Idx) : val_main_v35 (F := Ideal) z i = z i * Ideal.div 1 (1 + Ideal.exp (-(z i))) := by
  rw [val_main_v35_apply, val_main_call1_v5_apply, val_main_call1_v4_apply, val_main_call1_cst_0_apply, val_main_call1_v3_apply,
    val_main_call1_v2_apply, val_main_call1_cst_apply, val_main_call1_v1_apply, val_main_call1_v0_apply]
  have e : (FloatOps.ofBits (F := Ideal) .f32 0x3F800000#32 : EReal) = 1 := Ideal.ofBits_one_f32
  rw [e]
  rfl

/-- The reference's result. -/
theorem result_at (i : S4x8192x1024.Idx) : val_main_v37 (F := Ideal) q k v z g i
    = val_main_v34 (F := Ideal) q k v g i * (z i * Ideal.div 1 (1 + Ideal.exp (-(z i)))) := by
  rw [val_main_v37_apply, val_main_v36_apply, silu_at]
  rfl

end Cert.Proof.Ref
-- ==== Proof.Equation.lean ====
/-
  BOTH SIDES ARE ONE MEAN. With real queries, keys, gates' sums and gains the kernel's array and the reference's are,
  index by index, the same weighted mean of the values times the same gate. The values and the gate's argument may be
  any extended reals.
-/
module

public import proofs.«01_k».proof.Proof.Array
public import proofs.«01_k».proof.Proof.Ref

@[expose] public section

set_option maxRecDepth 16384

noncomputable section

namespace Cert.Proof

open Idealize.ShloMosaic Idealize.ShloMosaic.TcCoe Idealize.SL.Sem Cert.KernelIdeal Cert.KernelIdeal.Gen

section
variable (q' k' : S4x8192x8x128.Idx → ℝ) (v : FVec Ideal S4x8192x8x128 .f32) (z : FVec Ideal S4x8192x1024 .f32)
  (g' : S4x8192x8.Idx → ℝ)

/-- An array of real numbers as an array of extended reals. -/
def up {σ : Shape} (x : σ.Idx → ℝ) : FVec Ideal σ .f32 := fun i => ((x i : ℝ) : EReal)

/-- The score of key `j` for query `s`: the scaled product of the two, plus the difference of the gates' sums. -/
def score (b : Fin 4) (h : Fin 8) (s j : Fin 8192) : ℝ :=
  (∑ d : Fin 128, q' (ix4 b s h d) * k' (ix4 b j h d)) * (√128)⁻¹ + (g' (ix3 b s h) - g' (ix3 b j h))

/-- The result at lane `d` of head `h`: the mean of the values over the keys seen, times the gate. -/
def answer (b : Fin 4) (h : Fin 8) (s : Fin 8192) (d : Fin 128) : EReal :=
  mean (seen s) (score q' k' g' b h s) (fun j => v (ix4 b j h d))
    * (z (ix3 b s ⟨128 * h.val + d.val, by omega⟩)
      * Ideal.div 1 (1 + Ideal.exp (-(z (ix3 b s ⟨128 * h.val + d.val, by omega⟩)))))

/-- A query sees itself. -/
theorem seen_nonempty (s : Fin 8192) : (seen s).Nonempty :=
  ⟨s, Finset.mem_filter.mpr ⟨Finset.mem_univ _, le_refl _⟩⟩

/-- The kernel's weight is the score's exponential, scaled by the bound's. -/
theorem weight_eq (B : FVec Ideal S1x128 .f32) (β : ℝ) (hB : B (ix2 0 0) = (β : EReal)) (b : Fin 4) (h : Fin 8)
    (s j : Fin 8192) :
    weight (hostY (up q') (up k') v z) (hostCol (up g')) (hostRow (up g')) B b h s j
      = ((Real.exp (-(Real.log 2 * β)) * Real.exp (score q' k' g' b h s j) : ℝ) : EReal) := by
  unfold weight
  rw [hostRow_at, hostCol_at, hB,
    Finset.sum_congr rfl fun d _ => show _ = (((q' (ix4 b s h d) * ((Real.log 2)⁻¹ * (√128)⁻¹)) * k' (ix4 b j h d) : ℝ) : EReal) by
      rw [hostY_q, hostY_k, EReal.coe_mul, EReal.coe_mul]; rfl,
    sum_real]
  show Ideal.exp2 (((_ : ℝ) : EReal) - (g' (ix3 b j h) : EReal) * _ + ((g' (ix3 b s h) : EReal) * _ - _)) = _
  rw [← EReal.coe_mul, ← EReal.coe_mul, ← EReal.coe_sub, ← EReal.coe_sub, ← EReal.coe_add, Ideal.exp2_coe, ← rpow_two]
  congr 2
  unfold score
  rw [Finset.sum_congr rfl fun d _ => show _ = ((Real.log 2)⁻¹ * (√128)⁻¹) * (q' (ix4 b s h d) * k' (ix4 b j h d)) by ring,
    ← Finset.mul_sum]
  ring

/-- The kernel's entry is the answer. -/
theorem attend_eq (B : FVec Ideal S1x128 .f32) (β : ℝ) (hB : B (ix2 0 0) = (β : EReal)) (b : Fin 4) (h : Fin 8)
    (s : Fin 8192) (d : Fin 128) :
    attend (hostY (up q') (up k') v z) (hostCol (up g')) (hostRow (up g')) B b h s d = answer q' k' v z g' b h s d := by
  unfold attend answer
  rw [Finset.sum_congr rfl fun j _ => by rw [weight_eq q' k' v z g' B β hB, hostY_v],
    Finset.sum_congr (f := fun j => _ * (1 : EReal)) rfl fun j _ => by rw [weight_eq q' k' v z g' B β hB],
    mean_of_scaled _ (seen_nonempty s) _ _ _ (Real.exp_pos _), hostY_z]
  unfold gate
  rw [exp2_neg]

end

section
variable (q' k' : Cert.ReferenceIdeal.S4x8192x8x128.Idx → ℝ) (v : FVec Ideal Cert.ReferenceIdeal.S4x8192x8x128 .f32)
  (z : FVec Ideal Cert.ReferenceIdeal.S4x8192x1024 .f32) (g' : Cert.ReferenceIdeal.S4x8192x8.Idx → ℝ)

open Cert.ReferenceIdeal.Read

/-- The reference's score before the mask is the score. -/
theorem ref_score (b : Fin 4) (h : Fin 8) (s j : Fin 8192) :
    val_main_v14 (F := Ideal) (up q') (up k') (up g') (ix4 b h s j) = ((score q' k' g' b h s j : ℝ) : EReal) := by
  rw [Ref.score_at, word_128, Ideal.sqrt_coe, if_neg (by norm_num),
    Ideal.div_coe (Real.sqrt_ne_zero'.mpr (by norm_num))]
  show (∑ d, (q' (ix4 b s h d) : EReal) * (k' (ix4 b j h d) : EReal)) * _ + ((g' (ix3 b s h) : EReal) - (g' (ix3 b j h) : EReal)) = _
  rw [Finset.sum_congr rfl fun d _ => (EReal.coe_mul (q' (ix4 b s h d)) (k' (ix4 b j h d))).symm, sum_real,
    ← EReal.coe_sub, ← EReal.coe_mul, ← EReal.coe_add, one_div]
  rfl

/-- The reference's score under the mask: minus infinity at a key that is not seen. -/
theorem ref_masked (b : Fin 4) (h : Fin 8) (s j : Fin 8192) :
    val_main_v20 (F := Ideal) (up q') (up k') (up g') (ix4 b h s j)
      = if j.val ≤ s.val then ((score q' k' g' b h s j : ℝ) : EReal) else ⊥ :=
  (Ref.masked_at (up q') (up k') (up g') b h s j).trans
    (congrArg (fun x : EReal => if j.val ≤ s.val then x else ⊥) (ref_score q' k' g' b h s j))

/-- The reference's weight before its division: the score's exponential, scaled by the maximum's, for a key that is
    seen, and zero for another. -/
theorem ref_exp (b : Fin 4) (h : Fin 8) (s : Fin 8192) : ∃ β : ℝ, 0 < β ∧ ∀ j : Fin 8192,
    val_main_v27 (F := Ideal) (up q') (up k') (up g') (ix4 b h s j)
      = if j.val ≤ s.val then ((β * Real.exp (score q' k' g' b h s j) : ℝ) : EReal) else 0 := by
  obtain ⟨M, hM⟩ := Ref.max_real (up q') (up k') (up g') b h s s (fun i => by
    obtain ⟨b, h, s, j, rfl⟩ : ∃ (b : Fin 4) (h : Fin 8) (s j : Fin 8192), i = ix4 b h s j :=
      ⟨i 0, i 1, i 2, i 3, by funext a; match a with | ⟨0, _⟩ => rfl | ⟨1, _⟩ => rfl | ⟨2, _⟩ => rfl | ⟨3, _⟩ => rfl⟩
    by_cases hj : j.val ≤ s.val
    · exact ne_of_eq_of_ne ((ref_masked q' k' g' b h s j).trans (if_pos hj)) (EReal.coe_ne_top _)
    · exact ne_of_eq_of_ne ((ref_masked q' k' g' b h s j).trans (if_neg hj)) bot_ne_top)
    (ne_of_eq_of_ne ((ref_masked q' k' g' b h s s).trans (if_pos (le_refl _))) (EReal.coe_ne_bot _))
  refine ⟨Real.exp (-M), Real.exp_pos _, fun j => ?_⟩
  rw [Ref.exp_at, hM, ref_masked]
  by_cases hj : j.val ≤ s.val
  · rw [if_pos hj, if_pos hj, ← EReal.coe_sub, Ideal.exp_coe, ← Real.exp_add]
    exact congrArg (fun x : ℝ => ((Real.exp x : ℝ) : EReal)) (by ring)
  · rw [if_neg hj, if_neg hj, EReal.bot_sub, Ideal.exp_bot]

/-- The reference's entry is the answer. -/
theorem ref_eq (b : Fin 4) (h : Fin 8) (s : Fin 8192) (d : Fin 128) :
    val_main_v37 (F := Ideal) (up q') (up k') v z (up g') (ix3 b s ⟨128 * h.val + d.val, by omega⟩)
      = answer q' k' v z g' b h s d := by
  obtain ⟨β, hβ, he⟩ := ref_exp q' k' g' b h s
  have hsum : val_main_v28 (F := Ideal) (up q') (up k') (up g') (ix3 b h s)
      = ∑ j ∈ seen s, ((β * Real.exp (score q' k' g' b h s j) : ℝ) : EReal) := by
    refine (Ref.sum_at (up q') (up k') (up g') b h s).trans ((zero_add _).trans ?_)
    exact (Finset.sum_congr rfl fun j _ => he j).trans (Finset.sum_filter _ _).symm
  rw [Ref.result_at, Ref.mean_at, hsum]
  unfold answer
  refine congrArg (· * _) ?_
  rw [← mean_of_each _ (seen_nonempty s) _ _ β hβ]
  refine Eq.trans ?_ (Finset.sum_filter _ _).symm
  refine Finset.sum_congr rfl fun j _ => ?_
  rw [he]
  by_cases hj : j.val ≤ s.val
  · rw [if_pos hj, if_pos hj]
  · rw [if_neg hj, if_neg hj, sum_real, Ideal.div_coe, zero_mul, zero_mul]
    exact (Finset.sum_pos (fun i _ => mul_pos hβ (Real.exp_pos _)) (seen_nonempty s)).ne'

end

end Cert.Proof
-- ==== Proof.Finite.lean ====
/-
  THE PRECONDITION, READ. Queries, keys, gates' sums and gains are finite: each is an array of real numbers.
-/
module

public import proofs.«01_k».proof.Proof.Equation
public import proofs.«01_k».proof.Proof.Gen.Pre_finite
public import proofs.«01_k».proof.Defs

@[expose] public section

noncomputable section

namespace Cert.Proof

open Idealize.ShloMosaic Idealize.ShloMosaic.TcCoe Idealize.SL.Sem

/-- The word of plus infinity. -/
theorem pos_inf : Ideal.ofBits .f32 0x7F800000#32 = ⊤ := by
  simp [Ideal.ofBits, Ideal.ieee]

/-- An extended real whose absolute value compares below plus infinity is a real number. -/
theorem real_of_mask (x : EReal) (h : Ideal.cmp .olt (max x (-x)) (Ideal.ofBits .f32 0x7F800000#32) = 1#1) :
    x = ((x.toReal : ℝ) : EReal) := by
  rw [pos_inf] at h
  have h' : max x (-x) < ⊤ := by
    by_contra hn
    have h0 : Ideal.cmp .olt (max x (-x)) ⊤ = 0#1 := congrArg BitVec.ofBool (decide_eq_false hn)
    exact absurd (h0.symm.trans h) (by decide)
  refine (EReal.coe_toReal ?_ ?_).symm
  · rintro rfl
    exact absurd h' (by simp)
  · rintro rfl
    exact absurd h' (by simp)

/-- An array whose entries are all finite is an array of real numbers. -/
theorem real_of_finite {σ : Shape} (b : Cert.Pre_finite.S_.BroadcastsInDim σ (![] : Fin 0 → Fin σ.rank)) (x : FVec Ideal σ .f32)
    (h : cmpf .olt (Host.absf x) (broadcastInDim σ ![] b (constant Cert.Pre_finite.S_ .f32 0x7F800000#32)) = fun _ => 1#1) :
    x = up (fun i => (x i).toReal) :=
  funext fun i => real_of_mask (x i) (congrFun h i)

/-- What the precondition says of a launch's arguments. -/
theorem reals_of_pre [Cert.Pre_finite.Facts]
    (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ (q k : Cert.KernelIdeal.S4x8192x8x128.Idx → ℝ) (g : Cert.KernelIdeal.S4x8192x8.Idx → ℝ) (u w : Cert.KernelIdeal.S128.Idx → ℝ),
      m ((c.tc : Thread Cert.KernelIdeal.nD Cert.KernelIdeal.τ).loc Cert.KernelIdeal.main_arg0) = up q
      ∧ m ((c.tc : Thread Cert.KernelIdeal.nD Cert.KernelIdeal.τ).loc Cert.KernelIdeal.main_arg1) = up k
      ∧ m ((c.tc : Thread Cert.KernelIdeal.nD Cert.KernelIdeal.τ).loc Cert.KernelIdeal.main_arg4) = up g
      ∧ m ((c.tc : Thread Cert.KernelIdeal.nD Cert.KernelIdeal.τ).loc Cert.KernelIdeal.main_arg5) = up u
      ∧ m ((c.tc : Thread Cert.KernelIdeal.nD Cert.KernelIdeal.τ).loc Cert.KernelIdeal.main_arg6) = up w := by
  obtain ⟨h0, h1, h2, h3, h4⟩ := h c
  exact ⟨_, _, _, _, _, real_of_finite _ _ h0, real_of_finite _ _ h1, real_of_finite _ _ h2, real_of_finite _ _ h3,
    real_of_finite _ _ h4⟩

end Cert.Proof
-- ==== Proof.FrontRow.lean ====
/-
  ONE ROW of the layer's first projection, and what one grid point computes of it. The kernel adds the previous layer's
  output projection to the residual stream, normalises the row, and projects it. Each of those is a function of one row;
  here the printed expressions are read at an element as these functions.
-/
module

public import proofs.«01_k».proof.Proof.Gen.FrontIdeal.Value
public import Idealize.ShloMosaic.Lib.Pointwise
public import Idealize.ShloMosaic.Lib.Pipeline.Value
public import Idealize.ShloMosaic.Lib.Tactic

@[expose] public section

set_option maxRecDepth 16384

noncomputable section

namespace Cert.Proof.Front

open Idealize.ShloMosaic Idealize.SL.Sem Cert.FrontIdeal Cert.FrontIdeal.Gen

/-- The row after the residual: the stream plus the gated row's output projection. -/
def added (x g : Fin 1024 → EReal) (wo : Fin 1024 → Fin 1024 → EReal) (n : Fin 1024) : EReal :=
  x n + ∑ k, g k * wo k n

/-- The normalised row: each element over the root of the row's mean square (with the small constant), times the gain. -/
def normed (y nw : Fin 1024 → EReal) (n : Fin 1024) : EReal :=
  y n * Ideal.rsqrt (Ideal.div (∑ k, y k * y k) (Ideal.ofBits .f32 0x44800000#32) + Ideal.ofBits .f32 0x358637BD#32) * nw n

/-- One element of the projection: the normalised row against a column of the weights. -/
def projected (z w : Fin 1024 → EReal) : EReal := ∑ k, z k * w k

/-- The top half's sum. -/
theorem pay6_at (x : FVec Ideal S512x1024 .f32) (g : FVec Ideal S512x1024 .bf16) (wo : FVec Ideal S1024x1024 .bf16) (r : Fin 512) (n : Fin 1024) :
    k0_pay6 (F := Ideal) x g wo (ix2 r n) = added (fun k => x (ix2 r k)) (fun k => g (ix2 r k)) (fun k n => wo (ix2 k n)) n := by
  pointwise [k0_pay6, added]

/-- The bottom half's sum. -/
theorem pay8_at (x : FVec Ideal S512x1024 .f32) (g : FVec Ideal S512x1024 .bf16) (wo : FVec Ideal S1024x1024 .bf16) (r : Fin 512) (n : Fin 1024) :
    k0_pay8 (F := Ideal) x g wo (ix2 r n) = added (fun k => x (ix2 r k)) (fun k => g (ix2 r k)) (fun k n => wo (ix2 k n)) n := by
  pointwise [k0_pay8, added]

/-- The top half, normalised. -/
theorem pay7_at (x : FVec Ideal S512x1024 .f32) (g : FVec Ideal S512x1024 .bf16) (wo : FVec Ideal S1024x1024 .bf16)
    (nw : FVec Ideal S1x1024 .f32) (r : Fin 512) (n : Fin 1024) :
    k0_pay7 (F := Ideal) x g wo nw (ix2 r n)
      = normed (added (fun k => x (ix2 r k)) (fun k => g (ix2 r k)) (fun k n => wo (ix2 k n))) (fun k => nw (ix2 0 k)) n := by
  rw [show added (fun k => x (ix2 r k)) (fun k => g (ix2 r k)) (fun k n => wo (ix2 k n)) = fun n => k0_pay6 (F := Ideal) x g wo (ix2 r n)
    from funext fun n => (pay6_at x g wo r n).symm]
  unfold k0_pay7
  generalize k0_pay6 (F := Ideal) x g wo = Y
  pointwise [normed]

/-- The two halves under each other, the bottom one normalised. -/
theorem pay10_at (v : FVec Ideal S512x1024 .bf16) (x : FVec Ideal S512x1024 .f32) (g : FVec Ideal S512x1024 .bf16)
    (wo : FVec Ideal S1024x1024 .bf16) (nw : FVec Ideal S1x1024 .f32) (r n : Fin 1024) :
    k0_pay10 (F := Ideal) v (k0_pay8 x g wo) (k0_pay9 x g wo) nw (ix2 r n)
      = if h : r.val < 512 then v (ix2 ⟨r.val, h⟩ n)
        else normed (fun k => k0_pay8 (F := Ideal) x g wo (ix2 ⟨r.val - 512, by omega⟩ k)) (fun k => nw (ix2 0 k)) n := by
  unfold k0_pay9
  generalize k0_pay8 (F := Ideal) x g wo = Y
  pointwise [k0_pay10, normed]

/-- The extra columns of the projection. -/
theorem pay11_at (v : FVec Ideal S512x1024 .bf16) (y y2 : FVec Ideal S512x1024 .f32) (nw : FVec Ideal S1x1024 .f32)
    (w : FVec Ideal S1024x128 .bf16) (r : Fin 1024) (n : Fin 128) :
    k0_pay11 (F := Ideal) v y y2 nw w (ix2 r n)
      = projected (fun k => k0_pay10 (F := Ideal) v y y2 nw (ix2 r k)) (fun k => w (ix2 k n)) := by
  unfold k0_pay11
  generalize k0_pay10 (F := Ideal) v y y2 nw = Y
  pointwise [projected]

/-- The first tile of the projection, columns 0 to 127. -/
theorem pay13_at (v : FVec Ideal S512x1024 .bf16) (y y2 : FVec Ideal S512x1024 .f32) (nw : FVec Ideal S1x1024 .f32)
    (w : FVec Ideal S1024x512 .bf16) (r : Fin 1024) (n : Fin 128) :
    k0_pay13 (F := Ideal) v y y2 nw w (ix2 r n)
      = projected (fun k => k0_pay10 (F := Ideal) v y y2 nw (ix2 r k)) (fun k => w (ix2 k ⟨n.val, by omega⟩)) := by
  unfold k0_pay13 k0_pay12
  generalize k0_pay10 (F := Ideal) v y y2 nw = Y
  pointwise [projected]

/-- The first tile of the projection, columns 128 to 255. -/
theorem pay14_at (v : FVec Ideal S512x1024 .bf16) (y y2 : FVec Ideal S512x1024 .f32) (nw : FVec Ideal S1x1024 .f32)
    (w : FVec Ideal S1024x512 .bf16) (r : Fin 1024) (n : Fin 128) :
    k0_pay14 (F := Ideal) v y y2 nw w (ix2 r n)
      = projected (fun k => k0_pay10 (F := Ideal) v y y2 nw (ix2 r k)) (fun k => w (ix2 k ⟨128 + n.val, by omega⟩)) := by
  unfold k0_pay14 k0_pay12
  generalize k0_pay10 (F := Ideal) v y y2 nw = Y
  pointwise [projected]

/-- The first tile of the projection, columns 256 to 383. -/
theorem pay15_at (v : FVec Ideal S512x1024 .bf16) (y y2 : FVec Ideal S512x1024 .f32) (nw : FVec Ideal S1x1024 .f32)
    (w : FVec Ideal S1024x512 .bf16) (r : Fin 1024) (n : Fin 128) :
    k0_pay15 (F := Ideal) v y y2 nw w (ix2 r n)
      = projected (fun k => k0_pay10 (F := Ideal) v y y2 nw (ix2 r k)) (fun k => w (ix2 k ⟨256 + n.val, by omega⟩)) := by
  unfold k0_pay15 k0_pay12
  generalize k0_pay10 (F := Ideal) v y y2 nw = Y
  pointwise [projected]

/-- The first tile of the projection, columns 384 to 511. -/
theorem pay16_at (v : FVec Ideal S512x1024 .bf16) (y y2 : FVec Ideal S512x1024 .f32) (nw : FVec Ideal S1x1024 .f32)
    (w : FVec Ideal S1024x512 .bf16) (r : Fin 1024) (n : Fin 128) :
    k0_pay16 (F := Ideal) v y y2 nw w (ix2 r n)
      = projected (fun k => k0_pay10 (F := Ideal) v y y2 nw (ix2 r k)) (fun k => w (ix2 k ⟨384 + n.val, by omega⟩)) := by
  unfold k0_pay16 k0_pay12
  generalize k0_pay10 (F := Ideal) v y y2 nw = Y
  pointwise [projected]

/-- The second tile of the projection, columns 0 to 127. -/
theorem pay18_at (z : FVec Ideal S1024x1024 .bf16) (w : FVec Ideal S1024x512 .bf16) (r : Fin 1024) (n : Fin 128) :
    k0_pay18 (F := Ideal) z w (ix2 r n) = projected (fun k => z (ix2 r k)) (fun k => w (ix2 k ⟨n.val, by omega⟩)) := by
  pointwise [k0_pay18, k0_pay17, projected]

/-- The second tile of the projection, columns 128 to 255. -/
theorem pay19_at (z : FVec Ideal S1024x1024 .bf16) (w : FVec Ideal S1024x512 .bf16) (r : Fin 1024) (n : Fin 128) :
    k0_pay19 (F := Ideal) z w (ix2 r n) = projected (fun k => z (ix2 r k)) (fun k => w (ix2 k ⟨128 + n.val, by omega⟩)) := by
  pointwise [k0_pay19, k0_pay17, projected]

/-- The second tile of the projection, columns 256 to 383. -/
theorem pay20_at (z : FVec Ideal S1024x1024 .bf16) (w : FVec Ideal S1024x512 .bf16) (r : Fin 1024) (n : Fin 128) :
    k0_pay20 (F := Ideal) z w (ix2 r n) = projected (fun k => z (ix2 r k)) (fun k => w (ix2 k ⟨256 + n.val, by omega⟩)) := by
  pointwise [k0_pay20, k0_pay17, projected]

/-- The second tile of the projection, columns 384 to 511. -/
theorem pay21_at (z : FVec Ideal S1024x1024 .bf16) (w : FVec Ideal S1024x512 .bf16) (r : Fin 1024) (n : Fin 128) :
    k0_pay21 (F := Ideal) z w (ix2 r n) = projected (fun k => z (ix2 r k)) (fun k => w (ix2 k ⟨384 + n.val, by omega⟩)) := by
  pointwise [k0_pay21, k0_pay17, projected]

/-- The third tile of the projection, columns 0 to 127. -/
theorem pay23_at (z : FVec Ideal S1024x1024 .bf16) (w : FVec Ideal S1024x512 .bf16) (r : Fin 1024) (n : Fin 128) :
    k0_pay23 (F := Ideal) z w (ix2 r n) = projected (fun k => z (ix2 r k)) (fun k => w (ix2 k ⟨n.val, by omega⟩)) := by
  pointwise [k0_pay23, k0_pay22, projected]

/-- The third tile of the projection, columns 128 to 255. -/
theorem pay24_at (z : FVec Ideal S1024x1024 .bf16) (w : FVec Ideal S1024x512 .bf16) (r : Fin 1024) (n : Fin 128) :
    k0_pay24 (F := Ideal) z w (ix2 r n) = projected (fun k => z (ix2 r k)) (fun k => w (ix2 k ⟨128 + n.val, by omega⟩)) := by
  pointwise [k0_pay24, k0_pay22, projected]

/-- The third tile of the projection, columns 256 to 383. -/
theorem pay25_at (z : FVec Ideal S1024x1024 .bf16) (w : FVec Ideal S1024x512 .bf16) (r : Fin 1024) (n : Fin 128) :
    k0_pay25 (F := Ideal) z w (ix2 r n) = projected (fun k => z (ix2 r k)) (fun k => w (ix2 k ⟨256 + n.val, by omega⟩)) := by
  pointwise [k0_pay25, k0_pay22, projected]

/-- The third tile of the projection, columns 384 to 511. -/
theorem pay26_at (z : FVec Ideal S1024x1024 .bf16) (w : FVec Ideal S1024x512 .bf16) (r : Fin 1024) (n : Fin 128) :
    k0_pay26 (F := Ideal) z w (ix2 r n) = projected (fun k => z (ix2 r k)) (fun k => w (ix2 k ⟨384 + n.val, by omega⟩)) := by
  pointwise [k0_pay26, k0_pay22, projected]

/-- The fourth tile of the projection, columns 0 to 127. -/
theorem pay28_at (z : FVec Ideal S1024x1024 .bf16) (w : FVec Ideal S1024x512 .bf16) (r : Fin 1024) (n : Fin 128) :
    k0_pay28 (F := Ideal) z w (ix2 r n) = projected (fun k => z (ix2 r k)) (fun k => w (ix2 k ⟨n.val, by omega⟩)) := by
  pointwise [k0_pay28, k0_pay27, projected]

/-- The fourth tile of the projection, columns 128 to 255. -/
theorem pay29_at (z : FVec Ideal S1024x1024 .bf16) (w : FVec Ideal S1024x512 .bf16) (r : Fin 1024) (n : Fin 128) :
    k0_pay29 (F := Ideal) z w (ix2 r n) = projected (fun k => z (ix2 r k)) (fun k => w (ix2 k ⟨128 + n.val, by omega⟩)) := by
  pointwise [k0_pay29, k0_pay27, projected]

/-- The fourth tile of the projection, columns 256 to 383. -/
theorem pay30_at (z : FVec Ideal S1024x1024 .bf16) (w : FVec Ideal S1024x512 .bf16) (r : Fin 1024) (n : Fin 128) :
    k0_pay30 (F := Ideal) z w (ix2 r n) = projected (fun k => z (ix2 r k)) (fun k => w (ix2 k ⟨256 + n.val, by omega⟩)) := by
  pointwise [k0_pay30, k0_pay27, projected]

/-- The fourth tile of the projection, columns 384 to 511. -/
theorem pay31_at (z : FVec Ideal S1024x1024 .bf16) (w : FVec Ideal S1024x512 .bf16) (r : Fin 1024) (n : Fin 128) :
    k0_pay31 (F := Ideal) z w (ix2 r n) = projected (fun k => z (ix2 r k)) (fun k => w (ix2 k ⟨384 + n.val, by omega⟩)) := by
  pointwise [k0_pay31, k0_pay27, projected]

/-- The fifth tile of the projection, columns 0 to 127. -/
theorem pay33_at (z : FVec Ideal S1024x1024 .bf16) (w : FVec Ideal S1024x512 .bf16) (r : Fin 1024) (n : Fin 128) :
    k0_pay33 (F := Ideal) z w (ix2 r n) = projected (fun k => z (ix2 r k)) (fun k => w (ix2 k ⟨n.val, by omega⟩)) := by
  pointwise [k0_pay33, k0_pay32, projected]

/-- The fifth tile of the projection, columns 128 to 255. -/
theorem pay34_at (z : FVec Ideal S1024x1024 .bf16) (w : FVec Ideal S1024x512 .bf16) (r : Fin 1024) (n : Fin 128) :
    k0_pay34 (F := Ideal) z w (ix2 r n) = projected (fun k => z (ix2 r k)) (fun k => w (ix2 k ⟨128 + n.val, by omega⟩)) := by
  pointwise [k0_pay34, k0_pay32, projected]

/-- The fifth tile of the projection, columns 256 to 383. -/
theorem pay35_at (z : FVec Ideal S1024x1024 .bf16) (w : FVec Ideal S1024x512 .bf16) (r : Fin 1024) (n : Fin 128) :
    k0_pay35 (F := Ideal) z w (ix2 r n) = projected (fun k => z (ix2 r k)) (fun k => w (ix2 k ⟨256 + n.val, by omega⟩)) := by
  pointwise [k0_pay35, k0_pay32, projected]

/-- The fifth tile of the projection, columns 384 to 511. -/
theorem pay36_at (z : FVec Ideal S1024x1024 .bf16) (w : FVec Ideal S1024x512 .bf16) (r : Fin 1024) (n : Fin 128) :
    k0_pay36 (F := Ideal) z w (ix2 r n) = projected (fun k => z (ix2 r k)) (fun k => w (ix2 k ⟨384 + n.val, by omega⟩)) := by
  pointwise [k0_pay36, k0_pay32, projected]

/-- The last tile of the projection, columns 0 to 127. -/
theorem pay2_at (z : FVec Ideal S1024x1024 .bf16) (w : FVec Ideal S1024x512 .bf16) (r : Fin 1024) (n : Fin 128) :
    k0_pay2 (F := Ideal) z w (ix2 r n) = projected (fun k => z (ix2 r k)) (fun k => w (ix2 k ⟨n.val, by omega⟩)) := by
  pointwise [k0_pay2, k0_pay1, projected]

/-- The last tile of the projection, columns 128 to 255. -/
theorem pay3_at (z : FVec Ideal S1024x1024 .bf16) (w : FVec Ideal S1024x512 .bf16) (r : Fin 1024) (n : Fin 128) :
    k0_pay3 (F := Ideal) z w (ix2 r n) = projected (fun k => z (ix2 r k)) (fun k => w (ix2 k ⟨128 + n.val, by omega⟩)) := by
  pointwise [k0_pay3, k0_pay1, projected]

/-- The last tile of the projection, columns 256 to 383. -/
theorem pay4_at (z : FVec Ideal S1024x1024 .bf16) (w : FVec Ideal S1024x512 .bf16) (r : Fin 1024) (n : Fin 128) :
    k0_pay4 (F := Ideal) z w (ix2 r n) = projected (fun k => z (ix2 r k)) (fun k => w (ix2 k ⟨256 + n.val, by omega⟩)) := by
  pointwise [k0_pay4, k0_pay1, projected]

/-- The last tile of the projection, columns 384 to 511. -/
theorem pay5_at (z : FVec Ideal S1024x1024 .bf16) (w : FVec Ideal S1024x512 .bf16) (r : Fin 1024) (n : Fin 128) :
    k0_pay5 (F := Ideal) z w (ix2 r n) = projected (fun k => z (ix2 r k)) (fun k => w (ix2 k ⟨384 + n.val, by omega⟩)) := by
  pointwise [k0_pay5, k0_pay1, projected]

end Cert.Proof.Front
-- ==== Proof.FrontBlock.lean ====
/-
  ONE GRID POINT of the first projection: what the three blocks a point leaves hold, as functions of the rows of the
  blocks it is handed. The point works its 1024 rows in two halves and its 3072 columns in strips of 128; every strip
  is the same function of its place.
-/
module

public import proofs.«01_k».proof.Proof.FrontRow

@[expose] public section

set_option maxRecDepth 16384

noncomputable section

namespace Cert.Proof.Front

open Idealize.ShloMosaic Idealize.SL.Sem Cert.FrontIdeal Cert.FrontIdeal.Gen

/-- A matrix's index is its row and its column. -/
theorem idx_pair {a b : ℕ} (i : (⟨2, ![a, b]⟩ : Shape).Idx) : ∃ (r : Fin a) (n : Fin b), i = ix2 r n :=
  ⟨i 0, i 1, by funext d; match d with | ⟨0, _⟩ => rfl | ⟨1, _⟩ => rfl⟩

/-- Equal rows and weights have equal sums. -/
theorem added_congr {x x' g g' : Fin 1024 → EReal} {wo wo' : Fin 1024 → Fin 1024 → EReal} (hx : x = x') (hg : g = g') (hw : wo = wo') :
    added x g wo = added x' g' wo' := by
  subst hx hg hw
  rfl

section
variable (x0 : FVec Ideal S1024x1024 .f32) (x1 x2 : FVec Ideal S1024x1024 .bf16) (x3 : FVec Ideal S1x1024 .f32)
  (x4 : FVec Ideal S1024x3072 .bf16) (x5 : FVec Ideal S1024x128 .bf16) (x6 : FVec Ideal S1x128 .f32)

/-- Row `r` of the block after the residual. -/
def blockAdded (r : Fin 1024) : Fin 1024 → EReal :=
  added (fun k => x0 (ix2 r k)) (fun k => x1 (ix2 r k)) (fun k n => x2 (ix2 k n))

/-- Row `r` of the block, normalised. -/
def blockNormed (r : Fin 1024) : Fin 1024 → EReal := normed (blockAdded x0 x1 x2 r) (fun k => x3 (ix2 0 k))

/-- A load of 512 rows reads them. -/
theorem ld_rows {e : EltTy} (x : S1024x1024.Idx → Elt Ideal e) (b : ℕ) (off : Fin 2 → ℕ) (h : off = ![b, 0])
    (inb : ∀ a, off a + S512x1024.size a ≤ S1024x1024.size a) (r : Fin 512) (k r' : Fin 1024) (hr : r'.val = b + r.val) :
    View.ld (Val := Elt Ideal) (e' := e) x (Rect.unit (s := S1024x1024) off S512x1024.size inb) (ix2 r k) = x (ix2 r' k) := by
  subst h
  refine congrArg x (funext fun a => Fin.ext ?_)
  match a with
  | ⟨0, _⟩ => show b + 1 * r.val = r'.val; omega
  | ⟨1, _⟩ => show 0 + 1 * k.val = k.val; omega

/-- A load of the whole weights reads them. -/
theorem ld_all (k n : Fin 1024) : View.ld (Val := Elt Ideal) (e' := .bf16) x2 r0_1 (ix2 k n) = x2 (ix2 k n) := by
  refine congrArg x2 (funext fun a => Fin.ext ?_)
  match a with
  | ⟨0, _⟩ => show 0 + 1 * k.val = k.val; omega
  | ⟨1, _⟩ => show 0 + 1 * n.val = n.val; omega

/-- A load of the whole gains reads them. -/
theorem ld_gain (k : Fin 1024) : View.ld (Val := Elt Ideal) (e' := .f32) x3 r0_2 (ix2 0 k) = x3 (ix2 0 k) := by
  refine congrArg x3 (funext fun a => Fin.ext ?_)
  match a with
  | ⟨0, _⟩ => rfl
  | ⟨1, _⟩ => show 0 + 1 * k.val = k.val; omega

/-- A load of the whole extra columns reads them. -/
theorem ld_extra (k : Fin 1024) (n : Fin 128) : View.ld (Val := Elt Ideal) (e' := .bf16) x5 r0_4 (ix2 k n) = x5 (ix2 k n) := by
  refine congrArg x5 (funext fun a => Fin.ext ?_)
  match a with
  | ⟨0, _⟩ => show 0 + 1 * k.val = k.val; omega
  | ⟨1, _⟩ => show 0 + 1 * n.val = n.val; omega

/-- The top half's rows after the residual. -/
theorem top (r : Fin 512) (r' : Fin 1024) (hr : r'.val = 0 + r.val) (n : Fin 1024) :
    added (fun k => View.ld (Val := Elt Ideal) (e' := .f32) x0 r0_0 (ix2 r k)) (fun k => View.ld (Val := Elt Ideal) (e' := .bf16) x1 r0_0 (ix2 r k))
      (fun k n => View.ld (Val := Elt Ideal) (e' := .bf16) x2 r0_1 (ix2 k n)) n = blockAdded x0 x1 x2 r' n := by
  unfold blockAdded
  refine congrFun (added_congr ?_ ?_ ?_) n
  · exact funext fun k => ld_rows (e := .f32) x0 0 _ rfl _ r k r' hr
  · exact funext fun k => ld_rows (e := .bf16) x1 0 _ rfl _ r k r' hr
  · exact funext fun k => funext fun n => ld_all x2 k n

/-- The bottom half's rows after the residual. -/
theorem bottom (r : Fin 512) (r' : Fin 1024) (hr : r'.val = 512 + r.val) (n : Fin 1024) :
    added (fun k => View.ld (Val := Elt Ideal) (e' := .f32) x0 r0_3 (ix2 r k)) (fun k => View.ld (Val := Elt Ideal) (e' := .bf16) x1 r0_3 (ix2 r k))
      (fun k n => View.ld (Val := Elt Ideal) (e' := .bf16) x2 r0_1 (ix2 k n)) n = blockAdded x0 x1 x2 r' n := by
  unfold blockAdded
  refine congrFun (added_congr ?_ ?_ ?_) n
  · exact funext fun k => ld_rows (e := .f32) x0 512 _ rfl _ r k r' hr
  · exact funext fun k => ld_rows (e := .bf16) x1 512 _ rfl _ r k r' hr
  · exact funext fun k => funext fun n => ld_all x2 k n

/-- The two halves, normalised, are the block's rows normalised. -/
theorem norm_at (r n : Fin 1024) :
    k0_pay10 (F := Ideal) (k0_pay37 x0 x1 x2 x3 x4 x5 x6) (k0_pay38 x0 x1 x2 x3 x4 x5 x6) (k0_pay39 x0 x1 x2 x3 x4 x5 x6)
      (View.ld x3 r0_2) (ix2 r n) = blockNormed x0 x1 x2 x3 r n := by
  unfold k0_pay37 k0_pay38 k0_pay39
  rw [pay10_at]
  unfold blockNormed
  have hg : (fun k => View.ld (Val := Elt Ideal) (e' := .f32) x3 r0_2 (ix2 0 k)) = fun k => x3 (ix2 0 k) :=
    funext fun k => ld_gain x3 k
  split
  · rename_i h
    rw [pay7_at, hg]
    exact congrArg (fun y => normed y _ n) (funext fun k => top x0 x1 x2 ⟨r.val, h⟩ r (Nat.zero_add _).symm k)
  · rename_i h
    rw [hg]
    refine congrArg (fun y => normed y _ n) (funext fun k => ?_)
    rw [pay8_at]
    exact bottom x0 x1 x2 ⟨r.val - 512, by omega⟩ r (by show r.val = 512 + (r.val - 512); omega) k

/-- What the point leaves of the stream. -/
theorem out7_at (r n : Fin 1024) : out0_7 (F := Ideal) x0 x1 x2 x3 x4 x5 x6 (ix2 r n) = blockAdded x0 x1 x2 r n := by
  unfold out0_7
  refine View.canon_apply_of_pieces (Val := Elt Ideal) (e := .f32) (fun i => blockAdded x0 x1 x2 (i 0) (i 1)) _ ?_ _ (cover0_7 _ _ _)
  intro p hp
  rcases List.mem_cons.mp hp with rfl | hp
  · intro j
    obtain ⟨r, n, rfl⟩ := idx_pair j
    refine (pay8_at _ _ _ r n).trans ((bottom x0 x1 x2 r ⟨512 + r.val, by omega⟩ rfl n).trans ?_)
    refine congrArg₂ (blockAdded x0 x1 x2) (Fin.ext ?_) (Fin.ext ?_)
    · show 512 + r.val = 512 + 1 * r.val; omega
    · show n.val = 0 + 1 * n.val; omega
  · obtain rfl := List.mem_singleton.mp hp
    intro j
    obtain ⟨r, n, rfl⟩ := idx_pair j
    refine (pay6_at _ _ _ r n).trans ((top x0 x1 x2 r ⟨r.val, by omega⟩ (Nat.zero_add _).symm n).trans ?_)
    refine congrArg₂ (blockAdded x0 x1 x2) (Fin.ext ?_) (Fin.ext ?_)
    · show r.val = 0 + 1 * r.val; omega
    · show n.val = 0 + 1 * n.val; omega

/-- What the point leaves of the extra columns. -/
theorem out9_at (r : Fin 1024) (n : Fin 128) : out0_9 (F := Ideal) x0 x1 x2 x3 x4 x5 x6 (ix2 r n)
    = projected (blockNormed x0 x1 x2 x3 r) (fun k => x5 (ix2 k n)) := by
  unfold out0_9
  refine View.canon_apply_of_pieces (Val := Elt Ideal) (e := .f32)
    (fun i : S1024x128.Idx => projected (blockNormed x0 x1 x2 x3 (i 0)) (fun k => x5 (ix2 k (i 1)))) _ ?_ (ix2 r n) ?_
  rotate_left
  · exact cover0_9 (F := Ideal) _ _
  intro p hp
  obtain rfl := List.mem_singleton.mp hp
  intro j
  obtain ⟨r, n, rfl⟩ := idx_pair j
  refine (pay11_at _ _ _ _ _ r n).trans (congrArg₂ projected (funext fun k => ?_) (funext fun k => ?_))
  · refine (norm_at x0 x1 x2 x3 x4 x5 x6 r k).trans (congrArg (fun r' => blockNormed x0 x1 x2 x3 r' k) (Fin.ext ?_))
    show r.val = 0 + 1 * r.val; omega
  · refine (ld_extra x5 k n).trans (congrArg (fun n' => x5 (ix2 k n')) (Fin.ext ?_))
    show n.val = 0 + 1 * n.val; omega

end

/-- A strip of 128 columns of a tile of 512 is the projection at the strip's place. -/
theorem tile_eq (z : FVec Ideal S1024x1024 .bf16) (w : FVec Ideal S1024x3072 .bf16) (b i : ℕ) (r : Fin 1024) (n : Fin 128) (o : Fin 512)
    (hi : o.val = i + n.val) {offb offo : Fin 2 → ℕ} (hb : offb = ![0, b]) (ho : offo = ![0, b + i])
    (inb : ∀ a, offb a + S1024x512.size a ≤ S1024x3072.size a) (ino : ∀ a, offo a + S1024x128.size a ≤ S1024x3072.size a) :
    projected (fun k => z (ix2 r k))
        (fun k => View.ld (Val := Elt Ideal) (e' := .bf16) w (Rect.unit (s := S1024x3072) offb S1024x512.size inb) (ix2 k o))
      = (fun j : S1024x3072.Idx => projected (fun k => z (ix2 (j 0) k)) (fun k => w (ix2 k (j 1))))
          ((Rect.unit (s := S1024x3072) offo S1024x128.size ino).emb (ix2 r n)) := by
  subst hb ho
  refine congrArg₂ projected (funext fun k => congrArg (fun r' => z (ix2 r' k)) (Fin.ext ?_))
    (funext fun k => congrArg w (funext fun a => Fin.ext ?_))
  · show r.val = 0 + 1 * r.val; omega
  · match a with
    | ⟨0, _⟩ => show 0 + 1 * k.val = k.val; omega
    | ⟨1, _⟩ => show b + 1 * o.val = b + i + 1 * n.val; omega

section
variable (x0 : FVec Ideal S1024x1024 .f32) (x1 x2 : FVec Ideal S1024x1024 .bf16) (x3 : FVec Ideal S1x1024 .f32)
  (x4 : FVec Ideal S1024x3072 .bf16) (x5 : FVec Ideal S1024x128 .bf16) (x6 : FVec Ideal S1x128 .f32)

/-- What the point leaves of the projection. -/
theorem out8_at (r : Fin 1024) (n : Fin 3072) : out0_8 (F := Ideal) x0 x1 x2 x3 x4 x5 x6 (ix2 r n)
    = projected (blockNormed x0 x1 x2 x3 r) (fun k => x4 (ix2 k n)) := by
  rw [show blockNormed x0 x1 x2 x3 r = fun k => k0_pay40 (F := Ideal) x0 x1 x2 x3 x4 x5 x6 (ix2 r k) from
    funext fun k => (norm_at x0 x1 x2 x3 x4 x5 x6 r k).symm]
  unfold out0_8
  refine View.canon_apply_of_pieces (Val := Elt Ideal) (e := .bf16) (fun j : S1024x3072.Idx =>
    projected (fun k => k0_pay40 (F := Ideal) x0 x1 x2 x3 x4 x5 x6 (ix2 (j 0) k)) (fun k => x4 (ix2 k (j 1)))) _ ?_ _
    (cover0_8 _ _ _ _ _ _ _ _ _ _ _ _ _ _ _ _ _ _ _ _ _ _ _ _ _ )
  simp only [List.forall_mem_cons]
  refine ⟨?_, ?_, ?_, ?_, ?_, ?_, ?_, ?_, ?_, ?_, ?_, ?_, ?_, ?_, ?_, ?_, ?_, ?_, ?_, ?_, ?_, ?_, ?_, ?_, fun _ h => absurd h List.not_mem_nil⟩ <;> intro j <;> obtain ⟨r, n, rfl⟩ := idx_pair j
  · exact (pay5_at _ _ r n).trans (tile_eq _ x4 2560 384 r n _ rfl rfl rfl _ _)
  · exact (pay4_at _ _ r n).trans (tile_eq _ x4 2560 256 r n _ rfl rfl rfl _ _)
  · exact (pay3_at _ _ r n).trans (tile_eq _ x4 2560 128 r n _ rfl rfl rfl _ _)
  · exact (pay2_at _ _ r n).trans (tile_eq _ x4 2560 0 r n _ (Nat.zero_add _).symm rfl rfl _ _)
  · exact (pay36_at _ _ r n).trans (tile_eq _ x4 2048 384 r n _ rfl rfl rfl _ _)
  · exact (pay35_at _ _ r n).trans (tile_eq _ x4 2048 256 r n _ rfl rfl rfl _ _)
  · exact (pay34_at _ _ r n).trans (tile_eq _ x4 2048 128 r n _ rfl rfl rfl _ _)
  · exact (pay33_at _ _ r n).trans (tile_eq _ x4 2048 0 r n _ (Nat.zero_add _).symm rfl rfl _ _)
  · exact (pay31_at _ _ r n).trans (tile_eq _ x4 1536 384 r n _ rfl rfl rfl _ _)
  · exact (pay30_at _ _ r n).trans (tile_eq _ x4 1536 256 r n _ rfl rfl rfl _ _)
  · exact (pay29_at _ _ r n).trans (tile_eq _ x4 1536 128 r n _ rfl rfl rfl _ _)
  · exact (pay28_at _ _ r n).trans (tile_eq _ x4 1536 0 r n _ (Nat.zero_add _).symm rfl rfl _ _)
  · exact (pay26_at _ _ r n).trans (tile_eq _ x4 1024 384 r n _ rfl rfl rfl _ _)
  · exact (pay25_at _ _ r n).trans (tile_eq _ x4 1024 256 r n _ rfl rfl rfl _ _)
  · exact (pay24_at _ _ r n).trans (tile_eq _ x4 1024 128 r n _ rfl rfl rfl _ _)
  · exact (pay23_at _ _ r n).trans (tile_eq _ x4 1024 0 r n _ (Nat.zero_add _).symm rfl rfl _ _)
  · exact (pay21_at _ _ r n).trans (tile_eq _ x4 512 384 r n _ rfl rfl rfl _ _)
  · exact (pay20_at _ _ r n).trans (tile_eq _ x4 512 256 r n _ rfl rfl rfl _ _)
  · exact (pay19_at _ _ r n).trans (tile_eq _ x4 512 128 r n _ rfl rfl rfl _ _)
  · exact (pay18_at _ _ r n).trans (tile_eq _ x4 512 0 r n _ (Nat.zero_add _).symm rfl rfl _ _)
  · exact (pay16_at _ _ _ _ _ r n).trans (tile_eq _ x4 0 384 r n _ rfl rfl rfl _ _)
  · exact (pay15_at _ _ _ _ _ r n).trans (tile_eq _ x4 0 256 r n _ rfl rfl rfl _ _)
  · exact (pay14_at _ _ _ _ _ r n).trans (tile_eq _ x4 0 128 r n _ rfl rfl rfl _ _)
  · exact (pay13_at _ _ _ _ _ r n).trans (tile_eq _ x4 0 0 r n _ (Nat.zero_add _).symm rfl rfl _ _)

end

end Cert.Proof.Front
-- ==== Proof.FrontArray.lean ====
/-
  FROM BLOCKS TO THE ARRAYS of the first projection. The grid walks the 32768 rows in 32 steps of 1024; each point writes
  its rows of the three results, so the three arrays are stated whole, row by row.
-/
module

public import proofs.«01_k».proof.Proof.FrontBlock

@[expose] public section

set_option maxRecDepth 16384

noncomputable section

namespace Cert.Proof.Front

open Idealize.ShloMosaic Idealize.ShloMosaic.TcCoe Idealize.SL.Sem Cert.FrontIdeal Cert.FrontIdeal.Gen
open Idealize.ShloMosaic.Pipeline (Dat)

section
variable (m : (ℓ : Loc nD τ sig) → Buf (Elt Ideal) ℓ) (c : Dev nD)

/-- Where the blocks of a point lie. -/
theorem index_eq : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) := by
  decide +kernel

/-- The array's row at row `r` of a point's block. -/
def rowOf (t : Fin cfg0.N) (r : Fin 1024) : Fin 32768 :=
  ⟨1024 * t.val + r.val, by have := t.isLt.trans_eq (show cfg0.N = 32 from N_0); omega⟩

/-- A point's rows of the stream. -/
theorem blk0 (t : Fin cfg0.N) (r k : Fin 1024) : iblk m c 0 t (ix2 r k) = V m c main_v7 (ix2 (rowOf t r) k) := by
  have h := index_eq t
  unfold iblk
  rw [View.read_apply]
  show V m c main_v7 _ = _
  congr 1
  funext a
  apply Fin.ext
  match a with
  | ⟨0, _⟩ => show win0_0.index t 0 * 1024 + 1 * r.val = 1024 * t.val + r.val; omega
  | ⟨1, _⟩ => show win0_0.index t 1 * 1024 + 1 * k.val = k.val; omega

/-- A point's rows of the gated output. -/
theorem blk1 (t : Fin cfg0.N) (r k : Fin 1024) : iblk m c 1 t (ix2 r k) = V m c main_v9 (ix2 (rowOf t r) k) := by
  have h := index_eq t
  unfold iblk
  rw [View.read_apply]
  show V m c main_v9 _ = _
  congr 1
  funext a
  apply Fin.ext
  match a with
  | ⟨0, _⟩ => show win0_1.index t 0 * 1024 + 1 * r.val = 1024 * t.val + r.val; omega
  | ⟨1, _⟩ => show win0_1.index t 1 * 1024 + 1 * k.val = k.val; omega

/-- The output projection's weights, whole at every point. -/
theorem blk2 (t : Fin cfg0.N) (k : Fin 1024) (n : Fin 1024) : iblk m c 2 t (ix2 k n) = V m c main_v11 (ix2 k n) := by
  have h := index_eq t
  unfold iblk
  rw [View.read_apply]
  show V m c main_v11 _ = _
  congr 1
  funext a
  apply Fin.ext
  match a with
  | ⟨0, _⟩ => show win0_2.index t 0 * 1024 + 1 * k.val = k.val; omega
  | ⟨1, _⟩ => show win0_2.index t 1 * 1024 + 1 * n.val = n.val; omega

/-- The gains, whole at every point. -/
theorem blk3 (t : Fin cfg0.N) (k : Fin 1) (n : Fin 1024) : iblk m c 3 t (ix2 k n) = V m c main_v12 (ix2 k n) := by
  have h := index_eq t
  unfold iblk
  rw [View.read_apply]
  show V m c main_v12 _ = _
  congr 1
  funext a
  apply Fin.ext
  match a with
  | ⟨0, _⟩ => show win0_3.index t 0 * 1 + 1 * k.val = k.val; omega
  | ⟨1, _⟩ => show win0_3.index t 1 * 1024 + 1 * n.val = n.val; omega

/-- The projection's weights, whole at every point. -/
theorem blk4 (t : Fin cfg0.N) (k : Fin 1024) (n : Fin 3072) : iblk m c 4 t (ix2 k n) = V m c main_v1 (ix2 k n) := by
  have h := index_eq t
  unfold iblk
  rw [View.read_apply]
  show V m c main_v1 _ = _
  congr 1
  funext a
  apply Fin.ext
  match a with
  | ⟨0, _⟩ => show win0_4.index t 0 * 1024 + 1 * k.val = k.val; omega
  | ⟨1, _⟩ => show win0_4.index t 1 * 3072 + 1 * n.val = n.val; omega

/-- The extra columns' weights, whole at every point. -/
theorem blk5 (t : Fin cfg0.N) (k : Fin 1024) (n : Fin 128) : iblk m c 5 t (ix2 k n) = V m c main_v6 (ix2 k n) := by
  have h := index_eq t
  unfold iblk
  rw [View.read_apply]
  show V m c main_v6 _ = _
  congr 1
  funext a
  apply Fin.ext
  match a with
  | ⟨0, _⟩ => show win0_5.index t 0 * 1024 + 1 * k.val = k.val; omega
  | ⟨1, _⟩ => show win0_5.index t 1 * 128 + 1 * n.val = n.val; omega

/-- Row `n` of the array after the residual. -/
def rowAdded (n : Fin 32768) : Fin 1024 → EReal :=
  added (fun k => V m c main_v7 (ix2 n k)) (fun k => V m c main_v9 (ix2 n k)) (fun k j => V m c main_v11 (ix2 k j))

/-- Row `n` of the array, normalised. -/
def rowNormed (n : Fin 32768) : Fin 1024 → EReal := normed (rowAdded m c n) (fun k => V m c main_v12 (ix2 0 k))

/-- The stream after the residual. -/
def stream : FVec Ideal S32768x1024 .f32 := fun i => rowAdded m c (i 0) (i 1)
/-- The projection. -/
def mains : FVec Ideal S32768x3072 .bf16 := fun i => projected (rowNormed m c (i 0)) (fun k => V m c main_v1 (ix2 k (i 1)))
/-- The extra columns of the projection. -/
def extras : FVec Ideal S32768x128 .f32 := fun i => projected (rowNormed m c (i 0)) (fun k => V m c main_v6 (ix2 k (i 1)))

/-- A block's row after the residual is the array's. -/
theorem rows_eq (t : Fin cfg0.N) (r : Fin 1024) :
    blockAdded (iblk m c 0 t) (iblk m c 1 t) (iblk m c 2 t) r = rowAdded m c (rowOf t r) :=
  added_congr (funext fun k => blk0 m c t r k) (funext fun k => blk1 m c t r k) (funext fun k => funext fun n => blk2 m c t k n)

/-- A block's normalised row is the array's. -/
theorem normed_eq (t : Fin cfg0.N) (r : Fin 1024) :
    blockNormed (iblk m c 0 t) (iblk m c 1 t) (iblk m c 2 t) (iblk m c 3 t) r = rowNormed m c (rowOf t r) :=
  congrArg₂ normed (rows_eq m c t r) (funext fun k => blk3 m c t 0 k)

/-- What a point writes back is its block of the stream. -/
theorem flushed7 (t : Fin cfg0.N) : (dats m 0 c).flushed 7 t = ((cfg0.win 7).blk t).view.read (Elt Ideal) (stream m c) := by
  rw [Value.flushed7]
  funext j
  have h := index_eq t
  obtain ⟨r, n, rfl⟩ : ∃ (r : Fin 1024) (n : Fin 1024), j = ix2 r n := idx_pair j
  have key : ((cfg0.win 7).blk t).view.read (Elt Ideal) (stream m c) (ix2 r n) = stream m c (ix2 (rowOf t r) n) := by
    rw [View.read_apply]
    show stream m c _ = _
    congr 1
    funext a
    apply Fin.ext
    match a with
    | ⟨0, _⟩ => show win0_7.index t 0 * 1024 + 1 * r.val = 1024 * t.val + r.val; omega
    | ⟨1, _⟩ => show win0_7.index t 1 * 1024 + 1 * n.val = n.val; omega
  refine Eq.trans ?_ key.symm
  refine (out7_at _ _ _ _ _ _ _ r n).trans ?_
  exact congrFun (rows_eq m c t r) n

/-- The stream, whole. -/
theorem final7 : (dats m 0 c).arrAt 7 cfg0.N = stream m c := by
  refine (dats m 0 c).arrAt_eq_of_cover 7 (stream m c) (fun t _ => flushed7 m c t) fun i => ?_
  have i0 : (i 0).val < 32768 := (i 0).isLt
  have i1 : (i 1).val < 1024 := (i 1).isLt
  let t : Fin cfg0.N := ⟨(i 0).val / 1024, by rw [show cfg0.N = 32 from N_0]; omega⟩
  have ht : t.val = (i 0).val / 1024 := rfl
  have h := index_eq t
  refine ⟨t, flush0_7 t, ?_⟩
  show i ∈ ((View.whole main_v13_0).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    omega
  | ⟨1, _⟩ =>
    show win0_7.index t 1 * 1024 ≤ (i 1).val ∧ (i 1).val < win0_7.index t 1 * 1024 + 1024
    omega

/-- What a point writes back is its block of the projection. -/
theorem flushed8 (t : Fin cfg0.N) : (dats m 0 c).flushed 8 t = ((cfg0.win 8).blk t).view.read (Elt Ideal) (mains m c) := by
  rw [Value.flushed8]
  funext j
  have h := index_eq t
  obtain ⟨r, n, rfl⟩ : ∃ (r : Fin 1024) (n : Fin 3072), j = ix2 r n := idx_pair j
  have key : ((cfg0.win 8).blk t).view.read (Elt Ideal) (mains m c) (ix2 r n) = mains m c (ix2 (rowOf t r) n) := by
    rw [View.read_apply]
    show mains m c _ = _
    congr 1
    funext a
    apply Fin.ext
    match a with
    | ⟨0, _⟩ => show win0_8.index t 0 * 1024 + 1 * r.val = 1024 * t.val + r.val; omega
    | ⟨1, _⟩ => show win0_8.index t 1 * 3072 + 1 * n.val = n.val; omega
  refine Eq.trans ?_ key.symm
  refine (out8_at _ _ _ _ _ _ _ r n).trans ?_
  exact congrArg₂ projected (normed_eq m c t r) (funext fun k => blk4 m c t k n)

/-- The projection, whole. -/
theorem final8 : (dats m 0 c).arrAt 8 cfg0.N = mains m c := by
  refine (dats m 0 c).arrAt_eq_of_cover 8 (mains m c) (fun t _ => flushed8 m c t) fun i => ?_
  have i0 : (i 0).val < 32768 := (i 0).isLt
  have i1 : (i 1).val < 3072 := (i 1).isLt
  let t : Fin cfg0.N := ⟨(i 0).val / 1024, by rw [show cfg0.N = 32 from N_0]; omega⟩
  have ht : t.val = (i 0).val / 1024 := rfl
  have h := index_eq t
  refine ⟨t, flush0_8 t, ?_⟩
  show i ∈ ((View.whole main_v13_1).slice (win0_8.rect t)).set
  rw [View.set_slice_whole, Rect.mem_set_unit]
  intro a
  match a with
  | ⟨0, _⟩ =>
    show win0_8.index t 0 * 1024 ≤ (i 0).val ∧ (i 0).val < win0_8.index t 0 * 1024 + 1024
    omega
  | ⟨1, _⟩ =>
    show win0_8.index t 1 * 3072 ≤ (i 1).val ∧ (i 1).val < win0_8.index t 1 * 3072 + 3072
    omega

/-- What a point writes back is its block of the extra columns. -/
theorem flushed9 (t : Fin cfg0.N) : (dats m 0 c).flushed 9 t = ((cfg0.win 9).blk t).view.read (Elt Ideal) (extras m c) := by
  rw [Value.flushed9]
  funext j
  have h := index_eq t
  obtain ⟨r, n, rfl⟩ : ∃ (r : Fin 1024) (n : Fin 128), j = ix2 r n := idx_pair j
  have key : ((cfg0.win 9).blk t).view.read (Elt Ideal) (extras m c) (ix2 r n) = extras m c (ix2 (rowOf t r) n) := by
    rw [View.read_apply]
    show extras m c _ = _
    congr 1
    funext a
    apply Fin.ext
    match a with
    | ⟨0, _⟩ => show win0_9.index t 0 * 1024 + 1 * r.val = 1024 * t.val + r.val; omega
    | ⟨1, _⟩ => show win0_9.index t 1 * 128 + 1 * n.val = n.val; omega
  refine Eq.trans ?_ key.symm
  refine (out9_at _ _ _ _ _ _ _ r n).trans ?_
  exact congrArg₂ projected (normed_eq m c t r) (funext fun k => blk5 m c t k n)

/-- The extra columns, whole. -/
theorem final9 : (dats m 0 c).arrAt 9 cfg0.N = extras m c := by
  refine (dats m 0 c).arrAt_eq_of_cover 9 (extras m c) (fun t _ => flushed9 m c t) fun i => ?_
  have i0 : (i 0).val < 32768 := (i 0).isLt
  have i1 : (i 1).val < 128 := (i 1).isLt
  let t : Fin cfg0.N := ⟨(i 0).val / 1024, by rw [show cfg0.N = 32 from N_0]; omega⟩
  have ht : t.val = (i 0).val / 1024 := rfl
  have h := index_eq t
  refine ⟨t, flush0_9 t, ?_⟩
  show i ∈ ((View.whole main_v13_2).slice (win0_9.rect t)).set
  rw [View.set_slice_whole, Rect.mem_set_unit]
  intro a
  match a with
  | ⟨0, _⟩ =>
    show win0_9.index t 0 * 1024 ≤ (i 0).val ∧ (i 0).val < win0_9.index t 0 * 1024 + 1024
    omega
  | ⟨1, _⟩ =>
    show win0_9.index t 1 * 128 ≤ (i 1).val ∧ (i 1).val < win0_9.index t 1 * 128 + 128
    omega

end

end Cert.Proof.Front
-- ==== Proof.FrontPrep.lean ====
/-
  THE ARRAYS THE FIRST PROJECTION IS HANDED. The host lays the batches' rows under each other, splits the projection's
  weights in the first 3072 columns and the last 16, and sets those 16 in 128 columns of zeros; each is read here at an
  index.
-/
module

public import proofs.«01_k».proof.Proof.FrontArray
public import Idealize.ShloMosaic.Lib.StableHlo.Run
public import Idealize.ShloMosaic.Lib.Routing.OpsSet
public import Idealize.ShloMosaic.Lib.Routing.OpsPair

@[expose] public section

set_option maxRecDepth 16384

noncomputable section

namespace Cert.Proof.Front

open Idealize.ShloMosaic Idealize.ShloMosaic.TcCoe Idealize.SL.Sem Cert.FrontIdeal Cert.FrontIdeal.Gen Idealize.ShloMosaic.StableHlo

/-- The extra columns' weights in 128 columns, as the host computes them. -/
def hostExtra (w : FVec Ideal S1024x3088 .f32) : FVec Ideal S1024x128 .f32 :=
  Host.scatter scatter_S1024x128_S1_S1024x16_01_n_1_0 (fun _ b => b)
    (broadcastInDim S1024x128 ![] bcast_S_S1024x128 (constant (F := Ideal) S_ .f32 0x00000000#32))
    (broadcastInDim S1 ![] bcast_S_S1 (constantI S_ 32 0#32))
    (extractStridedSlice S1024x16 ![0, 3072] w slices_S1024x3088_S1024x16_0_3072)

section
variable (m : (ℓ : Loc nD τ sig) → Buf (Elt Ideal) ℓ) (c : Dev nD)

/-- The stream's rows that the kernel finds. -/
theorem V_x : V m c main_v7 = shapeCast S32768x1024 (m ((c : Thread nD τ).loc main_arg0)) shapeCasts_S4x8192x1024_S32768x1024 := by
  unfold_abbrev_sides
  after_results
  rfl

/-- The gated output's rows that the kernel finds. -/
theorem V_g : V m c main_v9 = truncf (F := Ideal) .bf16 (shapeCast S32768x1024 (m ((c : Thread nD τ).loc main_arg1)) shapeCasts_S4x8192x1024_S32768x1024) bitsLt_bf16_f32 := by
  unfold_abbrev_sides
  after_results
  rfl

/-- The output projection's weights that the kernel finds. -/
theorem V_wo : V m c main_v11 = truncf (F := Ideal) .bf16 (m ((c : Thread nD τ).loc main_arg2)) bitsLt_bf16_f32 := by
  unfold_abbrev_sides
  after_results

/-- The gains that the kernel finds. -/
theorem V_nw : V m c main_v12 = shapeCast S1x1024 (m ((c : Thread nD τ).loc main_arg3)) shapeCasts_S1024_S1x1024 := by
  unfold_abbrev_sides
  after_results
  rfl

/-- The projection's weights that the kernel finds. -/
theorem V_w : V m c main_v1 = truncf (F := Ideal) .bf16 (extractStridedSlice S1024x3072 ![0, 0] (m ((c : Thread nD τ).loc main_arg4)) slices_S1024x3088_S1024x3072_0_0) bitsLt_bf16_f32 := by
  unfold_abbrev_sides
  after_results

/-- The extra columns' weights that the kernel finds. -/
theorem V_we : V m c main_v6 = truncf (F := Ideal) .bf16 (hostExtra (m ((c : Thread nD τ).loc main_arg4))) bitsLt_bf16_f32 := by
  unfold_abbrev_sides
  after_results
  rfl

end

/-- The projection's weights: the first 3072 columns. -/
theorem hostMain_at (w : FVec Ideal S1024x3088 .f32) (k : Fin 1024) (j : Fin 3072) :
    truncf (F := Ideal) .bf16 (extractStridedSlice S1024x3072 ![0, 0] w slices_S1024x3088_S1024x3072_0_0) bitsLt_bf16_f32 (ix2 k j)
      = w (ix2 k ⟨j.val, by omega⟩) := by
  pointwise

/-- Update `(k, j)` of the host's set lands at row `k`, column `j`. -/
theorem lands (a : Fin 1024) (b : Fin 16) (idx : IVec S1 32) (h0 : idx (ix1 0) = 0#32) (k : Fin 1024) (j : Fin 128) :
    scatter_S1024x128_S1_S1024x16_01_n_1_0.resultIdx? (ix2 a b) idx = some (ix2 k j) ↔ a = k ∧ b.val = j.val := by
  refine (Routing.resultIdx?_ix2 (R := 1024) (C := 128) scatter_S1024x128_S1_S1024x16_01_n_1_0 (ix2 a b) idx k j).trans ?_
  have s0 : scatter_S1024x128_S1_S1024x16_01_n_1_0.start (ix2 a b) idx 0 = 0 := rfl
  have s1 : scatter_S1024x128_S1_S1024x16_01_n_1_0.start (ix2 a b) idx 1 = 0 := by
    refine Eq.trans (congrArg (fun i => (idx i).toInt) (?_ : _ = ix1 0)) (by rw [h0]; rfl)
    funext d
    match d with
    | ⟨0, _⟩ => exact Subsingleton.elim (α := Fin 1) _ _
  have w0 : scatter_S1024x128_S1_S1024x16_01_n_1_0.window (ix2 a b) 0 = a.val := rfl
  have w1 : scatter_S1024x128_S1_S1024x16_01_n_1_0.window (ix2 a b) 1 = b.val := rfl
  rw [s0, s1, w0, w1, Fin.ext_iff]
  omega

/-- The host's extra columns: the last 16 columns of the weights, then zeros. -/
theorem hostExtra_at (w : FVec Ideal S1024x3088 .f32) (k : Fin 1024) (j : Fin 128) :
    hostExtra w (ix2 k j) = if h : j.val < 16 then w (ix2 k ⟨3072 + j.val, by omega⟩) else 0 := by
  unfold hostExtra
  split
  · rename_i h
    refine Routing.scatter_set_hit _ _ _ _ _ _ (fun i hi => ?_) (ix2 k ⟨j.val, h⟩) ((lands _ _ _ rfl k j).2 ⟨rfl, rfl⟩)
    obtain ⟨a, b, rfl⟩ : ∃ (a : Fin 1024) (b : Fin 16), i = ix2 a b := idx_pair i
    obtain ⟨rfl, hb⟩ := (lands a b _ rfl k j).1 hi
    refine congrArg w (funext fun d => Fin.ext ?_)
    match d with
    | ⟨0, _⟩ => show 0 + a.val = a.val; omega
    | ⟨1, _⟩ => show 3072 + b.val = 3072 + j.val; omega
  · rename_i h
    refine (Routing.scatter_set_miss _ _ _ _ _ (fun i hi => ?_)).trans ?_
    · obtain ⟨a, b, rfl⟩ : ∃ (a : Fin 1024) (b : Fin 16), i = ix2 a b := idx_pair i
      have := ((lands a b _ rfl k j).1 hi).2
      omega
    · pointwise

/-- A row against an extra column: against the weights' column, or nothing beyond the last 16. -/
theorem projected_extra (z : Fin 1024 → EReal) (w : FVec Ideal S1024x3088 .f32) (j : Fin 128) :
    projected z (fun k => truncf (F := Ideal) .bf16 (hostExtra w) bitsLt_bf16_f32 (ix2 k j))
      = if h : j.val < 16 then projected z (fun k => w (ix2 k ⟨3072 + j.val, by omega⟩)) else 0 := by
  have e : ∀ k, truncf (F := Ideal) .bf16 (hostExtra w) bitsLt_bf16_f32 (ix2 k j)
      = if h : j.val < 16 then w (ix2 k ⟨3072 + j.val, by omega⟩) else 0 := fun k => by
    rw [← hostExtra_at w k j]
    generalize hostExtra w = Y
    pointwise
  rw [show (fun k => truncf (F := Ideal) .bf16 (hostExtra w) bitsLt_bf16_f32 (ix2 k j)) = _ from funext e]
  split
  · rfl
  · unfold projected
    exact Finset.sum_eq_zero fun k _ => mul_zero _

end Cert.Proof.Front
-- ==== Proof.FrontEquation.lean ====
/-
  THE REFERENCE of the first projection, read at an index, and the equation: each element of the three arrays the kernel
  leaves is the reference's, the same sum in the same terms.
-/
module

public import proofs.«01_k».proof.Proof.FrontPrep
public import proofs.«01_k».proof.Proof.Gen.FrontReferenceIdeal.Read

@[expose] public section

set_option maxRecDepth 16384

noncomputable section

namespace Cert.Proof.Front

open Idealize.ShloMosaic Idealize.ShloMosaic.TcCoe Idealize.SL.Sem Cert.FrontReferenceIdeal Cert.FrontReferenceIdeal.Gen Cert.FrontReferenceIdeal.Read

section
variable (x g : FVec Ideal S4x8192x1024 .f32) (wo : FVec Ideal S1024x1024 .f32) (nw : FVec Ideal S1024 .f32) (w : FVec Ideal S1024x3088 .f32)

/-- The reference's row after the residual. -/
def refAdded (b : Fin 4) (s : Fin 8192) : Fin 1024 → EReal :=
  added (fun k => x (ix3 b s k)) (fun k => g (ix3 b s k)) (fun k n => wo (ix2 k n))

/-- The reference's row, normalised. -/
def refNormed (b : Fin 4) (s : Fin 8192) : Fin 1024 → EReal := normed (refAdded x g wo b s) (fun k => nw (ix1 k))

/-- The reference's stream after the residual. -/
theorem ref1_at (b : Fin 4) (s : Fin 8192) (n : Fin 1024) : val_main_v1 (F := Ideal) x g wo (ix3 b s n) = refAdded x g wo b s n := by
  pointwise [val_main_v1, val_main_v0, refAdded, added]

/-- The reference's stream, normalised. -/
theorem ref14_at (b : Fin 4) (s : Fin 8192) (n : Fin 1024) : val_main_v14 (F := Ideal) x g wo nw (ix3 b s n) = refNormed x g wo nw b s n := by
  unfold refNormed
  rw [show refAdded x g wo b s = fun k => val_main_v1 (F := Ideal) x g wo (ix3 b s k) from funext fun k => (ref1_at x g wo b s k).symm]
  unfold val_main_v14 val_main_v11 val_main_v10 val_main_v9 val_main_v8 val_main_v6 val_main_v4 val_main_v3 val_main_v2
  generalize val_main_v1 (F := Ideal) x g wo = Y
  pointwise [val_main_v13, val_main_v12, val_main_v7, val_main_v5, val_main_cst, val_main_cst_0, val_main_cst_1, normed]

/-- The reference's whole projection. -/
theorem ref15_at (b : Fin 4) (s : Fin 8192) (n : Fin 3088) : val_main_v15 (F := Ideal) x g wo nw w (ix3 b s n)
    = projected (refNormed x g wo nw b s) (fun k => w (ix2 k n)) := by
  rw [show refNormed x g wo nw b s = fun k => val_main_v14 (F := Ideal) x g wo nw (ix3 b s k) from funext fun k => (ref14_at x g wo nw b s k).symm]
  unfold val_main_v15
  generalize val_main_v14 (F := Ideal) x g wo nw = Y
  pointwise [projected]

/-- The reference's first result, the stream, a row per query. -/
theorem ref19_at (n : Fin 32768) (k : Fin 1024) : val_main_v19 (F := Ideal) x g wo (ix2 n k)
    = refAdded x g wo ⟨n.val / 8192, by omega⟩ ⟨n.val % 8192, by omega⟩ k := by
  rw [← ref1_at]
  unfold val_main_v19
  generalize val_main_v1 (F := Ideal) x g wo = Y
  pointwise

/-- The reference's second result, the first 3072 columns of the projection. -/
theorem ref22_at (n : Fin 32768) (k : Fin 3072) : val_main_v22 (F := Ideal) x g wo nw w (ix2 n k)
    = projected (refNormed x g wo nw ⟨n.val / 8192, by omega⟩ ⟨n.val % 8192, by omega⟩) (fun j => w (ix2 j ⟨k.val, by omega⟩)) := by
  rw [← ref15_at]
  unfold val_main_v22 val_main_v21 val_main_v20
  generalize val_main_v15 (F := Ideal) x g wo nw w = Y
  pointwise

/-- The reference's third result, the last 16 columns of the projection, then zeros. -/
theorem ref23_at (n : Fin 32768) (k : Fin 128) : val_main_v23 (F := Ideal) x g wo nw w (ix2 n k)
    = if h : k.val < 16 then
        projected (refNormed x g wo nw ⟨n.val / 8192, by omega⟩ ⟨n.val % 8192, by omega⟩) (fun j => w (ix2 j ⟨3072 + k.val, by omega⟩))
      else 0 := by
  simp only [← ref15_at]
  unfold val_main_v23 val_main_v18 val_main_v16
  generalize val_main_v15 (F := Ideal) x g wo nw w = Y
  pointwise [val_main_v17, val_main_cst_2]

end

section
variable (m : (ℓ : Loc Cert.FrontIdeal.nD Cert.FrontIdeal.τ Cert.FrontIdeal.sig) → Buf (Elt Ideal) ℓ) (c : Dev Cert.FrontIdeal.nD)

/-- The stream a launch is given. -/
abbrev argX : FVec Ideal S4x8192x1024 .f32 := m ((c : Thread Cert.FrontIdeal.nD Cert.FrontIdeal.τ).loc Cert.FrontIdeal.main_arg0)
/-- The gated output a launch is given. -/
abbrev argG : FVec Ideal S4x8192x1024 .f32 := m ((c : Thread Cert.FrontIdeal.nD Cert.FrontIdeal.τ).loc Cert.FrontIdeal.main_arg1)
/-- The output projection's weights a launch is given. -/
abbrev argWo : FVec Ideal S1024x1024 .f32 := m ((c : Thread Cert.FrontIdeal.nD Cert.FrontIdeal.τ).loc Cert.FrontIdeal.main_arg2)
/-- The gains a launch is given. -/
abbrev argNw : FVec Ideal S1024 .f32 := m ((c : Thread Cert.FrontIdeal.nD Cert.FrontIdeal.τ).loc Cert.FrontIdeal.main_arg3)
/-- The projection's weights a launch is given. -/
abbrev argW : FVec Ideal S1024x3088 .f32 := m ((c : Thread Cert.FrontIdeal.nD Cert.FrontIdeal.τ).loc Cert.FrontIdeal.main_arg4)

/-- A row of the kernel's stream after the residual is the reference's. -/
theorem rowAdded_eq (n : Fin 32768) : rowAdded m c n
    = refAdded (argX m c) (argG m c) (argWo m c) ⟨n.val / 8192, by omega⟩ ⟨n.val % 8192, by omega⟩ := by
  unfold rowAdded refAdded
  rw [V_x, V_g, V_wo]
  refine added_congr (funext fun k => ?_) (funext fun k => ?_) (funext fun k => funext fun j => ?_)
  · show shapeCast _ (argX m c) _ _ = _
    generalize argX m c = x
    pointwise
  · show truncf _ (shapeCast _ (argG m c) _) _ _ = _
    generalize argG m c = x
    pointwise
  · rfl

/-- A normalised row of the kernel is the reference's. -/
theorem rowNormed_eq (n : Fin 32768) : rowNormed m c n
    = refNormed (argX m c) (argG m c) (argWo m c) (argNw m c) ⟨n.val / 8192, by omega⟩ ⟨n.val % 8192, by omega⟩ := by
  unfold rowNormed refNormed
  rw [rowAdded_eq, V_nw]
  refine congrArg (normed _) (funext fun k => ?_)
  show shapeCast _ (argNw m c) _ _ = _
  generalize argNw m c = x
  pointwise

/-- The stream the kernel leaves is the reference's. -/
theorem stream_eq : val_main_v19 (F := Ideal) (argX m c) (argG m c) (argWo m c) = stream m c := by
  funext i
  obtain ⟨n, k, rfl⟩ : ∃ (n : Fin 32768) (k : Fin 1024), i = ix2 n k := idx_pair i
  exact (ref19_at _ _ _ n k).trans (congrFun (rowAdded_eq m c n) k).symm

/-- The projection the kernel leaves is the reference's. -/
theorem mains_eq : val_main_v22 (F := Ideal) (argX m c) (argG m c) (argWo m c) (argNw m c) (argW m c) = mains m c := by
  funext i
  obtain ⟨n, k, rfl⟩ : ∃ (n : Fin 32768) (k : Fin 3072), i = ix2 n k := idx_pair i
  refine (ref22_at _ _ _ _ _ n k).trans (congrArg₂ projected (rowNormed_eq m c n).symm (funext fun j => ?_))
  rw [V_w]
  exact (hostMain_at (argW m c) j k).symm

/-- The extra columns the kernel leaves are the reference's: beyond the last 16 the weights are zeros, so the sum is. -/
theorem extras_eq : val_main_v23 (F := Ideal) (argX m c) (argG m c) (argWo m c) (argNw m c) (argW m c) = extras m c := by
  funext i
  obtain ⟨n, k, rfl⟩ : ∃ (n : Fin 32768) (k : Fin 128), i = ix2 n k := idx_pair i
  refine (ref23_at _ _ _ _ _ n k).trans ?_
  rw [← rowNormed_eq]
  refine (projected_extra (rowNormed m c n) (argW m c) k).symm.trans ?_
  exact congrArg (projected (rowNormed m c n)) (funext fun j => (congrFun (V_we m c) (ix2 j k)).symm)

end

end Cert.Proof.Front
-- ==== Proof.FoxRow.lean ====
/-
  ONE ROW of the attention layer's first projection, and what one grid point computes of it. As in the other layers the
  previous layer's output projection is added to the residual stream and the row is normalised and projected; here the
  queries' and keys' heads, 128 columns each, are normalised once more. The printed expressions are read at an element.
-/
module

public import proofs.«01_k».proof.Proof.Gen.FoxIdeal.Skeleton
public import proofs.«01_k».proof.Proof.FrontBlock

@[expose] public section

set_option maxRecDepth 16384

noncomputable section

namespace Cert.Proof.Fox

open Idealize.ShloMosaic Idealize.SL.Sem Cert.FoxIdeal Cert.FoxIdeal.Gen Cert.Proof.Front

/-- One head's columns, normalised: each over the root of the head's mean square (with the small constant), times the gain. -/
def headNormed (s g : Fin 128 → EReal) (n : Fin 128) : EReal :=
  s n * Ideal.rsqrt (Ideal.div (∑ k, s k * s k) (Ideal.ofBits .f32 0x43000000#32) + Ideal.ofBits .f32 0x358637BD#32) * g n

/-- The top half's sum. -/
theorem pay4_at (x : FVec Ideal S512x1024 .f32) (g : FVec Ideal S512x1024 .bf16) (wo : FVec Ideal S1024x1024 .bf16) (r : Fin 512) (n : Fin 1024) :
    k0_pay4 (F := Ideal) x g wo (ix2 r n) = added (fun k => x (ix2 r k)) (fun k => g (ix2 r k)) (fun k n => wo (ix2 k n)) n := by
  pointwise [k0_pay4, added]

/-- The bottom half's sum. -/
theorem pay6_at (x : FVec Ideal S512x1024 .f32) (g : FVec Ideal S512x1024 .bf16) (wo : FVec Ideal S1024x1024 .bf16) (r : Fin 512) (n : Fin 1024) :
    k0_pay6 (F := Ideal) x g wo (ix2 r n) = added (fun k => x (ix2 r k)) (fun k => g (ix2 r k)) (fun k n => wo (ix2 k n)) n := by
  pointwise [k0_pay6, added]

/-- The top half, normalised. -/
theorem pay5_at (x : FVec Ideal S512x1024 .f32) (g : FVec Ideal S512x1024 .bf16) (wo : FVec Ideal S1024x1024 .bf16)
    (nw : FVec Ideal S1x1024 .f32) (r : Fin 512) (n : Fin 1024) :
    k0_pay5 (F := Ideal) x g wo nw (ix2 r n)
      = normed (added (fun k => x (ix2 r k)) (fun k => g (ix2 r k)) (fun k n => wo (ix2 k n))) (fun k => nw (ix2 0 k)) n := by
  rw [show added (fun k => x (ix2 r k)) (fun k => g (ix2 r k)) (fun k n => wo (ix2 k n)) = fun n => k0_pay4 (F := Ideal) x g wo (ix2 r n)
    from funext fun n => (pay4_at x g wo r n).symm]
  unfold k0_pay5
  generalize k0_pay4 (F := Ideal) x g wo = Y
  pointwise [normed]

/-- The two halves under each other, the bottom one normalised. -/
theorem pay8_at (v : FVec Ideal S512x1024 .bf16) (x : FVec Ideal S512x1024 .f32) (g : FVec Ideal S512x1024 .bf16)
    (wo : FVec Ideal S1024x1024 .bf16) (nw : FVec Ideal S1x1024 .f32) (r n : Fin 1024) :
    k0_pay8 (F := Ideal) v (k0_pay6 x g wo) (k0_pay7 x g wo) nw (ix2 r n)
      = if h : r.val < 512 then v (ix2 ⟨r.val, h⟩ n)
        else normed (fun k => k0_pay6 (F := Ideal) x g wo (ix2 ⟨r.val - 512, by omega⟩ k)) (fun k => nw (ix2 0 k)) n := by
  unfold k0_pay7
  generalize k0_pay6 (F := Ideal) x g wo = Y
  pointwise [k0_pay8, normed]

/-- The first tile of the projection. -/
theorem pay19_at (z : FVec Ideal S1024x1024 .bf16) (w : FVec Ideal S1024x512 .bf16) (r : Fin 1024) (n : Fin 512) :
    k0_pay19 (F := Ideal) z w (ix2 r n) = projected (fun k => z (ix2 r k)) (fun k => w (ix2 k n)) := by
  pointwise [k0_pay19, projected]

/-- The second tile of the projection. -/
theorem pay25_at (z : FVec Ideal S1024x1024 .bf16) (w : FVec Ideal S1024x512 .bf16) (r : Fin 1024) (n : Fin 512) :
    k0_pay25 (F := Ideal) z w (ix2 r n) = projected (fun k => z (ix2 r k)) (fun k => w (ix2 k n)) := by
  pointwise [k0_pay25, projected]

/-- The third tile of the projection. -/
theorem pay32_at (z : FVec Ideal S1024x1024 .bf16) (w : FVec Ideal S1024x512 .bf16) (r : Fin 1024) (n : Fin 512) :
    k0_pay32 (F := Ideal) z w (ix2 r n) = projected (fun k => z (ix2 r k)) (fun k => w (ix2 k n)) := by
  pointwise [k0_pay32, projected]

/-- The fourth tile of the projection. -/
theorem pay41_at (z : FVec Ideal S1024x1024 .bf16) (w : FVec Ideal S1024x512 .bf16) (r : Fin 1024) (n : Fin 512) :
    k0_pay41 (F := Ideal) z w (ix2 r n) = projected (fun k => z (ix2 r k)) (fun k => w (ix2 k n)) := by
  pointwise [k0_pay41, projected]

/-- The fifth tile of the projection. -/
theorem pay48_at (z : FVec Ideal S1024x1024 .bf16) (w : FVec Ideal S1024x512 .bf16) (r : Fin 1024) (n : Fin 512) :
    k0_pay48 (F := Ideal) z w (ix2 r n) = projected (fun k => z (ix2 r k)) (fun k => w (ix2 k n)) := by
  pointwise [k0_pay48, projected]

/-- The sixth tile of the projection. -/
theorem pay53_at (z : FVec Ideal S1024x1024 .bf16) (w : FVec Ideal S1024x512 .bf16) (r : Fin 1024) (n : Fin 512) :
    k0_pay53 (F := Ideal) z w (ix2 r n) = projected (fun k => z (ix2 r k)) (fun k => w (ix2 k n)) := by
  pointwise [k0_pay53, projected]

/-- The seventh tile of the projection. -/
theorem pay58_at (z : FVec Ideal S1024x1024 .bf16) (w : FVec Ideal S1024x512 .bf16) (r : Fin 1024) (n : Fin 512) :
    k0_pay58 (F := Ideal) z w (ix2 r n) = projected (fun k => z (ix2 r k)) (fun k => w (ix2 k n)) := by
  pointwise [k0_pay58, projected]

/-- The eighth tile of the projection. -/
theorem pay63_at (z : FVec Ideal S1024x1024 .bf16) (w : FVec Ideal S1024x512 .bf16) (r : Fin 1024) (n : Fin 512) :
    k0_pay63 (F := Ideal) z w (ix2 r n) = projected (fun k => z (ix2 r k)) (fun k => w (ix2 k n)) := by
  pointwise [k0_pay63, projected]

/-- The first tile, columns 0 to 127. -/
theorem pay20_at (z : FVec Ideal S1024x1024 .bf16) (w : FVec Ideal S1024x512 .bf16) (g : FVec Ideal S1x128 .f32) (r : Fin 1024) (n : Fin 128) :
    k0_pay20 (F := Ideal) z w g (ix2 r n)
      = headNormed (fun q => k0_pay19 (F := Ideal) z w (ix2 r ⟨q.val, by omega⟩)) (fun q => g (ix2 0 q)) n := by
  unfold k0_pay20
  generalize k0_pay19 (F := Ideal) z w = Y
  pointwise [headNormed]

/-- The first tile, columns 128 to 255. -/
theorem pay22_at (z : FVec Ideal S1024x1024 .bf16) (w : FVec Ideal S1024x512 .bf16) (g : FVec Ideal S1x128 .f32) (r : Fin 1024) (n : Fin 128) :
    k0_pay22 (F := Ideal) (k0_pay21 z w) g (ix2 r n)
      = headNormed (fun q => k0_pay19 (F := Ideal) z w (ix2 r ⟨128 + q.val, by omega⟩)) (fun q => g (ix2 0 q)) n := by
  unfold k0_pay22 k0_pay21
  generalize k0_pay19 (F := Ideal) z w = Y
  pointwise [headNormed]

/-- The first tile, columns 256 to 383. -/
theorem pay23_at (T : FVec Ideal S1024x512 .f32) (g : FVec Ideal S1x128 .f32) (r : Fin 1024) (n : Fin 128) :
    k0_pay23 (F := Ideal) T g (ix2 r n)
      = headNormed (fun q => T (ix2 r ⟨256 + q.val, by omega⟩)) (fun q => g (ix2 0 q)) n := by
  pointwise [k0_pay23, headNormed]

/-- The first tile, columns 384 to 511. -/
theorem pay24_at (T : FVec Ideal S1024x512 .f32) (g : FVec Ideal S1x128 .f32) (r : Fin 1024) (n : Fin 128) :
    k0_pay24 (F := Ideal) T g (ix2 r n)
      = headNormed (fun q => T (ix2 r ⟨384 + q.val, by omega⟩)) (fun q => g (ix2 0 q)) n := by
  pointwise [k0_pay24, headNormed]

/-- The second tile, columns 0 to 127. -/
theorem pay26_at (z : FVec Ideal S1024x1024 .bf16) (w : FVec Ideal S1024x512 .bf16) (g : FVec Ideal S1x128 .f32) (r : Fin 1024) (n : Fin 128) :
    k0_pay26 (F := Ideal) z w g (ix2 r n)
      = headNormed (fun q => k0_pay25 (F := Ideal) z w (ix2 r ⟨q.val, by omega⟩)) (fun q => g (ix2 0 q)) n := by
  unfold k0_pay26
  generalize k0_pay25 (F := Ideal) z w = Y
  pointwise [headNormed]

/-- The second tile, columns 128 to 255. -/
theorem pay27_at (z : FVec Ideal S1024x1024 .bf16) (w : FVec Ideal S1024x512 .bf16) (g : FVec Ideal S1x128 .f32) (r : Fin 1024) (n : Fin 128) :
    k0_pay27 (F := Ideal) z w g (ix2 r n)
      = headNormed (fun q => k0_pay25 (F := Ideal) z w (ix2 r ⟨128 + q.val, by omega⟩)) (fun q => g (ix2 0 q)) n := by
  unfold k0_pay27
  generalize k0_pay25 (F := Ideal) z w = Y
  pointwise [headNormed]

/-- The second tile, columns 256 to 383. -/
theorem pay30_at (z : FVec Ideal S1024x1024 .bf16) (w : FVec Ideal S1024x512 .bf16) (g : FVec Ideal S1x128 .f32) (r : Fin 1024) (n : Fin 128) :
    k0_pay30 (F := Ideal) (k0_pay28 z w) (k0_pay29 z w) g (ix2 r n)
      = headNormed (fun q => k0_pay25 (F := Ideal) z w (ix2 r ⟨256 + q.val, by omega⟩)) (fun q => g (ix2 0 q)) n := by
  unfold k0_pay30 k0_pay29 k0_pay28
  generalize k0_pay25 (F := Ideal) z w = Y
  pointwise [headNormed]

/-- The second tile, columns 384 to 511. -/
theorem pay31_at (T : FVec Ideal S1024x512 .f32) (g : FVec Ideal S1x128 .f32) (r : Fin 1024) (n : Fin 128) :
    k0_pay31 (F := Ideal) T g (ix2 r n)
      = headNormed (fun q => T (ix2 r ⟨384 + q.val, by omega⟩)) (fun q => g (ix2 0 q)) n := by
  pointwise [k0_pay31, headNormed]

/-- The third tile, columns 0 to 127. -/
theorem pay36_at (z : FVec Ideal S1024x1024 .bf16) (w : FVec Ideal S1024x512 .bf16) (g : FVec Ideal S1x128 .f32) (r : Fin 1024) (n : Fin 128) :
    k0_pay36 (F := Ideal) (k0_pay33 z w) (k0_pay34 z w) k0_pay35 g (ix2 r n)
      = headNormed (fun q => k0_pay32 (F := Ideal) z w (ix2 r ⟨q.val, by omega⟩)) (fun q => g (ix2 0 q)) n := by
  unfold k0_pay36 k0_pay35 k0_pay34 k0_pay33
  generalize k0_pay32 (F := Ideal) z w = Y
  pointwise [headNormed]

/-- The third tile, columns 128 to 255. -/
theorem pay37_at (T : FVec Ideal S1024x512 .f32) (g : FVec Ideal S1x128 .f32) (r : Fin 1024) (n : Fin 128) :
    k0_pay37 (F := Ideal) T g (ix2 r n)
      = headNormed (fun q => T (ix2 r ⟨128 + q.val, by omega⟩)) (fun q => g (ix2 0 q)) n := by
  pointwise [k0_pay37, headNormed]

/-- The third tile, columns 256 to 383. -/
theorem pay39_at (T : FVec Ideal S1024x512 .f32) (g : FVec Ideal S1x128 .f32) (r : Fin 1024) (n : Fin 128) :
    k0_pay39 (F := Ideal) (k0_pay38 T) g (ix2 r n)
      = headNormed (fun q => T (ix2 r ⟨256 + q.val, by omega⟩)) (fun q => g (ix2 0 q)) n := by
  pointwise [k0_pay39, k0_pay38, headNormed]

/-- The third tile, columns 384 to 511. -/
theorem pay40_at (T : FVec Ideal S1024x512 .f32) (g : FVec Ideal S1x128 .f32) (r : Fin 1024) (n : Fin 128) :
    k0_pay40 (F := Ideal) T g (ix2 r n)
      = headNormed (fun q => T (ix2 r ⟨384 + q.val, by omega⟩)) (fun q => g (ix2 0 q)) n := by
  pointwise [k0_pay40, headNormed]

/-- The fourth tile, columns 0 to 127. -/
theorem pay42_at (z : FVec Ideal S1024x1024 .bf16) (w : FVec Ideal S1024x512 .bf16) (g : FVec Ideal S1x128 .f32) (r : Fin 1024) (n : Fin 128) :
    k0_pay42 (F := Ideal) z w g (ix2 r n)
      = headNormed (fun q => k0_pay41 (F := Ideal) z w (ix2 r ⟨q.val, by omega⟩)) (fun q => g (ix2 0 q)) n := by
  unfold k0_pay42
  generalize k0_pay41 (F := Ideal) z w = Y
  pointwise [headNormed]

/-- The fourth tile, columns 128 to 255. -/
theorem pay43_at (T : FVec Ideal S1024x512 .f32) (g : FVec Ideal S1x128 .f32) (r : Fin 1024) (n : Fin 128) :
    k0_pay43 (F := Ideal) T g (ix2 r n)
      = headNormed (fun q => T (ix2 r ⟨128 + q.val, by omega⟩)) (fun q => g (ix2 0 q)) n := by
  pointwise [k0_pay43, headNormed]

/-- The fourth tile, columns 256 to 383. -/
theorem pay44_at (T : FVec Ideal S1024x512 .f32) (g : FVec Ideal S1x128 .f32) (r : Fin 1024) (n : Fin 128) :
    k0_pay44 (F := Ideal) T g (ix2 r n)
      = headNormed (fun q => T (ix2 r ⟨256 + q.val, by omega⟩)) (fun q => g (ix2 0 q)) n := by
  pointwise [k0_pay44, headNormed]

/-- The fourth tile, columns 384 to 511. -/
theorem pay47_at (T : FVec Ideal S1024x512 .f32) (g : FVec Ideal S1x128 .f32) (r : Fin 1024) (n : Fin 128) :
    k0_pay47 (F := Ideal) (k0_pay45 T) (k0_pay46 T) (Scalar.ofBits .f32 0x43000000#32) g (ix2 r n)
      = headNormed (fun q => T (ix2 r ⟨384 + q.val, by omega⟩)) (fun q => g (ix2 0 q)) n := by
  pointwise [k0_pay47, k0_pay45, k0_pay46, headNormed]

/-- The fifth tile, columns 0 to 127. -/
theorem pay49_at (z : FVec Ideal S1024x1024 .bf16) (w : FVec Ideal S1024x512 .bf16) (r : Fin 1024) (n : Fin 128) :
    k0_pay49 (F := Ideal) z w (ix2 r n)
      = k0_pay48 (F := Ideal) z w (ix2 r ⟨n.val, by omega⟩) := by
  unfold k0_pay49
  generalize k0_pay48 (F := Ideal) z w = Y
  pointwise

/-- The fifth tile, columns 128 to 255. -/
theorem pay50_at (z : FVec Ideal S1024x1024 .bf16) (w : FVec Ideal S1024x512 .bf16) (r : Fin 1024) (n : Fin 128) :
    k0_pay50 (F := Ideal) z w (ix2 r n)
      = k0_pay48 (F := Ideal) z w (ix2 r ⟨128 + n.val, by omega⟩) := by
  unfold k0_pay50
  generalize k0_pay48 (F := Ideal) z w = Y
  pointwise

/-- The fifth tile, columns 256 to 383. -/
theorem pay51_at (z : FVec Ideal S1024x1024 .bf16) (w : FVec Ideal S1024x512 .bf16) (r : Fin 1024) (n : Fin 128) :
    k0_pay51 (F := Ideal) z w (ix2 r n)
      = k0_pay48 (F := Ideal) z w (ix2 r ⟨256 + n.val, by omega⟩) := by
  unfold k0_pay51
  generalize k0_pay48 (F := Ideal) z w = Y
  pointwise

/-- The fifth tile, columns 384 to 511. -/
theorem pay52_at (z : FVec Ideal S1024x1024 .bf16) (w : FVec Ideal S1024x512 .bf16) (r : Fin 1024) (n : Fin 128) :
    k0_pay52 (F := Ideal) z w (ix2 r n)
      = k0_pay48 (F := Ideal) z w (ix2 r ⟨384 + n.val, by omega⟩) := by
  unfold k0_pay52
  generalize k0_pay48 (F := Ideal) z w = Y
  pointwise

/-- The sixth tile, columns 0 to 127. -/
theorem pay54_at (z : FVec Ideal S1024x1024 .bf16) (w : FVec Ideal S1024x512 .bf16) (r : Fin 1024) (n : Fin 128) :
    k0_pay54 (F := Ideal) z w (ix2 r n)
      = k0_pay53 (F := Ideal) z w (ix2 r ⟨n.val, by omega⟩) := by
  unfold k0_pay54
  generalize k0_pay53 (F := Ideal) z w = Y
  pointwise

/-- The sixth tile, columns 128 to 255. -/
theorem pay55_at (T : FVec Ideal S1024x512 .f32) (r : Fin 1024) (n : Fin 128) :
    k0_pay55 (F := Ideal) T (ix2 r n)
      = T (ix2 r ⟨128 + n.val, by omega⟩) := by
  pointwise [k0_pay55]

/-- The sixth tile, columns 256 to 383. -/
theorem pay56_at (T : FVec Ideal S1024x512 .f32) (r : Fin 1024) (n : Fin 128) :
    k0_pay56 (F := Ideal) T (ix2 r n)
      = T (ix2 r ⟨256 + n.val, by omega⟩) := by
  pointwise [k0_pay56]

/-- The sixth tile, columns 384 to 511. -/
theorem pay57_at (T : FVec Ideal S1024x512 .f32) (r : Fin 1024) (n : Fin 128) :
    k0_pay57 (F := Ideal) T (ix2 r n)
      = T (ix2 r ⟨384 + n.val, by omega⟩) := by
  pointwise [k0_pay57]

/-- The seventh tile, columns 0 to 127. -/
theorem pay59_at (z : FVec Ideal S1024x1024 .bf16) (w : FVec Ideal S1024x512 .bf16) (r : Fin 1024) (n : Fin 128) :
    k0_pay59 (F := Ideal) z w (ix2 r n)
      = k0_pay58 (F := Ideal) z w (ix2 r ⟨n.val, by omega⟩) := by
  unfold k0_pay59
  generalize k0_pay58 (F := Ideal) z w = Y
  pointwise

/-- The seventh tile, columns 128 to 255. -/
theorem pay60_at (z : FVec Ideal S1024x1024 .bf16) (w : FVec Ideal S1024x512 .bf16) (r : Fin 1024) (n : Fin 128) :
    k0_pay60 (F := Ideal) z w (ix2 r n)
      = k0_pay58 (F := Ideal) z w (ix2 r ⟨128 + n.val, by omega⟩) := by
  unfold k0_pay60
  generalize k0_pay58 (F := Ideal) z w = Y
  pointwise

/-- The seventh tile, columns 256 to 383. -/
theorem pay61_at (z : FVec Ideal S1024x1024 .bf16) (w : FVec Ideal S1024x512 .bf16) (r : Fin 1024) (n : Fin 128) :
    k0_pay61 (F := Ideal) z w (ix2 r n)
      = k0_pay58 (F := Ideal) z w (ix2 r ⟨256 + n.val, by omega⟩) := by
  unfold k0_pay61
  generalize k0_pay58 (F := Ideal) z w = Y
  pointwise

/-- The seventh tile, columns 384 to 511. -/
theorem pay62_at (z : FVec Ideal S1024x1024 .bf16) (w : FVec Ideal S1024x512 .bf16) (r : Fin 1024) (n : Fin 128) :
    k0_pay62 (F := Ideal) z w (ix2 r n)
      = k0_pay58 (F := Ideal) z w (ix2 r ⟨384 + n.val, by omega⟩) := by
  unfold k0_pay62
  generalize k0_pay58 (F := Ideal) z w = Y
  pointwise

/-- The eighth tile, columns 0 to 127. -/
theorem pay64_at (z : FVec Ideal S1024x1024 .bf16) (w : FVec Ideal S1024x512 .bf16) (r : Fin 1024) (n : Fin 128) :
    k0_pay64 (F := Ideal) z w (ix2 r n)
      = k0_pay63 (F := Ideal) z w (ix2 r ⟨n.val, by omega⟩) := by
  unfold k0_pay64
  generalize k0_pay63 (F := Ideal) z w = Y
  pointwise

/-- The eighth tile, columns 128 to 255. -/
theorem pay1_at (T : FVec Ideal S1024x512 .f32) (r : Fin 1024) (n : Fin 128) :
    k0_pay1 (F := Ideal) T (ix2 r n)
      = T (ix2 r ⟨128 + n.val, by omega⟩) := by
  pointwise [k0_pay1]

/-- The eighth tile, columns 256 to 383. -/
theorem pay2_at (T : FVec Ideal S1024x512 .f32) (r : Fin 1024) (n : Fin 128) :
    k0_pay2 (F := Ideal) T (ix2 r n)
      = T (ix2 r ⟨256 + n.val, by omega⟩) := by
  pointwise [k0_pay2]

/-- The eighth tile, columns 384 to 511. -/
theorem pay3_at (T : FVec Ideal S1024x512 .f32) (r : Fin 1024) (n : Fin 128) :
    k0_pay3 (F := Ideal) T (ix2 r n)
      = T (ix2 r ⟨384 + n.val, by omega⟩) := by
  pointwise [k0_pay3]

end Cert.Proof.Fox
-- ==== Proof.FoxScan.lean ====
/-
  THE RUNNING SUM of the forget gates' logarithms. Over the 1024 rows of a block the kernel adds every column to itself,
  rotated down by 1, 2, 4, … 512 rows and masked above: after the step by `s` a row holds the sum of the `2 s` rows that
  end in it, so after ten steps it holds the sum of all rows up to it.
-/
module

public import proofs.«01_k».proof.Proof.FoxRow

@[expose] public section

set_option maxRecDepth 16384

noncomputable section

namespace Cert.Proof.Fox

open Idealize.ShloMosaic Idealize.SL.Sem Cert.FoxIdeal Cert.FoxIdeal.Gen Cert.Proof.Front

/-- One doubling step of a scan along the rows: every row plus the row `s` above it, where there is one. -/
def step (s : BitVec 32) (x : FVec Ideal S1024x128 .f32) : FVec Ideal S1024x128 .f32 :=
  addf x (select (cmpi .sge k0_pay12 (broadcast S1024x128 s)) (dynamicRotate 0 s none x rotates_S1024x128_d0)
    (broadcast S1024x128 (Scalar.ofBits .f32 0x00000000#32)))

/-- The scan by 16 to 512 rows, with the sums carried from the rows before the block. -/
theorem pay15_eq (x : FVec Ideal S1024x128 .f32) (c : FVec Ideal S1x128 .f32) :
    k0_pay15 (F := Ideal) k0_pay12 x k0_pay14 16#32 c
      = addf (step 512#32 (step 256#32 (step 128#32 (step 64#32 (step 32#32 (step 16#32 x))))))
          (broadcastTo S1024x128 c broadcasts_S1x128_S1024x128) := rfl

/-- The mask: of two numbers below 1024, as 32-bit words, the first (its lowest ten bits) is at least the second. -/
theorem mask_at (r s : ℕ) (hr : r < 1024) (hs : s < 1024) :
    IntOp.cmpi .sge (IntOp.andi (BitVec.ofNat 32 r) 1023#32) (BitVec.ofNat 32 s) = if s ≤ r then 1#1 else 0#1 := by
  have h1 : IntOp.andi (BitVec.ofNat 32 r) 1023#32 = BitVec.ofNat 32 r := by
    apply BitVec.eq_of_toNat_eq
    show (BitVec.ofNat 32 r &&& 1023#32).toNat = _
    rw [BitVec.toNat_and, BitVec.toNat_ofNat, BitVec.toNat_ofNat, Nat.mod_eq_of_lt (by omega : r < 2 ^ 32)]
    exact (Nat.and_two_pow_sub_one_eq_mod r 10).trans (Nat.mod_eq_of_lt hr)
  have e : ∀ n : ℕ, n < 1024 → (BitVec.ofNat 32 n).toInt = n := fun n hn => by
    rw [BitVec.toInt_eq_toNat_of_lt (by rw [BitVec.toNat_ofNat]; omega), BitVec.toNat_ofNat, Nat.mod_eq_of_lt (by omega)]
  rw [h1]
  by_cases h : s ≤ r
  · simp [IntOp.cmpi, BitVec.sle, e r hr, e s hs, h]
  · simp [IntOp.cmpi, BitVec.sle, e r hr, e s hs, h]

/-- A doubling step at an element. -/
theorem step_at (s : ℕ) (hs : s < 1024) (x : FVec Ideal S1024x128 .f32) (r : Fin 1024) (n : Fin 128) :
    step (BitVec.ofNat 32 s) x (ix2 r n) = x (ix2 r n) + if s ≤ r.val then x (ix2 ⟨r.val - s, by omega⟩ n) else 0 := by
  pointwise [step, k0_pay12]
  rw [mask_at r.val s r.isLt hs]
  by_cases h : s ≤ r.val
  · rw [if_pos h, if_pos h]
    have e : (⟨(r.val + 1024 - (BitVec.ofNat 32 s).toNat % 1024) % 1024, Nat.mod_lt _ (by omega)⟩ : Fin 1024) = ⟨r.val - s, by omega⟩ := by
      apply Fin.ext
      show (r.val + 1024 - (BitVec.ofNat 32 s).toNat % 1024) % 1024 = r.val - s
      rw [BitVec.toNat_ofNat]
      omega
    rw [e]
    rfl
  · rw [if_neg h, if_neg h]
    rfl

/-- The step by `L` doubles the number of rows a row sums up. -/
theorem step_doubles (f : ℕ → EReal) (n : Fin 128) (L : ℕ) (hL : L < 1024) (x : FVec Ideal S1024x128 .f32)
    (h : ∀ r : Fin 1024, x (ix2 r n) = ∑ i ∈ Finset.Ico (r.val + 1 - L) (r.val + 1), f i) (r : Fin 1024) :
    step (BitVec.ofNat 32 L) x (ix2 r n) = ∑ i ∈ Finset.Ico (r.val + 1 - 2 * L) (r.val + 1), f i := by
  rw [step_at L hL]
  by_cases hr : L ≤ r.val
  · rw [if_pos hr, h r, h ⟨r.val - L, by omega⟩, add_comm]
    show (∑ i ∈ Finset.Ico (r.val - L + 1 - L) (r.val - L + 1), f i) + _ = _
    rw [show r.val - L + 1 = r.val + 1 - L by omega, show r.val + 1 - L - L = r.val + 1 - 2 * L by omega]
    exact Finset.sum_Ico_consecutive f (by omega) (by omega)
  · rw [if_neg hr, h r, add_zero, show r.val + 1 - L = 0 by omega, show r.val + 1 - 2 * L = 0 by omega]

/-- The logarithm of the forget gate, to base two, as the kernel computes it: of the gate's logit `t`, `x = −t` and
    `m = max x 0`. -/
def gate (t : EReal) : EReal :=
  (0 - (max (0 - t) 0 + Ideal.log (1 + Ideal.exp (0 - FloatOps.absf (F := Ideal) (φ := .f32) (0 - t))))) * Named.named (F := Ideal) (φ := .f32) κ "log2e" 0x3FB8AA3B#32

/-- The gates before the scan. -/
def gates (a b : FVec Ideal S1024x128 .f32) : FVec Ideal S1024x128 .f32 :=
  mulf (subf (broadcast S1024x128 (Scalar.ofBits .f32 0x00000000#32)) (addf b (log (addf (broadcast S1024x128 (Scalar.ofBits .f32 0x3F800000#32))
     (exp (subf (broadcast S1024x128 (Scalar.ofBits .f32 0x00000000#32)) (absf a))))))) (broadcast S1024x128 (Named.named κ "log2e" 0x3FB8AA3B#32))

/-- The gates and the scan by 1 to 8 rows. -/
theorem pay13_eq (a b : FVec Ideal S1024x128 .f32) :
    k0_pay13 (F := Ideal) a b = step 8#32 (step 4#32 (step 2#32 (step 1#32 (gates a b)))) := rfl

/-- One row's gate logits: the projection onto the extra weights, plus the bias. -/
def logit (z : Fin 1024 → EReal) (w : Fin 1024 → EReal) (b : EReal) : EReal := projected z w + b

/-- The gates at an element. -/
theorem gates_at (v : FVec Ideal S512x1024 .bf16) (x y : FVec Ideal S512x1024 .f32) (nw : FVec Ideal S1x1024 .f32)
    (we : FVec Ideal S1024x128 .bf16) (b : FVec Ideal S1x128 .f32) (r : Fin 1024) (n : Fin 128) :
    gates (k0_pay10 (F := Ideal) v x y nw we b) (k0_pay11 (F := Ideal) v x y nw we b) (ix2 r n)
      = gate (logit (fun k => k0_pay8 (F := Ideal) v x y nw (ix2 r k)) (fun k => we (ix2 k n)) (b (ix2 0 n))) := by
  unfold k0_pay11 k0_pay10
  generalize k0_pay8 (F := Ideal) v x y nw = Z
  pointwise [gates, gate, logit, projected]

/-- The ten steps together, at an element: the sum of the rows up to this one. -/
theorem steps_at (f : ℕ → EReal) (n : Fin 128) (x : FVec Ideal S1024x128 .f32) (h : ∀ r : Fin 1024, x (ix2 r n) = f r.val) (r : Fin 1024) :
    step 512#32 (step 256#32 (step 128#32 (step 64#32 (step 32#32 (step 16#32 (step 8#32 (step 4#32 (step 2#32 (step 1#32 x))))))))) (ix2 r n)
      = ∑ i ∈ Finset.range (r.val + 1), f i := by
  have h1 : ∀ r : Fin 1024, x (ix2 r n) = ∑ i ∈ Finset.Ico (r.val + 1 - 1) (r.val + 1), f i := fun r => by
    rw [h r, Nat.add_sub_cancel, Nat.Ico_succ_singleton, Finset.sum_singleton]
  have h2 := step_doubles f n 1 (by omega) _ h1
  have h4 := step_doubles f n 2 (by omega) _ h2
  have h8 := step_doubles f n 4 (by omega) _ h4
  have h16 := step_doubles f n 8 (by omega) _ h8
  have h32 := step_doubles f n 16 (by omega) _ h16
  have h64 := step_doubles f n 32 (by omega) _ h32
  have h128 := step_doubles f n 64 (by omega) _ h64
  have h256 := step_doubles f n 128 (by omega) _ h128
  have h512 := step_doubles f n 256 (by omega) _ h256
  have h1024 := step_doubles f n 512 (by omega) _ h512 r
  rw [show r.val + 1 - 2 * 512 = 0 by omega, ← Finset.range_eq_Ico] at h1024
  exact h1024

/-- The whole scan of a block at an element: the carried sum plus the gates of the block's rows up to this one. -/
theorem scan_at (f : ℕ → EReal) (n : Fin 128) (a b : FVec Ideal S1024x128 .f32) (c : FVec Ideal S1x128 .f32)
    (h : ∀ r : Fin 1024, gates a b (ix2 r n) = f r.val) (r : Fin 1024) :
    k0_pay15 (F := Ideal) k0_pay12 (k0_pay13 a b) k0_pay14 16#32 c (ix2 r n)
      = (∑ i ∈ Finset.range (r.val + 1), f i) + c (ix2 0 n) := by
  rw [pay15_eq, pay13_eq, ← steps_at f n (gates a b) h r]
  generalize step 512#32 _ = Y
  pointwise

/-- What the block leaves for the next one: the scan's last row. -/
theorem pay17_at (x : FVec Ideal S1024x128 .f32) (c : FVec Ideal S1x128 .f32) (n : Fin 128) :
    k0_pay17 (F := Ideal) (k0_pay16 k0_pay12 x k0_pay14 16#32 c) (ix2 0 n)
      = k0_pay15 (F := Ideal) k0_pay12 x k0_pay14 16#32 c (ix2 ⟨1023, by omega⟩ n) := by
  unfold k0_pay16
  generalize k0_pay15 (F := Ideal) k0_pay12 x k0_pay14 16#32 c = Y
  pointwise [k0_pay17]

/-- The first eight columns, as rows. -/
theorem pay18_at (x : FVec Ideal S1024x128 .f32) (h : Fin 8) (r : Fin 1024) :
    k0_pay18 (F := Ideal) x (ix3 0 h r) = x (ix2 r ⟨h.val, by omega⟩) := by
  pointwise [k0_pay18]

/-- The reset sums. -/
theorem pay9_at (n : Fin 128) : k0_pay9 (F := Ideal) (ix2 0 n) = 0 := by
  pointwise [k0_pay9]

end Cert.Proof.Fox
-- ==== Proof.FoxBlock.lean ====
/-
  ONE GRID POINT of the attention layer's first projection: what the four blocks a point leaves hold, and what it carries
  to the next one, as functions of the rows of the blocks it is handed. At the first point of a sequence the carried sums
  are reset; at the others they are the previous point's.
-/
module

public import proofs.«01_k».proof.Proof.FoxScan
public import proofs.«01_k».proof.Proof.Gen.FoxIdeal.Frame

@[expose] public section

set_option maxRecDepth 16384

noncomputable section

namespace Cert.Proof.Fox

open Idealize.ShloMosaic Idealize.SL.Sem Cert.FoxIdeal Cert.FoxIdeal.Gen
open Cert.Proof.Front (added normed projected idx_pair added_congr blockAdded blockNormed ld_rows)

theorem hz2 : (![0, 0] : Fin 2 → Nat) = fun _ => 0 := funext fun a => by fin_cases a <;> rfl
theorem hz3 : (![0, 0, 0] : Fin 3 → Nat) = fun _ => 0 := funext fun a => by fin_cases a <;> rfl

/-- Half of a block's rows. -/
abbrev half {e : EltTy} (x : S1024x1024.Idx → Elt Ideal e) (b : ℕ)
    (inb : ∀ a, (![b, 0] : Fin 2 → ℕ) a + S512x1024.size a ≤ S1024x1024.size a) : S512x1024.Idx → Elt Ideal e :=
  View.ld (Val := Elt Ideal) (e' := e) x (Rect.unit (s := S1024x1024) ![b, 0] S512x1024.size inb)

section
variable (x0 : FVec Ideal S1024x1024 .f32) (x1 x2 : FVec Ideal S1024x1024 .bf16) (x3 : FVec Ideal S1x1024 .f32)
  (x4 : FVec Ideal S1024x4096 .bf16) (x5 : FVec Ideal S1024x128 .bf16) (x6 : FVec Ideal S1x2048 .f32) (x7 : FVec Ideal S1x128 .f32)

/-- The top half's rows after the residual. -/
theorem top (r : Fin 512) (r' : Fin 1024) (hr : r'.val = 0 + r.val) :
    added (fun k => half (e := .f32) x0 0 inb_S1024x1024_S512x1024_0_0 (ix2 r k)) (fun k => half (e := .bf16) x1 0 inb_S1024x1024_S512x1024_0_0 (ix2 r k))
      (fun k n => x2 (ix2 k n)) = blockAdded x0 x1 x2 r' := by
  unfold blockAdded
  exact added_congr (funext fun k => ld_rows (e := .f32) x0 0 _ rfl _ r k r' hr) (funext fun k => ld_rows (e := .bf16) x1 0 _ rfl _ r k r' hr) rfl

/-- The bottom half's rows after the residual. -/
theorem bottom (r : Fin 512) (r' : Fin 1024) (hr : r'.val = 512 + r.val) :
    added (fun k => half (e := .f32) x0 512 inb_S1024x1024_S512x1024_512_0 (ix2 r k)) (fun k => half (e := .bf16) x1 512 inb_S1024x1024_S512x1024_512_0 (ix2 r k))
      (fun k n => x2 (ix2 k n)) = blockAdded x0 x1 x2 r' := by
  unfold blockAdded
  exact added_congr (funext fun k => ld_rows (e := .f32) x0 512 _ rfl _ r k r' hr) (funext fun k => ld_rows (e := .bf16) x1 512 _ rfl _ r k r' hr) rfl

/-- The block's rows, normalised, as they are printed. -/
def zs : FVec Ideal S1024x1024 .bf16 :=
  k0_pay8 (k0_pay5 (half (e := .f32) x0 0 inb_S1024x1024_S512x1024_0_0) (half (e := .bf16) x1 0 inb_S1024x1024_S512x1024_0_0) x2 x3)
    (k0_pay6 (half (e := .f32) x0 512 inb_S1024x1024_S512x1024_512_0) (half (e := .bf16) x1 512 inb_S1024x1024_S512x1024_512_0) x2)
    (k0_pay7 (half (e := .f32) x0 512 inb_S1024x1024_S512x1024_512_0) (half (e := .bf16) x1 512 inb_S1024x1024_S512x1024_512_0) x2) x3

/-- The two halves, normalised, are the block's rows normalised. -/
theorem zs_at (r n : Fin 1024) : zs x0 x1 x2 x3 (ix2 r n) = blockNormed x0 x1 x2 x3 r n := by
  unfold zs
  rw [pay8_at]
  unfold blockNormed
  split
  · rename_i h
    rw [pay5_at]
    exact congrArg (fun y => normed y _ n) (top x0 x1 x2 ⟨r.val, h⟩ r (Nat.zero_add _).symm)
  · rename_i h
    refine congrArg (fun y => normed y _ n) (funext fun k => ?_)
    rw [pay6_at]
    exact congrFun (bottom x0 x1 x2 ⟨r.val - 512, by omega⟩ r (by show r.val = 512 + (r.val - 512); omega)) k

/-- The scan of the block's gates over the carried sums, as it is printed. -/
def scanned (carry : FVec Ideal S1x128 .f32) : FVec Ideal S1024x128 .f32 :=
  k0_pay15 k0_pay12 (k0_pay13
    (k0_pay10 (k0_pay5 (half (e := .f32) x0 0 inb_S1024x1024_S512x1024_0_0) (half (e := .bf16) x1 0 inb_S1024x1024_S512x1024_0_0) x2 x3)
      (k0_pay6 (half (e := .f32) x0 512 inb_S1024x1024_S512x1024_512_0) (half (e := .bf16) x1 512 inb_S1024x1024_S512x1024_512_0) x2)
      (k0_pay7 (half (e := .f32) x0 512 inb_S1024x1024_S512x1024_512_0) (half (e := .bf16) x1 512 inb_S1024x1024_S512x1024_512_0) x2) x3 x5 x7)
    (k0_pay11 (k0_pay5 (half (e := .f32) x0 0 inb_S1024x1024_S512x1024_0_0) (half (e := .bf16) x1 0 inb_S1024x1024_S512x1024_0_0) x2 x3)
      (k0_pay6 (half (e := .f32) x0 512 inb_S1024x1024_S512x1024_512_0) (half (e := .bf16) x1 512 inb_S1024x1024_S512x1024_512_0) x2)
      (k0_pay7 (half (e := .f32) x0 512 inb_S1024x1024_S512x1024_512_0) (half (e := .bf16) x1 512 inb_S1024x1024_S512x1024_512_0) x2) x3 x5 x7))
    k0_pay14 16#32 carry

/-- What the scan leaves for the next block, as it is printed. -/
def left (carry : FVec Ideal S1x128 .f32) : FVec Ideal S1x128 .f32 :=
  k0_pay17 (k0_pay16 k0_pay12 (k0_pay13
    (k0_pay10 (k0_pay5 (half (e := .f32) x0 0 inb_S1024x1024_S512x1024_0_0) (half (e := .bf16) x1 0 inb_S1024x1024_S512x1024_0_0) x2 x3)
      (k0_pay6 (half (e := .f32) x0 512 inb_S1024x1024_S512x1024_512_0) (half (e := .bf16) x1 512 inb_S1024x1024_S512x1024_512_0) x2)
      (k0_pay7 (half (e := .f32) x0 512 inb_S1024x1024_S512x1024_512_0) (half (e := .bf16) x1 512 inb_S1024x1024_S512x1024_512_0) x2) x3 x5 x7)
    (k0_pay11 (k0_pay5 (half (e := .f32) x0 0 inb_S1024x1024_S512x1024_0_0) (half (e := .bf16) x1 0 inb_S1024x1024_S512x1024_0_0) x2 x3)
      (k0_pay6 (half (e := .f32) x0 512 inb_S1024x1024_S512x1024_512_0) (half (e := .bf16) x1 512 inb_S1024x1024_S512x1024_512_0) x2)
      (k0_pay7 (half (e := .f32) x0 512 inb_S1024x1024_S512x1024_512_0) (half (e := .bf16) x1 512 inb_S1024x1024_S512x1024_512_0) x2) x3 x5 x7))
    k0_pay14 16#32 carry)

/-- The gate of a block's row. -/
def blockGate (r : Fin 1024) (n : Fin 128) : EReal :=
  gate (logit (blockNormed x0 x1 x2 x3 r) (fun k => x5 (ix2 k n)) (x7 (ix2 0 n)))

/-- The scan at an element. -/
theorem scanned_at (carry : FVec Ideal S1x128 .f32) (f : ℕ → EReal) (n : Fin 128) (h : ∀ r : Fin 1024, blockGate x0 x1 x2 x3 x5 x7 r n = f r.val)
    (r : Fin 1024) : scanned x0 x1 x2 x3 x5 x7 carry (ix2 r n) = (∑ i ∈ Finset.range (r.val + 1), f i) + carry (ix2 0 n) := by
  unfold scanned
  refine scan_at f n _ _ carry (fun r => ?_) r
  rw [gates_at, ← h r]
  unfold blockGate
  exact congrArg (fun z => gate (logit z _ _)) (funext fun k => zs_at x0 x1 x2 x3 r k)

/-- What is left for the next block: the scan's last row. -/
theorem left_at (carry : FVec Ideal S1x128 .f32) (n : Fin 128) :
    left x0 x1 x2 x3 x5 x7 carry (ix2 0 n) = scanned x0 x1 x2 x3 x5 x7 carry (ix2 ⟨1023, by omega⟩ n) := by
  unfold left scanned
  exact pay17_at _ _ n

/-- A column of the projection's result: of the queries' and keys' heads normalised, of the others as it is. -/
def column (z : Fin 1024 → EReal) (w : Fin 1024 → Fin 4096 → EReal) (g : Fin 2048 → EReal) (n : Fin 4096) : EReal :=
  if h : n.val < 2048 then
    headNormed (fun q => projected z (fun k => w k ⟨128 * (n.val / 128) + q.val, by omega⟩))
      (fun q => g ⟨128 * (n.val / 128) + q.val, by omega⟩) ⟨n.val % 128, Nat.mod_lt _ (by omega)⟩
  else projected z (fun k => w k n)

end

/-- Equal columns and gains have equal normalised heads. -/
theorem headNormed_congr {s s' g g' : Fin 128 → EReal} {n n' : Fin 128} (hs : s = s') (hg : g = g') (hn : n = n') :
    headNormed s g n = headNormed s' g' n' := by
  subst hs hg hn
  rfl

/-- A strip of 128 columns that is one head's is the normalised head. -/
theorem head_eq (z : FVec Ideal S1024x1024 .bf16) (w : FVec Ideal S1024x4096 .bf16) (g : FVec Ideal S1x2048 .f32) (b i h : ℕ)
    (T : FVec Ideal S1024x512 .f32) (r : Fin 1024) (n : Fin 128) (o : Fin 128 → Fin 512) (hi : ∀ q, (o q).val = i + q.val)
    {offb offo offg : Fin 2 → ℕ} (hb : offb = ![0, b]) (ho : offo = ![0, b + i]) (hg : offg = ![0, b + i]) (hh : b + i = 128 * h) (h16 : h < 16)
    (inb : ∀ a, offb a + S1024x512.size a ≤ S1024x4096.size a) (ino : ∀ a, offo a + S1024x128.size a ≤ S1024x4096.size a)
    (ing : ∀ a, offg a + S1x128.size a ≤ S1x2048.size a)
    (hT : ∀ q, T (ix2 r q) = projected (fun k => z (ix2 r k))
      (fun k => View.ld (Val := Elt Ideal) (e' := .bf16) w (Rect.unit (s := S1024x4096) offb S1024x512.size inb) (ix2 k q))) :
    headNormed (fun q => T (ix2 r (o q)))
        (fun q => View.ld (Val := Elt Ideal) (e' := .f32) g (Rect.unit (s := S1x2048) offg S1x128.size ing) (ix2 0 q)) n
      = (fun j : S1024x4096.Idx => column (fun k => z (ix2 (j 0) k)) (fun k n => w (ix2 k n)) (fun n => g (ix2 0 n)) (j 1))
          ((Rect.unit (s := S1024x4096) offo S1024x128.size ino).emb (ix2 r n)) := by
  subst hb ho hg
  have e0 : ((Rect.unit (s := S1024x4096) ![0, b + i] S1024x128.size ino).emb (ix2 r n)) 0 = r := Fin.ext (by show 0 + 1 * r.val = r.val; omega)
  have e1 : (((Rect.unit (s := S1024x4096) ![0, b + i] S1024x128.size ino).emb (ix2 r n)) 1).val = 128 * h + n.val := by
    show b + i + 1 * n.val = _; omega
  dsimp only
  generalize hj : ((Rect.unit (s := S1024x4096) ![0, b + i] S1024x128.size ino).emb (ix2 r n)) = j at e0 e1
  unfold column
  have hn := n.isLt
  rw [dif_pos (by omega)]
  refine headNormed_congr (funext fun q => ?_) (funext fun q => congrArg g (funext fun a => Fin.ext ?_)) (Fin.ext ?_)
  · rw [hT]
    refine congrArg₂ projected (funext fun k => congrArg (fun r' => z (ix2 r' k)) e0.symm) (funext fun k => congrArg w (funext fun a => Fin.ext ?_))
    have := hi q
    match a with
    | ⟨0, _⟩ => show 0 + 1 * k.val = k.val; omega
    | ⟨1, _⟩ => show b + 1 * (o q).val = 128 * ((j 1).val / 128) + q.val; omega
  · match a with
    | ⟨0, _⟩ => rfl
    | ⟨1, _⟩ => show b + i + 1 * q.val = 128 * ((j 1).val / 128) + q.val; omega
  · show n.val = (j 1).val % 128; omega

/-- A strip of 128 columns that is not normalised is the projection at the strip's place. -/
theorem plain_eq (z : FVec Ideal S1024x1024 .bf16) (w : FVec Ideal S1024x4096 .bf16) (g : FVec Ideal S1x2048 .f32) (b i : ℕ)
    (T : FVec Ideal S1024x512 .f32) (r : Fin 1024) (n : Fin 128) (o : Fin 512) (hi : o.val = i + n.val)
    {offb offo : Fin 2 → ℕ} (hb : offb = ![0, b]) (ho : offo = ![0, b + i]) (hh : 2048 ≤ b + i)
    (inb : ∀ a, offb a + S1024x512.size a ≤ S1024x4096.size a) (ino : ∀ a, offo a + S1024x128.size a ≤ S1024x4096.size a)
    (hT : ∀ q, T (ix2 r q) = projected (fun k => z (ix2 r k))
      (fun k => View.ld (Val := Elt Ideal) (e' := .bf16) w (Rect.unit (s := S1024x4096) offb S1024x512.size inb) (ix2 k q))) :
    T (ix2 r o)
      = (fun j : S1024x4096.Idx => column (fun k => z (ix2 (j 0) k)) (fun k n => w (ix2 k n)) (fun n => g (ix2 0 n)) (j 1))
          ((Rect.unit (s := S1024x4096) offo S1024x128.size ino).emb (ix2 r n)) := by
  subst hb ho
  have e0 : ((Rect.unit (s := S1024x4096) ![0, b + i] S1024x128.size ino).emb (ix2 r n)) 0 = r := Fin.ext (by show 0 + 1 * r.val = r.val; omega)
  have e1 : (((Rect.unit (s := S1024x4096) ![0, b + i] S1024x128.size ino).emb (ix2 r n)) 1).val = b + i + n.val := by
    show b + i + 1 * n.val = _; omega
  dsimp only
  generalize hj : ((Rect.unit (s := S1024x4096) ![0, b + i] S1024x128.size ino).emb (ix2 r n)) = j at e0 e1
  unfold column
  rw [dif_neg (by omega), hT]
  refine congrArg₂ projected (funext fun k => congrArg (fun r' => z (ix2 r' k)) e0.symm) (funext fun k => congrArg w (funext fun a => Fin.ext ?_))
  match a with
  | ⟨0, _⟩ => show 0 + 1 * k.val = k.val; omega
  | ⟨1, _⟩ => show b + 1 * o.val = (j 1).val; omega

section
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1x2048 .f32) (harg7 : arg7.IsWhole) (arg8 : Memref sig .tc .vmem S1x128 .f32) (harg8 : arg8.IsWhole) (arg9 : Memref sig .tc .vmem S1024x1024 .f32) (harg9 : arg9.IsWhole) (arg10 : Memref sig .tc .vmem S1024x4096 .bf16) (harg10 : arg10.IsWhole) (arg11 : Memref sig .tc .vmem S1024x128 .f32) (harg11 : arg11.IsWhole) (arg12 : Memref sig .tc .vmem S1x8x1024 .f32) (harg12 : arg12.IsWhole) (arg13 : Memref sig .tc .vmem S1x128 .f32) (harg13 : arg13.IsWhole) (hc0 : cond0_0 i)
  (x0 : FVec Ideal S1024x1024 .f32) (x1 x2 : FVec Ideal S1024x1024 .bf16) (x3 : FVec Ideal S1x1024 .f32) (x4 : FVec Ideal S1024x4096 .bf16) (x5 : FVec Ideal S1024x128 .bf16) (x6 : FVec Ideal S1x2048 .f32) (x7 : FVec Ideal S1x128 .f32)

/-- What the first point of a sequence leaves of the gates' sums. -/
theorem out10_A : out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = scanned x0 x1 x2 x3 x5 x7 k0_pay9 := by
  unfold out0_A_10
  refine (View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)).trans ?_
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2, View.readCov_unit_zero (S := S1x128) _ hz2]
  rfl

/-- What the first point of a sequence leaves of the gates' sums, head by head. -/
theorem out11_A : out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay18 (scanned x0 x1 x2 x3 x5 x7 k0_pay9) := by
  unfold out0_A_11
  refine (View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)).trans ?_
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2, View.readCov_unit_zero (S := S1x128) _ hz2]
  rfl

/-- What the first point of a sequence carries to the next one. -/
theorem sout_A : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = left x0 x1 x2 x3 x5 x7 k0_pay9 := by
  unfold sout0_A_0
  refine (View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)).trans ?_
  unfold kernelRun0_A
  dsimp only
  sl_unfold_words
  rw [View.canon_cons_unit_zero hz2]
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2, View.readCov_unit_zero (S := S1x128) _ hz2]
  rfl

/-- What the first point of a sequence leaves of the stream. -/
theorem out8_A (r n : Fin 1024) : out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 r n) = blockAdded x0 x1 x2 r n := by
  unfold out0_A_8
  refine (congrFun (View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)) _).trans ?_
  refine View.canon_apply_of_pieces (Val := Elt Ideal) (e := .f32) (fun j : S1024x1024.Idx => blockAdded x0 x1 x2 (j 0) (j 1)) _ ?_ (ix2 r n)
    (cover0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 _)
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2, List.forall_mem_cons]
  refine ⟨?_, ?_, fun _ h => absurd h List.not_mem_nil⟩ <;> intro j <;> obtain ⟨r, n, rfl⟩ := idx_pair j
  · refine (pay6_at _ _ _ r n).trans ((congrFun (bottom x0 x1 x2 r ⟨512 + r.val, by omega⟩ rfl) n).trans ?_)
    refine congrArg₂ (blockAdded x0 x1 x2) (Fin.ext ?_) (Fin.ext ?_)
    · show 512 + r.val = 512 + 1 * r.val; omega
    · show n.val = 0 + 1 * n.val; omega
  · refine (pay4_at _ _ _ r n).trans ((congrFun (top x0 x1 x2 r ⟨r.val, by omega⟩ (Nat.zero_add _).symm) n).trans ?_)
    refine congrArg₂ (blockAdded x0 x1 x2) (Fin.ext ?_) (Fin.ext ?_)
    · show r.val = 0 + 1 * r.val; omega
    · show n.val = 0 + 1 * n.val; omega

/-- What the first point of a sequence leaves of the projection. -/
theorem out9_A (r : Fin 1024) (n : Fin 4096) : out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 r n)
    = column (blockNormed x0 x1 x2 x3 r) (fun k n => x4 (ix2 k n)) (fun n => x6 (ix2 0 n)) n := by
  rw [show blockNormed x0 x1 x2 x3 r = fun k => zs x0 x1 x2 x3 (ix2 r k) from funext fun k => (zs_at x0 x1 x2 x3 r k).symm]
  unfold out0_A_9
  refine (congrFun (View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7)) _).trans ?_
  refine View.canon_apply_of_pieces (Val := Elt Ideal) (e := .bf16) (fun j : S1024x4096.Idx =>
    column (fun k => zs x0 x1 x2 x3 (ix2 (j 0) k)) (fun k n => x4 (ix2 k n)) (fun n => x6 (ix2 0 n)) (j 1)) _ ?_ (ix2 r n)
    (cover0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 _)
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2, List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩ <;> intro j <;> obtain ⟨r, n, rfl⟩ := idx_pair j
  · exact (pay3_at _ r n).trans (plain_eq (zs x0 x1 x2 x3) x4 x6 3584 384 (k0_pay63 (zs x0 x1 x2 x3) _) r n _ rfl rfl rfl (by omega) _ _ (pay63_at _ _ r))
  · exact (pay2_at _ r n).trans (plain_eq (zs x0 x1 x2 x3) x4 x6 3584 256 (k0_pay63 (zs x0 x1 x2 x3) _) r n _ rfl rfl rfl (by omega) _ _ (pay63_at _ _ r))
  · exact (pay1_at _ r n).trans (plain_eq (zs x0 x1 x2 x3) x4 x6 3584 128 (k0_pay63 (zs x0 x1 x2 x3) _) r n _ rfl rfl rfl (by omega) _ _ (pay63_at _ _ r))
  · exact (pay64_at _ _ r n).trans (plain_eq (zs x0 x1 x2 x3) x4 x6 3584 0 (k0_pay63 (zs x0 x1 x2 x3) _) r n _ (Nat.zero_add _).symm rfl rfl (by omega) _ _ (pay63_at _ _ r))
  · exact (pay62_at _ _ r n).trans (plain_eq (zs x0 x1 x2 x3) x4 x6 3072 384 (k0_pay58 (zs x0 x1 x2 x3) _) r n _ rfl rfl rfl (by omega) _ _ (pay58_at _ _ r))
  · exact (pay61_at _ _ r n).trans (plain_eq (zs x0 x1 x2 x3) x4 x6 3072 256 (k0_pay58 (zs x0 x1 x2 x3) _) r n _ rfl rfl rfl (by omega) _ _ (pay58_at _ _ r))
  · exact (pay60_at _ _ r n).trans (plain_eq (zs x0 x1 x2 x3) x4 x6 3072 128 (k0_pay58 (zs x0 x1 x2 x3) _) r n _ rfl rfl rfl (by omega) _ _ (pay58_at _ _ r))
  · exact (pay59_at _ _ r n).trans (plain_eq (zs x0 x1 x2 x3) x4 x6 3072 0 (k0_pay58 (zs x0 x1 x2 x3) _) r n _ (Nat.zero_add _).symm rfl rfl (by omega) _ _ (pay58_at _ _ r))
  · exact (pay57_at _ r n).trans (plain_eq (zs x0 x1 x2 x3) x4 x6 2560 384 (k0_pay53 (zs x0 x1 x2 x3) _) r n _ rfl rfl rfl (by omega) _ _ (pay53_at _ _ r))
  · exact (pay56_at _ r n).trans (plain_eq (zs x0 x1 x2 x3) x4 x6 2560 256 (k0_pay53 (zs x0 x1 x2 x3) _) r n _ rfl rfl rfl (by omega) _ _ (pay53_at _ _ r))
  · exact (pay55_at _ r n).trans (plain_eq (zs x0 x1 x2 x3) x4 x6 2560 128 (k0_pay53 (zs x0 x1 x2 x3) _) r n _ rfl rfl rfl (by omega) _ _ (pay53_at _ _ r))
  · exact (pay54_at _ _ r n).trans (plain_eq (zs x0 x1 x2 x3) x4 x6 2560 0 (k0_pay53 (zs x0 x1 x2 x3) _) r n _ (Nat.zero_add _).symm rfl rfl (by omega) _ _ (pay53_at _ _ r))
  · exact (pay52_at _ _ r n).trans (plain_eq (zs x0 x1 x2 x3) x4 x6 2048 384 (k0_pay48 (zs x0 x1 x2 x3) _) r n _ rfl rfl rfl (by omega) _ _ (pay48_at _ _ r))
  · exact (pay51_at _ _ r n).trans (plain_eq (zs x0 x1 x2 x3) x4 x6 2048 256 (k0_pay48 (zs x0 x1 x2 x3) _) r n _ rfl rfl rfl (by omega) _ _ (pay48_at _ _ r))
  · exact (pay50_at _ _ r n).trans (plain_eq (zs x0 x1 x2 x3) x4 x6 2048 128 (k0_pay48 (zs x0 x1 x2 x3) _) r n _ rfl rfl rfl (by omega) _ _ (pay48_at _ _ r))
  · exact (pay49_at _ _ r n).trans (plain_eq (zs x0 x1 x2 x3) x4 x6 2048 0 (k0_pay48 (zs x0 x1 x2 x3) _) r n _ (Nat.zero_add _).symm rfl rfl (by omega) _ _ (pay48_at _ _ r))
  · exact (pay47_at _ _ r n).trans (head_eq (zs x0 x1 x2 x3) x4 x6 1536 384 15 (k0_pay41 (zs x0 x1 x2 x3) _) r n _ (fun _ => rfl) rfl rfl rfl rfl (by omega) _ _ _ (pay41_at _ _ r))
  · exact (pay44_at _ _ r n).trans (head_eq (zs x0 x1 x2 x3) x4 x6 1536 256 14 (k0_pay41 (zs x0 x1 x2 x3) _) r n _ (fun _ => rfl) rfl rfl rfl rfl (by omega) _ _ _ (pay41_at _ _ r))
  · exact (pay43_at _ _ r n).trans (head_eq (zs x0 x1 x2 x3) x4 x6 1536 128 13 (k0_pay41 (zs x0 x1 x2 x3) _) r n _ (fun _ => rfl) rfl rfl rfl rfl (by omega) _ _ _ (pay41_at _ _ r))
  · exact (pay42_at _ _ _ r n).trans (head_eq (zs x0 x1 x2 x3) x4 x6 1536 0 12 (k0_pay41 (zs x0 x1 x2 x3) _) r n _ (fun _ => (Nat.zero_add _).symm) rfl rfl rfl rfl (by omega) _ _ _ (pay41_at _ _ r))
  · exact (pay40_at _ _ r n).trans (head_eq (zs x0 x1 x2 x3) x4 x6 1024 384 11 (k0_pay32 (zs x0 x1 x2 x3) _) r n _ (fun _ => rfl) rfl rfl rfl rfl (by omega) _ _ _ (pay32_at _ _ r))
  · exact (pay39_at _ _ r n).trans (head_eq (zs x0 x1 x2 x3) x4 x6 1024 256 10 (k0_pay32 (zs x0 x1 x2 x3) _) r n _ (fun _ => rfl) rfl rfl rfl rfl (by omega) _ _ _ (pay32_at _ _ r))
  · exact (pay37_at _ _ r n).trans (head_eq (zs x0 x1 x2 x3) x4 x6 1024 128 9 (k0_pay32 (zs x0 x1 x2 x3) _) r n _ (fun _ => rfl) rfl rfl rfl rfl (by omega) _ _ _ (pay32_at _ _ r))
  · exact (pay36_at _ _ _ r n).trans (head_eq (zs x0 x1 x2 x3) x4 x6 1024 0 8 (k0_pay32 (zs x0 x1 x2 x3) _) r n _ (fun _ => (Nat.zero_add _).symm) rfl rfl rfl rfl (by omega) _ _ _ (pay32_at _ _ r))
  · exact (pay31_at _ _ r n).trans (head_eq (zs x0 x1 x2 x3) x4 x6 512 384 7 (k0_pay25 (zs x0 x1 x2 x3) _) r n _ (fun _ => rfl) rfl rfl rfl rfl (by omega) _ _ _ (pay25_at _ _ r))
  · exact (pay30_at _ _ _ r n).trans (head_eq (zs x0 x1 x2 x3) x4 x6 512 256 6 (k0_pay25 (zs x0 x1 x2 x3) _) r n _ (fun _ => rfl) rfl rfl rfl rfl (by omega) _ _ _ (pay25_at _ _ r))
  · exact (pay27_at _ _ _ r n).trans (head_eq (zs x0 x1 x2 x3) x4 x6 512 128 5 (k0_pay25 (zs x0 x1 x2 x3) _) r n _ (fun _ => rfl) rfl rfl rfl rfl (by omega) _ _ _ (pay25_at _ _ r))
  · exact (pay26_at _ _ _ r n).trans (head_eq (zs x0 x1 x2 x3) x4 x6 512 0 4 (k0_pay25 (zs x0 x1 x2 x3) _) r n _ (fun _ => (Nat.zero_add _).symm) rfl rfl rfl rfl (by omega) _ _ _ (pay25_at _ _ r))
  · exact (pay24_at _ _ r n).trans (head_eq (zs x0 x1 x2 x3) x4 x6 0 384 3 (k0_pay19 (zs x0 x1 x2 x3) _) r n _ (fun _ => rfl) rfl rfl rfl rfl (by omega) _ _ _ (pay19_at _ _ r))
  · exact (pay23_at _ _ r n).trans (head_eq (zs x0 x1 x2 x3) x4 x6 0 256 2 (k0_pay19 (zs x0 x1 x2 x3) _) r n _ (fun _ => rfl) rfl rfl rfl rfl (by omega) _ _ _ (pay19_at _ _ r))
  · exact (pay22_at _ _ _ r n).trans (head_eq (zs x0 x1 x2 x3) x4 x6 0 128 1 (k0_pay19 (zs x0 x1 x2 x3) _) r n _ (fun _ => rfl) rfl rfl rfl rfl (by omega) _ _ _ (pay19_at _ _ r))
  · exact (pay20_at _ _ _ r n).trans (head_eq (zs x0 x1 x2 x3) x4 x6 0 0 0 (k0_pay19 (zs x0 x1 x2 x3) _) r n _ (fun _ => (Nat.zero_add _).symm) rfl rfl rfl rfl (by omega) _ _ _ (pay19_at _ _ r))

end

section
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S1x2048 .f32) (harg7 : arg7.IsWhole) (arg8 : Memref sig .tc .vmem S1x128 .f32) (harg8 : arg8.IsWhole) (arg9 : Memref sig .tc .vmem S1024x1024 .f32) (harg9 : arg9.IsWhole) (arg10 : Memref sig .tc .vmem S1024x4096 .bf16) (harg10 : arg10.IsWhole) (arg11 : Memref sig .tc .vmem S1024x128 .f32) (harg11 : arg11.IsWhole) (arg12 : Memref sig .tc .vmem S1x8x1024 .f32) (harg12 : arg12.IsWhole) (arg13 : Memref sig .tc .vmem S1x128 .f32) (harg13 : arg13.IsWhole) (hc0 : ¬cond0_0 i)
  (x0 : FVec Ideal S1024x1024 .f32) (x1 x2 : FVec Ideal S1024x1024 .bf16) (x3 : FVec Ideal S1x1024 .f32) (x4 : FVec Ideal S1024x4096 .bf16) (x5 : FVec Ideal S1024x128 .bf16) (x6 : FVec Ideal S1x2048 .f32) (x7 : FVec Ideal S1x128 .f32) (xs0 : FVec Ideal S1x128 .f32)

/-- What the later point leaves of the gates' sums. -/
theorem out10_B : out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = scanned x0 x1 x2 x3 x5 x7 xs0 := by
  unfold out0_B_10
  refine (View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0)).trans ?_
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2]
  rfl

/-- What the later point leaves of the gates' sums, head by head. -/
theorem out11_B : out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = k0_pay18 (scanned x0 x1 x2 x3 x5 x7 xs0) := by
  unfold out0_B_11
  refine (View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0)).trans ?_
  unfold kernelRun0_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2]
  rfl

/-- What the later point carries to the next one. -/
theorem sout_B : sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = left x0 x1 x2 x3 x5 x7 xs0 := by
  unfold sout0_B_0
  refine (View.read_writes_eq_canon _ _ _ (scover0_B_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0)).trans ?_
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2]
  rfl

/-- What the later point leaves of the stream. -/
theorem out8_B (r n : Fin 1024) : out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 (ix2 r n) = blockAdded x0 x1 x2 r n := by
  unfold out0_B_8
  refine (congrFun (View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0)) _).trans ?_
  refine View.canon_apply_of_pieces (Val := Elt Ideal) (e := .f32) (fun j : S1024x1024.Idx => blockAdded x0 x1 x2 (j 0) (j 1)) _ ?_ (ix2 r n)
    (cover0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 _)
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2, List.forall_mem_cons]
  refine ⟨?_, ?_, fun _ h => absurd h List.not_mem_nil⟩ <;> intro j <;> obtain ⟨r, n, rfl⟩ := idx_pair j
  · refine (pay6_at _ _ _ r n).trans ((congrFun (bottom x0 x1 x2 r ⟨512 + r.val, by omega⟩ rfl) n).trans ?_)
    refine congrArg₂ (blockAdded x0 x1 x2) (Fin.ext ?_) (Fin.ext ?_)
    · show 512 + r.val = 512 + 1 * r.val; omega
    · show n.val = 0 + 1 * n.val; omega
  · refine (pay4_at _ _ _ r n).trans ((congrFun (top x0 x1 x2 r ⟨r.val, by omega⟩ (Nat.zero_add _).symm) n).trans ?_)
    refine congrArg₂ (blockAdded x0 x1 x2) (Fin.ext ?_) (Fin.ext ?_)
    · show r.val = 0 + 1 * r.val; omega
    · show n.val = 0 + 1 * n.val; omega

/-- What the later point leaves of the projection. -/
theorem out9_B (r : Fin 1024) (n : Fin 4096) : out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 (ix2 r n)
    = column (blockNormed x0 x1 x2 x3 r) (fun k n => x4 (ix2 k n)) (fun n => x6 (ix2 0 n)) n := by
  rw [show blockNormed x0 x1 x2 x3 r = fun k => zs x0 x1 x2 x3 (ix2 r k) from funext fun k => (zs_at x0 x1 x2 x3 r k).symm]
  unfold out0_B_9
  refine (congrFun (View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0)) _).trans ?_
  refine View.canon_apply_of_pieces (Val := Elt Ideal) (e := .bf16) (fun j : S1024x4096.Idx =>
    column (fun k => zs x0 x1 x2 x3 (ix2 (j 0) k)) (fun k n => x4 (ix2 k n)) (fun n => x6 (ix2 0 n)) (j 1)) _ ?_ (ix2 r n)
    (cover0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 _)
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread, View.ld_unit_zero (S := S1024x1024) hz2, View.ld_unit_zero (S := S1x1024) hz2, View.ld_unit_zero (S := S1024x128) hz2, View.ld_unit_zero (S := S1x128) hz2, List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩ <;> intro j <;> obtain ⟨r, n, rfl⟩ := idx_pair j
  · exact (pay3_at _ r n).trans (plain_eq (zs x0 x1 x2 x3) x4 x6 3584 384 (k0_pay63 (zs x0 x1 x2 x3) _) r n _ rfl rfl rfl (by omega) _ _ (pay63_at _ _ r))
  · exact (pay2_at _ r n).trans (plain_eq (zs x0 x1 x2 x3) x4 x6 3584 256 (k0_pay63 (zs x0 x1 x2 x3) _) r n _ rfl rfl rfl (by omega) _ _ (pay63_at _ _ r))
  · exact (pay1_at _ r n).trans (plain_eq (zs x0 x1 x2 x3) x4 x6 3584 128 (k0_pay63 (zs x0 x1 x2 x3) _) r n _ rfl rfl rfl (by omega) _ _ (pay63_at _ _ r))
  · exact (pay64_at _ _ r n).trans (plain_eq (zs x0 x1 x2 x3) x4 x6 3584 0 (k0_pay63 (zs x0 x1 x2 x3) _) r n _ (Nat.zero_add _).symm rfl rfl (by omega) _ _ (pay63_at _ _ r))
  · exact (pay62_at _ _ r n).trans (plain_eq (zs x0 x1 x2 x3) x4 x6 3072 384 (k0_pay58 (zs x0 x1 x2 x3) _) r n _ rfl rfl rfl (by omega) _ _ (pay58_at _ _ r))
  · exact (pay61_at _ _ r n).trans (plain_eq (zs x0 x1 x2 x3) x4 x6 3072 256 (k0_pay58 (zs x0 x1 x2 x3) _) r n _ rfl rfl rfl (by omega) _ _ (pay58_at _ _ r))
  · exact (pay60_at _ _ r n).trans (plain_eq (zs x0 x1 x2 x3) x4 x6 3072 128 (k0_pay58 (zs x0 x1 x2 x3) _) r n _ rfl rfl rfl (by omega) _ _ (pay58_at _ _ r))
  · exact (pay59_at _ _ r n).trans (plain_eq (zs x0 x1 x2 x3) x4 x6 3072 0 (k0_pay58 (zs x0 x1 x2 x3) _) r n _ (Nat.zero_add _).symm rfl rfl (by omega) _ _ (pay58_at _ _ r))
  · exact (pay57_at _ r n).trans (plain_eq (zs x0 x1 x2 x3) x4 x6 2560 384 (k0_pay53 (zs x0 x1 x2 x3) _) r n _ rfl rfl rfl (by omega) _ _ (pay53_at _ _ r))
  · exact (pay56_at _ r n).trans (plain_eq (zs x0 x1 x2 x3) x4 x6 2560 256 (k0_pay53 (zs x0 x1 x2 x3) _) r n _ rfl rfl rfl (by omega) _ _ (pay53_at _ _ r))
  · exact (pay55_at _ r n).trans (plain_eq (zs x0 x1 x2 x3) x4 x6 2560 128 (k0_pay53 (zs x0 x1 x2 x3) _) r n _ rfl rfl rfl (by omega) _ _ (pay53_at _ _ r))
  · exact (pay54_at _ _ r n).trans (plain_eq (zs x0 x1 x2 x3) x4 x6 2560 0 (k0_pay53 (zs x0 x1 x2 x3) _) r n _ (Nat.zero_add _).symm rfl rfl (by omega) _ _ (pay53_at _ _ r))
  · exact (pay52_at _ _ r n).trans (plain_eq (zs x0 x1 x2 x3) x4 x6 2048 384 (k0_pay48 (zs x0 x1 x2 x3) _) r n _ rfl rfl rfl (by omega) _ _ (pay48_at _ _ r))
  · exact (pay51_at _ _ r n).trans (plain_eq (zs x0 x1 x2 x3) x4 x6 2048 256 (k0_pay48 (zs x0 x1 x2 x3) _) r n _ rfl rfl rfl (by omega) _ _ (pay48_at _ _ r))
  · exact (pay50_at _ _ r n).trans (plain_eq (zs x0 x1 x2 x3) x4 x6 2048 128 (k0_pay48 (zs x0 x1 x2 x3) _) r n _ rfl rfl rfl (by omega) _ _ (pay48_at _ _ r))
  · exact (pay49_at _ _ r n).trans (plain_eq (zs x0 x1 x2 x3) x4 x6 2048 0 (k0_pay48 (zs x0 x1 x2 x3) _) r n _ (Nat.zero_add _).symm rfl rfl (by omega) _ _ (pay48_at _ _ r))
  · exact (pay47_at _ _ r n).trans (head_eq (zs x0 x1 x2 x3) x4 x6 1536 384 15 (k0_pay41 (zs x0 x1 x2 x3) _) r n _ (fun _ => rfl) rfl rfl rfl rfl (by omega) _ _ _ (pay41_at _ _ r))
  · exact (pay44_at _ _ r n).trans (head_eq (zs x0 x1 x2 x3) x4 x6 1536 256 14 (k0_pay41 (zs x0 x1 x2 x3) _) r n _ (fun _ => rfl) rfl rfl rfl rfl (by omega) _ _ _ (pay41_at _ _ r))
  · exact (pay43_at _ _ r n).trans (head_eq (zs x0 x1 x2 x3) x4 x6 1536 128 13 (k0_pay41 (zs x0 x1 x2 x3) _) r n _ (fun _ => rfl) rfl rfl rfl rfl (by omega) _ _ _ (pay41_at _ _ r))
  · exact (pay42_at _ _ _ r n).trans (head_eq (zs x0 x1 x2 x3) x4 x6 1536 0 12 (k0_pay41 (zs x0 x1 x2 x3) _) r n _ (fun _ => (Nat.zero_add _).symm) rfl rfl rfl rfl (by omega) _ _ _ (pay41_at _ _ r))
  · exact (pay40_at _ _ r n).trans (head_eq (zs x0 x1 x2 x3) x4 x6 1024 384 11 (k0_pay32 (zs x0 x1 x2 x3) _) r n _ (fun _ => rfl) rfl rfl rfl rfl (by omega) _ _ _ (pay32_at _ _ r))
  · exact (pay39_at _ _ r n).trans (head_eq (zs x0 x1 x2 x3) x4 x6 1024 256 10 (k0_pay32 (zs x0 x1 x2 x3) _) r n _ (fun _ => rfl) rfl rfl rfl rfl (by omega) _ _ _ (pay32_at _ _ r))
  · exact (pay37_at _ _ r n).trans (head_eq (zs x0 x1 x2 x3) x4 x6 1024 128 9 (k0_pay32 (zs x0 x1 x2 x3) _) r n _ (fun _ => rfl) rfl rfl rfl rfl (by omega) _ _ _ (pay32_at _ _ r))
  · exact (pay36_at _ _ _ r n).trans (head_eq (zs x0 x1 x2 x3) x4 x6 1024 0 8 (k0_pay32 (zs x0 x1 x2 x3) _) r n _ (fun _ => (Nat.zero_add _).symm) rfl rfl rfl rfl (by omega) _ _ _ (pay32_at _ _ r))
  · exact (pay31_at _ _ r n).trans (head_eq (zs x0 x1 x2 x3) x4 x6 512 384 7 (k0_pay25 (zs x0 x1 x2 x3) _) r n _ (fun _ => rfl) rfl rfl rfl rfl (by omega) _ _ _ (pay25_at _ _ r))
  · exact (pay30_at _ _ _ r n).trans (head_eq (zs x0 x1 x2 x3) x4 x6 512 256 6 (k0_pay25 (zs x0 x1 x2 x3) _) r n _ (fun _ => rfl) rfl rfl rfl rfl (by omega) _ _ _ (pay25_at _ _ r))
  · exact (pay27_at _ _ _ r n).trans (head_eq (zs x0 x1 x2 x3) x4 x6 512 128 5 (k0_pay25 (zs x0 x1 x2 x3) _) r n _ (fun _ => rfl) rfl rfl rfl rfl (by omega) _ _ _ (pay25_at _ _ r))
  · exact (pay26_at _ _ _ r n).trans (head_eq (zs x0 x1 x2 x3) x4 x6 512 0 4 (k0_pay25 (zs x0 x1 x2 x3) _) r n _ (fun _ => (Nat.zero_add _).symm) rfl rfl rfl rfl (by omega) _ _ _ (pay25_at _ _ r))
  · exact (pay24_at _ _ r n).trans (head_eq (zs x0 x1 x2 x3) x4 x6 0 384 3 (k0_pay19 (zs x0 x1 x2 x3) _) r n _ (fun _ => rfl) rfl rfl rfl rfl (by omega) _ _ _ (pay19_at _ _ r))
  · exact (pay23_at _ _ r n).trans (head_eq (zs x0 x1 x2 x3) x4 x6 0 256 2 (k0_pay19 (zs x0 x1 x2 x3) _) r n _ (fun _ => rfl) rfl rfl rfl rfl (by omega) _ _ _ (pay19_at _ _ r))
  · exact (pay22_at _ _ _ r n).trans (head_eq (zs x0 x1 x2 x3) x4 x6 0 128 1 (k0_pay19 (zs x0 x1 x2 x3) _) r n _ (fun _ => rfl) rfl rfl rfl rfl (by omega) _ _ _ (pay19_at _ _ r))
  · exact (pay20_at _ _ _ r n).trans (head_eq (zs x0 x1 x2 x3) x4 x6 0 0 0 (k0_pay19 (zs x0 x1 x2 x3) _) r n _ (fun _ => (Nat.zero_add _).symm) rfl rfl rfl rfl (by omega) _ _ _ (pay19_at _ _ r))

end

end Cert.Proof.Fox
-- ==== Proof.FoxArray.lean ====
/-
  FROM BLOCKS TO THE ARRAYS of the attention layer's first projection. The grid walks the 32768 rows, four sequences of
  8192, in 32 steps of 1024, eight to a sequence; the sums a point carries are those of the sequence's rows so far. The
  four arrays are stated whole, row by row.
-/
module

public import proofs.«01_k».proof.Proof.FoxBlock
public import proofs.«01_k».proof.Proof.Gen.FoxIdeal.Value

@[expose] public section

set_option maxRecDepth 16384

noncomputable section

namespace Cert.Proof.Fox

open Idealize.ShloMosaic Idealize.ShloMosaic.TcCoe Idealize.SL.Sem Cert.FoxIdeal Cert.FoxIdeal.Gen
open Idealize.ShloMosaic.Pipeline (Dat)
open Cert.Proof.Front (added normed projected idx_pair added_congr blockAdded blockNormed)

section
variable (m : (ℓ : Loc nD τ sig) → Buf (Elt Ideal) ℓ) (c : Dev nD)

/-- Where the blocks of a point lie. -/
theorem index_eq : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0)
    ∧ (win0_11.index t 0 = t.val / 8 ∧ win0_11.index t 1 = 0 ∧ win0_11.index t 2 = t.val % 8) := by
  decide +kernel

/-- There are 32 points. -/
theorem lt_N (t : Fin cfg0.N) : t.val < 32 := t.isLt.trans_eq (show cfg0.N = 32 from N_0)

/-- The array's row at row `r` of a point's block. -/
def rowOf (t : Fin cfg0.N) (r : Fin 1024) : Fin 32768 :=
  ⟨1024 * t.val + r.val, by have := lt_N t; omega⟩

/-- A point's rows of the stream. -/
theorem blk0 (t : Fin cfg0.N) (r : Fin 1024) (k : Fin 1024) : iblk m c 0 t (ix2 r k) = V m c main_v21 (ix2 (rowOf t r) k) := by
  have h := index_eq t
  unfold iblk
  rw [View.read_apply]
  show V m c main_v21 _ = _
  congr 1
  funext a
  apply Fin.ext
  match a with
  | ⟨0, _⟩ => show win0_0.index t 0 * 1024 + 1 * r.val = 1024 * t.val + r.val; omega
  | ⟨1, _⟩ => show win0_0.index t 1 * 1024 + 1 * k.val = k.val; omega

/-- A point's rows of the gated output. -/
theorem blk1 (t : Fin cfg0.N) (r : Fin 1024) (k : Fin 1024) : iblk m c 1 t (ix2 r k) = V m c main_v23 (ix2 (rowOf t r) k) := by
  have h := index_eq t
  unfold iblk
  rw [View.read_apply]
  show V m c main_v23 _ = _
  congr 1
  funext a
  apply Fin.ext
  match a with
  | ⟨0, _⟩ => show win0_1.index t 0 * 1024 + 1 * r.val = 1024 * t.val + r.val; omega
  | ⟨1, _⟩ => show win0_1.index t 1 * 1024 + 1 * k.val = k.val; omega

/-- The output projection's weights, whole at every point. -/
theorem blk2 (t : Fin cfg0.N) (r : Fin 1024) (k : Fin 1024) : iblk m c 2 t (ix2 r k) = V m c main_v24 (ix2 r k) := by
  have h := index_eq t
  unfold iblk
  rw [View.read_apply]
  show V m c main_v24 _ = _
  congr 1
  funext a
  apply Fin.ext
  match a with
  | ⟨0, _⟩ => show win0_2.index t 0 * 1024 + 1 * r.val = r.val; omega
  | ⟨1, _⟩ => show win0_2.index t 1 * 1024 + 1 * k.val = k.val; omega

/-- The gains, whole at every point. -/
theorem blk3 (t : Fin cfg0.N) (r : Fin 1) (k : Fin 1024) : iblk m c 3 t (ix2 r k) = V m c main_v25 (ix2 r k) := by
  have h := index_eq t
  unfold iblk
  rw [View.read_apply]
  show V m c main_v25 _ = _
  congr 1
  funext a
  apply Fin.ext
  match a with
  | ⟨0, _⟩ => show win0_3.index t 0 * 1 + 1 * r.val = r.val; omega
  | ⟨1, _⟩ => show win0_3.index t 1 * 1024 + 1 * k.val = k.val; omega

/-- The projection's weights, whole at every point. -/
theorem blk4 (t : Fin cfg0.N) (r : Fin 1024) (k : Fin 4096) : iblk m c 4 t (ix2 r k) = V m c main_v1 (ix2 r k) := by
  have h := index_eq t
  unfold iblk
  rw [View.read_apply]
  show V m c main_v1 _ = _
  congr 1
  funext a
  apply Fin.ext
  match a with
  | ⟨0, _⟩ => show win0_4.index t 0 * 1024 + 1 * r.val = r.val; omega
  | ⟨1, _⟩ => show win0_4.index t 1 * 4096 + 1 * k.val = k.val; omega

/-- The gates' weights, whole at every point. -/
theorem blk5 (t : Fin cfg0.N) (r : Fin 1024) (k : Fin 128) : iblk m c 5 t (ix2 r k) = V m c main_v6 (ix2 r k) := by
  have h := index_eq t
  unfold iblk
  rw [View.read_apply]
  show V m c main_v6 _ = _
  congr 1
  funext a
  apply Fin.ext
  match a with
  | ⟨0, _⟩ => show win0_5.index t 0 * 1024 + 1 * r.val = r.val; omega
  | ⟨1, _⟩ => show win0_5.index t 1 * 128 + 1 * k.val = k.val; omega

/-- The heads' gains, whole at every point. -/
theorem blk6 (t : Fin cfg0.N) (r : Fin 1) (k : Fin 2048) : iblk m c 6 t (ix2 r k) = V m c main_v20 (ix2 r k) := by
  have h := index_eq t
  unfold iblk
  rw [View.read_apply]
  show V m c main_v20 _ = _
  congr 1
  funext a
  apply Fin.ext
  match a with
  | ⟨0, _⟩ => show win0_6.index t 0 * 1 + 1 * r.val = r.val; omega
  | ⟨1, _⟩ => show win0_6.index t 1 * 2048 + 1 * k.val = k.val; omega

/-- The gates' biases, whole at every point. -/
theorem blk7 (t : Fin cfg0.N) (r : Fin 1) (k : Fin 128) : iblk m c 7 t (ix2 r k) = V m c main_v30 (ix2 r k) := by
  have h := index_eq t
  unfold iblk
  rw [View.read_apply]
  show V m c main_v30 _ = _
  congr 1
  funext a
  apply Fin.ext
  match a with
  | ⟨0, _⟩ => show win0_7.index t 0 * 1 + 1 * r.val = r.val; omega
  | ⟨1, _⟩ => show win0_7.index t 1 * 128 + 1 * k.val = k.val; omega

/-- Row `n` of the array after the residual. -/
def rowAdded (n : Fin 32768) : Fin 1024 → EReal :=
  added (fun k => V m c main_v21 (ix2 n k)) (fun k => V m c main_v23 (ix2 n k)) (fun k j => V m c main_v24 (ix2 k j))

/-- Row `n` of the array, normalised. -/
def rowNormed (n : Fin 32768) : Fin 1024 → EReal := normed (rowAdded m c n) (fun k => V m c main_v25 (ix2 0 k))

/-- The gate of row `n`, in lane `l`. -/
def rowGate (n : Fin 32768) (l : Fin 128) : EReal :=
  gate (logit (rowNormed m c n) (fun k => V m c main_v6 (ix2 k l)) (V m c main_v30 (ix2 0 l)))

/-- The gates of a sequence, in lane `l`, by the place in the sequence. -/
def seqGate (b : ℕ) (l : Fin 128) (j : ℕ) : EReal :=
  if h : 8192 * b + j < 32768 then rowGate m c ⟨8192 * b + j, h⟩ l else 0

/-- The sum of the gates of a sequence's rows up to row `n`. -/
def rowSum (n : Fin 32768) (l : Fin 128) : EReal := ∑ j ∈ Finset.range (n.val % 8192 + 1), seqGate m c (n.val / 8192) l j

/-- The stream after the residual. -/
def stream : FVec Ideal S32768x1024 .f32 := fun i => rowAdded m c (i 0) (i 1)
/-- The projection. -/
def mains : FVec Ideal S32768x4096 .bf16 := fun i =>
  column (rowNormed m c (i 0)) (fun k n => V m c main_v1 (ix2 k n)) (fun n => V m c main_v20 (ix2 0 n)) (i 1)
/-- The gates' sums. -/
def sums : FVec Ideal S32768x128 .f32 := fun i => rowSum m c (i 0) (i 1)
/-- The gates' sums, head by head. -/
def headSums : FVec Ideal S4x8x8192 .f32 := fun i =>
  rowSum m c ⟨8192 * (i 0).val + (i 2).val, by have h0 : (i 0).val < 4 := (i 0).isLt; have h2 : (i 2).val < 8192 := (i 2).isLt; omega⟩
    ⟨(i 1).val, by have h1 : (i 1).val < 8 := (i 1).isLt; omega⟩

/-- A block's row after the residual is the array's. -/
theorem rows_eq (t : Fin cfg0.N) (r : Fin 1024) :
    blockAdded (iblk m c 0 t) (iblk m c 1 t) (iblk m c 2 t) r = rowAdded m c (rowOf t r) :=
  added_congr (funext fun k => blk0 m c t r k) (funext fun k => blk1 m c t r k) (funext fun k => funext fun n => blk2 m c t k n)

/-- A block's normalised row is the array's. -/
theorem normed_eq (t : Fin cfg0.N) (r : Fin 1024) :
    blockNormed (iblk m c 0 t) (iblk m c 1 t) (iblk m c 2 t) (iblk m c 3 t) r = rowNormed m c (rowOf t r) :=
  congrArg₂ normed (rows_eq m c t r) (funext fun k => blk3 m c t 0 k)

/-- A block's gate is the array's. -/
theorem gate_eq (t : Fin cfg0.N) (r : Fin 1024) (l : Fin 128) :
    blockGate (iblk m c 0 t) (iblk m c 1 t) (iblk m c 2 t) (iblk m c 3 t) (iblk m c 5 t) (iblk m c 7 t) r l
      = seqGate m c (t.val / 8) l (1024 * (t.val % 8) + r.val) := by
  have ht := lt_N t
  unfold blockGate seqGate rowGate
  rw [dif_pos (by omega), normed_eq m c t r, blk7 m c t 0 l, show (fun k => iblk m c 5 t (ix2 k l)) = _ from funext fun k => blk5 m c t k l]
  refine congrArg (fun n => gate (logit (rowNormed m c n) _ _)) (Fin.ext ?_)
  show 1024 * t.val + r.val = 8192 * (t.val / 8) + (1024 * (t.val % 8) + r.val)
  omega

/-- Equal columns of equal rows. -/
theorem column_congr {z z' : Fin 1024 → EReal} {w w' : Fin 1024 → Fin 4096 → EReal} {g g' : Fin 2048 → EReal} (hz : z = z') (hw : w = w')
    (hg : g = g') (n : Fin 4096) : column z w g n = column z' w' g' n := by
  subst hz hw hg
  rfl

/-- A block's column is the array's. -/
theorem column_eq (t : Fin cfg0.N) (r : Fin 1024) (n : Fin 4096) :
    column (blockNormed (iblk m c 0 t) (iblk m c 1 t) (iblk m c 2 t) (iblk m c 3 t) r) (fun k n => iblk m c 4 t (ix2 k n))
        (fun n => iblk m c 6 t (ix2 0 n)) n
      = mains m c (ix2 (rowOf t r) n) :=
  column_congr (normed_eq m c t r) (funext fun k => funext fun n => blk4 m c t k n) (funext fun n => blk6 m c t 0 n) n

/-- A point's scan, over the sums of the sequence's rows before it. -/
theorem scanned_eq (t : Fin cfg0.N) (carry : FVec Ideal S1x128 .f32) (l : Fin 128)
    (hc : carry (ix2 0 l) = ∑ j ∈ Finset.range (1024 * (t.val % 8)), seqGate m c (t.val / 8) l j) (r : Fin 1024) :
    scanned (iblk m c 0 t) (iblk m c 1 t) (iblk m c 2 t) (iblk m c 3 t) (iblk m c 5 t) (iblk m c 7 t) carry (ix2 r l)
      = rowSum m c (rowOf t r) l := by
  have ht := lt_N t
  refine (scanned_at _ _ _ _ _ _ carry (fun j => seqGate m c (t.val / 8) l (1024 * (t.val % 8) + j)) l (fun r => gate_eq m c t r l) r).trans ?_
  rw [hc, add_comm]
  refine (Finset.sum_range_add _ _ _).symm.trans ?_
  unfold rowSum
  rw [show (rowOf t r).val % 8192 + 1 = 1024 * (t.val % 8) + (r.val + 1) by show (1024 * t.val + r.val) % 8192 + 1 = _; omega,
    show (rowOf t r).val / 8192 = t.val / 8 by show (1024 * t.val + r.val) / 8192 = _; omega]

/-- What a point leaves for the next one. -/
theorem left_eq (t : Fin cfg0.N) (carry : FVec Ideal S1x128 .f32) (l : Fin 128)
    (hc : carry (ix2 0 l) = ∑ j ∈ Finset.range (1024 * (t.val % 8)), seqGate m c (t.val / 8) l j) :
    left (iblk m c 0 t) (iblk m c 1 t) (iblk m c 2 t) (iblk m c 3 t) (iblk m c 5 t) (iblk m c 7 t) carry (ix2 0 l)
      = ∑ j ∈ Finset.range (1024 * (t.val % 8) + 1024), seqGate m c (t.val / 8) l j := by
  have ht := lt_N t
  rw [left_at, scanned_eq m c t carry l hc]
  unfold rowSum
  rw [show (rowOf t ⟨1023, by omega⟩).val % 8192 + 1 = 1024 * (t.val % 8) + 1024 by show (1024 * t.val + 1023) % 8192 + 1 = _; omega,
    show (rowOf t ⟨1023, by omega⟩).val / 8192 = t.val / 8 by show (1024 * t.val + 1023) / 8192 = _; omega]

/-- The reset sums are those of no rows. -/
theorem reset_eq (t : Fin cfg0.N) (h0 : t.val % 8 = 0) (l : Fin 128) :
    k0_pay9 (F := Ideal) (ix2 0 l) = ∑ j ∈ Finset.range (1024 * (t.val % 8)), seqGate m c (t.val / 8) l j := by
  rw [pay9_at, h0, Nat.mul_zero, Finset.range_zero, Finset.sum_empty]

/-- The carried sums after point `n`: of the sequence's rows up to the point's last. -/
theorem carry_eq (l : Fin 128) : ∀ (n : ℕ) (hn : n < cfg0.N),
    (outsAt0 m c n hn).2.2.2.2 (ix2 0 l) = ∑ j ∈ Finset.range (1024 * (n % 8) + 1024), seqGate m c (n / 8) l j := by
  intro n
  induction n with
  | zero =>
    intro hn
    have e := congrArg (fun o => o.2.2.2.2) (outsAt0_A m c ⟨0, hn⟩ rfl)
    refine (congrFun e _).trans ?_
    dsimp only
    rw [sout_A]
    exact left_eq m c ⟨0, hn⟩ _ l (reset_eq m c ⟨0, hn⟩ rfl l)
  | succ n ih =>
    intro hn
    by_cases h0 : (n + 1) % 8 = 0
    · have e := congrArg (fun o => o.2.2.2.2) (outsAt0_A m c ⟨n + 1, hn⟩ h0)
      refine (congrFun e _).trans ?_
      dsimp only
      rw [sout_A]
      exact left_eq m c ⟨n + 1, hn⟩ _ l (reset_eq m c ⟨n + 1, hn⟩ h0 l)
    · have e := congrArg (fun o => o.2.2.2.2) (outsAt0_B m c ⟨n + 1, hn⟩ h0)
      refine (congrFun e _).trans ?_
      dsimp only
      rw [sout_B]
      refine left_eq m c ⟨n + 1, hn⟩ _ l ((ih (by omega)).trans ?_)
      show _ = ∑ j ∈ Finset.range (1024 * ((n + 1) % 8)), seqGate m c ((n + 1) / 8) l j
      rw [show 1024 * (n % 8) + 1024 = 1024 * ((n + 1) % 8) by omega, show n / 8 = (n + 1) / 8 by omega]

/-- The sums a later point of a sequence finds. -/
theorem found_eq (t : Fin cfg0.N) (h0 : ¬t.val % 8 = 0) (l : Fin 128) :
    (outsAt0 m c (t.val - 1) (Nat.lt_of_le_of_lt (Nat.sub_le _ _) t.isLt)).2.2.2.2 (ix2 0 l)
      = ∑ j ∈ Finset.range (1024 * (t.val % 8)), seqGate m c (t.val / 8) l j := by
  rw [carry_eq, show 1024 * ((t.val - 1) % 8) + 1024 = 1024 * (t.val % 8) by omega, show (t.val - 1) / 8 = t.val / 8 by omega]

/-- What a point writes back is its block of the stream. -/
theorem flushed8 (t : Fin cfg0.N) : (dats m 0 c).flushed 8 t = ((cfg0.win 8).blk t).view.read (Elt Ideal) (stream m c) := by
  funext j
  have h := index_eq t
  obtain ⟨r, n, rfl⟩ : ∃ (r : Fin 1024) (n : Fin 1024), j = ix2 r n := idx_pair j
  have key : ((cfg0.win 8).blk t).view.read (Elt Ideal) (stream m c) (ix2 r n) = stream m c (ix2 (rowOf t r) n) := by
    rw [View.read_apply]
    show stream m c _ = _
    congr 1
    funext a
    apply Fin.ext
    match a with
    | ⟨0, _⟩ => show win0_8.index t 0 * 1024 + 1 * r.val = 1024 * t.val + r.val; omega
    | ⟨1, _⟩ => show win0_8.index t 1 * 1024 + 1 * n.val = n.val; omega
  refine Eq.trans ?_ key.symm
  by_cases h0 : t.val % 8 = 0
  · rw [Value.flushed8_A m c t h0]
    refine (out8_A _ _ _ _ _ _ _ _ _ _ _ _ _ _ _ _ _ _ _ _ _ _ _ _ _ _ _ _ _ _ _ _ _ _ _ _ _ r n).trans ?_
    exact congrFun (rows_eq m c t r) n
  · rw [Value.flushed8_B m c t h0]
    refine (out8_B _ _ _ _ _ _ _ _ _ _ _ _ _ _ _ _ _ _ _ _ _ _ _ _ _ _ _ _ _ _ _ _ _ _ _ _ _ _ r n).trans ?_
    exact congrFun (rows_eq m c t r) n

/-- The stream, whole. -/
theorem final8 : (dats m 0 c).arrAt 8 cfg0.N = stream m c := by
  refine (dats m 0 c).arrAt_eq_of_cover 8 (stream m c) (fun t _ => flushed8 m c t) fun i => ?_
  have i0 : (i 0).val < 32768 := (i 0).isLt
  have i1 : (i 1).val < 1024 := (i 1).isLt
  let t : Fin cfg0.N := ⟨(i 0).val / 1024, by rw [show cfg0.N = 32 from N_0]; omega⟩
  have ht : t.val = (i 0).val / 1024 := rfl
  have h := index_eq t
  refine ⟨t, flush0_8 t, ?_⟩
  show i ∈ ((View.whole main_v31_0).slice (win0_8.rect t)).set
  rw [View.set_slice_whole, Rect.mem_set_unit]
  intro a
  match a with
  | ⟨0, _⟩ =>
    show win0_8.index t 0 * 1024 ≤ (i 0).val ∧ (i 0).val < win0_8.index t 0 * 1024 + 1024
    omega
  | ⟨1, _⟩ =>
    show win0_8.index t 1 * 1024 ≤ (i 1).val ∧ (i 1).val < win0_8.index t 1 * 1024 + 1024
    omega

/-- What a point writes back is its block of the projection. -/
theorem flushed9 (t : Fin cfg0.N) : (dats m 0 c).flushed 9 t = ((cfg0.win 9).blk t).view.read (Elt Ideal) (mains m c) := by
  funext j
  have h := index_eq t
  obtain ⟨r, n, rfl⟩ : ∃ (r : Fin 1024) (n : Fin 4096), j = ix2 r n := idx_pair j
  have key : ((cfg0.win 9).blk t).view.read (Elt Ideal) (mains m c) (ix2 r n) = mains m c (ix2 (rowOf t r) n) := by
    rw [View.read_apply]
    show mains m c _ = _
    congr 1
    funext a
    apply Fin.ext
    match a with
    | ⟨0, _⟩ => show win0_9.index t 0 * 1024 + 1 * r.val = 1024 * t.val + r.val; omega
    | ⟨1, _⟩ => show win0_9.index t 1 * 4096 + 1 * n.val = n.val; omega
  refine Eq.trans ?_ key.symm
  by_cases h0 : t.val % 8 = 0
  · rw [Value.flushed9_A m c t h0]
    refine (out9_A _ _ _ _ _ _ _ _ _ _ _ _ _ _ _ _ _ _ _ _ _ _ _ _ _ _ _ _ _ _ _ _ _ _ _ _ _ r n).trans ?_
    exact column_eq m c t r n
  · rw [Value.flushed9_B m c t h0]
    refine (out9_B _ _ _ _ _ _ _ _ _ _ _ _ _ _ _ _ _ _ _ _ _ _ _ _ _ _ _ _ _ _ _ _ _ _ _ _ _ _ r n).trans ?_
    exact column_eq m c t r n

/-- The projection, whole. -/
theorem final9 : (dats m 0 c).arrAt 9 cfg0.N = mains m c := by
  refine (dats m 0 c).arrAt_eq_of_cover 9 (mains m c) (fun t _ => flushed9 m c t) fun i => ?_
  have i0 : (i 0).val < 32768 := (i 0).isLt
  have i1 : (i 1).val < 4096 := (i 1).isLt
  let t : Fin cfg0.N := ⟨(i 0).val / 1024, by rw [show cfg0.N = 32 from N_0]; omega⟩
  have ht : t.val = (i 0).val / 1024 := rfl
  have h := index_eq t
  refine ⟨t, flush0_9 t, ?_⟩
  show i ∈ ((View.whole main_v31_1).slice (win0_9.rect t)).set
  rw [View.set_slice_whole, Rect.mem_set_unit]
  intro a
  match a with
  | ⟨0, _⟩ =>
    show win0_9.index t 0 * 1024 ≤ (i 0).val ∧ (i 0).val < win0_9.index t 0 * 1024 + 1024
    omega
  | ⟨1, _⟩ =>
    show win0_9.index t 1 * 4096 ≤ (i 1).val ∧ (i 1).val < win0_9.index t 1 * 4096 + 4096
    omega

/-- What a point writes back is its block of the gates' sums. -/
theorem flushed10 (t : Fin cfg0.N) : (dats m 0 c).flushed 10 t = ((cfg0.win 10).blk t).view.read (Elt Ideal) (sums m c) := by
  funext j
  have h := index_eq t
  obtain ⟨r, n, rfl⟩ : ∃ (r : Fin 1024) (n : Fin 128), j = ix2 r n := idx_pair j
  have key : ((cfg0.win 10).blk t).view.read (Elt Ideal) (sums m c) (ix2 r n) = sums m c (ix2 (rowOf t r) n) := by
    rw [View.read_apply]
    show sums m c _ = _
    congr 1
    funext a
    apply Fin.ext
    match a with
    | ⟨0, _⟩ => show win0_10.index t 0 * 1024 + 1 * r.val = 1024 * t.val + r.val; omega
    | ⟨1, _⟩ => show win0_10.index t 1 * 128 + 1 * n.val = n.val; omega
  refine Eq.trans ?_ key.symm
  by_cases h0 : t.val % 8 = 0
  · rw [Value.flushed10_A m c t h0, out10_A]
    exact scanned_eq m c t _ n (reset_eq m c t h0 n) r
  · rw [Value.flushed10_B m c t h0, out10_B]
    exact scanned_eq m c t _ n (found_eq m c t h0 n) r

/-- The gates' sums, whole. -/
theorem final10 : (dats m 0 c).arrAt 10 cfg0.N = sums m c := by
  refine (dats m 0 c).arrAt_eq_of_cover 10 (sums m c) (fun t _ => flushed10 m c t) fun i => ?_
  have i0 : (i 0).val < 32768 := (i 0).isLt
  have i1 : (i 1).val < 128 := (i 1).isLt
  let t : Fin cfg0.N := ⟨(i 0).val / 1024, by rw [show cfg0.N = 32 from N_0]; omega⟩
  have ht : t.val = (i 0).val / 1024 := rfl
  have h := index_eq t
  refine ⟨t, flush0_10 t, ?_⟩
  show i ∈ ((View.whole main_v31_2).slice (win0_10.rect t)).set
  rw [View.set_slice_whole, Rect.mem_set_unit]
  intro a
  match a with
  | ⟨0, _⟩ =>
    show win0_10.index t 0 * 1024 ≤ (i 0).val ∧ (i 0).val < win0_10.index t 0 * 1024 + 1024
    omega
  | ⟨1, _⟩ =>
    show win0_10.index t 1 * 128 ≤ (i 1).val ∧ (i 1).val < win0_10.index t 1 * 128 + 128
    omega

/-- What a point writes back is its block of the gates' sums, head by head. -/
theorem flushed11 (t : Fin cfg0.N) : (dats m 0 c).flushed 11 t = ((cfg0.win 11).blk t).view.read (Elt Ideal) (headSums m c) := by
  funext j
  have h := index_eq t
  have ht := lt_N t
  obtain ⟨p, r, rfl⟩ : ∃ (p : Fin 8) (r : Fin 1024), j = ix3 (0 : Fin 1) p r := ⟨j 1, j 2, by
    funext d
    match d with
    | ⟨0, _⟩ => exact Subsingleton.elim (α := Fin 1) _ _
    | ⟨1, _⟩ => rfl
    | ⟨2, _⟩ => rfl⟩
  have key : ((cfg0.win 11).blk t).view.read (Elt Ideal) (headSums m c) (ix3 (0 : Fin 1) p r) = rowSum m c (rowOf t r) ⟨p.val, by omega⟩ := by
    rw [View.read_apply]
    show rowSum m c _ _ = _
    refine congrArg₂ (rowSum m c) (Fin.ext ?_) (Fin.ext ?_)
    · show 8192 * (win0_11.index t 0 * 1 + 1 * 0) + (win0_11.index t 2 * 1024 + 1 * r.val) = 1024 * t.val + r.val; omega
    · show win0_11.index t 1 * 8 + 1 * p.val = p.val; omega
  refine Eq.trans ?_ key.symm
  by_cases h0 : t.val % 8 = 0
  · rw [Value.flushed11_A m c t h0, out11_A]
    exact (pay18_at _ p r).trans (scanned_eq m c t _ _ (reset_eq m c t h0 _) r)
  · rw [Value.flushed11_B m c t h0, out11_B]
    exact (pay18_at _ p r).trans (scanned_eq m c t _ _ (found_eq m c t h0 _) r)

/-- The gates' sums, head by head, whole. -/
theorem final11 : (dats m 0 c).arrAt 11 cfg0.N = headSums m c := by
  refine (dats m 0 c).arrAt_eq_of_cover 11 (headSums m c) (fun t _ => flushed11 m c t) fun i => ?_
  have i0 : (i 0).val < 4 := (i 0).isLt
  have i1 : (i 1).val < 8 := (i 1).isLt
  have i2 : (i 2).val < 8192 := (i 2).isLt
  let t : Fin cfg0.N := ⟨8 * (i 0).val + (i 2).val / 1024, by rw [show cfg0.N = 32 from N_0]; omega⟩
  have ht : t.val = 8 * (i 0).val + (i 2).val / 1024 := rfl
  have h := index_eq t
  refine ⟨t, flush0_11 t, ?_⟩
  show i ∈ ((View.whole main_v31_3).slice (win0_11.rect t)).set
  rw [View.set_slice_whole, Rect.mem_set_unit]
  intro a
  match a with
  | ⟨0, _⟩ =>
    show win0_11.index t 0 * 1 ≤ (i 0).val ∧ (i 0).val < win0_11.index t 0 * 1 + 1
    omega
  | ⟨1, _⟩ =>
    show win0_11.index t 1 * 8 ≤ (i 1).val ∧ (i 1).val < win0_11.index t 1 * 8 + 8
    omega
  | ⟨2, _⟩ =>
    show win0_11.index t 2 * 1024 ≤ (i 2).val ∧ (i 2).val < win0_11.index t 2 * 1024 + 1024
    omega

end

end Cert.Proof.Fox
-- ==== Proof.FoxPrep.lean ====
/-
  THE ARRAYS THE ATTENTION LAYER'S FIRST PROJECTION IS HANDED. The host lays the batches' rows under each other, splits
  the projection's weights in the first 4096 columns and the last 8, sets those 8 and the gates' biases in 128 lanes of
  zeros, and repeats the heads' gains, the queries' scaled; each is read here at an index.
-/
module

public import proofs.«01_k».proof.Proof.FoxArray
public import proofs.«01_k».proof.Proof.Prep
public import Idealize.ShloMosaic.Lib.StableHlo.Run
public import Idealize.ShloMosaic.Lib.Routing.OpsSet
public import Idealize.ShloMosaic.Lib.Routing.OpsPair

@[expose] public section

set_option maxRecDepth 16384

noncomputable section

namespace Cert.Proof.Fox

open Idealize.ShloMosaic Idealize.ShloMosaic.TcCoe Idealize.SL.Sem Cert.FoxIdeal Cert.FoxIdeal.Gen Idealize.ShloMosaic.StableHlo
open Cert.Proof.Front (projected idx_pair)

/-- The gates' weights in 128 columns, as the host computes them. -/
def hostGates (w : FVec Ideal S1024x4104 .f32) : FVec Ideal S1024x128 .f32 :=
  Host.scatter scatter_S1024x128_S1_S1024x8_01_n_1_0 (fun _ b => b)
    (broadcastInDim S1024x128 ![] bcast_S_S1024x128 (constant (F := Ideal) S_ .f32 0x00000000#32))
    (broadcastInDim S1 ![] bcast_S_S1 (constantI S_ 32 0#32))
    (extractStridedSlice S1024x8 ![0, 4096] w slices_S1024x4104_S1024x8_0_4096)

/-- Where the host sets the biases. -/
def hostPlace : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0

/-- The gates' biases in 128 lanes, as the host computes them. -/
def hostBias (b : FVec Ideal S8 .f32) : FVec Ideal S1x128 .f32 :=
  Host.scatter scatter_S1x128_S2_S8_0_0_01_0 (fun _ b => b)
    (broadcastInDim S1x128 ![] bcast_S_S1x128 (constant (F := Ideal) S_ .f32 0x00000000#32)) hostPlace b

/-- The heads' gains, as the host computes them. -/
def hostGain (q k : FVec Ideal S128 .f32) : FVec Ideal S1x2048 .f32 :=
  shapeCast S1x2048 (concatenate S2048 0
    [⟨S1024, shapeCast S1024 (broadcastInDim S8x128 ![0, 1] bcast_S1x128_S8x128_0_1
        (shapeCast S1x128 (mulf q (broadcastInDim S128 ![] bcast_S_S128 hostScale)) shapeCasts_S128_S1x128)) shapeCasts_S8x128_S1024⟩,
      ⟨S1024, shapeCast S1024 (broadcastInDim S8x128 ![0, 1] bcast_S1x128_S8x128_0_1
        (shapeCast S1x128 k shapeCasts_S128_S1x128)) shapeCasts_S8x128_S1024⟩] concatenates_S1024_S1024_S2048_d0) shapeCasts_S2048_S1x2048

section
variable (m : (ℓ : Loc nD τ sig) → Buf (Elt Ideal) ℓ) (c : Dev nD)

/-- The stream's rows that the kernel finds. -/
theorem V_x : V m c main_v21 = shapeCast S32768x1024 (m ((c : Thread nD τ).loc main_arg0)) shapeCasts_S4x8192x1024_S32768x1024 := by
  unfold_abbrev_sides
  after_results
  try rfl

/-- The gated output's rows that the kernel finds. -/
theorem V_g : V m c main_v23 = truncf (F := Ideal) .bf16 (shapeCast S32768x1024 (m ((c : Thread nD τ).loc main_arg1)) shapeCasts_S4x8192x1024_S32768x1024) bitsLt_bf16_f32 := by
  unfold_abbrev_sides
  after_results
  try rfl

/-- The output projection's weights that the kernel finds. -/
theorem V_wo : V m c main_v24 = truncf (F := Ideal) .bf16 (m ((c : Thread nD τ).loc main_arg2)) bitsLt_bf16_f32 := by
  unfold_abbrev_sides
  after_results
  try rfl

/-- The gains that the kernel finds. -/
theorem V_nw : V m c main_v25 = shapeCast S1x1024 (m ((c : Thread nD τ).loc main_arg3)) shapeCasts_S1024_S1x1024 := by
  unfold_abbrev_sides
  after_results
  try rfl

/-- The projection's weights that the kernel finds. -/
theorem V_w : V m c main_v1 = truncf (F := Ideal) .bf16 (extractStridedSlice S1024x4096 ![0, 0] (m ((c : Thread nD τ).loc main_arg4)) slices_S1024x4104_S1024x4096_0_0) bitsLt_bf16_f32 := by
  unfold_abbrev_sides
  after_results
  try rfl

/-- The gates' weights that the kernel finds. -/
theorem V_wf : V m c main_v6 = truncf (F := Ideal) .bf16 (hostGates (m ((c : Thread nD τ).loc main_arg4))) bitsLt_bf16_f32 := by
  unfold_abbrev_sides
  after_results
  try rfl

/-- The heads' gains that the kernel finds. -/
theorem V_hg : V m c main_v20 = hostGain (m ((c : Thread nD τ).loc main_arg6)) (m ((c : Thread nD τ).loc main_arg7)) := by
  unfold_abbrev_sides
  after_results
  try rfl

/-- The gates' biases that the kernel finds. -/
theorem V_bf : V m c main_v30 = hostBias (m ((c : Thread nD τ).loc main_arg5)) := by
  unfold_abbrev_sides
  after_results
  try rfl

end

/-- The projection's weights: the first 4096 columns. -/
theorem hostMain_at (w : FVec Ideal S1024x4104 .f32) (k : Fin 1024) (j : Fin 4096) :
    truncf (F := Ideal) .bf16 (extractStridedSlice S1024x4096 ![0, 0] w slices_S1024x4104_S1024x4096_0_0) bitsLt_bf16_f32 (ix2 k j)
      = w (ix2 k ⟨j.val, by omega⟩) := by
  pointwise

/-- Update `(k, j)` of the host's set lands at row `k`, column `j`. -/
theorem lands (a : Fin 1024) (b : Fin 8) (idx : IVec S1 32) (h0 : idx (ix1 0) = 0#32) (k : Fin 1024) (j : Fin 128) :
    scatter_S1024x128_S1_S1024x8_01_n_1_0.resultIdx? (ix2 a b) idx = some (ix2 k j) ↔ a = k ∧ b.val = j.val := by
  refine (Routing.resultIdx?_ix2 (R := 1024) (C := 128) scatter_S1024x128_S1_S1024x8_01_n_1_0 (ix2 a b) idx k j).trans ?_
  have s0 : scatter_S1024x128_S1_S1024x8_01_n_1_0.start (ix2 a b) idx 0 = 0 := rfl
  have s1 : scatter_S1024x128_S1_S1024x8_01_n_1_0.start (ix2 a b) idx 1 = 0 := by
    refine Eq.trans (congrArg (fun i => (idx i).toInt) (?_ : _ = ix1 0)) (by rw [h0]; rfl)
    funext d
    match d with
    | ⟨0, _⟩ => exact Subsingleton.elim (α := Fin 1) _ _
  have w0 : scatter_S1024x128_S1_S1024x8_01_n_1_0.window (ix2 a b) 0 = a.val := rfl
  have w1 : scatter_S1024x128_S1_S1024x8_01_n_1_0.window (ix2 a b) 1 = b.val := rfl
  rw [s0, s1, w0, w1, Fin.ext_iff]
  omega

/-- The host's gates' columns: the last 8 columns of the weights, then zeros. -/
theorem hostGates_at (w : FVec Ideal S1024x4104 .f32) (k : Fin 1024) (j : Fin 128) :
    hostGates w (ix2 k j) = if h : j.val < 8 then w (ix2 k ⟨4096 + j.val, by omega⟩) else 0 := by
  unfold hostGates
  split
  · rename_i h
    refine Routing.scatter_set_hit _ _ _ _ _ _ (fun i hi => ?_) (ix2 k ⟨j.val, h⟩) ((lands _ _ _ rfl k j).2 ⟨rfl, rfl⟩)
    obtain ⟨a, b, rfl⟩ : ∃ (a : Fin 1024) (b : Fin 8), i = ix2 a b := idx_pair i
    obtain ⟨rfl, hb⟩ := (lands a b _ rfl k j).1 hi
    refine congrArg w (funext fun d => Fin.ext ?_)
    match d with
    | ⟨0, _⟩ => show 0 + a.val = a.val; omega
    | ⟨1, _⟩ => show 4096 + b.val = 4096 + j.val; omega
  · rename_i h
    refine (Routing.scatter_set_miss _ _ _ _ _ (fun i hi => ?_)).trans ?_
    · obtain ⟨a, b, rfl⟩ : ∃ (a : Fin 1024) (b : Fin 8), i = ix2 a b := idx_pair i
      have := ((lands a b _ rfl k j).1 hi).2
      omega
    · pointwise

/-- A row against a gate's column: against the weights' column, or nothing beyond the last 8. -/
theorem projected_gates (z : Fin 1024 → EReal) (w : FVec Ideal S1024x4104 .f32) (j : Fin 128) :
    projected z (fun k => truncf (F := Ideal) .bf16 (hostGates w) bitsLt_bf16_f32 (ix2 k j))
      = if h : j.val < 8 then projected z (fun k => w (ix2 k ⟨4096 + j.val, by omega⟩)) else 0 := by
  have e : ∀ k, truncf (F := Ideal) .bf16 (hostGates w) bitsLt_bf16_f32 (ix2 k j)
      = if h : j.val < 8 then w (ix2 k ⟨4096 + j.val, by omega⟩) else 0 := fun k => by
    rw [← hostGates_at w k j]
    generalize hostGates w = Y
    pointwise
  rw [show (fun k => truncf (F := Ideal) .bf16 (hostGates w) bitsLt_bf16_f32 (ix2 k j)) = _ from funext e]
  split
  · rfl
  · unfold projected
    exact Finset.sum_eq_zero fun k _ => mul_zero _

/-- The biases are set from the first lane on. -/
theorem hostPlace_at (i : S2.Idx) : hostPlace i = 0#32 := by
  obtain ⟨a, rfl⟩ : ∃ a : Fin 2, i = ix1 a := ⟨i 0, by funext d; match d with | ⟨0, _⟩ => rfl⟩
  pointwise [hostPlace]
  split <;> rfl

/-- Update `b` of the host's set of the biases lands at lane `b`. -/
theorem bias_lands (b : Fin 8) (idx : IVec S2 32) (h0 : ∀ i, idx i = 0#32) (j : Fin 128) :
    scatter_S1x128_S2_S8_0_0_01_0.resultIdx? (ix1 b) idx = some (ix2 0 j) ↔ b.val = j.val := by
  refine (Routing.resultIdx?_ix2 (R := 1) (C := 128) scatter_S1x128_S2_S8_0_0_01_0 (ix1 b) idx 0 j).trans ?_
  have s0 : ∀ a, scatter_S1x128_S2_S8_0_0_01_0.start (ix1 b) idx a = 0 := fun a => by
    unfold ScatterDims.start
    split
    · rw [h0]; rfl
    · rfl
  have w0 : scatter_S1x128_S2_S8_0_0_01_0.window (ix1 b) 0 = 0 := rfl
  have w1 : scatter_S1x128_S2_S8_0_0_01_0.window (ix1 b) 1 = b.val := rfl
  rw [s0, s0, w0, w1]
  show (0 : ℤ) + ((0 : ℕ) : ℤ) = ((0 : ℕ) : ℤ) ∧ (0 : ℤ) + (b.val : ℤ) = (j.val : ℤ) ↔ _
  omega

/-- The host's biases: the eight, then zeros. -/
theorem hostBias_at (b : FVec Ideal S8 .f32) (j : Fin 128) :
    hostBias b (ix2 0 j) = if h : j.val < 8 then b (ix1 ⟨j.val, h⟩) else 0 := by
  unfold hostBias
  have hp := hostPlace_at
  generalize hostPlace = P at hp ⊢
  split
  · rename_i h
    refine Routing.scatter_set_hit _ _ _ _ _ _ (fun i hi => ?_) (ix1 ⟨j.val, h⟩) ((bias_lands _ _ hp j).2 rfl)
    obtain ⟨a, rfl⟩ : ∃ a : Fin 8, i = ix1 a := ⟨i 0, by funext d; match d with | ⟨0, _⟩ => rfl⟩
    exact congrArg (fun n => b (ix1 n)) (Fin.ext ((bias_lands a _ hp j).1 hi))
  · rename_i h
    refine (Routing.scatter_set_miss _ _ _ _ _ (fun i hi => ?_)).trans ?_
    · obtain ⟨a, rfl⟩ : ∃ a : Fin 8, i = ix1 a := ⟨i 0, by funext d; match d with | ⟨0, _⟩ => rfl⟩
      have := (bias_lands a _ hp j).1 hi
      omega
    · pointwise

/-- The queries' gains, scaled and repeated. -/
theorem hostGain_q (q k : FVec Ideal S128 .f32) (j : Fin 2048) (h : j.val < 1024) : hostGain q k (ix2 0 j)
    = q (ix1 ⟨j.val % 128, by omega⟩) * (((Real.log 2)⁻¹ * (√128)⁻¹ : ℝ) : EReal) := by
  rw [← hostScale_eq]
  unfold hostGain
  generalize hostScale = Y
  pointwise
  rw [dif_pos (by omega)]

/-- The keys' gains, repeated. -/
theorem hostGain_k (q k : FVec Ideal S128 .f32) (j : Fin 2048) (h : ¬j.val < 1024) : hostGain q k (ix2 0 j)
    = k (ix1 ⟨j.val % 128, by omega⟩) := by
  unfold hostGain
  generalize hostScale = Y
  pointwise
  rw [dif_neg (by omega)]
  exact congrArg (fun n => k (ix1 n)) (Fin.ext (by dsimp only; omega))

end Cert.Proof.Fox
-- ==== Proof.FoxCumsum.lean ====
/-
  A RUNNING SUM along a sequence, as the host computes it: a window as long as the sequence, padded before its start, so
  that a row's window ends at the row. It is the sum of the rows up to that one.
-/
module

public import proofs.«01_k».proof.Proof.FoxPrep
public import proofs.«01_k».proof.Proof.Gen.FoxReferenceIdeal.Read

@[expose] public section

set_option maxRecDepth 16384

noncomputable section

namespace Cert.Proof.Fox

open Idealize.ShloMosaic Idealize.ShloMosaic.TcCoe Idealize.SL.Sem Cert.FoxReferenceIdeal Cert.FoxReferenceIdeal.Gen

/-- Adding one after another is adding the sum. -/
theorem fold_add {ι : Type} (g : ι → EReal) : ∀ (l : List ι) (r : EReal), l.foldl (fun r n => r + g n) r = r + (l.map g).sum
  | [], r => (add_zero r).symm
  | a :: l, r => by
    rw [List.foldl_cons, fold_add g l, List.map_cons, List.sum_cons, add_assoc]

/-- A window of `8192` that ends at place `s` holds the places up to `s`. -/
theorem window_sum (F : ℕ → EReal) (s : ℕ) (hs : s < 8192) :
    (∑ k : Fin 8192, if 8191 ≤ s + k.val then F (s + k.val - 8191) else 0) = ∑ j ∈ Finset.range (s + 1), F j := by
  rw [Fin.sum_univ_eq_sum_range (fun k => if 8191 ≤ s + k then F (s + k - 8191) else 0) 8192,
    show 8192 = (8191 - s) + (s + 1) by omega, Finset.sum_range_add, Finset.sum_eq_zero, zero_add]
  · refine Finset.sum_congr rfl fun j hj => ?_
    rw [if_pos (by omega), show s + (8191 - s + j) - 8191 = j by omega]
  · intro k hk
    have := Finset.mem_range.1 hk
    rw [if_neg (by omega)]

/-- A window's index is its place along the sequence. -/
theorem sum_window (H : (⟨3, ![1, 8192, 1]⟩ : Shape).Idx → EReal) : ∑ i, H i = ∑ k : Fin 8192, H (ix3 (0 : Fin 1) k (0 : Fin 1)) := by
  refine (Fintype.sum_bijective (fun k : Fin 8192 => ix3 (0 : Fin 1) k (0 : Fin 1)) ⟨fun a b h => congrFun h 1, fun i => ⟨i 1, ?_⟩⟩ _ _ fun _ => rfl).symm
  funext d
  match d with
  | ⟨0, _⟩ => exact Subsingleton.elim (α := Fin 1) _ _
  | ⟨1, _⟩ => rfl
  | ⟨2, _⟩ => exact Subsingleton.elim (α := Fin 1) _ _

/-- The host's sum over a window, at an index: the initial value, and the window's places. -/
theorem window_at {s t u : Shape} (window strides lo hi : Fin s.rank → ℕ) (x : FVec Ideal s .f32) (init : FVec Ideal u .f32)
    (h : s.ReduceWindows window strides lo hi t) (hu : 0 < u.numel) (j : t.Idx) :
    Host.reduceWindowAdd (F := Ideal) window strides lo hi x init h hu j
      = init (Shape.Idx.first hu) + ∑ i : (⟨s.rank, window⟩ : Shape).Idx,
        if hin : ∀ a : Fin s.rank, lo a ≤ (j (a.cast h.1.symm)).val * strides a + (i a).val
            ∧ (j (a.cast h.1.symm)).val * strides a + (i a).val - lo a < s.size a then
          x (fun a => ⟨(j (a.cast h.1.symm)).val * strides a + (i a).val - lo a, (hin a).2⟩)
        else init (Shape.Idx.first hu) := by
  refine (fold_add _ _ _).trans (congrArg (_ + ·) ?_)
  refine (Fin.sum_univ_def _).symm.trans ?_
  refine Eq.trans (Finset.sum_congr rfl fun n _ => dite_congr rfl (fun _ => rfl) (fun _ => rfl)) (Equiv.sum_comp (⟨s.rank, window⟩ : Shape).rowMajor.symm (fun i : (⟨s.rank, window⟩ : Shape).Idx =>
    if hin : ∀ a : Fin s.rank, lo a ≤ (j (a.cast h.1.symm)).val * strides a + (i a).val
        ∧ (j (a.cast h.1.symm)).val * strides a + (i a).val - lo a < s.size a then
      x (fun a => ⟨(j (a.cast h.1.symm)).val * strides a + (i a).val - lo a, (hin a).2⟩)
    else init (Shape.Idx.first hu)))

/-- The host's running sum, at a row. -/
theorem cumsum_at (x : FVec Ideal S4x8192x128 .f32) (z : FVec Ideal S_ .f32) (hz : ∀ i, z i = 0) (b : Fin 4) (s : Fin 8192) (l : Fin 128) :
    Host.reduceWindowAdd (F := Ideal) ![1, 8192, 1] ![1, 1, 1] ![0, 8191, 0] ![0, 0, 0] x z
        reduceWindows_S4x8192x128_S4x8192x128_w1s1p0_0_w8192s1p8191_0_w1s1p0_0 h_S_ (ix3 b s l)
      = ∑ j ∈ Finset.range (s.val + 1), if h : j < 8192 then x (ix3 b ⟨j, h⟩ l) else 0 := by
  rw [← window_sum _ s.val s.isLt]
  rw [window_at, hz, zero_add]
  refine (sum_window _).trans ?_
  refine Finset.sum_congr rfl fun k _ => ?_
  by_cases h : 8191 ≤ s.val + k.val
  · rw [if_pos h, dif_pos (show s.val + k.val - 8191 < 8192 by omega), dif_pos]
    · refine congrArg x (funext fun a => Fin.ext ?_)
      match a with
      | ⟨0, _⟩ => show b.val * 1 + 0 - 0 = b.val; omega
      | ⟨1, _⟩ => show s.val * 1 + k.val - 8191 = s.val + k.val - 8191; omega
      | ⟨2, _⟩ => show l.val * 1 + 0 - 0 = l.val; omega
    · intro a
      match a with
      | ⟨0, _⟩ => show 0 ≤ b.val * 1 + 0 ∧ b.val * 1 + 0 - 0 < 4; omega
      | ⟨1, _⟩ => show 8191 ≤ s.val * 1 + k.val ∧ s.val * 1 + k.val - 8191 < 8192; omega
      | ⟨2, _⟩ => show 0 ≤ l.val * 1 + 0 ∧ l.val * 1 + 0 - 0 < 128; omega
  · rw [if_neg h, dif_neg]
    intro hin
    have h1 : 8191 ≤ s.val * 1 + k.val := (hin 1).1
    omega

end Cert.Proof.Fox
-- ==== Proof.FoxReference.lean ====
/-
  THE REFERENCE of the attention layer's first projection, read at an index: the stream after the residual, the
  projection with the queries' and keys' heads normalised, and the running sums of the gates' logarithms.
-/
module

public import proofs.«01_k».proof.Proof.FoxCumsum
public import proofs.«01_k».proof.Proof.FrontEquation

@[expose] public section

set_option maxRecDepth 16384

noncomputable section

namespace Cert.Proof.Fox

open Idealize.ShloMosaic Idealize.ShloMosaic.TcCoe Idealize.SL.Sem Cert.FoxReferenceIdeal Cert.FoxReferenceIdeal.Gen Cert.FoxReferenceIdeal.Read
open Cert.Proof.Front (added normed projected idx_pair refAdded refNormed)

/-- The logarithm of the logistic function, as the reference computes it. -/
def logLogistic (t : EReal) : EReal := -(max (-t) 0 + Ideal.log (1 + Ideal.exp (-(FloatOps.absf (F := Ideal) (φ := .f32) (-t)))))

section
variable (x g : FVec Ideal S4x8192x1024 .f32) (wo : FVec Ideal S1024x1024 .f32) (nw : FVec Ideal S1024 .f32) (w : FVec Ideal S1024x4104 .f32)
variable (bf : FVec Ideal S8 .f32) (qg kg : FVec Ideal S128 .f32)

/-- The reference's stream after the residual. -/
theorem ref1_at (b : Fin 4) (s : Fin 8192) (n : Fin 1024) : val_main_v1 (F := Ideal) x g wo (ix3 b s n) = refAdded x g wo b s n := by
  pointwise [val_main_v1, val_main_v0, refAdded, added]

/-- The reference's stream, normalised. -/
theorem ref14_at (b : Fin 4) (s : Fin 8192) (n : Fin 1024) : val_main_v14 (F := Ideal) x g wo nw (ix3 b s n) = refNormed x g wo nw b s n := by
  unfold refNormed
  rw [show refAdded x g wo b s = fun k => val_main_v1 (F := Ideal) x g wo (ix3 b s k) from funext fun k => (ref1_at x g wo b s k).symm]
  unfold val_main_v14 val_main_v11 val_main_v10 val_main_v9 val_main_v8 val_main_v6 val_main_v4 val_main_v3 val_main_v2
  generalize val_main_v1 (F := Ideal) x g wo = Y
  pointwise [val_main_v13, val_main_v12, val_main_v7, val_main_v5, val_main_cst, val_main_cst_0, val_main_cst_1, normed]

/-- The reference's whole projection. -/
theorem ref15_at (b : Fin 4) (s : Fin 8192) (n : Fin 4104) : val_main_v15 (F := Ideal) x g wo nw w (ix3 b s n)
    = projected (refNormed x g wo nw b s) (fun k => w (ix2 k n)) := by
  rw [show refNormed x g wo nw b s = fun k => val_main_v14 (F := Ideal) x g wo nw (ix3 b s k) from funext fun k => (ref14_at x g wo nw b s k).symm]
  unfold val_main_v15
  generalize val_main_v14 (F := Ideal) x g wo nw = Y
  pointwise [projected]

/-- The reference's queries, normalised by head and scaled. -/
theorem ref36_at (b : Fin 4) (s : Fin 8192) (h : Fin 8) (d : Fin 128) : val_main_v36 (F := Ideal) x g wo nw w qg (ix4 b s h d)
    = Ideal.div (Ideal.div (headNormed (fun q => projected (refNormed x g wo nw b s) (fun k => w (ix2 k ⟨h.val * 128 + q.val, by omega⟩)))
        (fun q => qg (ix1 q)) d) (Ideal.sqrt (Ideal.ofBits .f32 0x43000000#32))) (Ideal.log (Ideal.ofBits .f32 0x40000000#32)) := by
  simp only [← ref15_at]
  unfold val_main_v36 val_main_v33 val_main_v30 val_main_v27 val_main_v26 val_main_v25 val_main_v24 val_main_v22 val_main_v20
    val_main_v19 val_main_v18 val_main_v17 val_main_v16
  generalize val_main_v15 (F := Ideal) x g wo nw w = Y
  pointwise [val_main_v35, val_main_v34, val_main_v32, val_main_v31, val_main_v29, val_main_v28, val_main_v23, val_main_v21, val_main_cst_2, val_main_cst_3, val_main_cst_4,
    val_main_cst_5, val_main_cst_6, headNormed]

/-- The reference's keys, normalised by head. -/
theorem ref51_at (b : Fin 4) (s : Fin 8192) (h : Fin 8) (d : Fin 128) : val_main_v51 (F := Ideal) x g wo nw w kg (ix4 b s h d)
    = headNormed (fun q => projected (refNormed x g wo nw b s) (fun k => w (ix2 k ⟨1024 + (h.val * 128 + q.val), by omega⟩)))
        (fun q => kg (ix1 q)) d := by
  simp only [← ref15_at]
  unfold val_main_v51 val_main_v48 val_main_v47 val_main_v46 val_main_v45 val_main_v43 val_main_v41
    val_main_v40 val_main_v39 val_main_v38 val_main_v37
  generalize val_main_v15 (F := Ideal) x g wo nw w = Y
  pointwise [val_main_v50, val_main_v49, val_main_v44, val_main_v42, val_main_cst_7, val_main_cst_8, val_main_cst_9, headNormed]

/-- The reference's logits in 128 lanes: the eight gates', then zeros. -/
theorem ref62_at (b : Fin 4) (s : Fin 8192) (l : Fin 128) : val_main_v62 (F := Ideal) x g wo nw w bf (ix3 b s l)
    = if h : l.val < 8 then projected (refNormed x g wo nw b s) (fun k => w (ix2 k ⟨4096 + l.val, by omega⟩)) + bf (ix1 ⟨l.val, h⟩) else 0 := by
  simp only [← ref15_at]
  unfold val_main_v62 val_main_v60 val_main_v57
  generalize val_main_v15 (F := Ideal) x g wo nw w = Y
  pointwise [val_main_v61, val_main_v59, val_main_v58, val_main_cst_10]

/-- The reference's gates' logarithms. -/
theorem ref63_at (b : Fin 4) (s : Fin 8192) (l : Fin 128) : val_main_v63 (F := Ideal) x g wo nw w bf (ix3 b s l)
    = logLogistic (val_main_v62 (F := Ideal) x g wo nw w bf (ix3 b s l)) := by
  unfold val_main_v63 val_main_call0_v1 val_main_call0_call0_v11 val_main_call0_call0_v10 val_main_call0_call0_v9 val_main_call0_call0_v8
    val_main_call0_call0_v7 val_main_call0_call0_v6 val_main_call0_call0_v4 val_main_call0_call0_v3 val_main_call0_call0_v1 val_main_call0_v0
  generalize val_main_v62 (F := Ideal) x g wo nw w bf = Y
  pointwise [val_main_call0_call0_v0, val_main_call0_call0_v2, val_main_call0_call0_v5, val_main_call0_call0_cst, logLogistic]
  rw [if_neg (not_not.2 rfl)]
  rfl

/-- The reference's running sums. -/
theorem ref67_at (b : Fin 4) (s : Fin 8192) (l : Fin 128) : val_main_v67 (F := Ideal) x g wo nw w bf (ix3 b s l)
    = Ideal.div (∑ j ∈ Finset.range (s.val + 1), if h : j < 8192 then logLogistic (val_main_v62 (F := Ideal) x g wo nw w bf (ix3 b ⟨j, h⟩ l)) else 0)
      (Ideal.log (Ideal.ofBits .f32 0x40000000#32)) := by
  simp only [← ref63_at]
  refine Eq.trans ?_ (congrArg (Ideal.div · _) (cumsum_at (val_main_v63 (F := Ideal) x g wo nw w bf) (val_main_call1_call0_v0 (F := Ideal)) (fun i => ?_) b s l))
  · unfold val_main_v67 val_main_v64
    generalize Host.reduceWindowAdd (F := Ideal) _ _ _ _ _ _ _ _ = Y
    pointwise [val_main_v66, val_main_v65, val_main_cst_11]
  · obtain rfl : i = ix0 := funext fun d => d.elim0
    pointwise [val_main_call1_call0_v0, val_main_call1_call0_cst]

/-- The reference's first result, the stream, a row per query. -/
theorem ref68_at (n : Fin 32768) (k : Fin 1024) : val_main_v68 (F := Ideal) x g wo (ix2 n k)
    = refAdded x g wo ⟨n.val / 8192, by omega⟩ ⟨n.val % 8192, by omega⟩ k := by
  rw [← ref1_at]
  unfold val_main_v68
  generalize val_main_v1 (F := Ideal) x g wo = Y
  pointwise

/-- The reference's second result, joined. -/
theorem ref69_at (n : Fin 32768) (k : Fin 4096) : val_main_v69 (F := Ideal) x g wo nw w qg kg (ix2 n k)
    = if h : k.val < 1024 then
        val_main_v36 (F := Ideal) x g wo nw w qg (ix4 ⟨n.val / 8192, by omega⟩ ⟨n.val % 8192, by omega⟩ ⟨k.val / 128, by omega⟩ ⟨k.val % 128, by omega⟩)
      else if h' : k.val < 2048 then
        val_main_v51 (F := Ideal) x g wo nw w kg (ix4 ⟨n.val / 8192, by omega⟩ ⟨n.val % 8192, by omega⟩ ⟨k.val / 128 - 8, by omega⟩ ⟨k.val % 128, by omega⟩)
      else val_main_v15 (F := Ideal) x g wo nw w (ix3 ⟨n.val / 8192, by omega⟩ ⟨n.val % 8192, by omega⟩ ⟨k.val, by omega⟩) := by
  unfold val_main_v69 val_main_v56 val_main_v55 val_main_v54 val_main_v53 val_main_v52
  generalize val_main_v15 (F := Ideal) x g wo nw w = Y
  generalize val_main_v36 (F := Ideal) x g wo nw w qg = Q
  generalize val_main_v51 (F := Ideal) x g wo nw w kg = K
  pointwise
  by_cases h : k.val < 1024
  · rw [dif_pos h, dif_pos h]
  · rw [dif_neg h, dif_neg h]
    by_cases h' : k.val < 2048
    · rw [dif_pos h', dif_pos (by omega)]
      exact congrArg₂ (fun e d => K (ix4 _ _ e d)) (Fin.ext (by dsimp only; omega)) (Fin.ext (by dsimp only; omega))
    · rw [dif_neg h', dif_neg (by omega)]
      exact congrArg (fun e => Y (ix3 _ _ e)) (Fin.ext (by dsimp only; omega))

/-- The reference's third result, a row per query. -/
theorem ref70_at (n : Fin 32768) (l : Fin 128) : val_main_v70 (F := Ideal) x g wo nw w bf (ix2 n l)
    = val_main_v67 (F := Ideal) x g wo nw w bf (ix3 ⟨n.val / 8192, by omega⟩ ⟨n.val % 8192, by omega⟩ l) := by
  unfold val_main_v70
  generalize val_main_v67 (F := Ideal) x g wo nw w bf = Y
  pointwise

/-- The reference's fourth result, head by head. -/
theorem ref72_at (b : Fin 4) (h : Fin 8) (s : Fin 8192) : val_main_v72 (F := Ideal) x g wo nw w bf (ix3 b h s)
    = val_main_v67 (F := Ideal) x g wo nw w bf (ix3 b s ⟨h.val, by omega⟩) := by
  unfold val_main_v72 val_main_v71
  generalize val_main_v67 (F := Ideal) x g wo nw w bf = Y
  pointwise

end

end Cert.Proof.Fox
-- ==== Proof.FoxEquation.lean ====
/-
  THE EQUATION of the attention layer's first projection: each element of the four arrays the kernel leaves is the
  reference's. The scale the host puts in the queries' gains is the reference's two divisions; the factor to base two that
  the kernel puts on each gate is the reference's one division of the running sum.
-/
module

public import proofs.«01_k».proof.Proof.FoxReference

@[expose] public section

set_option maxRecDepth 16384

noncomputable section

namespace Cert.Proof.Fox

open Idealize.ShloMosaic Idealize.ShloMosaic.TcCoe Idealize.SL.Sem Cert.FoxReferenceIdeal Cert.FoxReferenceIdeal.Gen Cert.FoxReferenceIdeal.Read
open Cert.Proof.Front (added normed projected idx_pair added_congr refAdded refNormed)

/-- A factor on the gains is a factor on the normalised head. -/
theorem headNormed_scaled (s g : Fin 128 → EReal) (a : EReal) (n : Fin 128) : headNormed s (fun q => g q * a) n = headNormed s g n * a :=
  (mul_assoc _ _ _).symm

/-- The reference's two divisions are one factor. -/
theorem scaled_eq (y : EReal) : Ideal.div (Ideal.div y (Ideal.sqrt (Ideal.ofBits .f32 0x43000000#32))) (Ideal.log (Ideal.ofBits .f32 0x40000000#32))
    = y * (((Real.log 2)⁻¹ * (√128)⁻¹ : ℝ) : EReal) := by
  rw [word_two, word_128, Ideal.sqrt_coe, if_neg (by norm_num), Ideal.log_coe, if_neg (by norm_num),
    Ideal.div_coe (Real.sqrt_ne_zero'.mpr (by norm_num)), Ideal.div_coe (Real.log_pos one_lt_two).ne', mul_assoc, ← EReal.coe_mul,
    one_div, one_div, mul_comm (√128)⁻¹]

/-- The factor to base two. -/
theorem factor_eq : Named.named (F := Ideal) (φ := .f32) Cert.FoxIdeal.κ "log2e" 0x3FB8AA3B#32 = (((Real.log 2)⁻¹ : ℝ) : EReal) := rfl

/-- A factor on each term is a factor on the sum. -/
theorem sum_scaled (F : ℕ → EReal) (a : ℝ) (ha : 0 ≤ a) (n : ℕ) :
    (∑ j ∈ Finset.range n, F j) * (a : EReal) = ∑ j ∈ Finset.range n, F j * (a : EReal) := by
  induction n with
  | zero => rw [Finset.range_zero, Finset.sum_empty, Finset.sum_empty, zero_mul]
  | succ n ih =>
    rw [Finset.sum_range_succ, Finset.sum_range_succ, ← ih]
    exact EReal.right_distrib_of_nonneg_of_ne_top (EReal.coe_nonneg.2 ha) (EReal.coe_ne_top a) _ _

/-- The kernel's gate is the reference's, to base two. -/
theorem gate_base (t : EReal) : gate t = logLogistic t * (((Real.log 2)⁻¹ : ℝ) : EReal) := by
  unfold gate logLogistic
  rw [factor_eq]
  simp only [zero_sub]

section
variable (z : Fin 1024 → EReal) (w : FVec Ideal S1024x4104 .f32) (qg kg : FVec Ideal S128 .f32)

/-- A query's column: the reference's head, scaled. -/
theorem column_q (k : Fin 4096) (h : k.val < 1024) :
    column z (fun j n => w (ix2 j ⟨n.val, by omega⟩)) (fun n => hostGain qg kg (ix2 0 n)) k
      = headNormed (fun q => projected z (fun j => w (ix2 j ⟨k.val / 128 * 128 + q.val, by omega⟩))) (fun q => qg (ix1 q)) ⟨k.val % 128, by omega⟩
        * (((Real.log 2)⁻¹ * (√128)⁻¹ : ℝ) : EReal) := by
  unfold column
  rw [dif_pos (by omega), ← headNormed_scaled]
  refine headNormed_congr (funext fun q => ?_) (funext fun q => ?_) rfl
  · refine congrArg (projected z) (funext fun j => congrArg (fun n => w (ix2 j n)) (Fin.ext ?_))
    show 128 * (k.val / 128) + q.val = k.val / 128 * 128 + q.val
    omega
  · refine (hostGain_q qg kg ⟨128 * (k.val / 128) + q.val, by omega⟩ (by dsimp only; omega)).trans ?_
    exact congrArg (fun n => qg (ix1 n) * _) (Fin.ext (by dsimp only; omega))

/-- A key's column: the reference's head. -/
theorem column_k (k : Fin 4096) (h : ¬k.val < 1024) (h' : k.val < 2048) :
    column z (fun j n => w (ix2 j ⟨n.val, by omega⟩)) (fun n => hostGain qg kg (ix2 0 n)) k
      = headNormed (fun q => projected z (fun j => w (ix2 j ⟨1024 + ((k.val / 128 - 8) * 128 + q.val), by omega⟩))) (fun q => kg (ix1 q))
        ⟨k.val % 128, by omega⟩ := by
  unfold column
  rw [dif_pos h']
  refine headNormed_congr (funext fun q => ?_) (funext fun q => ?_) rfl
  · refine congrArg (projected z) (funext fun j => congrArg (fun n => w (ix2 j n)) (Fin.ext ?_))
    show 128 * (k.val / 128) + q.val = 1024 + ((k.val / 128 - 8) * 128 + q.val)
    omega
  · refine (hostGain_k qg kg ⟨128 * (k.val / 128) + q.val, by omega⟩ (by dsimp only; omega)).trans ?_
    exact congrArg (fun n => kg (ix1 n)) (Fin.ext (by dsimp only; omega))

end

section
variable (m : (ℓ : Loc Cert.FoxIdeal.nD Cert.FoxIdeal.τ Cert.FoxIdeal.sig) → Buf (Elt Ideal) ℓ) (c : Dev Cert.FoxIdeal.nD)

/-- The stream a launch is given. -/
abbrev argX : FVec Ideal S4x8192x1024 .f32 := m ((c : Thread Cert.FoxIdeal.nD Cert.FoxIdeal.τ).loc Cert.FoxIdeal.main_arg0)
/-- The gated output a launch is given. -/
abbrev argG : FVec Ideal S4x8192x1024 .f32 := m ((c : Thread Cert.FoxIdeal.nD Cert.FoxIdeal.τ).loc Cert.FoxIdeal.main_arg1)
/-- The output projection's weights a launch is given. -/
abbrev argWo : FVec Ideal S1024x1024 .f32 := m ((c : Thread Cert.FoxIdeal.nD Cert.FoxIdeal.τ).loc Cert.FoxIdeal.main_arg2)
/-- The gains a launch is given. -/
abbrev argNw : FVec Ideal S1024 .f32 := m ((c : Thread Cert.FoxIdeal.nD Cert.FoxIdeal.τ).loc Cert.FoxIdeal.main_arg3)
/-- The projection's weights a launch is given. -/
abbrev argW : FVec Ideal S1024x4104 .f32 := m ((c : Thread Cert.FoxIdeal.nD Cert.FoxIdeal.τ).loc Cert.FoxIdeal.main_arg4)
/-- The gates' biases a launch is given. -/
abbrev argBf : FVec Ideal S8 .f32 := m ((c : Thread Cert.FoxIdeal.nD Cert.FoxIdeal.τ).loc Cert.FoxIdeal.main_arg5)
/-- The queries' gains a launch is given. -/
abbrev argQg : FVec Ideal S128 .f32 := m ((c : Thread Cert.FoxIdeal.nD Cert.FoxIdeal.τ).loc Cert.FoxIdeal.main_arg6)
/-- The keys' gains a launch is given. -/
abbrev argKg : FVec Ideal S128 .f32 := m ((c : Thread Cert.FoxIdeal.nD Cert.FoxIdeal.τ).loc Cert.FoxIdeal.main_arg7)

/-- A row of the kernel's stream after the residual is the reference's. -/
theorem rowAdded_eq (n : Fin 32768) : rowAdded m c n
    = refAdded (argX m c) (argG m c) (argWo m c) ⟨n.val / 8192, by omega⟩ ⟨n.val % 8192, by omega⟩ := by
  unfold rowAdded refAdded
  rw [V_x, V_g, V_wo]
  refine added_congr (funext fun k => ?_) (funext fun k => ?_) (funext fun k => funext fun j => ?_)
  · show shapeCast _ (argX m c) _ _ = _
    generalize argX m c = x
    pointwise
  · show truncf _ (shapeCast _ (argG m c) _) _ _ = _
    generalize argG m c = x
    pointwise
  · rfl

/-- A normalised row of the kernel is the reference's. -/
theorem rowNormed_eq (n : Fin 32768) : rowNormed m c n
    = refNormed (argX m c) (argG m c) (argWo m c) (argNw m c) ⟨n.val / 8192, by omega⟩ ⟨n.val % 8192, by omega⟩ := by
  unfold rowNormed refNormed
  rw [rowAdded_eq, V_nw]
  refine congrArg (normed _) (funext fun k => ?_)
  show shapeCast _ (argNw m c) _ _ = _
  generalize argNw m c = x
  pointwise

/-- The stream the kernel leaves is the reference's. -/
theorem stream_eq : val_main_v68 (F := Ideal) (argX m c) (argG m c) (argWo m c) = stream m c := by
  funext i
  obtain ⟨n, k, rfl⟩ : ∃ (n : Fin 32768) (k : Fin 1024), i = ix2 n k := idx_pair i
  exact (ref68_at _ _ _ n k).trans (congrFun (rowAdded_eq m c n) k).symm

/-- A column of the kernel's projection, of the weights and gains given. -/
theorem mains_at (n : Fin 32768) (k : Fin 4096) : mains m c (ix2 n k)
    = column (rowNormed m c n) (fun j n => argW m c (ix2 j ⟨n.val, by omega⟩)) (fun n => hostGain (argQg m c) (argKg m c) (ix2 0 n)) k := by
  refine column_congr rfl (funext fun j => funext fun p => ?_) (funext fun p => ?_) k
  · rw [V_w]
    exact hostMain_at (argW m c) j p
  · rw [V_hg]

/-- The projection the kernel leaves is the reference's. -/
theorem mains_eq : val_main_v69 (F := Ideal) (argX m c) (argG m c) (argWo m c) (argNw m c) (argW m c) (argQg m c) (argKg m c) = mains m c := by
  funext i
  obtain ⟨n, k, rfl⟩ : ∃ (n : Fin 32768) (k : Fin 4096), i = ix2 n k := idx_pair i
  refine (ref69_at _ _ _ _ _ _ _ n k).trans ?_
  rw [mains_at, rowNormed_eq]
  by_cases h : k.val < 1024
  · rw [dif_pos h, ref36_at, scaled_eq, column_q _ _ _ _ k h]
  · rw [dif_neg h]
    by_cases h' : k.val < 2048
    · rw [dif_pos h', ref51_at, column_k _ _ _ _ k h h']
    · rw [dif_neg h', ref15_at]
      unfold column
      rw [dif_neg h']

/-- The kernel's gate of a row is the reference's, to base two. -/
theorem rowGate_eq (n : Fin 32768) (l : Fin 128) : rowGate m c n l
    = logLogistic (val_main_v62 (F := Ideal) (argX m c) (argG m c) (argWo m c) (argNw m c) (argW m c) (argBf m c)
        (ix3 ⟨n.val / 8192, by omega⟩ ⟨n.val % 8192, by omega⟩ l)) * (((Real.log 2)⁻¹ : ℝ) : EReal) := by
  unfold rowGate
  rw [gate_base, ref62_at, ← rowNormed_eq]
  refine congrArg (fun t => logLogistic t * _) ?_
  unfold logit
  have e : projected (rowNormed m c n) (fun k => Cert.FoxIdeal.Gen.V m c Cert.FoxIdeal.main_v6 (ix2 k l))
      = if h : l.val < 8 then projected (rowNormed m c n) (fun k => argW m c (ix2 k ⟨4096 + l.val, by omega⟩)) else 0 := by
    refine Eq.trans ?_ (projected_gates (rowNormed m c n) (argW m c) l)
    exact congrArg (projected (rowNormed m c n)) (funext fun j => congrFun (V_wf m c) (ix2 j l))
  have b : Cert.FoxIdeal.Gen.V m c Cert.FoxIdeal.main_v30 (ix2 0 l) = if h : l.val < 8 then argBf m c (ix1 ⟨l.val, h⟩) else 0 :=
    (congrFun (V_bf m c) (ix2 0 l)).trans (hostBias_at (argBf m c) l)
  rw [e, b]
  by_cases h : l.val < 8
  · rw [dif_pos h, dif_pos h, dif_pos h]
  · rw [dif_neg h, dif_neg h, dif_neg h, add_zero]

/-- The reference's running sum at a row is the kernel's. -/
theorem rowSum_eq (n : Fin 32768) (l : Fin 128) :
    val_main_v67 (F := Ideal) (argX m c) (argG m c) (argWo m c) (argNw m c) (argW m c) (argBf m c)
        (ix3 ⟨n.val / 8192, by omega⟩ ⟨n.val % 8192, by omega⟩ l) = rowSum m c n l := by
  rw [ref67_at, word_two, Ideal.log_coe, if_neg (by norm_num), Ideal.div_coe (Real.log_pos one_lt_two).ne', one_div,
    sum_scaled _ _ (inv_nonneg.2 (Real.log_pos one_lt_two).le)]
  unfold rowSum
  refine Finset.sum_congr rfl fun j hj => ?_
  have hj' := Finset.mem_range.1 hj
  have hj2 : j < n.val % 8192 + 1 := hj'
  unfold seqGate
  rw [dif_pos (by omega), dif_pos (by omega), rowGate_eq]
  refine congrArg₂ (fun b s => logLogistic (val_main_v62 (F := Ideal) _ _ _ _ _ _ (ix3 b s l)) * _) (Fin.ext ?_) (Fin.ext ?_)
  · show n.val / 8192 = (8192 * (n.val / 8192) + j) / 8192
    omega
  · show j = (8192 * (n.val / 8192) + j) % 8192
    omega

/-- The running sums the kernel leaves are the reference's. -/
theorem sums_eq : val_main_v70 (F := Ideal) (argX m c) (argG m c) (argWo m c) (argNw m c) (argW m c) (argBf m c) = sums m c := by
  funext i
  obtain ⟨n, l, rfl⟩ : ∃ (n : Fin 32768) (l : Fin 128), i = ix2 n l := idx_pair i
  exact (ref70_at _ _ _ _ _ _ n l).trans (rowSum_eq m c n l)

/-- The running sums the kernel leaves head by head are the reference's. -/
theorem headSums_eq : val_main_v72 (F := Ideal) (argX m c) (argG m c) (argWo m c) (argNw m c) (argW m c) (argBf m c) = headSums m c := by
  funext i
  obtain ⟨b, h, s, rfl⟩ : ∃ (b : Fin 4) (h : Fin 8) (s : Fin 8192), i = ix3 b h s :=
    ⟨i 0, i 1, i 2, by funext a; match a with | ⟨0, _⟩ => rfl | ⟨1, _⟩ => rfl | ⟨2, _⟩ => rfl⟩
  refine (ref72_at _ _ _ _ _ _ b h s).trans ?_
  refine Eq.trans ?_ (rowSum_eq m c ⟨8192 * b.val + s.val, by omega⟩ ⟨h.val, by omega⟩)
  refine congrArg₂ (fun b s => val_main_v67 (F := Ideal) _ _ _ _ _ _ (ix3 b s _)) (Fin.ext ?_) (Fin.ext ?_)
  · show b.val = (8192 * b.val + s.val) / 8192
    omega
  · show s.val = (8192 * b.val + s.val) % 8192
    omega

end

end Cert.Proof.Fox
-- ==== Proof.FirstRow.lean ====
/-
  ONE ROW of the first layer's projection, and what one grid point computes of it: as in the attention layer's other
  projection, without a residual before it. The printed expressions are read at an element.
-/
module

public import proofs.«01_k».proof.Proof.Gen.FirstIdeal.Skeleton
public import proofs.«01_k».proof.Proof.FoxScan

@[expose] public section

set_option maxRecDepth 16384

noncomputable section

namespace Cert.Proof.First

open Idealize.ShloMosaic Idealize.SL.Sem Cert.FirstIdeal Cert.FirstIdeal.Gen
open Cert.Proof.Front (normed projected)
open Cert.Proof.Fox (headNormed step gate logit)

/-- The two halves of a block under each other, normalised. -/
theorem pay1_at (x y : FVec Ideal S512x1024 .f32) (nw nw' : FVec Ideal S1x1024 .f32) (r n : Fin 1024) :
    k0_pay1 (F := Ideal) x nw y nw' (ix2 r n)
      = if h : r.val < 512 then normed (fun k => x (ix2 ⟨r.val, h⟩ k)) (fun k => nw (ix2 0 k)) n
        else normed (fun k => y (ix2 ⟨r.val - 512, by omega⟩ k)) (fun k => nw' (ix2 0 k)) n := by
  pointwise [k0_pay1, normed]

/-- The first tile of the projection. -/
theorem pay13_at (z : FVec Ideal S1024x1024 .bf16) (w : FVec Ideal S1024x512 .bf16) (r : Fin 1024) (n : Fin 512) :
    k0_pay13 (F := Ideal) z w (ix2 r n) = projected (fun k => z (ix2 r k)) (fun k => w (ix2 k n)) := by
  pointwise [k0_pay13, projected]

/-- The second tile of the projection. -/
theorem pay22_at (z : FVec Ideal S1024x1024 .bf16) (w : FVec Ideal S1024x512 .bf16) (r : Fin 1024) (n : Fin 512) :
    k0_pay22 (F := Ideal) z w (ix2 r n) = projected (fun k => z (ix2 r k)) (fun k => w (ix2 k n)) := by
  pointwise [k0_pay22, projected]

/-- The third tile of the projection. -/
theorem pay29_at (z : FVec Ideal S1024x1024 .bf16) (w : FVec Ideal S1024x512 .bf16) (r : Fin 1024) (n : Fin 512) :
    k0_pay29 (F := Ideal) z w (ix2 r n) = projected (fun k => z (ix2 r k)) (fun k => w (ix2 k n)) := by
  pointwise [k0_pay29, projected]

/-- The fourth tile of the projection. -/
theorem pay36_at (z : FVec Ideal S1024x1024 .bf16) (w : FVec Ideal S1024x512 .bf16) (r : Fin 1024) (n : Fin 512) :
    k0_pay36 (F := Ideal) z w (ix2 r n) = projected (fun k => z (ix2 r k)) (fun k => w (ix2 k n)) := by
  pointwise [k0_pay36, projected]

/-- The fifth tile of the projection. -/
theorem pay42_at (z : FVec Ideal S1024x1024 .bf16) (w : FVec Ideal S1024x512 .bf16) (r : Fin 1024) (n : Fin 512) :
    k0_pay42 (F := Ideal) z w (ix2 r n) = projected (fun k => z (ix2 r k)) (fun k => w (ix2 k n)) := by
  pointwise [k0_pay42, projected]

/-- The sixth tile of the projection. -/
theorem pay47_at (z : FVec Ideal S1024x1024 .bf16) (w : FVec Ideal S1024x512 .bf16) (r : Fin 1024) (n : Fin 512) :
    k0_pay47 (F := Ideal) z w (ix2 r n) = projected (fun k => z (ix2 r k)) (fun k => w (ix2 k n)) := by
  pointwise [k0_pay47, projected]

/-- The seventh tile of the projection. -/
theorem pay52_at (z : FVec Ideal S1024x1024 .bf16) (w : FVec Ideal S1024x512 .bf16) (r : Fin 1024) (n : Fin 512) :
    k0_pay52 (F := Ideal) z w (ix2 r n) = projected (fun k => z (ix2 r k)) (fun k => w (ix2 k n)) := by
  pointwise [k0_pay52, projected]

/-- The eighth tile of the projection. -/
theorem pay57_at (z : FVec Ideal S1024x1024 .bf16) (w : FVec Ideal S1024x512 .bf16) (r : Fin 1024) (n : Fin 512) :
    k0_pay57 (F := Ideal) z w (ix2 r n) = projected (fun k => z (ix2 r k)) (fun k => w (ix2 k n)) := by
  pointwise [k0_pay57, projected]

/-- The first tile, columns 0 to 127. -/
theorem pay16_at (z : FVec Ideal S1024x1024 .bf16) (w : FVec Ideal S1024x512 .bf16) (g : FVec Ideal S1x128 .f32) (r : Fin 1024) (n : Fin 128) :
    k0_pay16 (F := Ideal) (k0_pay14 z w) (k0_pay15 z w) (Scalar.ofBits .f32 0x358637BD#32) g (ix2 r n)
      = headNormed (fun q => k0_pay13 (F := Ideal) z w (ix2 r ⟨q.val, by omega⟩)) (fun q => g (ix2 0 q)) n := by
  unfold k0_pay16 k0_pay15 k0_pay14
  generalize k0_pay13 (F := Ideal) z w = Y
  pointwise [headNormed]

/-- The first tile, columns 128 to 255. -/
theorem pay17_at (T : FVec Ideal S1024x512 .f32) (g : FVec Ideal S1x128 .f32) (r : Fin 1024) (n : Fin 128) :
    k0_pay17 (F := Ideal) T g (ix2 r n)
      = headNormed (fun q => T (ix2 r ⟨128 + q.val, by omega⟩)) (fun q => g (ix2 0 q)) n := by
  pointwise [k0_pay17, headNormed]

/-- The first tile, columns 256 to 383. -/
theorem pay20_at (T : FVec Ideal S1024x512 .f32) (g : FVec Ideal S1x128 .f32) (r : Fin 1024) (n : Fin 128) :
    k0_pay20 (F := Ideal) (k0_pay18 T) (k0_pay19 g) (ix2 r n)
      = headNormed (fun q => T (ix2 r ⟨256 + q.val, by omega⟩)) (fun q => g (ix2 0 q)) n := by
  pointwise [k0_pay20, k0_pay18, k0_pay19, headNormed]

/-- The first tile, columns 384 to 511. -/
theorem pay21_at (T : FVec Ideal S1024x512 .f32) (g : FVec Ideal S1x128 .f32) (r : Fin 1024) (n : Fin 128) :
    k0_pay21 (F := Ideal) T g (ix2 r n)
      = headNormed (fun q => T (ix2 r ⟨384 + q.val, by omega⟩)) (fun q => g (ix2 0 q)) n := by
  pointwise [k0_pay21, headNormed]

/-- The second tile, columns 0 to 127. -/
theorem pay23_at (z : FVec Ideal S1024x1024 .bf16) (w : FVec Ideal S1024x512 .bf16) (g : FVec Ideal S1x128 .f32) (r : Fin 1024) (n : Fin 128) :
    k0_pay23 (F := Ideal) z w g (ix2 r n)
      = headNormed (fun q => k0_pay22 (F := Ideal) z w (ix2 r ⟨q.val, by omega⟩)) (fun q => g (ix2 0 q)) n := by
  unfold k0_pay23
  generalize k0_pay22 (F := Ideal) z w = Y
  pointwise [headNormed]

/-- The second tile, columns 128 to 255. -/
theorem pay24_at (T : FVec Ideal S1024x512 .f32) (g : FVec Ideal S1x128 .f32) (r : Fin 1024) (n : Fin 128) :
    k0_pay24 (F := Ideal) T g (ix2 r n)
      = headNormed (fun q => T (ix2 r ⟨128 + q.val, by omega⟩)) (fun q => g (ix2 0 q)) n := by
  pointwise [k0_pay24, headNormed]

/-- The second tile, columns 256 to 383. -/
theorem pay25_at (T : FVec Ideal S1024x512 .f32) (g : FVec Ideal S1x128 .f32) (r : Fin 1024) (n : Fin 128) :
    k0_pay25 (F := Ideal) T g (ix2 r n)
      = headNormed (fun q => T (ix2 r ⟨256 + q.val, by omega⟩)) (fun q => g (ix2 0 q)) n := by
  pointwise [k0_pay25, headNormed]

/-- The second tile, columns 384 to 511. -/
theorem pay28_at (T : FVec Ideal S1024x512 .f32) (g : FVec Ideal S1x128 .f32) (r : Fin 1024) (n : Fin 128) :
    k0_pay28 (F := Ideal) (k0_pay26 T) (k0_pay27 T) g (ix2 r n)
      = headNormed (fun q => T (ix2 r ⟨384 + q.val, by omega⟩)) (fun q => g (ix2 0 q)) n := by
  pointwise [k0_pay28, k0_pay27, k0_pay26, headNormed]

/-- The third tile, columns 0 to 127. -/
theorem pay30_at (z : FVec Ideal S1024x1024 .bf16) (w : FVec Ideal S1024x512 .bf16) (g : FVec Ideal S1x128 .f32) (r : Fin 1024) (n : Fin 128) :
    k0_pay30 (F := Ideal) z w g (ix2 r n)
      = headNormed (fun q => k0_pay29 (F := Ideal) z w (ix2 r ⟨q.val, by omega⟩)) (fun q => g (ix2 0 q)) n := by
  unfold k0_pay30
  generalize k0_pay29 (F := Ideal) z w = Y
  pointwise [headNormed]

/-- The third tile, columns 128 to 255. -/
theorem pay33_at (z : FVec Ideal S1024x1024 .bf16) (w : FVec Ideal S1024x512 .bf16) (g : FVec Ideal S1x128 .f32) (r : Fin 1024) (n : Fin 128) :
    k0_pay33 (F := Ideal) (k0_pay31 z w) (k0_pay32 z w) g (ix2 r n)
      = headNormed (fun q => k0_pay29 (F := Ideal) z w (ix2 r ⟨128 + q.val, by omega⟩)) (fun q => g (ix2 0 q)) n := by
  unfold k0_pay33 k0_pay32 k0_pay31
  generalize k0_pay29 (F := Ideal) z w = Y
  pointwise [headNormed]

/-- The third tile, columns 256 to 383. -/
theorem pay34_at (T : FVec Ideal S1024x512 .f32) (g : FVec Ideal S1x128 .f32) (r : Fin 1024) (n : Fin 128) :
    k0_pay34 (F := Ideal) T g (ix2 r n)
      = headNormed (fun q => T (ix2 r ⟨256 + q.val, by omega⟩)) (fun q => g (ix2 0 q)) n := by
  pointwise [k0_pay34, headNormed]

/-- The third tile, columns 384 to 511. -/
theorem pay35_at (T : FVec Ideal S1024x512 .f32) (g : FVec Ideal S1x128 .f32) (r : Fin 1024) (n : Fin 128) :
    k0_pay35 (F := Ideal) T g (ix2 r n)
      = headNormed (fun q => T (ix2 r ⟨384 + q.val, by omega⟩)) (fun q => g (ix2 0 q)) n := by
  pointwise [k0_pay35, headNormed]

/-- The fourth tile, columns 0 to 127. -/
theorem pay37_at (z : FVec Ideal S1024x1024 .bf16) (w : FVec Ideal S1024x512 .bf16) (g : FVec Ideal S1x128 .f32) (r : Fin 1024) (n : Fin 128) :
    k0_pay37 (F := Ideal) z w g (ix2 r n)
      = headNormed (fun q => k0_pay36 (F := Ideal) z w (ix2 r ⟨q.val, by omega⟩)) (fun q => g (ix2 0 q)) n := by
  unfold k0_pay37
  generalize k0_pay36 (F := Ideal) z w = Y
  pointwise [headNormed]

/-- The fourth tile, columns 128 to 255. -/
theorem pay38_at (z : FVec Ideal S1024x1024 .bf16) (w : FVec Ideal S1024x512 .bf16) (g : FVec Ideal S1x128 .f32) (r : Fin 1024) (n : Fin 128) :
    k0_pay38 (F := Ideal) z w g (ix2 r n)
      = headNormed (fun q => k0_pay36 (F := Ideal) z w (ix2 r ⟨128 + q.val, by omega⟩)) (fun q => g (ix2 0 q)) n := by
  unfold k0_pay38
  generalize k0_pay36 (F := Ideal) z w = Y
  pointwise [headNormed]

/-- The fourth tile, columns 256 to 383. -/
theorem pay40_at (z : FVec Ideal S1024x1024 .bf16) (w : FVec Ideal S1024x512 .bf16) (g : FVec Ideal S1x128 .f32) (r : Fin 1024) (n : Fin 128) :
    k0_pay40 (F := Ideal) (k0_pay39 z w) g (ix2 r n)
      = headNormed (fun q => k0_pay36 (F := Ideal) z w (ix2 r ⟨256 + q.val, by omega⟩)) (fun q => g (ix2 0 q)) n := by
  unfold k0_pay40 k0_pay39
  generalize k0_pay36 (F := Ideal) z w = Y
  pointwise [headNormed]

/-- The fourth tile, columns 384 to 511. -/
theorem pay41_at (T : FVec Ideal S1024x512 .f32) (g : FVec Ideal S1x128 .f32) (r : Fin 1024) (n : Fin 128) :
    k0_pay41 (F := Ideal) T g (ix2 r n)
      = headNormed (fun q => T (ix2 r ⟨384 + q.val, by omega⟩)) (fun q => g (ix2 0 q)) n := by
  pointwise [k0_pay41, headNormed]

/-- The fifth tile, columns 0 to 127. -/
theorem pay43_at (z : FVec Ideal S1024x1024 .bf16) (w : FVec Ideal S1024x512 .bf16) (r : Fin 1024) (n : Fin 128) :
    k0_pay43 (F := Ideal) z w (ix2 r n)
      = k0_pay42 (F := Ideal) z w (ix2 r ⟨n.val, by omega⟩) := by
  unfold k0_pay43
  generalize k0_pay42 (F := Ideal) z w = Y
  pointwise

/-- The fifth tile, columns 128 to 255. -/
theorem pay44_at (T : FVec Ideal S1024x512 .f32) (r : Fin 1024) (n : Fin 128) :
    k0_pay44 (F := Ideal) T (ix2 r n)
      = T (ix2 r ⟨128 + n.val, by omega⟩) := by
  pointwise [k0_pay44]

/-- The fifth tile, columns 256 to 383. -/
theorem pay45_at (T : FVec Ideal S1024x512 .f32) (r : Fin 1024) (n : Fin 128) :
    k0_pay45 (F := Ideal) T (ix2 r n)
      = T (ix2 r ⟨256 + n.val, by omega⟩) := by
  pointwise [k0_pay45]

/-- The fifth tile, columns 384 to 511. -/
theorem pay46_at (T : FVec Ideal S1024x512 .f32) (r : Fin 1024) (n : Fin 128) :
    k0_pay46 (F := Ideal) T (ix2 r n)
      = T (ix2 r ⟨384 + n.val, by omega⟩) := by
  pointwise [k0_pay46]

/-- The sixth tile, columns 0 to 127. -/
theorem pay48_at (z : FVec Ideal S1024x1024 .bf16) (w : FVec Ideal S1024x512 .bf16) (r : Fin 1024) (n : Fin 128) :
    k0_pay48 (F := Ideal) z w (ix2 r n)
      = k0_pay47 (F := Ideal) z w (ix2 r ⟨n.val, by omega⟩) := by
  unfold k0_pay48
  generalize k0_pay47 (F := Ideal) z w = Y
  pointwise

/-- The sixth tile, columns 128 to 255. -/
theorem pay49_at (z : FVec Ideal S1024x1024 .bf16) (w : FVec Ideal S1024x512 .bf16) (r : Fin 1024) (n : Fin 128) :
    k0_pay49 (F := Ideal) z w (ix2 r n)
      = k0_pay47 (F := Ideal) z w (ix2 r ⟨128 + n.val, by omega⟩) := by
  unfold k0_pay49
  generalize k0_pay47 (F := Ideal) z w = Y
  pointwise

/-- The sixth tile, columns 256 to 383. -/
theorem pay50_at (z : FVec Ideal S1024x1024 .bf16) (w : FVec Ideal S1024x512 .bf16) (r : Fin 1024) (n : Fin 128) :
    k0_pay50 (F := Ideal) z w (ix2 r n)
      = k0_pay47 (F := Ideal) z w (ix2 r ⟨256 + n.val, by omega⟩) := by
  unfold k0_pay50
  generalize k0_pay47 (F := Ideal) z w = Y
  pointwise

/-- The sixth tile, columns 384 to 511. -/
theorem pay51_at (z : FVec Ideal S1024x1024 .bf16) (w : FVec Ideal S1024x512 .bf16) (r : Fin 1024) (n : Fin 128) :
    k0_pay51 (F := Ideal) z w (ix2 r n)
      = k0_pay47 (F := Ideal) z w (ix2 r ⟨384 + n.val, by omega⟩) := by
  unfold k0_pay51
  generalize k0_pay47 (F := Ideal) z w = Y
  pointwise

/-- The seventh tile, columns 0 to 127. -/
theorem pay53_at (z : FVec Ideal S1024x1024 .bf16) (w : FVec Ideal S1024x512 .bf16) (r : Fin 1024) (n : Fin 128) :
    k0_pay53 (F := Ideal) z w (ix2 r n)
      = k0_pay52 (F := Ideal) z w (ix2 r ⟨n.val, by omega⟩) := by
  unfold k0_pay53
  generalize k0_pay52 (F := Ideal) z w = Y
  pointwise

/-- The seventh tile, columns 128 to 255. -/
theorem pay54_at (T : FVec Ideal S1024x512 .f32) (r : Fin 1024) (n : Fin 128) :
    k0_pay54 (F := Ideal) T (ix2 r n)
      = T (ix2 r ⟨128 + n.val, by omega⟩) := by
  pointwise [k0_pay54]

/-- The seventh tile, columns 256 to 383. -/
theorem pay55_at (T : FVec Ideal S1024x512 .f32) (r : Fin 1024) (n : Fin 128) :
    k0_pay55 (F := Ideal) T (ix2 r n)
      = T (ix2 r ⟨256 + n.val, by omega⟩) := by
  pointwise [k0_pay55]

/-- The seventh tile, columns 384 to 511. -/
theorem pay56_at (T : FVec Ideal S1024x512 .f32) (r : Fin 1024) (n : Fin 128) :
    k0_pay56 (F := Ideal) T (ix2 r n)
      = T (ix2 r ⟨384 + n.val, by omega⟩) := by
  pointwise [k0_pay56]

/-- The eighth tile, columns 0 to 127. -/
theorem pay58_at (z : FVec Ideal S1024x1024 .bf16) (w : FVec Ideal S1024x512 .bf16) (r : Fin 1024) (n : Fin 128) :
    k0_pay58 (F := Ideal) z w (ix2 r n)
      = k0_pay57 (F := Ideal) z w (ix2 r ⟨n.val, by omega⟩) := by
  unfold k0_pay58
  generalize k0_pay57 (F := Ideal) z w = Y
  pointwise

/-- The eighth tile, columns 128 to 255. -/
theorem pay59_at (z : FVec Ideal S1024x1024 .bf16) (w : FVec Ideal S1024x512 .bf16) (r : Fin 1024) (n : Fin 128) :
    k0_pay59 (F := Ideal) z w (ix2 r n)
      = k0_pay57 (F := Ideal) z w (ix2 r ⟨128 + n.val, by omega⟩) := by
  unfold k0_pay59
  generalize k0_pay57 (F := Ideal) z w = Y
  pointwise

/-- The eighth tile, columns 256 to 383. -/
theorem pay60_at (z : FVec Ideal S1024x1024 .bf16) (w : FVec Ideal S1024x512 .bf16) (r : Fin 1024) (n : Fin 128) :
    k0_pay60 (F := Ideal) z w (ix2 r n)
      = k0_pay57 (F := Ideal) z w (ix2 r ⟨256 + n.val, by omega⟩) := by
  unfold k0_pay60
  generalize k0_pay57 (F := Ideal) z w = Y
  pointwise

/-- The eighth tile, columns 384 to 511. -/
theorem pay61_at (z : FVec Ideal S1024x1024 .bf16) (w : FVec Ideal S1024x512 .bf16) (r : Fin 1024) (n : Fin 128) :
    k0_pay61 (F := Ideal) z w (ix2 r n)
      = k0_pay57 (F := Ideal) z w (ix2 r ⟨384 + n.val, by omega⟩) := by
  unfold k0_pay61
  generalize k0_pay57 (F := Ideal) z w = Y
  pointwise

/-- The gates before the scan, of their logits without the bias. -/
def gates (t : FVec Ideal S1024x128 .f32) (b : FVec Ideal S1x128 .f32) : FVec Ideal S1024x128 .f32 :=
  have a : FVec Ideal S1024x128 .f32 := subf (broadcast S1024x128 (Scalar.ofBits .f32 0x00000000#32)) (addf t (broadcastTo S1024x128 (shapeCast S1x128 b shapeCasts_S1x128_S1x128) broadcasts_S1x128_S1024x128))
  mulf (subf (broadcast S1024x128 (Scalar.ofBits .f32 0x00000000#32)) (addf (maximumf a (broadcast S1024x128 (Scalar.ofBits .f32 0x00000000#32)))
     (log (addf (broadcast S1024x128 (Scalar.ofBits .f32 0x3F800000#32)) (exp (subf (broadcast S1024x128 (Scalar.ofBits .f32 0x00000000#32)) (absf a)))))))
    (broadcast S1024x128 (Named.named κ "log2e" 0x3FB8AA3B#32))

/-- The gates and the scan by one row. -/
theorem pay5_eq (t : FVec Ideal S1024x128 .f32) (b : FVec Ideal S1x128 .f32) : k0_pay5 (F := Ideal) t b = step 1#32 (gates t b) := rfl

/-- The scan by 2 to 512 rows, with the sums carried from the rows before the block. -/
theorem pay10_eq (x : FVec Ideal S1024x128 .f32) (c : FVec Ideal S1x128 .f32) :
    k0_pay10 (F := Ideal) k0_pay4 (k0_pay6 k0_pay4 x 2#32) (k0_pay7 k0_pay4) (k0_pay8 k0_pay4 x 2#32) k0_pay9 c
      = addf (step 512#32 (step 256#32 (step 128#32 (step 64#32 (step 32#32 (step 16#32 (step 8#32 (step 4#32 (step 2#32 x)))))))))
          (broadcastTo S1024x128 c broadcasts_S1x128_S1024x128) := rfl

/-- The gates at an element. -/
theorem gates_at (x y : FVec Ideal S512x1024 .f32) (nw nw' : FVec Ideal S1x1024 .f32) (we : FVec Ideal S1024x128 .bf16) (b : FVec Ideal S1x128 .f32)
    (r : Fin 1024) (n : Fin 128) :
    gates (k0_pay2 (F := Ideal) x nw y nw' we) b (ix2 r n)
      = gate (logit (fun k => k0_pay1 (F := Ideal) x nw y nw' (ix2 r k)) (fun k => we (ix2 k n)) (b (ix2 0 n))) := by
  unfold k0_pay2
  generalize k0_pay1 (F := Ideal) x nw y nw' = Z
  pointwise [gates, gate, logit, projected]
  rfl

/-- The whole scan of a block at an element: the carried sum plus the gates of the block's rows up to this one. -/
theorem scan_at (f : ℕ → EReal) (n : Fin 128) (t : FVec Ideal S1024x128 .f32) (b c : FVec Ideal S1x128 .f32)
    (h : ∀ r : Fin 1024, gates t b (ix2 r n) = f r.val) (r : Fin 1024) :
    k0_pay10 (F := Ideal) k0_pay4 (k0_pay6 k0_pay4 (k0_pay5 t b) 2#32) (k0_pay7 k0_pay4) (k0_pay8 k0_pay4 (k0_pay5 t b) 2#32) k0_pay9 c (ix2 r n)
      = (∑ i ∈ Finset.range (r.val + 1), f i) + c (ix2 0 n) := by
  rw [pay10_eq, pay5_eq, ← Fox.steps_at f n (gates t b) h r]
  generalize step 512#32 _ = Y
  pointwise

/-- What the block leaves for the next one: the scan's last row. -/
theorem pay11_at (v : IVec S1024x128 32) (x : FVec Ideal S1024x128 .f32) (p : IVec S1024x128 1) (y z : FVec Ideal S1024x128 .f32)
    (c : FVec Ideal S1x128 .f32) (n : Fin 128) :
    k0_pay11 (F := Ideal) v x p y z c (ix2 0 n) = k0_pay10 (F := Ideal) v x p y z c (ix2 ⟨1023, by omega⟩ n) := by
  unfold k0_pay11
  generalize k0_pay10 (F := Ideal) v x p y z c = Y
  pointwise

/-- The first eight columns, as rows. -/
theorem pay12_at (v : IVec S1024x128 32) (x : FVec Ideal S1024x128 .f32) (p : IVec S1024x128 1) (y z : FVec Ideal S1024x128 .f32)
    (c : FVec Ideal S1x128 .f32) (h : Fin 8) (r : Fin 1024) :
    k0_pay12 (F := Ideal) v x p y z c (ix3 0 h r) = k0_pay10 (F := Ideal) v x p y z c (ix2 r ⟨h.val, by omega⟩) := by
  unfold k0_pay12
  generalize k0_pay10 (F := Ideal) v x p y z c = Y
  pointwise

/-- The reset sums. -/
theorem pay3_at (n : Fin 128) : k0_pay3 (F := Ideal) (ix2 0 n) = 0 := by
  pointwise [k0_pay3]

end Cert.Proof.First
-- ==== Proof.FirstBlock.lean ====
/-
  ONE GRID POINT of the first layer's projection: what the three blocks a point leaves hold, and what it carries to the
  next one, as functions of the rows of the blocks it is handed. At the first point of a sequence the carried sums are
  reset; at the others they are the previous point's.
-/
module

public import proofs.«01_k».proof.Proof.FirstRow
public import proofs.«01_k».proof.Proof.FoxBlock
public import proofs.«01_k».proof.Proof.Gen.FirstIdeal.Frame

@[expose] public section

set_option maxRecDepth 16384
set_option maxHeartbeats 1600000

noncomputable section

namespace Cert.Proof.First

open Idealize.ShloMosaic Idealize.SL.Sem Cert.FirstIdeal Cert.FirstIdeal.Gen
open Cert.Proof.Front (normed projected idx_pair ld_rows)
open Cert.Proof.Fox (headNormed gate logit half column head_eq plain_eq hz2 hz3)

section
variable (x0 : FVec Ideal S1024x1024 .f32) (x1 : FVec Ideal S1x1024 .f32) (x2 : FVec Ideal S1024x4096 .bf16)
  (x3 : FVec Ideal S1024x128 .bf16) (x4 : FVec Ideal S1x2048 .f32) (x5 : FVec Ideal S1x128 .f32)

/-- A block's row, normalised. -/
def blockNormed (r : Fin 1024) : Fin 1024 → EReal := normed (fun k => x0 (ix2 r k)) (fun k => x1 (ix2 0 k))

/-- The block's rows, normalised, as they are printed. -/
def zs : FVec Ideal S1024x1024 .bf16 :=
  k0_pay1 (half (e := .f32) x0 0 inb_S1024x1024_S512x1024_0_0) x1 (half (e := .f32) x0 512 inb_S1024x1024_S512x1024_512_0) x1

/-- The two halves, normalised, are the block's rows normalised. -/
theorem zs_at (r n : Fin 1024) : zs x0 x1 (ix2 r n) = blockNormed x0 x1 r n := by
  unfold zs
  rw [pay1_at]
  unfold blockNormed
  split
  · rename_i h
    exact congrArg (fun y => normed y _ n) (funext fun k => ld_rows (e := .f32) x0 0 _ rfl _ ⟨r.val, h⟩ k r (Nat.zero_add _).symm)
  · rename_i h
    exact congrArg (fun y => normed y _ n) (funext fun k => ld_rows (e := .f32) x0 512 _ rfl _ ⟨r.val - 512, by omega⟩ k r
      (by show r.val = 512 + (r.val - 512); omega))

/-- The gates' logits before the bias, as they are printed. -/
def logits : FVec Ideal S1024x128 .f32 :=
  k0_pay2 (half (e := .f32) x0 0 inb_S1024x1024_S512x1024_0_0) x1 (half (e := .f32) x0 512 inb_S1024x1024_S512x1024_512_0) x1 x3

/-- The scan of the block's gates over the carried sums, as it is printed. -/
def scanned (carry : FVec Ideal S1x128 .f32) : FVec Ideal S1024x128 .f32 :=
  k0_pay10 k0_pay4 (k0_pay6 k0_pay4 (k0_pay5 (logits x0 x1 x3) x5) 2#32) (k0_pay7 k0_pay4) (k0_pay8 k0_pay4 (k0_pay5 (logits x0 x1 x3) x5) 2#32)
    k0_pay9 carry

/-- What the scan leaves for the next block, as it is printed. -/
def left (carry : FVec Ideal S1x128 .f32) : FVec Ideal S1x128 .f32 :=
  k0_pay11 k0_pay4 (k0_pay6 k0_pay4 (k0_pay5 (logits x0 x1 x3) x5) 2#32) (k0_pay7 k0_pay4) (k0_pay8 k0_pay4 (k0_pay5 (logits x0 x1 x3) x5) 2#32)
    k0_pay9 carry

/-- The scan's first eight columns as rows, as they are printed. -/
def heads (carry : FVec Ideal S1x128 .f32) : FVec Ideal S1x8x1024 .f32 :=
  k0_pay12 k0_pay4 (k0_pay6 k0_pay4 (k0_pay5 (logits x0 x1 x3) x5) 2#32) (k0_pay7 k0_pay4) (k0_pay8 k0_pay4 (k0_pay5 (logits x0 x1 x3) x5) 2#32)
    k0_pay9 carry

/-- The gate of a block's row. -/
def blockGate (r : Fin 1024) (n : Fin 128) : EReal :=
  gate (logit (blockNormed x0 x1 r) (fun k => x3 (ix2 k n)) (x5 (ix2 0 n)))

/-- The scan at an element. -/
theorem scanned_at (carry : FVec Ideal S1x128 .f32) (f : ℕ → EReal) (n : Fin 128) (h : ∀ r : Fin 1024, blockGate x0 x1 x3 x5 r n = f r.val)
    (r : Fin 1024) : scanned x0 x1 x3 x5 carry (ix2 r n) = (∑ i ∈ Finset.range (r.val + 1), f i) + carry (ix2 0 n) := by
  unfold scanned
  refine scan_at f n _ _ carry (fun r => ?_) r
  unfold logits
  rw [gates_at, ← h r]
  unfold blockGate
  exact congrArg (fun z => gate (logit z _ _)) (funext fun k => zs_at x0 x1 r k)

/-- What is left for the next block: the scan's last row. -/
theorem left_at (carry : FVec Ideal S1x128 .f32) (n : Fin 128) :
    left x0 x1 x3 x5 carry (ix2 0 n) = scanned x0 x1 x3 x5 carry (ix2 ⟨1023, by omega⟩ n) := by
  unfold left scanned
  exact pay11_at _ _ _ _ _ _ n

/-- The columns as rows, at an element. -/
theorem heads_at (carry : FVec Ideal S1x128 .f32) (p : Fin 8) (r : Fin 1024) :
    heads x0 x1 x3 x5 carry (ix3 0 p r) = scanned x0 x1 x3 x5 carry (ix2 r ⟨p.val, by omega⟩) := by
  unfold heads scanned
  exact pay12_at _ _ _ _ _ _ p r

end

section
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x2048 .f32) (harg5 : arg5.IsWhole) (arg6 : Memref sig .tc .vmem S1x128 .f32) (harg6 : arg6.IsWhole) (arg7 : Memref sig .tc .vmem S1024x4096 .bf16) (harg7 : arg7.IsWhole) (arg8 : Memref sig .tc .vmem S1024x128 .f32) (harg8 : arg8.IsWhole) (arg9 : Memref sig .tc .vmem S1x8x1024 .f32) (harg9 : arg9.IsWhole) (arg10 : Memref sig .tc .vmem S1x128 .f32) (harg10 : arg10.IsWhole) (hc0 : cond0_0 i)
  (x0 : FVec Ideal S1024x1024 .f32) (x1 : FVec Ideal S1x1024 .f32) (x2 : FVec Ideal S1024x4096 .bf16) (x3 : FVec Ideal S1024x128 .bf16) (x4 : FVec Ideal S1x2048 .f32) (x5 : FVec Ideal S1x128 .f32)

/-- What the first point of a sequence leaves of the gates' sums. -/
theorem out7_A : out0_A_7 (F := Ideal) c i arg1 harg1 arg2 harg2 arg3 harg3 arg4 harg4 arg5 harg5 arg6 harg6 arg7 harg7 arg8 harg8 arg9 harg9 arg10 harg10 hc0 x0 x1 x2 x3 x4 x5 = scanned x0 x1 x3 x5 k0_pay3 := by
  unfold out0_A_7
  refine (View.read_writes_eq_canon _ _ _ (cover0_A_7 (F := Ideal) c i arg1 harg1 arg2 harg2 arg3 harg3 arg4 harg4 arg5 harg5 arg6 harg6 arg7 harg7 arg8 harg8 arg9 harg9 arg10 harg10 hc0 x0 x1 x2 x3 x4 x5)).trans ?_
  unfold kernelRun0_A
  dsimp only
  sl_unfold_words
  rw [View.canon_unit_zero hz2]
  repeat rw [View.readAt_eq_ld]
  rw [harg1.read_unread, harg2.read_unread]
  rw [View.ld_unit_zero (S := S1x1024) hz2]
  simp only [View.readAt_eq_ld, harg1.read_unread, harg2.read_unread, harg3.read_unread, harg4.read_unread, harg5.read_unread, harg6.read_unread, harg10.read_unread, View.ld_unit_zero (S := S1x1024) hz2, View.ld_unit_zero (S := S1024x128) hz2, View.ld_unit_zero (S := S1x128) hz2, View.readCov_unit_zero (S := S1x128) _ hz2]
  rfl

/-- What the first point of a sequence leaves of the gates' sums, head by head. -/
theorem out8_A : out0_A_8 (F := Ideal) c i arg1 harg1 arg2 harg2 arg3 harg3 arg4 harg4 arg5 harg5 arg6 harg6 arg7 harg7 arg8 harg8 arg9 harg9 arg10 harg10 hc0 x0 x1 x2 x3 x4 x5 = heads x0 x1 x3 x5 k0_pay3 := by
  unfold out0_A_8
  refine (View.read_writes_eq_canon _ _ _ (cover0_A_8 (F := Ideal) c i arg1 harg1 arg2 harg2 arg3 harg3 arg4 harg4 arg5 harg5 arg6 harg6 arg7 harg7 arg8 harg8 arg9 harg9 arg10 harg10 hc0 x0 x1 x2 x3 x4 x5)).trans ?_
  unfold kernelRun0_A
  dsimp only
  sl_unfold_words
  rw [View.canon_unit_zero hz3]
  repeat rw [View.readAt_eq_ld]
  rw [harg1.read_unread, harg2.read_unread]
  rw [View.ld_unit_zero (S := S1x1024) hz2]
  simp only [View.readAt_eq_ld, harg1.read_unread, harg2.read_unread, harg3.read_unread, harg4.read_unread, harg5.read_unread, harg6.read_unread, harg10.read_unread, View.ld_unit_zero (S := S1x1024) hz2, View.ld_unit_zero (S := S1024x128) hz2, View.ld_unit_zero (S := S1x128) hz2, View.readCov_unit_zero (S := S1x128) _ hz2]
  rfl

/-- What the first point of a sequence carries to the next one. -/
theorem sout_A : sout0_A_0 (F := Ideal) c i arg1 harg1 arg2 harg2 arg3 harg3 arg4 harg4 arg5 harg5 arg6 harg6 arg7 harg7 arg8 harg8 arg9 harg9 arg10 harg10 hc0 x0 x1 x2 x3 x4 x5 = left x0 x1 x3 x5 k0_pay3 := by
  unfold sout0_A_0
  refine (View.read_writes_eq_canon _ _ _ (scover0_A_0 (F := Ideal) c i arg1 harg1 arg2 harg2 arg3 harg3 arg4 harg4 arg5 harg5 arg6 harg6 arg7 harg7 arg8 harg8 arg9 harg9 arg10 harg10 hc0 x0 x1 x2 x3 x4 x5)).trans ?_
  unfold kernelRun0_A
  dsimp only
  sl_unfold_words
  rw [View.canon_cons_unit_zero hz2]
  repeat rw [View.readAt_eq_ld]
  rw [harg1.read_unread, harg2.read_unread]
  rw [View.ld_unit_zero (S := S1x1024) hz2]
  simp only [View.readAt_eq_ld, harg1.read_unread, harg2.read_unread, harg3.read_unread, harg4.read_unread, harg5.read_unread, harg6.read_unread, harg10.read_unread, View.ld_unit_zero (S := S1x1024) hz2, View.ld_unit_zero (S := S1024x128) hz2, View.ld_unit_zero (S := S1x128) hz2, View.readCov_unit_zero (S := S1x128) _ hz2]
  rfl

/-- What the first point of a sequence leaves of the projection. -/
theorem out6_A (r : Fin 1024) (n : Fin 4096) : out0_A_6 (F := Ideal) c i arg1 harg1 arg2 harg2 arg3 harg3 arg4 harg4 arg5 harg5 arg6 harg6 arg7 harg7 arg8 harg8 arg9 harg9 arg10 harg10 hc0 x0 x1 x2 x3 x4 x5 (ix2 r n)
    = column (blockNormed x0 x1 r) (fun k n => x2 (ix2 k n)) (fun n => x4 (ix2 0 n)) n := by
  rw [show blockNormed x0 x1 r = fun k => zs x0 x1 (ix2 r k) from funext fun k => (zs_at x0 x1 r k).symm]
  unfold out0_A_6
  refine (congrFun (View.read_writes_eq_canon _ _ _ (cover0_A_6 (F := Ideal) c i arg1 harg1 arg2 harg2 arg3 harg3 arg4 harg4 arg5 harg5 arg6 harg6 arg7 harg7 arg8 harg8 arg9 harg9 arg10 harg10 hc0 x0 x1 x2 x3 x4 x5)) _).trans ?_
  refine View.canon_apply_of_pieces (Val := Elt Ideal) (e := .bf16) (fun j : S1024x4096.Idx =>
    column (fun k => zs x0 x1 (ix2 (j 0) k)) (fun k n => x2 (ix2 k n)) (fun n => x4 (ix2 0 n)) (j 1)) _ ?_ (ix2 r n)
    (cover0_A_6 (F := Ideal) c i arg1 harg1 arg2 harg2 arg3 harg3 arg4 harg4 arg5 harg5 arg6 harg6 arg7 harg7 arg8 harg8 arg9 harg9 arg10 harg10 hc0 x0 x1 x2 x3 x4 x5 _)
  unfold kernelRun0_A
  dsimp only
  sl_unfold_words
  repeat rw [View.readAt_eq_ld]
  rw [harg1.read_unread, harg2.read_unread]
  rw [View.ld_unit_zero (S := S1x1024) hz2]
  simp only [View.readAt_eq_ld, harg1.read_unread, harg2.read_unread, harg3.read_unread, harg4.read_unread, harg5.read_unread, harg6.read_unread, harg10.read_unread, View.ld_unit_zero (S := S1x1024) hz2, View.ld_unit_zero (S := S1024x128) hz2, View.ld_unit_zero (S := S1x128) hz2, List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩ <;> intro j <;> obtain ⟨r, n, rfl⟩ := idx_pair j
  · exact (pay61_at _ _ r n).trans (plain_eq (zs x0 x1) x2 x4 3584 384 (k0_pay57 (zs x0 x1) _) r n _ rfl rfl rfl (by omega) _ _ (pay57_at _ _ r))
  · exact (pay60_at _ _ r n).trans (plain_eq (zs x0 x1) x2 x4 3584 256 (k0_pay57 (zs x0 x1) _) r n _ rfl rfl rfl (by omega) _ _ (pay57_at _ _ r))
  · exact (pay59_at _ _ r n).trans (plain_eq (zs x0 x1) x2 x4 3584 128 (k0_pay57 (zs x0 x1) _) r n _ rfl rfl rfl (by omega) _ _ (pay57_at _ _ r))
  · exact (pay58_at _ _ r n).trans (plain_eq (zs x0 x1) x2 x4 3584 0 (k0_pay57 (zs x0 x1) _) r n _ (Nat.zero_add _).symm rfl rfl (by omega) _ _ (pay57_at _ _ r))
  · exact (pay56_at _ r n).trans (plain_eq (zs x0 x1) x2 x4 3072 384 (k0_pay52 (zs x0 x1) _) r n _ rfl rfl rfl (by omega) _ _ (pay52_at _ _ r))
  · exact (pay55_at _ r n).trans (plain_eq (zs x0 x1) x2 x4 3072 256 (k0_pay52 (zs x0 x1) _) r n _ rfl rfl rfl (by omega) _ _ (pay52_at _ _ r))
  · exact (pay54_at _ r n).trans (plain_eq (zs x0 x1) x2 x4 3072 128 (k0_pay52 (zs x0 x1) _) r n _ rfl rfl rfl (by omega) _ _ (pay52_at _ _ r))
  · exact (pay53_at _ _ r n).trans (plain_eq (zs x0 x1) x2 x4 3072 0 (k0_pay52 (zs x0 x1) _) r n _ (Nat.zero_add _).symm rfl rfl (by omega) _ _ (pay52_at _ _ r))
  · exact (pay51_at _ _ r n).trans (plain_eq (zs x0 x1) x2 x4 2560 384 (k0_pay47 (zs x0 x1) _) r n _ rfl rfl rfl (by omega) _ _ (pay47_at _ _ r))
  · exact (pay50_at _ _ r n).trans (plain_eq (zs x0 x1) x2 x4 2560 256 (k0_pay47 (zs x0 x1) _) r n _ rfl rfl rfl (by omega) _ _ (pay47_at _ _ r))
  · exact (pay49_at _ _ r n).trans (plain_eq (zs x0 x1) x2 x4 2560 128 (k0_pay47 (zs x0 x1) _) r n _ rfl rfl rfl (by omega) _ _ (pay47_at _ _ r))
  · exact (pay48_at _ _ r n).trans (plain_eq (zs x0 x1) x2 x4 2560 0 (k0_pay47 (zs x0 x1) _) r n _ (Nat.zero_add _).symm rfl rfl (by omega) _ _ (pay47_at _ _ r))
  · exact (pay46_at _ r n).trans (plain_eq (zs x0 x1) x2 x4 2048 384 (k0_pay42 (zs x0 x1) _) r n _ rfl rfl rfl (by omega) _ _ (pay42_at _ _ r))
  · exact (pay45_at _ r n).trans (plain_eq (zs x0 x1) x2 x4 2048 256 (k0_pay42 (zs x0 x1) _) r n _ rfl rfl rfl (by omega) _ _ (pay42_at _ _ r))
  · exact (pay44_at _ r n).trans (plain_eq (zs x0 x1) x2 x4 2048 128 (k0_pay42 (zs x0 x1) _) r n _ rfl rfl rfl (by omega) _ _ (pay42_at _ _ r))
  · exact (pay43_at _ _ r n).trans (plain_eq (zs x0 x1) x2 x4 2048 0 (k0_pay42 (zs x0 x1) _) r n _ (Nat.zero_add _).symm rfl rfl (by omega) _ _ (pay42_at _ _ r))
  · exact (pay41_at _ _ r n).trans (head_eq (zs x0 x1) x2 x4 1536 384 15 (k0_pay36 (zs x0 x1) _) r n _ (fun _ => rfl) rfl rfl rfl rfl (by omega) _ _ _ (pay36_at _ _ r))
  · exact (pay40_at _ _ _ r n).trans (head_eq (zs x0 x1) x2 x4 1536 256 14 (k0_pay36 (zs x0 x1) _) r n _ (fun _ => rfl) rfl rfl rfl rfl (by omega) _ _ _ (pay36_at _ _ r))
  · exact (pay38_at _ _ _ r n).trans (head_eq (zs x0 x1) x2 x4 1536 128 13 (k0_pay36 (zs x0 x1) _) r n _ (fun _ => rfl) rfl rfl rfl rfl (by omega) _ _ _ (pay36_at _ _ r))
  · exact (pay37_at _ _ _ r n).trans (head_eq (zs x0 x1) x2 x4 1536 0 12 (k0_pay36 (zs x0 x1) _) r n _ (fun _ => (Nat.zero_add _).symm) rfl rfl rfl rfl (by omega) _ _ _ (pay36_at _ _ r))
  · exact (pay35_at _ _ r n).trans (head_eq (zs x0 x1) x2 x4 1024 384 11 (k0_pay29 (zs x0 x1) _) r n _ (fun _ => rfl) rfl rfl rfl rfl (by omega) _ _ _ (pay29_at _ _ r))
  · exact (pay34_at _ _ r n).trans (head_eq (zs x0 x1) x2 x4 1024 256 10 (k0_pay29 (zs x0 x1) _) r n _ (fun _ => rfl) rfl rfl rfl rfl (by omega) _ _ _ (pay29_at _ _ r))
  · exact (pay33_at _ _ _ r n).trans (head_eq (zs x0 x1) x2 x4 1024 128 9 (k0_pay29 (zs x0 x1) _) r n _ (fun _ => rfl) rfl rfl rfl rfl (by omega) _ _ _ (pay29_at _ _ r))
  · exact (pay30_at _ _ _ r n).trans (head_eq (zs x0 x1) x2 x4 1024 0 8 (k0_pay29 (zs x0 x1) _) r n _ (fun _ => (Nat.zero_add _).symm) rfl rfl rfl rfl (by omega) _ _ _ (pay29_at _ _ r))
  · exact (pay28_at _ _ r n).trans (head_eq (zs x0 x1) x2 x4 512 384 7 (k0_pay22 (zs x0 x1) _) r n _ (fun _ => rfl) rfl rfl rfl rfl (by omega) _ _ _ (pay22_at _ _ r))
  · exact (pay25_at _ _ r n).trans (head_eq (zs x0 x1) x2 x4 512 256 6 (k0_pay22 (zs x0 x1) _) r n _ (fun _ => rfl) rfl rfl rfl rfl (by omega) _ _ _ (pay22_at _ _ r))
  · exact (pay24_at _ _ r n).trans (head_eq (zs x0 x1) x2 x4 512 128 5 (k0_pay22 (zs x0 x1) _) r n _ (fun _ => rfl) rfl rfl rfl rfl (by omega) _ _ _ (pay22_at _ _ r))
  · exact (pay23_at _ _ _ r n).trans (head_eq (zs x0 x1) x2 x4 512 0 4 (k0_pay22 (zs x0 x1) _) r n _ (fun _ => (Nat.zero_add _).symm) rfl rfl rfl rfl (by omega) _ _ _ (pay22_at _ _ r))
  · exact (pay21_at _ _ r n).trans (head_eq (zs x0 x1) x2 x4 0 384 3 (k0_pay13 (zs x0 x1) _) r n _ (fun _ => rfl) rfl rfl rfl rfl (by omega) _ _ _ (pay13_at _ _ r))
  · exact (pay20_at _ _ r n).trans (head_eq (zs x0 x1) x2 x4 0 256 2 (k0_pay13 (zs x0 x1) _) r n _ (fun _ => rfl) rfl rfl rfl rfl (by omega) _ _ _ (pay13_at _ _ r))
  · exact (pay17_at _ _ r n).trans (head_eq (zs x0 x1) x2 x4 0 128 1 (k0_pay13 (zs x0 x1) _) r n _ (fun _ => rfl) rfl rfl rfl rfl (by omega) _ _ _ (pay13_at _ _ r))
  · exact (pay16_at _ _ _ r n).trans (head_eq (zs x0 x1) x2 x4 0 0 0 (k0_pay13 (zs x0 x1) _) r n _ (fun _ => (Nat.zero_add _).symm) rfl rfl rfl rfl (by omega) _ _ _ (pay13_at _ _ r))

end

section
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x2048 .f32) (harg5 : arg5.IsWhole) (arg6 : Memref sig .tc .vmem S1x128 .f32) (harg6 : arg6.IsWhole) (arg7 : Memref sig .tc .vmem S1024x4096 .bf16) (harg7 : arg7.IsWhole) (arg8 : Memref sig .tc .vmem S1024x128 .f32) (harg8 : arg8.IsWhole) (arg9 : Memref sig .tc .vmem S1x8x1024 .f32) (harg9 : arg9.IsWhole) (arg10 : Memref sig .tc .vmem S1x128 .f32) (harg10 : arg10.IsWhole) (hc0 : ¬cond0_0 i)
  (x0 : FVec Ideal S1024x1024 .f32) (x1 : FVec Ideal S1x1024 .f32) (x2 : FVec Ideal S1024x4096 .bf16) (x3 : FVec Ideal S1024x128 .bf16) (x4 : FVec Ideal S1x2048 .f32) (x5 : FVec Ideal S1x128 .f32) (xs0 : FVec Ideal S1x128 .f32)

/-- What the later point leaves of the gates' sums. -/
theorem out7_B : out0_B_7 (F := Ideal) c i arg1 harg1 arg2 harg2 arg3 harg3 arg4 harg4 arg5 harg5 arg6 harg6 arg7 harg7 arg8 harg8 arg9 harg9 arg10 harg10 hc0 x0 x1 x2 x3 x4 x5 xs0 = scanned x0 x1 x3 x5 xs0 := by
  unfold out0_B_7
  refine (View.read_writes_eq_canon _ _ _ (cover0_B_7 (F := Ideal) c i arg1 harg1 arg2 harg2 arg3 harg3 arg4 harg4 arg5 harg5 arg6 harg6 arg7 harg7 arg8 harg8 arg9 harg9 arg10 harg10 hc0 x0 x1 x2 x3 x4 x5 xs0)).trans ?_
  unfold kernelRun0_B
  dsimp only
  sl_unfold_words
  rw [View.canon_unit_zero hz2]
  repeat rw [View.readAt_eq_ld]
  rw [harg1.read_unread, harg2.read_unread]
  rw [View.ld_unit_zero (S := S1x1024) hz2]
  simp only [View.readAt_eq_ld, harg1.read_unread, harg2.read_unread, harg3.read_unread, harg4.read_unread, harg5.read_unread, harg6.read_unread, harg10.read_unread, View.ld_unit_zero (S := S1x1024) hz2, View.ld_unit_zero (S := S1024x128) hz2, View.ld_unit_zero (S := S1x128) hz2]
  rfl

/-- What the later point leaves of the gates' sums, head by head. -/
theorem out8_B : out0_B_8 (F := Ideal) c i arg1 harg1 arg2 harg2 arg3 harg3 arg4 harg4 arg5 harg5 arg6 harg6 arg7 harg7 arg8 harg8 arg9 harg9 arg10 harg10 hc0 x0 x1 x2 x3 x4 x5 xs0 = heads x0 x1 x3 x5 xs0 := by
  unfold out0_B_8
  refine (View.read_writes_eq_canon _ _ _ (cover0_B_8 (F := Ideal) c i arg1 harg1 arg2 harg2 arg3 harg3 arg4 harg4 arg5 harg5 arg6 harg6 arg7 harg7 arg8 harg8 arg9 harg9 arg10 harg10 hc0 x0 x1 x2 x3 x4 x5 xs0)).trans ?_
  unfold kernelRun0_B
  dsimp only
  sl_unfold_words
  rw [View.canon_unit_zero hz3]
  repeat rw [View.readAt_eq_ld]
  rw [harg1.read_unread, harg2.read_unread]
  rw [View.ld_unit_zero (S := S1x1024) hz2]
  simp only [View.readAt_eq_ld, harg1.read_unread, harg2.read_unread, harg3.read_unread, harg4.read_unread, harg5.read_unread, harg6.read_unread, harg10.read_unread, View.ld_unit_zero (S := S1x1024) hz2, View.ld_unit_zero (S := S1024x128) hz2, View.ld_unit_zero (S := S1x128) hz2]
  rfl

/-- What the later point carries to the next one. -/
theorem sout_B : sout0_B_0 (F := Ideal) c i arg1 harg1 arg2 harg2 arg3 harg3 arg4 harg4 arg5 harg5 arg6 harg6 arg7 harg7 arg8 harg8 arg9 harg9 arg10 harg10 hc0 x0 x1 x2 x3 x4 x5 xs0 = left x0 x1 x3 x5 xs0 := by
  unfold sout0_B_0
  refine (View.read_writes_eq_canon _ _ _ (scover0_B_0 (F := Ideal) c i arg1 harg1 arg2 harg2 arg3 harg3 arg4 harg4 arg5 harg5 arg6 harg6 arg7 harg7 arg8 harg8 arg9 harg9 arg10 harg10 hc0 x0 x1 x2 x3 x4 x5 xs0)).trans ?_
  unfold kernelRun0_B
  dsimp only
  sl_unfold_words
  rw [View.canon_unit_zero hz2]
  repeat rw [View.readAt_eq_ld]
  rw [harg1.read_unread, harg2.read_unread]
  rw [View.ld_unit_zero (S := S1x1024) hz2]
  simp only [View.readAt_eq_ld, harg1.read_unread, harg2.read_unread, harg3.read_unread, harg4.read_unread, harg5.read_unread, harg6.read_unread, harg10.read_unread, View.ld_unit_zero (S := S1x1024) hz2, View.ld_unit_zero (S := S1024x128) hz2, View.ld_unit_zero (S := S1x128) hz2]
  rfl

/-- What the later point leaves of the projection. -/
theorem out6_B (r : Fin 1024) (n : Fin 4096) : out0_B_6 (F := Ideal) c i arg1 harg1 arg2 harg2 arg3 harg3 arg4 harg4 arg5 harg5 arg6 harg6 arg7 harg7 arg8 harg8 arg9 harg9 arg10 harg10 hc0 x0 x1 x2 x3 x4 x5 xs0 (ix2 r n)
    = column (blockNormed x0 x1 r) (fun k n => x2 (ix2 k n)) (fun n => x4 (ix2 0 n)) n := by
  rw [show blockNormed x0 x1 r = fun k => zs x0 x1 (ix2 r k) from funext fun k => (zs_at x0 x1 r k).symm]
  unfold out0_B_6
  refine (congrFun (View.read_writes_eq_canon _ _ _ (cover0_B_6 (F := Ideal) c i arg1 harg1 arg2 harg2 arg3 harg3 arg4 harg4 arg5 harg5 arg6 harg6 arg7 harg7 arg8 harg8 arg9 harg9 arg10 harg10 hc0 x0 x1 x2 x3 x4 x5 xs0)) _).trans ?_
  refine View.canon_apply_of_pieces (Val := Elt Ideal) (e := .bf16) (fun j : S1024x4096.Idx =>
    column (fun k => zs x0 x1 (ix2 (j 0) k)) (fun k n => x2 (ix2 k n)) (fun n => x4 (ix2 0 n)) (j 1)) _ ?_ (ix2 r n)
    (cover0_B_6 (F := Ideal) c i arg1 harg1 arg2 harg2 arg3 harg3 arg4 harg4 arg5 harg5 arg6 harg6 arg7 harg7 arg8 harg8 arg9 harg9 arg10 harg10 hc0 x0 x1 x2 x3 x4 x5 xs0 _)
  unfold kernelRun0_B
  dsimp only
  sl_unfold_words
  repeat rw [View.readAt_eq_ld]
  rw [harg1.read_unread, harg2.read_unread]
  rw [View.ld_unit_zero (S := S1x1024) hz2]
  simp only [View.readAt_eq_ld, harg1.read_unread, harg2.read_unread, harg3.read_unread, harg4.read_unread, harg5.read_unread, harg6.read_unread, harg10.read_unread, View.ld_unit_zero (S := S1x1024) hz2, View.ld_unit_zero (S := S1024x128) hz2, View.ld_unit_zero (S := S1x128) hz2, List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩ <;> intro j <;> obtain ⟨r, n, rfl⟩ := idx_pair j
  · exact (pay61_at _ _ r n).trans (plain_eq (zs x0 x1) x2 x4 3584 384 (k0_pay57 (zs x0 x1) _) r n _ rfl rfl rfl (by omega) _ _ (pay57_at _ _ r))
  · exact (pay60_at _ _ r n).trans (plain_eq (zs x0 x1) x2 x4 3584 256 (k0_pay57 (zs x0 x1) _) r n _ rfl rfl rfl (by omega) _ _ (pay57_at _ _ r))
  · exact (pay59_at _ _ r n).trans (plain_eq (zs x0 x1) x2 x4 3584 128 (k0_pay57 (zs x0 x1) _) r n _ rfl rfl rfl (by omega) _ _ (pay57_at _ _ r))
  · exact (pay58_at _ _ r n).trans (plain_eq (zs x0 x1) x2 x4 3584 0 (k0_pay57 (zs x0 x1) _) r n _ (Nat.zero_add _).symm rfl rfl (by omega) _ _ (pay57_at _ _ r))
  · exact (pay56_at _ r n).trans (plain_eq (zs x0 x1) x2 x4 3072 384 (k0_pay52 (zs x0 x1) _) r n _ rfl rfl rfl (by omega) _ _ (pay52_at _ _ r))
  · exact (pay55_at _ r n).trans (plain_eq (zs x0 x1) x2 x4 3072 256 (k0_pay52 (zs x0 x1) _) r n _ rfl rfl rfl (by omega) _ _ (pay52_at _ _ r))
  · exact (pay54_at _ r n).trans (plain_eq (zs x0 x1) x2 x4 3072 128 (k0_pay52 (zs x0 x1) _) r n _ rfl rfl rfl (by omega) _ _ (pay52_at _ _ r))
  · exact (pay53_at _ _ r n).trans (plain_eq (zs x0 x1) x2 x4 3072 0 (k0_pay52 (zs x0 x1) _) r n _ (Nat.zero_add _).symm rfl rfl (by omega) _ _ (pay52_at _ _ r))
  · exact (pay51_at _ _ r n).trans (plain_eq (zs x0 x1) x2 x4 2560 384 (k0_pay47 (zs x0 x1) _) r n _ rfl rfl rfl (by omega) _ _ (pay47_at _ _ r))
  · exact (pay50_at _ _ r n).trans (plain_eq (zs x0 x1) x2 x4 2560 256 (k0_pay47 (zs x0 x1) _) r n _ rfl rfl rfl (by omega) _ _ (pay47_at _ _ r))
  · exact (pay49_at _ _ r n).trans (plain_eq (zs x0 x1) x2 x4 2560 128 (k0_pay47 (zs x0 x1) _) r n _ rfl rfl rfl (by omega) _ _ (pay47_at _ _ r))
  · exact (pay48_at _ _ r n).trans (plain_eq (zs x0 x1) x2 x4 2560 0 (k0_pay47 (zs x0 x1) _) r n _ (Nat.zero_add _).symm rfl rfl (by omega) _ _ (pay47_at _ _ r))
  · exact (pay46_at _ r n).trans (plain_eq (zs x0 x1) x2 x4 2048 384 (k0_pay42 (zs x0 x1) _) r n _ rfl rfl rfl (by omega) _ _ (pay42_at _ _ r))
  · exact (pay45_at _ r n).trans (plain_eq (zs x0 x1) x2 x4 2048 256 (k0_pay42 (zs x0 x1) _) r n _ rfl rfl rfl (by omega) _ _ (pay42_at _ _ r))
  · exact (pay44_at _ r n).trans (plain_eq (zs x0 x1) x2 x4 2048 128 (k0_pay42 (zs x0 x1) _) r n _ rfl rfl rfl (by omega) _ _ (pay42_at _ _ r))
  · exact (pay43_at _ _ r n).trans (plain_eq (zs x0 x1) x2 x4 2048 0 (k0_pay42 (zs x0 x1) _) r n _ (Nat.zero_add _).symm rfl rfl (by omega) _ _ (pay42_at _ _ r))
  · exact (pay41_at _ _ r n).trans (head_eq (zs x0 x1) x2 x4 1536 384 15 (k0_pay36 (zs x0 x1) _) r n _ (fun _ => rfl) rfl rfl rfl rfl (by omega) _ _ _ (pay36_at _ _ r))
  · exact (pay40_at _ _ _ r n).trans (head_eq (zs x0 x1) x2 x4 1536 256 14 (k0_pay36 (zs x0 x1) _) r n _ (fun _ => rfl) rfl rfl rfl rfl (by omega) _ _ _ (pay36_at _ _ r))
  · exact (pay38_at _ _ _ r n).trans (head_eq (zs x0 x1) x2 x4 1536 128 13 (k0_pay36 (zs x0 x1) _) r n _ (fun _ => rfl) rfl rfl rfl rfl (by omega) _ _ _ (pay36_at _ _ r))
  · exact (pay37_at _ _ _ r n).trans (head_eq (zs x0 x1) x2 x4 1536 0 12 (k0_pay36 (zs x0 x1) _) r n _ (fun _ => (Nat.zero_add _).symm) rfl rfl rfl rfl (by omega) _ _ _ (pay36_at _ _ r))
  · exact (pay35_at _ _ r n).trans (head_eq (zs x0 x1) x2 x4 1024 384 11 (k0_pay29 (zs x0 x1) _) r n _ (fun _ => rfl) rfl rfl rfl rfl (by omega) _ _ _ (pay29_at _ _ r))
  · exact (pay34_at _ _ r n).trans (head_eq (zs x0 x1) x2 x4 1024 256 10 (k0_pay29 (zs x0 x1) _) r n _ (fun _ => rfl) rfl rfl rfl rfl (by omega) _ _ _ (pay29_at _ _ r))
  · exact (pay33_at _ _ _ r n).trans (head_eq (zs x0 x1) x2 x4 1024 128 9 (k0_pay29 (zs x0 x1) _) r n _ (fun _ => rfl) rfl rfl rfl rfl (by omega) _ _ _ (pay29_at _ _ r))
  · exact (pay30_at _ _ _ r n).trans (head_eq (zs x0 x1) x2 x4 1024 0 8 (k0_pay29 (zs x0 x1) _) r n _ (fun _ => (Nat.zero_add _).symm) rfl rfl rfl rfl (by omega) _ _ _ (pay29_at _ _ r))
  · exact (pay28_at _ _ r n).trans (head_eq (zs x0 x1) x2 x4 512 384 7 (k0_pay22 (zs x0 x1) _) r n _ (fun _ => rfl) rfl rfl rfl rfl (by omega) _ _ _ (pay22_at _ _ r))
  · exact (pay25_at _ _ r n).trans (head_eq (zs x0 x1) x2 x4 512 256 6 (k0_pay22 (zs x0 x1) _) r n _ (fun _ => rfl) rfl rfl rfl rfl (by omega) _ _ _ (pay22_at _ _ r))
  · exact (pay24_at _ _ r n).trans (head_eq (zs x0 x1) x2 x4 512 128 5 (k0_pay22 (zs x0 x1) _) r n _ (fun _ => rfl) rfl rfl rfl rfl (by omega) _ _ _ (pay22_at _ _ r))
  · exact (pay23_at _ _ _ r n).trans (head_eq (zs x0 x1) x2 x4 512 0 4 (k0_pay22 (zs x0 x1) _) r n _ (fun _ => (Nat.zero_add _).symm) rfl rfl rfl rfl (by omega) _ _ _ (pay22_at _ _ r))
  · exact (pay21_at _ _ r n).trans (head_eq (zs x0 x1) x2 x4 0 384 3 (k0_pay13 (zs x0 x1) _) r n _ (fun _ => rfl) rfl rfl rfl rfl (by omega) _ _ _ (pay13_at _ _ r))
  · exact (pay20_at _ _ r n).trans (head_eq (zs x0 x1) x2 x4 0 256 2 (k0_pay13 (zs x0 x1) _) r n _ (fun _ => rfl) rfl rfl rfl rfl (by omega) _ _ _ (pay13_at _ _ r))
  · exact (pay17_at _ _ r n).trans (head_eq (zs x0 x1) x2 x4 0 128 1 (k0_pay13 (zs x0 x1) _) r n _ (fun _ => rfl) rfl rfl rfl rfl (by omega) _ _ _ (pay13_at _ _ r))
  · exact (pay16_at _ _ _ r n).trans (head_eq (zs x0 x1) x2 x4 0 0 0 (k0_pay13 (zs x0 x1) _) r n _ (fun _ => (Nat.zero_add _).symm) rfl rfl rfl rfl (by omega) _ _ _ (pay13_at _ _ r))

end

end Cert.Proof.First
-- ==== Proof.FirstArray.lean ====
/-
  FROM BLOCKS TO THE ARRAYS of the first layer's projection. The grid walks the 32768 rows, four sequences of 8192, in 32
  steps of 1024, eight to a sequence; the sums a point carries are those of the sequence's rows so far. The three arrays
  are stated whole, row by row.
-/
module

public import proofs.«01_k».proof.Proof.FirstBlock
public import proofs.«01_k».proof.Proof.FoxArray
public import proofs.«01_k».proof.Proof.Gen.FirstIdeal.Value

@[expose] public section

set_option maxRecDepth 16384

noncomputable section

namespace Cert.Proof.First

open Idealize.ShloMosaic Idealize.ShloMosaic.TcCoe Idealize.SL.Sem Cert.FirstIdeal Cert.FirstIdeal.Gen
open Idealize.ShloMosaic.Pipeline (Dat)
open Cert.Proof.Front (normed projected idx_pair)
open Cert.Proof.Fox (gate logit column column_congr)

section
variable (m : (ℓ : Loc nD τ sig) → Buf (Elt Ideal) ℓ) (c : Dev nD)

/-- Where the blocks of a point lie. -/
theorem index_eq : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ (win0_8.index t 0 = t.val / 8 ∧ win0_8.index t 1 = 0 ∧ win0_8.index t 2 = t.val % 8) := by
  decide +kernel

/-- There are 32 points. -/
theorem lt_N (t : Fin cfg0.N) : t.val < 32 := t.isLt.trans_eq (show cfg0.N = 32 from N_0)

/-- The array's row at row `r` of a point's block. -/
def rowOf (t : Fin cfg0.N) (r : Fin 1024) : Fin 32768 :=
  ⟨1024 * t.val + r.val, by have := lt_N t; omega⟩

/-- A point's rows of the stream. -/
theorem blk0 (t : Fin cfg0.N) (r : Fin 1024) (k : Fin 1024) : iblk m c 0 t (ix2 r k) = V m c main_v21 (ix2 (rowOf t r) k) := by
  have h := index_eq t
  unfold iblk
  rw [View.read_apply]
  show V m c main_v21 _ = _
  congr 1
  funext a
  apply Fin.ext
  match a with
  | ⟨0, _⟩ => show win0_0.index t 0 * 1024 + 1 * r.val = 1024 * t.val + r.val; omega
  | ⟨1, _⟩ => show win0_0.index t 1 * 1024 + 1 * k.val = k.val; omega

/-- The gains, whole at every point. -/
theorem blk1 (t : Fin cfg0.N) (r : Fin 1) (k : Fin 1024) : iblk m c 1 t (ix2 r k) = V m c main_v22 (ix2 r k) := by
  have h := index_eq t
  unfold iblk
  rw [View.read_apply]
  show V m c main_v22 _ = _
  congr 1
  funext a
  apply Fin.ext
  match a with
  | ⟨0, _⟩ => show win0_1.index t 0 * 1 + 1 * r.val = r.val; omega
  | ⟨1, _⟩ => show win0_1.index t 1 * 1024 + 1 * k.val = k.val; omega

/-- The projection's weights, whole at every point. -/
theorem blk2 (t : Fin cfg0.N) (r : Fin 1024) (k : Fin 4096) : iblk m c 2 t (ix2 r k) = V m c main_v1 (ix2 r k) := by
  have h := index_eq t
  unfold iblk
  rw [View.read_apply]
  show V m c main_v1 _ = _
  congr 1
  funext a
  apply Fin.ext
  match a with
  | ⟨0, _⟩ => show win0_2.index t 0 * 1024 + 1 * r.val = r.val; omega
  | ⟨1, _⟩ => show win0_2.index t 1 * 4096 + 1 * k.val = k.val; omega

/-- The gates' weights, whole at every point. -/
theorem blk3 (t : Fin cfg0.N) (r : Fin 1024) (k : Fin 128) : iblk m c 3 t (ix2 r k) = V m c main_v6 (ix2 r k) := by
  have h := index_eq t
  unfold iblk
  rw [View.read_apply]
  show V m c main_v6 _ = _
  congr 1
  funext a
  apply Fin.ext
  match a with
  | ⟨0, _⟩ => show win0_3.index t 0 * 1024 + 1 * r.val = r.val; omega
  | ⟨1, _⟩ => show win0_3.index t 1 * 128 + 1 * k.val = k.val; omega

/-- The heads' gains, whole at every point. -/
theorem blk4 (t : Fin cfg0.N) (r : Fin 1) (k : Fin 2048) : iblk m c 4 t (ix2 r k) = V m c main_v20 (ix2 r k) := by
  have h := index_eq t
  unfold iblk
  rw [View.read_apply]
  show V m c main_v20 _ = _
  congr 1
  funext a
  apply Fin.ext
  match a with
  | ⟨0, _⟩ => show win0_4.index t 0 * 1 + 1 * r.val = r.val; omega
  | ⟨1, _⟩ => show win0_4.index t 1 * 2048 + 1 * k.val = k.val; omega

/-- The gates' biases, whole at every point. -/
theorem blk5 (t : Fin cfg0.N) (r : Fin 1) (k : Fin 128) : iblk m c 5 t (ix2 r k) = V m c main_v27 (ix2 r k) := by
  have h := index_eq t
  unfold iblk
  rw [View.read_apply]
  show V m c main_v27 _ = _
  congr 1
  funext a
  apply Fin.ext
  match a with
  | ⟨0, _⟩ => show win0_5.index t 0 * 1 + 1 * r.val = r.val; omega
  | ⟨1, _⟩ => show win0_5.index t 1 * 128 + 1 * k.val = k.val; omega

/-- Row `n` of the array, normalised. -/
def rowNormed (n : Fin 32768) : Fin 1024 → EReal := normed (fun k => V m c main_v21 (ix2 n k)) (fun k => V m c main_v22 (ix2 0 k))

/-- The gate of row `n`, in lane `l`. -/
def rowGate (n : Fin 32768) (l : Fin 128) : EReal :=
  gate (logit (rowNormed m c n) (fun k => V m c main_v6 (ix2 k l)) (V m c main_v27 (ix2 0 l)))

/-- The gates of a sequence, in lane `l`, by the place in the sequence. -/
def seqGate (b : ℕ) (l : Fin 128) (j : ℕ) : EReal :=
  if h : 8192 * b + j < 32768 then rowGate m c ⟨8192 * b + j, h⟩ l else 0

/-- The sum of the gates of a sequence's rows up to row `n`. -/
def rowSum (n : Fin 32768) (l : Fin 128) : EReal := ∑ j ∈ Finset.range (n.val % 8192 + 1), seqGate m c (n.val / 8192) l j

/-- The projection. -/
def mains : FVec Ideal S32768x4096 .bf16 := fun i =>
  column (rowNormed m c (i 0)) (fun k n => V m c main_v1 (ix2 k n)) (fun n => V m c main_v20 (ix2 0 n)) (i 1)
/-- The gates' sums. -/
def sums : FVec Ideal S32768x128 .f32 := fun i => rowSum m c (i 0) (i 1)
/-- The gates' sums, head by head. -/
def headSums : FVec Ideal S4x8x8192 .f32 := fun i =>
  rowSum m c ⟨8192 * (i 0).val + (i 2).val, by have h0 : (i 0).val < 4 := (i 0).isLt; have h2 : (i 2).val < 8192 := (i 2).isLt; omega⟩
    ⟨(i 1).val, by have h1 : (i 1).val < 8 := (i 1).isLt; omega⟩

/-- A block's normalised row is the array's. -/
theorem normed_eq (t : Fin cfg0.N) (r : Fin 1024) :
    blockNormed (iblk m c 0 t) (iblk m c 1 t) r = rowNormed m c (rowOf t r) :=
  congrArg₂ normed (funext fun k => blk0 m c t r k) (funext fun k => blk1 m c t 0 k)

/-- A block's gate is the array's. -/
theorem gate_eq (t : Fin cfg0.N) (r : Fin 1024) (l : Fin 128) :
    blockGate (iblk m c 0 t) (iblk m c 1 t) (iblk m c 3 t) (iblk m c 5 t) r l
      = seqGate m c (t.val / 8) l (1024 * (t.val % 8) + r.val) := by
  have ht := lt_N t
  unfold blockGate seqGate rowGate
  rw [dif_pos (by omega), normed_eq m c t r, blk5 m c t 0 l, show (fun k => iblk m c 3 t (ix2 k l)) = _ from funext fun k => blk3 m c t k l]
  refine congrArg (fun n => gate (logit (rowNormed m c n) _ _)) (Fin.ext ?_)
  show 1024 * t.val + r.val = 8192 * (t.val / 8) + (1024 * (t.val % 8) + r.val)
  omega

/-- A block's column is the array's. -/
theorem column_eq (t : Fin cfg0.N) (r : Fin 1024) (n : Fin 4096) :
    column (blockNormed (iblk m c 0 t) (iblk m c 1 t) r) (fun k n => iblk m c 2 t (ix2 k n))
        (fun n => iblk m c 4 t (ix2 0 n)) n
      = mains m c (ix2 (rowOf t r) n) :=
  column_congr (normed_eq m c t r) (funext fun k => funext fun n => blk2 m c t k n) (funext fun n => blk4 m c t 0 n) n

/-- A point's scan, over the sums of the sequence's rows before it. -/
theorem scanned_eq (t : Fin cfg0.N) (carry : FVec Ideal S1x128 .f32) (l : Fin 128)
    (hc : carry (ix2 0 l) = ∑ j ∈ Finset.range (1024 * (t.val % 8)), seqGate m c (t.val / 8) l j) (r : Fin 1024) :
    scanned (iblk m c 0 t) (iblk m c 1 t) (iblk m c 3 t) (iblk m c 5 t) carry (ix2 r l)
      = rowSum m c (rowOf t r) l := by
  have ht := lt_N t
  refine (scanned_at _ _ _ _ carry (fun j => seqGate m c (t.val / 8) l (1024 * (t.val % 8) + j)) l (fun r => gate_eq m c t r l) r).trans ?_
  rw [hc, add_comm]
  refine (Finset.sum_range_add _ _ _).symm.trans ?_
  unfold rowSum
  rw [show (rowOf t r).val % 8192 + 1 = 1024 * (t.val % 8) + (r.val + 1) by show (1024 * t.val + r.val) % 8192 + 1 = _; omega,
    show (rowOf t r).val / 8192 = t.val / 8 by show (1024 * t.val + r.val) / 8192 = _; omega]

/-- What a point leaves for the next one. -/
theorem left_eq (t : Fin cfg0.N) (carry : FVec Ideal S1x128 .f32) (l : Fin 128)
    (hc : carry (ix2 0 l) = ∑ j ∈ Finset.range (1024 * (t.val % 8)), seqGate m c (t.val / 8) l j) :
    left (iblk m c 0 t) (iblk m c 1 t) (iblk m c 3 t) (iblk m c 5 t) carry (ix2 0 l)
      = ∑ j ∈ Finset.range (1024 * (t.val % 8) + 1024), seqGate m c (t.val / 8) l j := by
  have ht := lt_N t
  rw [left_at, scanned_eq m c t carry l hc]
  unfold rowSum
  rw [show (rowOf t ⟨1023, by omega⟩).val % 8192 + 1 = 1024 * (t.val % 8) + 1024 by show (1024 * t.val + 1023) % 8192 + 1 = _; omega,
    show (rowOf t ⟨1023, by omega⟩).val / 8192 = t.val / 8 by show (1024 * t.val + 1023) / 8192 = _; omega]

/-- The reset sums are those of no rows. -/
theorem reset_eq (t : Fin cfg0.N) (h0 : t.val % 8 = 0) (l : Fin 128) :
    k0_pay3 (F := Ideal) (ix2 0 l) = ∑ j ∈ Finset.range (1024 * (t.val % 8)), seqGate m c (t.val / 8) l j := by
  rw [pay3_at, h0, Nat.mul_zero, Finset.range_zero, Finset.sum_empty]

/-- The carried sums after point `n`: of the sequence's rows up to the point's last. -/
theorem carry_eq (l : Fin 128) : ∀ (n : ℕ) (hn : n < cfg0.N),
    (outsAt0 m c n hn).2.2.2 (ix2 0 l) = ∑ j ∈ Finset.range (1024 * (n % 8) + 1024), seqGate m c (n / 8) l j := by
  intro n
  induction n with
  | zero =>
    intro hn
    have e := congrArg (fun o => o.2.2.2) (outsAt0_A m c ⟨0, hn⟩ rfl)
    refine (congrFun e _).trans ?_
    dsimp only
    rw [sout_A]
    exact left_eq m c ⟨0, hn⟩ _ l (reset_eq m c ⟨0, hn⟩ rfl l)
  | succ n ih =>
    intro hn
    by_cases h0 : (n + 1) % 8 = 0
    · have e := congrArg (fun o => o.2.2.2) (outsAt0_A m c ⟨n + 1, hn⟩ h0)
      refine (congrFun e _).trans ?_
      dsimp only
      rw [sout_A]
      exact left_eq m c ⟨n + 1, hn⟩ _ l (reset_eq m c ⟨n + 1, hn⟩ h0 l)
    · have e := congrArg (fun o => o.2.2.2) (outsAt0_B m c ⟨n + 1, hn⟩ h0)
      refine (congrFun e _).trans ?_
      dsimp only
      rw [sout_B]
      refine left_eq m c ⟨n + 1, hn⟩ _ l ((ih (by omega)).trans ?_)
      show _ = ∑ j ∈ Finset.range (1024 * ((n + 1) % 8)), seqGate m c ((n + 1) / 8) l j
      rw [show 1024 * (n % 8) + 1024 = 1024 * ((n + 1) % 8) by omega, show n / 8 = (n + 1) / 8 by omega]

/-- The sums a later point of a sequence finds. -/
theorem found_eq (t : Fin cfg0.N) (h0 : ¬t.val % 8 = 0) (l : Fin 128) :
    (outsAt0 m c (t.val - 1) (Nat.lt_of_le_of_lt (Nat.sub_le _ _) t.isLt)).2.2.2 (ix2 0 l)
      = ∑ j ∈ Finset.range (1024 * (t.val % 8)), seqGate m c (t.val / 8) l j := by
  rw [carry_eq, show 1024 * ((t.val - 1) % 8) + 1024 = 1024 * (t.val % 8) by omega, show (t.val - 1) / 8 = t.val / 8 by omega]

/-- What a point writes back is its block of the projection. -/
theorem flushed6 (t : Fin cfg0.N) : (dats m 0 c).flushed 6 t = ((cfg0.win 6).blk t).view.read (Elt Ideal) (mains m c) := by
  funext j
  have h := index_eq t
  obtain ⟨r, n, rfl⟩ : ∃ (r : Fin 1024) (n : Fin 4096), j = ix2 r n := idx_pair j
  have key : ((cfg0.win 6).blk t).view.read (Elt Ideal) (mains m c) (ix2 r n) = mains m c (ix2 (rowOf t r) n) := by
    rw [View.read_apply]
    show mains m c _ = _
    congr 1
    funext a
    apply Fin.ext
    match a with
    | ⟨0, _⟩ => show win0_6.index t 0 * 1024 + 1 * r.val = 1024 * t.val + r.val; omega
    | ⟨1, _⟩ => show win0_6.index t 1 * 4096 + 1 * n.val = n.val; omega
  refine Eq.trans ?_ key.symm
  by_cases h0 : t.val % 8 = 0
  · rw [Value.flushed6_A m c t h0]
    refine (out6_A _ _ _ _ _ _ _ _ _ _ _ _ _ _ _ _ _ _ _ _ _ _ _ _ _ _ _ _ _ r n).trans ?_
    exact column_eq m c t r n
  · rw [Value.flushed6_B m c t h0]
    refine (out6_B _ _ _ _ _ _ _ _ _ _ _ _ _ _ _ _ _ _ _ _ _ _ _ _ _ _ _ _ _ _ r n).trans ?_
    exact column_eq m c t r n

/-- The projection, whole. -/
theorem final6 : (dats m 0 c).arrAt 6 cfg0.N = mains m c := by
  refine (dats m 0 c).arrAt_eq_of_cover 6 (mains m c) (fun t _ => flushed6 m c t) fun i => ?_
  have i0 : (i 0).val < 32768 := (i 0).isLt
  have i1 : (i 1).val < 4096 := (i 1).isLt
  let t : Fin cfg0.N := ⟨(i 0).val / 1024, by rw [show cfg0.N = 32 from N_0]; omega⟩
  have ht : t.val = (i 0).val / 1024 := rfl
  have h := index_eq t
  refine ⟨t, flush0_6 t, ?_⟩
  show i ∈ ((View.whole main_v28_0).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    omega
  | ⟨1, _⟩ =>
    show win0_6.index t 1 * 4096 ≤ (i 1).val ∧ (i 1).val < win0_6.index t 1 * 4096 + 4096
    omega

/-- What a point writes back is its block of the gates' sums. -/
theorem flushed7 (t : Fin cfg0.N) : (dats m 0 c).flushed 7 t = ((cfg0.win 7).blk t).view.read (Elt Ideal) (sums m c) := by
  funext j
  have h := index_eq t
  obtain ⟨r, n, rfl⟩ : ∃ (r : Fin 1024) (n : Fin 128), j = ix2 r n := idx_pair j
  have key : ((cfg0.win 7).blk t).view.read (Elt Ideal) (sums m c) (ix2 r n) = sums m c (ix2 (rowOf t r) n) := by
    rw [View.read_apply]
    show sums m c _ = _
    congr 1
    funext a
    apply Fin.ext
    match a with
    | ⟨0, _⟩ => show win0_7.index t 0 * 1024 + 1 * r.val = 1024 * t.val + r.val; omega
    | ⟨1, _⟩ => show win0_7.index t 1 * 128 + 1 * n.val = n.val; omega
  refine Eq.trans ?_ key.symm
  by_cases h0 : t.val % 8 = 0
  · rw [Value.flushed7_A m c t h0, out7_A]
    exact scanned_eq m c t _ n (reset_eq m c t h0 n) r
  · rw [Value.flushed7_B m c t h0, out7_B]
    exact scanned_eq m c t _ n (found_eq m c t h0 n) r

/-- The gates' sums, whole. -/
theorem final7 : (dats m 0 c).arrAt 7 cfg0.N = sums m c := by
  refine (dats m 0 c).arrAt_eq_of_cover 7 (sums m c) (fun t _ => flushed7 m c t) fun i => ?_
  have i0 : (i 0).val < 32768 := (i 0).isLt
  have i1 : (i 1).val < 128 := (i 1).isLt
  let t : Fin cfg0.N := ⟨(i 0).val / 1024, by rw [show cfg0.N = 32 from N_0]; omega⟩
  have ht : t.val = (i 0).val / 1024 := rfl
  have h := index_eq t
  refine ⟨t, flush0_7 t, ?_⟩
  show i ∈ ((View.whole main_v28_1).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    omega
  | ⟨1, _⟩ =>
    show win0_7.index t 1 * 128 ≤ (i 1).val ∧ (i 1).val < win0_7.index t 1 * 128 + 128
    omega

/-- What a point writes back is its block of the gates' sums, head by head. -/
theorem flushed8 (t : Fin cfg0.N) : (dats m 0 c).flushed 8 t = ((cfg0.win 8).blk t).view.read (Elt Ideal) (headSums m c) := by
  funext j
  have h := index_eq t
  have ht := lt_N t
  obtain ⟨p, r, rfl⟩ : ∃ (p : Fin 8) (r : Fin 1024), j = ix3 (0 : Fin 1) p r := ⟨j 1, j 2, by
    funext d
    match d with
    | ⟨0, _⟩ => exact Subsingleton.elim (α := Fin 1) _ _
    | ⟨1, _⟩ => rfl
    | ⟨2, _⟩ => rfl⟩
  have key : ((cfg0.win 8).blk t).view.read (Elt Ideal) (headSums m c) (ix3 (0 : Fin 1) p r) = rowSum m c (rowOf t r) ⟨p.val, by omega⟩ := by
    rw [View.read_apply]
    show rowSum m c _ _ = _
    refine congrArg₂ (rowSum m c) (Fin.ext ?_) (Fin.ext ?_)
    · show 8192 * (win0_8.index t 0 * 1 + 1 * 0) + (win0_8.index t 2 * 1024 + 1 * r.val) = 1024 * t.val + r.val; omega
    · show win0_8.index t 1 * 8 + 1 * p.val = p.val; omega
  refine Eq.trans ?_ key.symm
  by_cases h0 : t.val % 8 = 0
  · rw [Value.flushed8_A m c t h0, out8_A]
    exact (heads_at _ _ _ _ _ p r).trans (scanned_eq m c t _ _ (reset_eq m c t h0 _) r)
  · rw [Value.flushed8_B m c t h0, out8_B]
    exact (heads_at _ _ _ _ _ p r).trans (scanned_eq m c t _ _ (found_eq m c t h0 _) r)

/-- The gates' sums, head by head, whole. -/
theorem final8 : (dats m 0 c).arrAt 8 cfg0.N = headSums m c := by
  refine (dats m 0 c).arrAt_eq_of_cover 8 (headSums m c) (fun t _ => flushed8 m c t) fun i => ?_
  have i0 : (i 0).val < 4 := (i 0).isLt
  have i1 : (i 1).val < 8 := (i 1).isLt
  have i2 : (i 2).val < 8192 := (i 2).isLt
  let t : Fin cfg0.N := ⟨8 * (i 0).val + (i 2).val / 1024, by rw [show cfg0.N = 32 from N_0]; omega⟩
  have ht : t.val = 8 * (i 0).val + (i 2).val / 1024 := rfl
  have h := index_eq t
  refine ⟨t, flush0_8 t, ?_⟩
  show i ∈ ((View.whole main_v28_2).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    omega
  | ⟨1, _⟩ =>
    show win0_8.index t 1 * 8 ≤ (i 1).val ∧ (i 1).val < win0_8.index t 1 * 8 + 8
    omega
  | ⟨2, _⟩ =>
    show win0_8.index t 2 * 1024 ≤ (i 2).val ∧ (i 2).val < win0_8.index t 2 * 1024 + 1024
    omega

end

end Cert.Proof.First
-- ==== Proof.FirstPrep.lean ====
/-
  THE ARRAYS THE FIRST LAYER'S PROJECTION IS HANDED. The host lays the batches' rows under each other, and prepares the
  weights, the gains and the biases as for the attention layer's other projection.
-/
module

public import proofs.«01_k».proof.Proof.FirstArray
public import proofs.«01_k».proof.Proof.FoxPrep
public import Idealize.ShloMosaic.Lib.StableHlo.Run

@[expose] public section

set_option maxRecDepth 16384

noncomputable section

namespace Cert.Proof.First

open Idealize.ShloMosaic Idealize.ShloMosaic.TcCoe Idealize.SL.Sem Cert.FirstIdeal Cert.FirstIdeal.Gen Idealize.ShloMosaic.StableHlo
open Cert.Proof.Front (projected idx_pair)
open Cert.Proof.Fox (hostGates hostBias hostGain)

section
variable (m : (ℓ : Loc nD τ sig) → Buf (Elt Ideal) ℓ) (c : Dev nD)

/-- The stream's rows that the kernel finds. -/
theorem V_x : V m c main_v21 = shapeCast S32768x1024 (m ((c : Thread nD τ).loc main_arg0)) shapeCasts_S4x8192x1024_S32768x1024 := by
  unfold_abbrev_sides
  after_results
  try rfl

/-- The gains that the kernel finds. -/
theorem V_nw : V m c main_v22 = shapeCast S1x1024 (m ((c : Thread nD τ).loc main_arg1)) shapeCasts_S1024_S1x1024 := by
  unfold_abbrev_sides
  after_results
  try rfl

/-- The projection's weights that the kernel finds. -/
theorem V_w : V m c main_v1 = truncf (F := Ideal) .bf16 (extractStridedSlice S1024x4096 ![0, 0] (m ((c : Thread nD τ).loc main_arg2)) slices_S1024x4104_S1024x4096_0_0) bitsLt_bf16_f32 := by
  unfold_abbrev_sides
  after_results
  try rfl

/-- The gates' weights that the kernel finds. -/
theorem V_wf : V m c main_v6 = truncf (F := Ideal) .bf16 (hostGates (m ((c : Thread nD τ).loc main_arg2))) bitsLt_bf16_f32 := by
  unfold_abbrev_sides
  after_results
  try rfl

/-- The heads' gains that the kernel finds. -/
theorem V_hg : V m c main_v20 = hostGain (m ((c : Thread nD τ).loc main_arg4)) (m ((c : Thread nD τ).loc main_arg5)) := by
  unfold_abbrev_sides
  after_results
  try rfl

/-- The gates' biases that the kernel finds. -/
theorem V_bf : V m c main_v27 = hostBias (m ((c : Thread nD τ).loc main_arg3)) := by
  unfold_abbrev_sides
  after_results
  try rfl

end

end Cert.Proof.First
-- ==== Proof.FirstReference.lean ====
/-
  THE REFERENCE of the first layer's projection, read at an index: the projection with the queries' and keys' heads
  normalised, and the running sums of the gates' logarithms.
-/
module

public import proofs.«01_k».proof.Proof.FirstPrep
public import proofs.«01_k».proof.Proof.FoxEquation
public import proofs.«01_k».proof.Proof.Gen.FirstReferenceIdeal.Read

@[expose] public section

set_option maxRecDepth 16384

noncomputable section

namespace Cert.Proof.First

open Idealize.ShloMosaic Idealize.ShloMosaic.TcCoe Idealize.SL.Sem Cert.FirstReferenceIdeal Cert.FirstReferenceIdeal.Gen Cert.FirstReferenceIdeal.Read
open Cert.Proof.Front (normed projected idx_pair)
open Cert.Proof.Fox (headNormed logLogistic cumsum_at)

section
variable (x : FVec Ideal S4x8192x1024 .f32) (nw : FVec Ideal S1024 .f32) (w : FVec Ideal S1024x4104 .f32)
variable (bf : FVec Ideal S8 .f32) (qg kg : FVec Ideal S128 .f32)

/-- The reference's normalised row. -/
def refNormed (b : Fin 4) (s : Fin 8192) : Fin 1024 → EReal := normed (fun k => x (ix3 b s k)) (fun k => nw (ix1 k))

/-- The reference's stream, normalised. -/
theorem ref12_at (b : Fin 4) (s : Fin 8192) (n : Fin 1024) : val_main_v12 (F := Ideal) x nw (ix3 b s n) = refNormed x nw b s n := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, refNormed, normed]

/-- The reference's whole projection. -/
theorem ref13_at (b : Fin 4) (s : Fin 8192) (n : Fin 4104) : val_main_v13 (F := Ideal) x nw w (ix3 b s n)
    = projected (refNormed x nw b s) (fun k => w (ix2 k n)) := by
  rw [show refNormed x nw b s = fun k => val_main_v12 (F := Ideal) x nw (ix3 b s k) from funext fun k => (ref12_at x nw b s k).symm]
  unfold val_main_v13
  generalize val_main_v12 (F := Ideal) x nw = Y
  pointwise [projected]

/-- The reference's queries, normalised by head and scaled. -/
theorem ref34_at (b : Fin 4) (s : Fin 8192) (h : Fin 8) (d : Fin 128) : val_main_v34 (F := Ideal) x nw w qg (ix4 b s h d)
    = Ideal.div (Ideal.div (headNormed (fun q => projected (refNormed x nw b s) (fun k => w (ix2 k ⟨h.val * 128 + q.val, by omega⟩)))
        (fun q => qg (ix1 q)) d) (Ideal.sqrt (Ideal.ofBits .f32 0x43000000#32))) (Ideal.log (Ideal.ofBits .f32 0x40000000#32)) := by
  simp only [← ref13_at]
  unfold val_main_v34 val_main_v31 val_main_v28 val_main_v25 val_main_v24 val_main_v23 val_main_v22 val_main_v20 val_main_v18
    val_main_v17 val_main_v16 val_main_v15 val_main_v14
  generalize val_main_v13 (F := Ideal) x nw w = Y
  pointwise [val_main_v33, val_main_v32, val_main_v30, val_main_v29, val_main_v27, val_main_v26, val_main_v21, val_main_v19, val_main_cst_2, val_main_cst_3, val_main_cst_4,
    val_main_cst_5, val_main_cst_6, headNormed]

/-- The reference's keys, normalised by head. -/
theorem ref49_at (b : Fin 4) (s : Fin 8192) (h : Fin 8) (d : Fin 128) : val_main_v49 (F := Ideal) x nw w kg (ix4 b s h d)
    = headNormed (fun q => projected (refNormed x nw b s) (fun k => w (ix2 k ⟨1024 + (h.val * 128 + q.val), by omega⟩)))
        (fun q => kg (ix1 q)) d := by
  simp only [← ref13_at]
  unfold val_main_v49 val_main_v46 val_main_v45 val_main_v44 val_main_v43 val_main_v41 val_main_v39
    val_main_v38 val_main_v37 val_main_v36 val_main_v35
  generalize val_main_v13 (F := Ideal) x nw w = Y
  pointwise [val_main_v48, val_main_v47, val_main_v42, val_main_v40, val_main_cst_7, val_main_cst_8, val_main_cst_9, headNormed]

/-- The reference's logits in 128 lanes: the eight gates', then zeros. -/
theorem ref60_at (b : Fin 4) (s : Fin 8192) (l : Fin 128) : val_main_v60 (F := Ideal) x nw w bf (ix3 b s l)
    = if h : l.val < 8 then projected (refNormed x nw b s) (fun k => w (ix2 k ⟨4096 + l.val, by omega⟩)) + bf (ix1 ⟨l.val, h⟩) else 0 := by
  simp only [← ref13_at]
  unfold val_main_v60 val_main_v58 val_main_v55
  generalize val_main_v13 (F := Ideal) x nw w = Y
  pointwise [val_main_v59, val_main_v57, val_main_v56, val_main_cst_10]

/-- The reference's gates' logarithms. -/
theorem ref61_at (b : Fin 4) (s : Fin 8192) (l : Fin 128) : val_main_v61 (F := Ideal) x nw w bf (ix3 b s l)
    = logLogistic (val_main_v60 (F := Ideal) x nw w bf (ix3 b s l)) := by
  unfold val_main_v61 val_main_call0_v1 val_main_call0_call0_v11 val_main_call0_call0_v10 val_main_call0_call0_v9 val_main_call0_call0_v8
    val_main_call0_call0_v7 val_main_call0_call0_v6 val_main_call0_call0_v4 val_main_call0_call0_v3 val_main_call0_call0_v1 val_main_call0_v0
  generalize val_main_v60 (F := Ideal) x nw w bf = Y
  pointwise [val_main_call0_call0_v0, val_main_call0_call0_v2, val_main_call0_call0_v5, val_main_call0_call0_cst, logLogistic]
  rw [if_neg (not_not.2 rfl)]
  rfl

/-- The reference's running sums. -/
theorem ref65_at (b : Fin 4) (s : Fin 8192) (l : Fin 128) : val_main_v65 (F := Ideal) x nw w bf (ix3 b s l)
    = Ideal.div (∑ j ∈ Finset.range (s.val + 1), if h : j < 8192 then logLogistic (val_main_v60 (F := Ideal) x nw w bf (ix3 b ⟨j, h⟩ l)) else 0)
      (Ideal.log (Ideal.ofBits .f32 0x40000000#32)) := by
  simp only [← ref61_at]
  refine Eq.trans ?_ (congrArg (Ideal.div · _) (cumsum_at (val_main_v61 (F := Ideal) x nw w bf) (val_main_call1_call0_v0 (F := Ideal)) (fun i => ?_) b s l))
  · unfold val_main_v65 val_main_v62
    generalize Host.reduceWindowAdd (F := Ideal) _ _ _ _ _ _ _ _ = Y
    pointwise [val_main_v64, val_main_v63, val_main_cst_11]
  · obtain rfl : i = ix0 := funext fun d => d.elim0
    pointwise [val_main_call1_call0_v0, val_main_call1_call0_cst]

/-- The reference's first result, joined. -/
theorem ref66_at (n : Fin 32768) (k : Fin 4096) : val_main_v66 (F := Ideal) x nw w qg kg (ix2 n k)
    = if h : k.val < 1024 then
        val_main_v34 (F := Ideal) x nw w qg (ix4 ⟨n.val / 8192, by omega⟩ ⟨n.val % 8192, by omega⟩ ⟨k.val / 128, by omega⟩ ⟨k.val % 128, by omega⟩)
      else if h' : k.val < 2048 then
        val_main_v49 (F := Ideal) x nw w kg (ix4 ⟨n.val / 8192, by omega⟩ ⟨n.val % 8192, by omega⟩ ⟨k.val / 128 - 8, by omega⟩ ⟨k.val % 128, by omega⟩)
      else val_main_v13 (F := Ideal) x nw w (ix3 ⟨n.val / 8192, by omega⟩ ⟨n.val % 8192, by omega⟩ ⟨k.val, by omega⟩) := by
  unfold val_main_v66 val_main_v54 val_main_v53 val_main_v52 val_main_v51 val_main_v50
  generalize val_main_v13 (F := Ideal) x nw w = Y
  generalize val_main_v34 (F := Ideal) x nw w qg = Q
  generalize val_main_v49 (F := Ideal) x nw w kg = K
  pointwise
  by_cases h : k.val < 1024
  · rw [dif_pos h, dif_pos h]
  · rw [dif_neg h, dif_neg h]
    by_cases h' : k.val < 2048
    · rw [dif_pos h', dif_pos (by omega)]
      exact congrArg₂ (fun e d => K (ix4 _ _ e d)) (Fin.ext (by dsimp only; omega)) (Fin.ext (by dsimp only; omega))
    · rw [dif_neg h', dif_neg (by omega)]
      exact congrArg (fun e => Y (ix3 _ _ e)) (Fin.ext (by dsimp only; omega))

/-- The reference's second result, a row per query. -/
theorem ref67_at (n : Fin 32768) (l : Fin 128) : val_main_v67 (F := Ideal) x nw w bf (ix2 n l)
    = val_main_v65 (F := Ideal) x nw w bf (ix3 ⟨n.val / 8192, by omega⟩ ⟨n.val % 8192, by omega⟩ l) := by
  unfold val_main_v67
  generalize val_main_v65 (F := Ideal) x nw w bf = Y
  pointwise

/-- The reference's third result, head by head. -/
theorem ref69_at (b : Fin 4) (h : Fin 8) (s : Fin 8192) : val_main_v69 (F := Ideal) x nw w bf (ix3 b h s)
    = val_main_v65 (F := Ideal) x nw w bf (ix3 b s ⟨h.val, by omega⟩) := by
  unfold val_main_v69 val_main_v68
  generalize val_main_v65 (F := Ideal) x nw w bf = Y
  pointwise

end

end Cert.Proof.First
-- ==== Proof.FirstEquation.lean ====
/-
  THE EQUATION of the first layer's projection: each element of the three arrays the kernel leaves is the reference's. The
  scale the host puts in the queries' gains is the reference's two divisions; the factor to base two that the kernel puts
  on each gate is the reference's one division of the running sum.
-/
module

public import proofs.«01_k».proof.Proof.FirstReference

@[expose] public section

set_option maxRecDepth 16384

noncomputable section

namespace Cert.Proof.First

open Idealize.ShloMosaic Idealize.ShloMosaic.TcCoe Idealize.SL.Sem Cert.FirstReferenceIdeal Cert.FirstReferenceIdeal.Gen Cert.FirstReferenceIdeal.Read
open Cert.Proof.Front (normed projected idx_pair)
open Cert.Proof.Fox (headNormed gate logit column column_congr hostGain hostMain_at hostBias_at logLogistic projected_gates scaled_eq column_q column_k
  gate_base sum_scaled)

section
variable (m : (ℓ : Loc Cert.FirstIdeal.nD Cert.FirstIdeal.τ Cert.FirstIdeal.sig) → Buf (Elt Ideal) ℓ) (c : Dev Cert.FirstIdeal.nD)

/-- The stream a launch is given. -/
abbrev argX : FVec Ideal S4x8192x1024 .f32 := m ((c : Thread Cert.FirstIdeal.nD Cert.FirstIdeal.τ).loc Cert.FirstIdeal.main_arg0)
/-- The gains a launch is given. -/
abbrev argNw : FVec Ideal S1024 .f32 := m ((c : Thread Cert.FirstIdeal.nD Cert.FirstIdeal.τ).loc Cert.FirstIdeal.main_arg1)
/-- The projection's weights a launch is given. -/
abbrev argW : FVec Ideal S1024x4104 .f32 := m ((c : Thread Cert.FirstIdeal.nD Cert.FirstIdeal.τ).loc Cert.FirstIdeal.main_arg2)
/-- The gates' biases a launch is given. -/
abbrev argBf : FVec Ideal S8 .f32 := m ((c : Thread Cert.FirstIdeal.nD Cert.FirstIdeal.τ).loc Cert.FirstIdeal.main_arg3)
/-- The queries' gains a launch is given. -/
abbrev argQg : FVec Ideal S128 .f32 := m ((c : Thread Cert.FirstIdeal.nD Cert.FirstIdeal.τ).loc Cert.FirstIdeal.main_arg4)
/-- The keys' gains a launch is given. -/
abbrev argKg : FVec Ideal S128 .f32 := m ((c : Thread Cert.FirstIdeal.nD Cert.FirstIdeal.τ).loc Cert.FirstIdeal.main_arg5)

/-- A normalised row of the kernel is the reference's. -/
theorem rowNormed_eq (n : Fin 32768) : rowNormed m c n
    = refNormed (argX m c) (argNw m c) ⟨n.val / 8192, by omega⟩ ⟨n.val % 8192, by omega⟩ := by
  unfold rowNormed refNormed
  rw [V_x, V_nw]
  refine congrArg₂ normed (funext fun k => ?_) (funext fun k => ?_)
  · show shapeCast _ (argX m c) _ _ = _
    generalize argX m c = x
    pointwise
  · show shapeCast _ (argNw m c) _ _ = _
    generalize argNw m c = x
    pointwise

/-- A column of the kernel's projection, of the weights and gains given. -/
theorem mains_at (n : Fin 32768) (k : Fin 4096) : mains m c (ix2 n k)
    = column (rowNormed m c n) (fun j n => argW m c (ix2 j ⟨n.val, by omega⟩)) (fun n => hostGain (argQg m c) (argKg m c) (ix2 0 n)) k := by
  refine column_congr rfl (funext fun j => funext fun p => ?_) (funext fun p => ?_) k
  · rw [V_w]
    exact hostMain_at (argW m c) j p
  · rw [V_hg]

/-- The projection the kernel leaves is the reference's. -/
theorem mains_eq : val_main_v66 (F := Ideal) (argX m c) (argNw m c) (argW m c) (argQg m c) (argKg m c) = mains m c := by
  funext i
  obtain ⟨n, k, rfl⟩ : ∃ (n : Fin 32768) (k : Fin 4096), i = ix2 n k := idx_pair i
  refine (ref66_at _ _ _ _ _ n k).trans ?_
  rw [mains_at, rowNormed_eq]
  by_cases h : k.val < 1024
  · rw [dif_pos h, ref34_at, scaled_eq, column_q _ _ _ _ k h]
  · rw [dif_neg h]
    by_cases h' : k.val < 2048
    · rw [dif_pos h', ref49_at, column_k _ _ _ _ k h h']
    · rw [dif_neg h', ref13_at]
      unfold column
      rw [dif_neg h']

/-- The kernel's gate of a row is the reference's, to base two. -/
theorem rowGate_eq (n : Fin 32768) (l : Fin 128) : rowGate m c n l
    = logLogistic (val_main_v60 (F := Ideal) (argX m c) (argNw m c) (argW m c) (argBf m c)
        (ix3 ⟨n.val / 8192, by omega⟩ ⟨n.val % 8192, by omega⟩ l)) * (((Real.log 2)⁻¹ : ℝ) : EReal) := by
  unfold rowGate
  rw [gate_base, ref60_at, ← rowNormed_eq]
  refine congrArg (fun t => logLogistic t * _) ?_
  unfold logit
  have e : projected (rowNormed m c n) (fun k => Cert.FirstIdeal.Gen.V m c Cert.FirstIdeal.main_v6 (ix2 k l))
      = if h : l.val < 8 then projected (rowNormed m c n) (fun k => argW m c (ix2 k ⟨4096 + l.val, by omega⟩)) else 0 := by
    refine Eq.trans ?_ (projected_gates (rowNormed m c n) (argW m c) l)
    exact congrArg (projected (rowNormed m c n)) (funext fun j => congrFun (V_wf m c) (ix2 j l))
  have b : Cert.FirstIdeal.Gen.V m c Cert.FirstIdeal.main_v27 (ix2 0 l) = if h : l.val < 8 then argBf m c (ix1 ⟨l.val, h⟩) else 0 :=
    (congrFun (V_bf m c) (ix2 0 l)).trans (hostBias_at (argBf m c) l)
  rw [e, b]
  by_cases h : l.val < 8
  · rw [dif_pos h, dif_pos h, dif_pos h]
  · rw [dif_neg h, dif_neg h, dif_neg h, add_zero]

/-- The reference's running sum at a row is the kernel's. -/
theorem rowSum_eq (n : Fin 32768) (l : Fin 128) :
    val_main_v65 (F := Ideal) (argX m c) (argNw m c) (argW m c) (argBf m c)
        (ix3 ⟨n.val / 8192, by omega⟩ ⟨n.val % 8192, by omega⟩ l) = rowSum m c n l := by
  rw [ref65_at, word_two, Ideal.log_coe, if_neg (by norm_num), Ideal.div_coe (Real.log_pos one_lt_two).ne', one_div,
    sum_scaled _ _ (inv_nonneg.2 (Real.log_pos one_lt_two).le)]
  unfold rowSum
  refine Finset.sum_congr rfl fun j hj => ?_
  have hj' := Finset.mem_range.1 hj
  have hj2 : j < n.val % 8192 + 1 := hj'
  unfold seqGate
  rw [dif_pos (by omega), dif_pos (by omega), rowGate_eq]
  refine congrArg₂ (fun b s => logLogistic (val_main_v60 (F := Ideal) _ _ _ _ (ix3 b s l)) * _) (Fin.ext ?_) (Fin.ext ?_)
  · show n.val / 8192 = (8192 * (n.val / 8192) + j) / 8192
    omega
  · show j = (8192 * (n.val / 8192) + j) % 8192
    omega

/-- The running sums the kernel leaves are the reference's. -/
theorem sums_eq : val_main_v67 (F := Ideal) (argX m c) (argNw m c) (argW m c) (argBf m c) = sums m c := by
  funext i
  obtain ⟨n, l, rfl⟩ : ∃ (n : Fin 32768) (l : Fin 128), i = ix2 n l := idx_pair i
  exact (ref67_at _ _ _ _ n l).trans (rowSum_eq m c n l)

/-- The running sums the kernel leaves head by head are the reference's. -/
theorem headSums_eq : val_main_v69 (F := Ideal) (argX m c) (argNw m c) (argW m c) (argBf m c) = headSums m c := by
  funext i
  obtain ⟨b, h, s, rfl⟩ : ∃ (b : Fin 4) (h : Fin 8) (s : Fin 8192), i = ix3 b h s :=
    ⟨i 0, i 1, i 2, by funext a; match a with | ⟨0, _⟩ => rfl | ⟨1, _⟩ => rfl | ⟨2, _⟩ => rfl⟩
  refine (ref69_at _ _ _ _ b h s).trans ?_
  refine Eq.trans ?_ (rowSum_eq m c ⟨8192 * b.val + s.val, by omega⟩ ⟨h.val, by omega⟩)
  refine congrArg₂ (fun b s => val_main_v65 (F := Ideal) _ _ _ _ (ix3 b s _)) (Fin.ext ?_) (Fin.ext ?_)
  · show b.val = (8192 * b.val + s.val) / 8192
    omega
  · show s.val = (8192 * b.val + s.val) % 8192
    omega

end

end Cert.Proof.First
-- ==== Proof.OnlineSoftmax.lean ====
/-
  THE RUNNING MAXIMUM. The online attention keeps, per query row, a number taken off the exponents, the sum of the
  weights seen so far and the weighted sum of the values. A tile of keys may raise the number; then what was summed is
  scaled down by the same power of two. Whatever real number stands there, the sums are those of the keys seen, with
  that number taken off: this is the invariant, and one tile carries it on.
-/
module

public import proofs.«01_k».proof.Proof.Softmax

@[expose] public section

noncomputable section

namespace Cert.Proof.Online

open Idealize.ShloMosaic

/-- The weight of key `j`: two to its exponent `T j`, plus the row's `c`, less the number `β`. -/
def power (T : ℕ → ℝ) (c β : ℝ) (j : ℕ) : ℝ := Real.rpow 2 (T j + (c - β))

/-- Before any key the number is minus infinity and the sums are empty; after the first `n` keys the number is a real
    one and the sums are over these keys. -/
def Kept (T : ℕ → ℝ) (c : ℝ) (v : ℕ → Fin 128 → EReal) (n : ℕ) (m l : EReal) (a : Fin 128 → EReal) : Prop :=
  (n = 0 ∧ m = ⊥ ∧ l = 0 ∧ ∀ d, a d = 0)
  ∨ ∃ β : ℝ, m = (β : EReal) ∧ l = ∑ j ∈ Finset.range n, ((power T c β j : ℝ) : EReal)
      ∧ ∀ d, a d = ∑ j ∈ Finset.range n, ((power T c β j : ℝ) : EReal) * v j d

/-- A largest entry counted from minus infinity is real, when no entry is plus infinity and one is real. -/
theorem tile_max_real (t : Fin 512 → EReal) (ht : ∀ x, t x ≠ ⊤) (x : Fin 512) (hx : t x ≠ ⊥) :
    ∃ μ : ℝ, Finset.fold max (⊥ : EReal) t Finset.univ = (μ : EReal) := by
  obtain ⟨k, -, hk⟩ := Finset.exists_mem_eq_sup Finset.univ ⟨x, Finset.mem_univ x⟩ t
  have hle : t x ≤ t k := hk ▸ Finset.le_sup (f := t) (Finset.mem_univ x)
  refine ⟨(t k).toReal, Eq.trans (show Finset.univ.sup t = t k from hk) ?_⟩
  exact (EReal.coe_toReal (ht k) fun h0 => hx (le_bot_iff.mp (h0 ▸ hle))).symm

/-- The sum over a tile whose entries beyond the first `k` are minus infinity is the sum over the first `k`. -/
theorem tile_sum (T : ℕ → ℝ) (c β : ℝ) (n k : ℕ) (hk : k ≤ 512) (t : Fin 512 → EReal)
    (ht : ∀ x, t x = if x.val < k then ((T (n + x.val) : ℝ) : EReal) else ⊥) (u : Fin 512 → EReal) (w : ℕ → EReal)
    (hu : ∀ x, x.val < k → u x = w (n + x.val)) :
    ∑ x, Ideal.exp2 (t x + ((c : EReal) - (β : EReal))) * u x
      = ∑ j ∈ Finset.range k, ((power T c β (n + j) : ℝ) : EReal) * w (n + j) := by
  have e : ∀ x : Fin 512, Ideal.exp2 (t x + ((c : EReal) - (β : EReal))) * u x
      = (fun j : ℕ => if j < k then ((power T c β (n + j) : ℝ) : EReal) * w (n + j) else 0) x.val := by
    intro x
    dsimp only
    rw [ht]
    by_cases h : x.val < k
    · rw [if_pos h, if_pos h, hu x h, ← EReal.coe_sub, ← EReal.coe_add, Ideal.exp2_coe]
      rfl
    · rw [if_neg h, if_neg h, EReal.bot_add, Ideal.exp2_bot, zero_mul]
  rw [Finset.sum_congr rfl fun x _ => e x,
    ← Finset.sum_range (fun j : ℕ => if j < k then ((power T c β (n + j) : ℝ) : EReal) * w (n + j) else 0),
    ← Finset.sum_filter]
  refine Finset.sum_congr (Finset.ext fun j => ?_) fun _ _ => rfl
  rw [Finset.mem_filter, Finset.mem_range, Finset.mem_range]
  omega

/-- Scaling what was summed takes another number off the exponents. -/
theorem rescale (T : ℕ → ℝ) (c β β' : ℝ) (S : Finset ℕ) (w : ℕ → EReal) :
    Ideal.exp2 ((β : EReal) - (β' : EReal)) * ∑ j ∈ S, ((power T c β j : ℝ) : EReal) * w j
      = ∑ j ∈ S, ((power T c β' j : ℝ) : EReal) * w j := by
  have hp : (0 : ℝ) ≤ Real.rpow 2 (β - β') := Real.rpow_nonneg two_pos.le _
  rw [← EReal.coe_sub, Ideal.exp2_coe, mul_comm, sum_mul_real _ _ _ hp]
  refine Finset.sum_congr rfl fun j _ => ?_
  rw [mul_right_comm, ← EReal.coe_mul]
  congr 2
  unfold power
  show (2 : ℝ) ^ (T j + (c - β)) * (2 : ℝ) ^ (β - β') = (2 : ℝ) ^ (T j + (c - β'))
  rw [← Real.rpow_add two_pos]
  congr 1
  ring

/-- ONE TILE: `k` more keys, of which there is at least one. -/
theorem Kept.step {T : ℕ → ℝ} {c : ℝ} {v : ℕ → Fin 128 → EReal} {n : ℕ} {m l : EReal} {a : Fin 128 → EReal}
    (h : Kept T c v n m l a) (k : ℕ) (h0 : 0 < k) (hk : k ≤ 512) (t : Fin 512 → EReal)
    (ht : ∀ x, t x = if x.val < k then ((T (n + x.val) : ℝ) : EReal) else ⊥) (u : Fin 512 → Fin 128 → EReal)
    (hu : ∀ x d, x.val < k → u x d = v (n + x.val) d) (m' l' : EReal) (a' : Fin 128 → EReal)
    (hm : m' = max m (Finset.fold max (⊥ : EReal) t Finset.univ + (c : EReal)))
    (hl : l' = Ideal.exp2 (m - m') * l + ∑ x, Ideal.exp2 (t x + ((c : EReal) - m')))
    (ha : ∀ d, a' d = Ideal.exp2 (m - m') * a d + ∑ x, Ideal.exp2 (t x + ((c : EReal) - m')) * u x d) :
    Kept T c v (n + k) m' l' a' := by
  obtain ⟨μ, hμ⟩ := tile_max_real t
    (fun x => by rw [ht]; split; exact EReal.coe_ne_top _; exact bot_ne_top) ⟨0, by norm_num⟩
    (by rw [ht, if_pos h0]; exact EReal.coe_ne_bot _)
  have hs := fun β : ℝ => tile_sum T c β n k hk t ht
  have h1 : ∀ β : ℝ, ∑ x, Ideal.exp2 (t x + ((c : EReal) - (β : EReal)))
      = ∑ j ∈ Finset.range k, ((power T c β (n + j) : ℝ) : EReal) := by
    intro β
    have e := hs β (fun _ => 1) (fun _ => 1) fun _ _ => rfl
    simpa only [mul_one] using e
  rw [hμ, ← EReal.coe_add] at hm
  rcases h with ⟨rfl, rfl, rfl, hz⟩ | ⟨β, rfl, hβl, hβa⟩
  · have hm' : m' = ((μ + c : ℝ) : EReal) := hm.trans (max_eq_right bot_le)
    refine Or.inr ⟨μ + c, hm', ?_, fun d => ?_⟩
    · rw [hl, hm', mul_zero, zero_add, h1]
      simp only [zero_add]
    · rw [ha, hm', hz, mul_zero, zero_add, hs _ _ (fun j => v j d) fun x hx => hu x d hx]
      simp only [zero_add]
  · have hm' : m' = ((max β (μ + c) : ℝ) : EReal) := hm.trans (EReal.coe_strictMono.monotone.map_max).symm
    refine Or.inr ⟨max β (μ + c), hm', ?_, fun d => ?_⟩
    · have e := rescale T c β (max β (μ + c)) (Finset.range n) fun _ => 1
      simp only [mul_one] at e
      rw [hl, hm', hβl, h1, e, Finset.sum_range_add]
    · rw [ha, hm', hβa, hs _ _ (fun j => v j d) fun x hx => hu x d hx, rescale, Finset.sum_range_add]

/-- What the kept sums say once there are keys: some real number is taken off every exponent. -/
theorem Kept.sums {T : ℕ → ℝ} {c : ℝ} {v : ℕ → Fin 128 → EReal} {n : ℕ} {m l : EReal} {a : Fin 128 → EReal}
    (h : Kept T c v n m l a) (hn : 0 < n) : ∃ β : ℝ, l = ∑ j ∈ Finset.range n, ((power T c β j : ℝ) : EReal)
      ∧ ∀ d, a d = ∑ j ∈ Finset.range n, ((power T c β j : ℝ) : EReal) * v j d := by
  rcases h with ⟨rfl, -⟩ | ⟨β, -, hl, ha⟩
  · exact absurd hn (lt_irrefl 0)
  · exact ⟨β, hl, ha⟩

end Cert.Proof.Online
-- ==== Proof.OnlineTile.lean ====
/-
  ONE TILE OF THE ONLINE ATTENTION: 512 query rows against 512 keys. The printed expressions of a tile are read at a
  row, and the row's kept number and sums go from the keys before the tile to the keys after it.
-/
module

public import proofs.«01_k».proof.Proof.Tile
public import proofs.«01_k».proof.Proof.OnlineSoftmax
public import proofs.«01_k».proof.Proof.Gen.OnlineIdeal.Value

@[expose] public section

set_option maxRecDepth 16384

noncomputable section

namespace Cert.Proof.Online

open Idealize.ShloMosaic Idealize.SL.Sem Cert.OnlineIdeal Cert.OnlineIdeal.Gen

/-- The scaled product of query row `r` and key `x` of a tile, less the key's gate. -/
def logit (q : FVec Ideal S512x128 .bf16) (kb : FVec Ideal S1x512x128 .bf16) (cb : FVec Ideal S1x1x512 .f32)
    (r x : Fin 512) : EReal :=
  (∑ d : Fin 128, q (ix2 r d) * kb (ix3 0 x d)) - cb (ix3 0 0 x)

/-- The rows' numbers and the columns' numbers of a tile. -/
abbrev rowNo : IVec S512x512 32 := iota .tc S512x512 32 [0] iota_S512x512_d0_w32
/-- The columns' numbers of a tile. -/
abbrev colNo : IVec S512x512 32 := iota .tc S512x512 32 [1] iota_S512x512_d1_w32

section
variable (q : FVec Ideal S512x128 .bf16) (cq m l : FVec Ideal S512x1 .f32) (a : FVec Ideal S512x128 .f32)
  (kb vb : FVec Ideal S1x512x128 .bf16) (cb : FVec Ideal S1x1x512 .f32) (r : Fin 512)

/-- A tile's logits. -/
theorem pay5_at (x : Fin 512) : k0_pay5 q kb cb (ix2 r x) = logit q kb cb r x := by
  pointwise [k0_pay5, k0_pay2, k0_pay4]
  rfl

/-- The crossing tile's logits: minus infinity at a key after the row. -/
theorem pay45_at (x : Fin 512) : k0_pay45 q rowNo colNo kb cb (ix2 r x)
    = if x.val < r.val + 1 then logit q kb cb r x else ⊥ := by
  pointwise [k0_pay45, k0_pay42, k0_pay44, rowNo, colNo]
  rw [show IntOp.addi (BitVec.ofNat 32 r.val) 0#32 = BitVec.ofNat 32 r.val from BitVec.add_zero _,
    WordCmp.cmpi_sge_ofNat (by omega) (by omega), Scalar.select_decide, neg_inf]
  unfold logit
  by_cases h : x.val ≤ r.val
  · rw [if_pos h, if_pos (by omega)]
  · rw [if_neg h, if_neg (by omega)]

/-- The row's new number. -/
theorem pay6_at : k0_pay6 q cq m kb cb (ix2 r 0)
    = max (m (ix2 r 0)) (Finset.fold max (⊥ : EReal) (fun x => k0_pay5 q kb cb (ix2 r x)) Finset.univ + cq (ix2 r 0)) := by
  unfold k0_pay6
  generalize k0_pay5 q kb cb = Y
  pointwise []
  rw [neg_inf]

/-- The row's new sum of weights. -/
theorem pay9_at : k0_pay9 q cq m l kb cb (ix2 r 0)
    = Ideal.exp2 (m (ix2 r 0) - k0_pay6 q cq m kb cb (ix2 r 0)) * l (ix2 r 0)
      + ∑ x, Ideal.exp2 (k0_pay5 q kb cb (ix2 r x) + (cq (ix2 r 0) - k0_pay6 q cq m kb cb (ix2 r 0))) := by
  unfold k0_pay9 k0_pay7 k0_pay8
  generalize k0_pay5 q kb cb = Y
  generalize k0_pay6 q cq m kb cb = M
  pointwise []
  rfl

/-- The row's new weighted sum. -/
theorem pay10_at (d : Fin 128) : k0_pay10 q cq m a kb vb cb (ix2 r d)
    = Ideal.exp2 (m (ix2 r 0) - k0_pay6 q cq m kb cb (ix2 r 0)) * a (ix2 r d)
      + ∑ x, Ideal.exp2 (k0_pay5 q kb cb (ix2 r x) + (cq (ix2 r 0) - k0_pay6 q cq m kb cb (ix2 r 0))) * vb (ix3 0 x d) := by
  unfold k0_pay10 k0_pay7 k0_pay8
  generalize k0_pay5 q kb cb = Y
  generalize k0_pay6 q cq m kb cb = M
  pointwise [k0_pay3]
  rfl

/-- The row's new number at the crossing tile. -/
theorem pay46_at : k0_pay46 q cq rowNo colNo m kb cb (ix2 r 0)
    = max (m (ix2 r 0)) (Finset.fold max (⊥ : EReal) (fun x => k0_pay45 q rowNo colNo kb cb (ix2 r x)) Finset.univ + cq (ix2 r 0)) := by
  unfold k0_pay46
  generalize k0_pay45 q rowNo colNo kb cb = Y
  pointwise []
  rw [neg_inf]

/-- The row's new sum of weights at the crossing tile. -/
theorem pay49_at : k0_pay49 q cq rowNo colNo m l kb cb (ix2 r 0)
    = Ideal.exp2 (m (ix2 r 0) - k0_pay46 q cq rowNo colNo m kb cb (ix2 r 0)) * l (ix2 r 0)
      + ∑ x, Ideal.exp2 (k0_pay45 q rowNo colNo kb cb (ix2 r x) + (cq (ix2 r 0) - k0_pay46 q cq rowNo colNo m kb cb (ix2 r 0))) := by
  unfold k0_pay49 k0_pay47 k0_pay48
  generalize k0_pay45 q rowNo colNo kb cb = Y
  generalize k0_pay46 q cq rowNo colNo m kb cb = M
  pointwise []
  rfl

/-- The row's new weighted sum at the crossing tile. -/
theorem pay50_at (d : Fin 128) : k0_pay50 q cq rowNo colNo m a kb vb cb (ix2 r d)
    = Ideal.exp2 (m (ix2 r 0) - k0_pay46 q cq rowNo colNo m kb cb (ix2 r 0)) * a (ix2 r d)
      + ∑ x, Ideal.exp2 (k0_pay45 q rowNo colNo kb cb (ix2 r x) + (cq (ix2 r 0) - k0_pay46 q cq rowNo colNo m kb cb (ix2 r 0))) * vb (ix3 0 x d) := by
  unfold k0_pay50 k0_pay47 k0_pay48
  generalize k0_pay45 q rowNo colNo kb cb = Y
  generalize k0_pay46 q cq rowNo colNo m kb cb = M
  pointwise [k0_pay43]
  rfl

/-- The scaled products of row `r` with all keys, less the keys' gates, are the real numbers `T`. -/
def Logits (x1 : FVec Ideal S1x8192x128 .bf16) (x5 : FVec Ideal S1x8x8192 .f32) (h : Fin 8) (T : ℕ → ℝ) : Prop :=
  ∀ j : Fin 8192, (∑ d : Fin 128, q (ix2 r d) * x1 (ix3 0 j d)) - x5 (ix3 0 h j) = ((T j.val : ℝ) : EReal)

/-- Lane `d` of key `j`'s value (zero beyond the last key). -/
def value (x2 : FVec Ideal S1x8192x128 .bf16) (j : ℕ) (d : Fin 128) : EReal :=
  if hj : j < 8192 then x2 (ix3 0 ⟨j, hj⟩ d) else 0

variable (x1 x2 : FVec Ideal S1x8192x128 .bf16) (x5 : FVec Ideal S1x8x8192 .f32) (h : Fin 8) (T : ℕ → ℝ) (c : ℝ) (n : ℕ)

/-- A tile's logits are those of its keys. -/
theorem logit_eq (hT : Logits q r x1 x5 h T) (hn : n + 512 ≤ 8192) (hk : RowsFrom x1 n kb) (hc : GatesFrom x5 h n cb)
    (x : Fin 512) : logit q kb cb r x = ((T (n + x.val) : ℝ) : EReal) := by
  have hj : n + x.val < 8192 := by omega
  unfold logit
  rw [← hT ⟨n + x.val, hj⟩, hc x hj]
  congr 1
  exact Finset.sum_congr rfl fun d _ => by rw [hk x d hj]

/-- A row over a tile of keys all at or before it. -/
theorem kept_below (hT : Logits q r x1 x5 h T) (hq : cq (ix2 r 0) = (c : EReal)) (hn : n + 512 ≤ 8192)
    (hk : RowsFrom x1 n kb) (hv : RowsFrom x2 n vb) (hc : GatesFrom x5 h n cb)
    (hs : Kept T c (value x2) n (m (ix2 r 0)) (l (ix2 r 0)) fun d => a (ix2 r d)) :
    Kept T c (value x2) (n + 512) (k0_pay6 q cq m kb cb (ix2 r 0)) (k0_pay9 q cq m l kb cb (ix2 r 0))
      fun d => k0_pay10 q cq m a kb vb cb (ix2 r d) := by
  refine hs.step 512 (by norm_num) le_rfl (fun x => k0_pay5 q kb cb (ix2 r x)) (fun x => ?_)
    (fun x d => vb (ix3 0 x d)) (fun x d _ => ?_) _ _ _ ?_ ?_ fun d => ?_
  · rw [pay5_at, if_pos x.isLt, logit_eq q kb cb r x1 x5 h T n hT hn hk hc]
  · have hj : n + x.val < 8192 := by omega
    unfold value
    rw [dif_pos hj, hv x d hj]
  · rw [pay6_at, hq]
  · rw [pay9_at, hq]
  · rw [pay10_at, hq]

/-- A row over the tile that holds its own place: the keys up to the row's own. -/
theorem kept_crossing (hT : Logits q r x1 x5 h T) (hq : cq (ix2 r 0) = (c : EReal)) (hn : n + 512 ≤ 8192)
    (hk : RowsFrom x1 n kb) (hv : RowsFrom x2 n vb) (hc : GatesFrom x5 h n cb)
    (hs : Kept T c (value x2) n (m (ix2 r 0)) (l (ix2 r 0)) fun d => a (ix2 r d)) :
    Kept T c (value x2) (n + (r.val + 1)) (k0_pay46 q cq rowNo colNo m kb cb (ix2 r 0))
      (k0_pay49 q cq rowNo colNo m l kb cb (ix2 r 0)) fun d => k0_pay50 q cq rowNo colNo m a kb vb cb (ix2 r d) := by
  refine hs.step (r.val + 1) (by omega) (by omega) (fun x => k0_pay45 q rowNo colNo kb cb (ix2 r x)) (fun x => ?_)
    (fun x d => vb (ix3 0 x d)) (fun x d _ => ?_) _ _ _ ?_ ?_ fun d => ?_
  · rw [pay45_at, logit_eq q kb cb r x1 x5 h T n hT hn hk hc]
  · have hj : n + x.val < 8192 := by omega
    unfold value
    rw [dif_pos hj, hv x d hj]
  · rw [pay46_at, hq]
  · rw [pay49_at, hq]
  · rw [pay50_at, hq]

end

end Cert.Proof.Online
-- ==== Proof.OnlineBlock.lean ====
/-
  WHAT ONE GRID POINT OF THE ONLINE ATTENTION WRITES. The point's 1024 query rows of one head go in two halves of 512
  rows. A loop over the tiles of 512 earlier keys carries each half's numbers and sums; then come the point's own two
  tiles of keys, the first half seeing the first of them, the second half both; then the division by the weights' sum
  and the gate. Each row ends with the sums over the keys up to its own.
-/
module

public import proofs.«01_k».proof.Proof.OnlineTile

@[expose] public section

set_option maxRecDepth 16384

noncomputable section

namespace Cert.Proof.Online

open Idealize.ShloMosaic Idealize.SL.Sem Cert.OnlineIdeal Cert.OnlineIdeal.Gen

theorem hz3 : (![0, 0, 0] : Fin 3 → Nat) = fun _ => 0 := funext fun a => by fin_cases a <;> rfl

/-- The rows of keys or values that a trip loads. -/
abbrev rows1 (i : grid0.Coords) (k : Fin (k0_t1_loop i).trips) (x : FVec Ideal S1x8192x128 .bf16) :
    FVec Ideal S1x512x128 .bf16 :=
  View.ld (Val := Elt Ideal) (e' := .bf16) x (Rect.unit (s := S1x8192x128) (k0_off1 i k) S1x512x128.size (k0_off1_inb i k))

/-- The gates that a trip loads. -/
abbrev gates1 (i : grid0.Coords) (k : Fin (k0_t1_loop i).trips) (x : FVec Ideal S1x8x8192 .f32) :
    FVec Ideal S1x1x512 .f32 :=
  View.ld (Val := Elt Ideal) (e' := .f32) x (Rect.unit (s := S1x8x8192) (k0_off2 i k) S1x1x512.size (k0_off2_inb i k))

/-- The rows of keys or values of the point's own place. -/
abbrev rowsOwn (i : grid0.Coords) (u : Fin 2) (x : FVec Ideal S1x8192x128 .bf16) : FVec Ideal S1x512x128 .bf16 :=
  View.ld (Val := Elt Ideal) (e' := .bf16) x (Rect.unit (s := S1x8192x128) (k0_off5 i (BitVec.ofNat 32 (512 * u.val))) S1x512x128.size (k0_off5_inb i u))

/-- The gates of the point's own place. -/
abbrev gatesOwn (i : grid0.Coords) (u : Fin 2) (x : FVec Ideal S1x8x8192 .f32) : FVec Ideal S1x1x512 .f32 :=
  View.ld (Val := Elt Ideal) (e' := .f32) x (Rect.unit (s := S1x8x8192) (k0_off6 i (BitVec.ofNat 32 (512 * u.val))) S1x1x512.size (k0_off6_inb i u))

/-- The first half of a block of rows. -/
abbrev half0 {e : EltTy} (x : S1x1024x128.Idx → Elt Ideal e) : S1x512x128.Idx → Elt Ideal e :=
  View.ld (Val := Elt Ideal) (e' := e) x (Rect.unit (s := S1x1024x128) ![0, 0, 0] S1x512x128.size inb_S1x1024x128_S1x512x128_0_0_0)

/-- The second half of a block of rows. -/
abbrev half1 {e : EltTy} (x : S1x1024x128.Idx → Elt Ideal e) : S1x512x128.Idx → Elt Ideal e :=
  View.ld (Val := Elt Ideal) (e' := e) x (Rect.unit (s := S1x1024x128) ![0, 512, 0] S1x512x128.size inb_S1x1024x128_S1x512x128_0_512_0)

/-- The head of a grid point. -/
abbrev head (i : grid0.Coords) : Fin 8 := ⟨(i 1).val, (i 1).isLt⟩

/-- What a loop carries: for each half the rows' numbers, sums of weights and weighted sums. -/
abbrev Carry : Type := FVec Ideal S512x1 .f32 × FVec Ideal S512x1 .f32 × FVec Ideal S512x128 .f32 × FVec Ideal S512x1 .f32 × FVec Ideal S512x1 .f32 × FVec Ideal S512x128 .f32

/-- One trip on what is carried. -/
def trip (v2 v4 : FVec Ideal S512x128 .bf16) (v12 v20 : FVec Ideal S512x1 .f32) (kb vb : FVec Ideal S1x512x128 .bf16)
    (cb : FVec Ideal S1x1x512 .f32) (s : Carry) : Carry :=
  (k0_pay6 v2 v12 s.1 kb cb, k0_pay9 v2 v12 s.1 s.2.1 kb cb, k0_pay10 v2 v12 s.1 s.2.2.1 kb vb cb,
    k0_pay6 v4 v20 s.2.2.2.1 kb cb, k0_pay9 v4 v20 s.2.2.2.1 s.2.2.2.2.1 kb cb,
    k0_pay10 v4 v20 s.2.2.2.1 s.2.2.2.2.2 kb vb cb)

/-- One trip of the loop, as the printed expressions of its loads. -/
theorem trip_eq (𝒱 : Variants) (c : Dev nD) (bd : Option 𝒱.V) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1x8x8192 .f32) (harg8 : arg8.IsWhole) (arg9 : Memref sig .tc .vmem S1x1024x128 .bf16) (harg9 : arg9.IsWhole)
    (arg1 arg2 : BitVec 32) (v2 v4 : FVec Ideal S512x128 .bf16) (v12 v20 : FVec Ideal S512x1 .f32) (v21 v22 : IVec S512x512 32) (v23 v24 : FVec Ideal S512x1 .f32) (v25 : FVec Ideal S512x128 .f32) (v26 v27 : FVec Ideal S512x1 .f32) (v28 : FVec Ideal S512x128 .f32) (c0_i32 v30 c1_i32 : BitVec 32)
    (x1 x2 : FVec Ideal S1x8192x128 .bf16) (x5 : FVec Ideal S1x8x8192 .f32) (k : Fin (k0_t1_loop i).trips) (s : Carry) :
    tripR_k0_t1 (F := Ideal) 𝒱 c bd i arg3 harg3 arg4 harg4 arg5 harg5 arg6 harg6 arg7 harg7 arg8 harg8 arg9 harg9 arg1 arg2 v2 v4 v12 v20 v21 v22 v23 v24 v25 v26 v27 v28 c0_i32 v30 c1_i32 (harg4.unread x1) (harg5.unread x2) (harg8.unread x5) k s
      = trip v2 v4 v12 v20 (rows1 i k x1) (rows1 i k x2) (gates1 i k x5) s := by
  have e : ∀ a4 a5 a8, tripR_k0_t1 (F := Ideal) 𝒱 c bd i arg3 harg3 arg4 harg4 arg5 harg5 arg6 harg6 arg7 harg7 arg8 harg8 arg9 harg9 arg1 arg2 v2 v4 v12 v20 v21 v22 v23 v24 v25 v26 v27 v28 c0_i32 v30 c1_i32 a4 a5 a8 k s
      = trip v2 v4 v12 v20
          (View.readAt (Elt Ideal) arg4.view (Rect.unit (s := S1x8192x128) (k0_off1 i k) S1x512x128.size (k0_off1_inb i k)).toLoadRect a4)
          (View.readAt (Elt Ideal) arg5.view (Rect.unit (s := S1x8192x128) (k0_off1 i k) S1x512x128.size (k0_off1_inb i k)).toLoadRect a5)
          (View.readAt (Elt Ideal) arg8.view (Rect.unit (s := S1x8x8192) (k0_off2 i k) S1x1x512.size (k0_off2_inb i k)).toLoadRect a8) s := by
    intro a4 a5 a8
    unfold tripR_k0_t1 trip_k0_t1
    dsimp only
    sl_unfold_words
    rfl
  rw [e]
  simp only [View.readAt_eq_ld, harg4.read_unread, harg5.read_unread, harg8.read_unread]

/-- The loop over earlier tiles runs twice per earlier block of 1024 keys. -/
theorem trips_eq : ∀ i : grid0.Coords, (k0_t1_loop i).trips = 2 * (i 2).val := by
  decide +kernel

/-- The loop over a remaining part runs never. -/
theorem trips2_eq (i : grid0.Coords) : (k0_t2_loop i).trips = 0 := Nat.le_zero.mp (k0_t2_abs i).2.1

/-- What the loop begins with. -/
abbrev start : Carry := (k0_pay32 (F := Ideal), k0_pay33 (F := Ideal), k0_pay34 (F := Ideal), k0_pay35 (F := Ideal), k0_pay36 (F := Ideal), k0_pay37 (F := Ideal))

/-- A row of each half before trip `n`: kept over the keys of the first `n` tiles. -/
theorem loop_kept (𝒱 : Variants) (c : Dev nD) (bd : Option 𝒱.V) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1x8x8192 .f32) (harg8 : arg8.IsWhole) (arg9 : Memref sig .tc .vmem S1x1024x128 .bf16) (harg9 : arg9.IsWhole)
    (arg1 arg2 : BitVec 32) (v2 v4 : FVec Ideal S512x128 .bf16) (v12 v20 : FVec Ideal S512x1 .f32) (v21 v22 : IVec S512x512 32) (v23 v24 : FVec Ideal S512x1 .f32) (v25 : FVec Ideal S512x128 .f32) (v26 v27 : FVec Ideal S512x1 .f32) (v28 : FVec Ideal S512x128 .f32) (c0_i32 v30 c1_i32 : BitVec 32)
    (x1 x2 : FVec Ideal S1x8192x128 .bf16) (x5 : FVec Ideal S1x8x8192 .f32) (r : Fin 512) (T0 T1 : ℕ → ℝ) (c0 c1 : ℝ)
    (hT0 : Logits v2 r x1 x5 (head i) T0) (hq0 : v12 (ix2 r 0) = (c0 : EReal))
    (hT1 : Logits v4 r x1 x5 (head i) T1) (hq1 : v20 (ix2 r 0) = (c1 : EReal)) :
    ∀ n : ℕ, n ≤ (k0_t1_loop i).trips → ∀ s : Carry,
    s = st_k0_t1 (F := Ideal) 𝒱 c bd i arg3 harg3 arg4 harg4 arg5 harg5 arg6 harg6 arg7 harg7 arg8 harg8 arg9 harg9 arg1 arg2 v2 v4 v12 v20 v21 v22 v23 v24 v25 v26 v27 v28 c0_i32 v30 c1_i32 (harg4.unread x1) (harg5.unread x2) (harg8.unread x5) start n →
      Kept T0 c0 (value x2) (512 * n) (s.1 (ix2 r 0)) (s.2.1 (ix2 r 0)) (fun d => s.2.2.1 (ix2 r d))
      ∧ Kept T1 c1 (value x2) (512 * n) (s.2.2.2.1 (ix2 r 0)) (s.2.2.2.2.1 (ix2 r 0)) (fun d => s.2.2.2.2.2 (ix2 r d))
  | 0, _ => by
    intro s hs
    rw [st_k0_t1_zero] at hs
    subst hs
    refine ⟨Or.inl ⟨rfl, ?_, ?_, fun d => ?_⟩, Or.inl ⟨rfl, ?_, ?_, fun d => ?_⟩⟩
    · exact neg_inf
    · exact Ideal.ofBits_zero_f32
    · exact Ideal.ofBits_zero_f32
    · exact neg_inf
    · exact Ideal.ofBits_zero_f32
    · exact Ideal.ofBits_zero_f32
  | n + 1, hn => by
    intro s hs
    have h2 : (i 2).val < 8 := (i 2).isLt
    have ht := trips_eq i
    have ih := loop_kept 𝒱 c bd i arg3 harg3 arg4 harg4 arg5 harg5 arg6 harg6 arg7 harg7 arg8 harg8 arg9 harg9 arg1 arg2 v2 v4 v12 v20 v21 v22 v23 v24 v25 v26 v27 v28 c0_i32 v30 c1_i32 x1 x2 x5 r T0 T1 c0 c1 hT0 hq0 hT1 hq1 n (by omega) _ rfl
    rw [st_k0_t1_succ (F := Ideal) 𝒱 c bd i arg3 harg3 arg4 harg4 arg5 harg5 arg6 harg6 arg7 harg7 arg8 harg8 arg9 harg9 arg1 arg2 v2 v4 v12 v20 v21 v22 v23 v24 v25 v26 v27 v28 c0_i32 v30 c1_i32 (harg4.unread x1) (harg5.unread x2) (harg8.unread x5) start ⟨n, hn⟩, trip_eq] at hs
    generalize st_k0_t1 (F := Ideal) 𝒱 c bd i arg3 harg3 arg4 harg4 arg5 harg5 arg6 harg6 arg7 harg7 arg8 harg8 arg9 harg9 arg1 arg2 v2 v4 v12 v20 v21 v22 v23 v24 v25 v26 v27 v28 c0_i32 v30 c1_i32 (harg4.unread x1) (harg5.unread x2) (harg8.unread x5) start n = p at ih hs
    subst hs
    have hk := rowsFrom_ld x1 _ _ (k0_off1_eq i ⟨n, hn⟩) (k0_off1_inb i ⟨n, hn⟩)
    have hv := rowsFrom_ld x2 _ _ (k0_off1_eq i ⟨n, hn⟩) (k0_off1_inb i ⟨n, hn⟩)
    have hc := gatesFrom_ld x5 _ (head i) _ (k0_off2_eq i ⟨n, hn⟩) (k0_off2_inb i ⟨n, hn⟩)
    exact ⟨kept_below v2 v12 _ _ _ _ _ _ r x1 x2 x5 (head i) T0 c0 (512 * n) hT0 hq0 (by omega) hk hv hc ih.1,
      kept_below v4 v20 _ _ _ _ _ _ r x1 x2 x5 (head i) T1 c1 (512 * n) hT1 hq1 (by omega) hk hv hc ih.2⟩

/-- The first half's rows as written, from what the loop leaves. -/
def wrote0 (i : grid0.Coords) (x0 : FVec Ideal S1x1024x128 .bf16) (x1 x2 : FVec Ideal S1x8192x128 .bf16) (x3 : FVec Ideal S1x1024x128 .bf16) (x4 : FVec Ideal S1x1024x128 .f32) (x5 : FVec Ideal S1x8x8192 .f32) (s : Carry) : FVec Ideal S1x512x128 .bf16 :=
  k0_pay60 (k0_pay49 (k0_pay28 (half0 (e := .bf16) x0)) (k0_pay30 i (half0 (e := .f32) x4)) rowNo colNo s.1 s.2.1 (rowsOwn i 0 x1) (gatesOwn i 0 x5))
    (k0_pay50 (k0_pay28 (half0 (e := .bf16) x0)) (k0_pay30 i (half0 (e := .f32) x4)) rowNo colNo s.1 s.2.2.1 (rowsOwn i 0 x1) (rowsOwn i 0 x2) (gatesOwn i 0 x5))
    (half0 (e := .bf16) x3)

/-- A half's rows as written, from its last tile and what was kept before it. -/
def last (q : FVec Ideal S512x128 .bf16) (cq m l : FVec Ideal S512x1 .f32) (a : FVec Ideal S512x128 .f32)
    (kb vb : FVec Ideal S1x512x128 .bf16) (cb : FVec Ideal S1x1x512 .f32) (z : FVec Ideal S1x512x128 .bf16) : FVec Ideal S1x512x128 .bf16 :=
  k0_pay1 (k0_pay61 z) (k0_pay62 cq m l a (k0_pay57 vb) (k0_pay58 q rowNo colNo kb cb) (k0_pay59 q rowNo colNo kb cb)) (k0_pay63 z)
    (Scalar.ofBits .f32 0x3F800000#32)

/-- The two halves are written in the same way. -/
theorem last_eq (q : FVec Ideal S512x128 .bf16) (cq m l : FVec Ideal S512x1 .f32) (a : FVec Ideal S512x128 .f32)
    (kb vb : FVec Ideal S1x512x128 .bf16) (cb : FVec Ideal S1x1x512 .f32) (z : FVec Ideal S1x512x128 .bf16) :
    last q cq m l a kb vb cb z
      = k0_pay60 (k0_pay49 q cq rowNo colNo m l kb cb) (k0_pay50 q cq rowNo colNo m a kb vb cb) z := rfl

/-- The second half's rows as written. -/
def wrote1 (i : grid0.Coords) (x0 : FVec Ideal S1x1024x128 .bf16) (x1 x2 : FVec Ideal S1x8192x128 .bf16) (x3 : FVec Ideal S1x1024x128 .bf16) (x4 : FVec Ideal S1x1024x128 .f32) (x5 : FVec Ideal S1x8x8192 .f32) (s : Carry) : FVec Ideal S1x512x128 .bf16 :=
  last (k0_pay29 (half1 (e := .bf16) x0)) (k0_pay31 i (half1 (e := .f32) x4))
    (k0_pay52 (k0_pay29 (half1 (e := .bf16) x0)) (k0_pay31 i (half1 (e := .f32) x4)) s.2.2.2.1 (k0_pay42 (rowsOwn i 0 x1)) (k0_pay44 (gatesOwn i 0 x5)))
    (k0_pay55 (k0_pay29 (half1 (e := .bf16) x0)) (k0_pay31 i (half1 (e := .f32) x4)) s.2.2.2.1 s.2.2.2.2.1 (k0_pay42 (rowsOwn i 0 x1)) (k0_pay44 (gatesOwn i 0 x5)))
    (k0_pay56 (k0_pay29 (half1 (e := .bf16) x0)) (k0_pay31 i (half1 (e := .f32) x4)) s.2.2.2.1 s.2.2.2.2.2 (k0_pay42 (rowsOwn i 0 x1)) (k0_pay43 (rowsOwn i 0 x2)) (k0_pay44 (gatesOwn i 0 x5)))
    (rowsOwn i 1 x1) (rowsOwn i 1 x2) (gatesOwn i 1 x5) (half1 (e := .bf16) x3)

/-- The second half's step over the point's first tile is a step over a tile of earlier keys. -/
theorem early_max (q : FVec Ideal S512x128 .bf16) (cq m : FVec Ideal S512x1 .f32) (kb : FVec Ideal S1x512x128 .bf16)
    (cb : FVec Ideal S1x1x512 .f32) : k0_pay52 q cq m (k0_pay42 kb) (k0_pay44 cb) = k0_pay6 q cq m kb cb := rfl

/-- So is its sum of weights. -/
theorem early_sum (q : FVec Ideal S512x128 .bf16) (cq m l : FVec Ideal S512x1 .f32) (kb : FVec Ideal S1x512x128 .bf16)
    (cb : FVec Ideal S1x1x512 .f32) : k0_pay55 q cq m l (k0_pay42 kb) (k0_pay44 cb) = k0_pay9 q cq m l kb cb := rfl

/-- So is its weighted sum. -/
theorem early_acc (q : FVec Ideal S512x128 .bf16) (cq m : FVec Ideal S512x1 .f32) (a : FVec Ideal S512x128 .f32)
    (kb vb : FVec Ideal S1x512x128 .bf16) (cb : FVec Ideal S1x1x512 .f32) :
    k0_pay56 q cq m a (k0_pay42 kb) (k0_pay43 vb) (k0_pay44 cb) = k0_pay10 q cq m a kb vb cb := rfl

/-- A written entry: the weighted sum over the weights' sum, times the gate. -/
theorem pay60_at (l : FVec Ideal S512x1 .f32) (a : FVec Ideal S512x128 .f32) (z : FVec Ideal S1x512x128 .bf16) (r : Fin 512) (d : Fin 128) :
    k0_pay60 l a z (ix3 0 r d) = Ideal.div (a (ix2 r d)) (l (ix2 r 0)) * gate (z (ix3 0 r d)) := by
  pointwise [k0_pay60]
  have hn : (Named.named (F := Ideal) κ "minus_log2e" 0xBFB8AA3B#32 : Ideal .f32) = ((-((Real.log 2)⁻¹) : ℝ) : EReal) :=
    IdealRules.named_const.ideal_named_scalar _ _ _ _ rfl
  rw [hn]
  rfl

/-- What the loops leave at a point. -/
def left (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1x8x8192 .f32) (harg8 : arg8.IsWhole) (arg9 : Memref sig .tc .vmem S1x1024x128 .bf16) (harg9 : arg9.IsWhole)
    (x0 : FVec Ideal S1x1024x128 .bf16) (x1 x2 : FVec Ideal S1x8192x128 .bf16) (x3 : FVec Ideal S1x1024x128 .bf16) (x4 : FVec Ideal S1x1024x128 .f32) (x5 : FVec Ideal S1x8x8192 .f32) : Carry :=
  st_k0_t2 (F := Ideal) Variants.none c none i arg3 harg3 arg4 harg4 arg5 harg5 arg6 harg6 arg7 harg7 arg8 harg8 arg9 harg9 (BitVec.ofNat 32 (i 1).val) (BitVec.ofNat 32 (i 2).val) (k0_pay28 (half0 (e := .bf16) x0)) (k0_pay29 (half1 (e := .bf16) x0)) (k0_pay30 i (half0 (e := .f32) x4)) (k0_pay31 i (half1 (e := .f32) x4)) rowNo colNo k0_pay32 k0_pay33 k0_pay34 k0_pay35 k0_pay36 k0_pay37 0#32 (Scalar.subi (Scalar.muli (BitVec.ofNat 32 (i 2).val) 2#32) 0#32) 1#32 (Scalar.addi 0#32 (Scalar.muli (Scalar.divsi (Scalar.subi (Scalar.muli (BitVec.ofNat 32 (i 2).val) 2#32) 0#32) 1#32) 1#32)) (harg4.unread x1) (harg5.unread x2) (harg8.unread x5)
    (st_k0_t1 (F := Ideal) Variants.none c none i arg3 harg3 arg4 harg4 arg5 harg5 arg6 harg6 arg7 harg7 arg8 harg8 arg9 harg9 (BitVec.ofNat 32 (i 1).val) (BitVec.ofNat 32 (i 2).val) (k0_pay28 (half0 (e := .bf16) x0)) (k0_pay29 (half1 (e := .bf16) x0)) (k0_pay30 i (half0 (e := .f32) x4)) (k0_pay31 i (half1 (e := .f32) x4)) rowNo colNo k0_pay32 k0_pay33 k0_pay34 k0_pay35 k0_pay36 k0_pay37 0#32 (Scalar.subi (Scalar.muli (BitVec.ofNat 32 (i 2).val) 2#32) 0#32) 1#32 (harg4.unread x1) (harg5.unread x2) (harg8.unread x5) start (k0_t1_loop i).trips) (k0_t2_loop i).trips

set_option maxHeartbeats 1600000 in
/-- The whole block: its first half and its second. -/
theorem out_eq (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1x8x8192 .f32) (harg8 : arg8.IsWhole) (arg9 : Memref sig .tc .vmem S1x1024x128 .bf16) (harg9 : arg9.IsWhole)
    (x0 : FVec Ideal S1x1024x128 .bf16) (x1 x2 : FVec Ideal S1x8192x128 .bf16) (x3 : FVec Ideal S1x1024x128 .bf16) (x4 : FVec Ideal S1x1024x128 .f32) (x5 : FVec Ideal S1x8x8192 .f32) :
    ∃ s : Carry,
      (∀ (r : Fin 512) (T0 T1 : ℕ → ℝ) (c0 c1 : ℝ),
        Logits (k0_pay28 (half0 (e := .bf16) x0)) r x1 x5 (head i) T0 → k0_pay30 i (half0 (e := .f32) x4) (ix2 r 0) = (c0 : EReal) →
        Logits (k0_pay29 (half1 (e := .bf16) x0)) r x1 x5 (head i) T1 → k0_pay31 i (half1 (e := .f32) x4) (ix2 r 0) = (c1 : EReal) →
        Kept T0 c0 (value x2) (1024 * (i 2).val) (s.1 (ix2 r 0)) (s.2.1 (ix2 r 0)) (fun d => s.2.2.1 (ix2 r d))
        ∧ Kept T1 c1 (value x2) (1024 * (i 2).val) (s.2.2.2.1 (ix2 r 0)) (s.2.2.2.2.1 (ix2 r 0)) (fun d => s.2.2.2.2.2 (ix2 r d)))
      ∧ ∀ j : S1x1024x128.Idx, out0_A_6 (F := Ideal) c i arg3 harg3 arg4 harg4 arg5 harg5 arg6 harg6 arg7 harg7 arg8 harg8 arg9 harg9 x0 x1 x2 x3 x4 x5 j
        = if h : (j 1).val < 512 then wrote0 i x0 x1 x2 x3 x4 x5 s (ix3 0 ⟨(j 1).val, h⟩ (j 2))
          else wrote1 i x0 x1 x2 x3 x4 x5 s (ix3 0 ⟨(j 1).val - 512, by have : (j 1).val < 1024 := (j 1).isLt; omega⟩ (j 2)) := by
  refine ⟨left c i arg3 harg3 arg4 harg4 arg5 harg5 arg6 harg6 arg7 harg7 arg8 harg8 arg9 harg9 x0 x1 x2 x3 x4 x5, ?h, fun j => ?e⟩
  case e =>
    unfold out0_A_6
    refine (congrFun (View.read_writes_eq_canon _ _ _ (cover0_A_6 (F := Ideal) c i arg3 harg3 arg4 harg4 arg5 harg5 arg6 harg6 arg7 harg7 arg8 harg8 arg9 harg9 x0 x1 x2 x3 x4 x5)) _).trans ?_
    refine View.canon_apply_of_pieces (Val := Elt Ideal) (e := .bf16) (fun j : S1x1024x128.Idx =>
      if h : (j 1).val < 512 then wrote0 i x0 x1 x2 x3 x4 x5 (left c i arg3 harg3 arg4 harg4 arg5 harg5 arg6 harg6 arg7 harg7 arg8 harg8 arg9 harg9 x0 x1 x2 x3 x4 x5) (ix3 0 ⟨(j 1).val, h⟩ (j 2))
          else wrote1 i x0 x1 x2 x3 x4 x5 (left c i arg3 harg3 arg4 harg4 arg5 harg5 arg6 harg6 arg7 harg7 arg8 harg8 arg9 harg9 x0 x1 x2 x3 x4 x5) (ix3 0 ⟨(j 1).val - 512, by have : (j 1).val < 1024 := (j 1).isLt; omega⟩ (j 2))) _ ?_ j
      (cover0_A_6 (F := Ideal) c i arg3 harg3 arg4 harg4 arg5 harg5 arg6 harg6 arg7 harg7 arg8 harg8 arg9 harg9 x0 x1 x2 x3 x4 x5 _)
    unfold kernelRun0_A
    dsimp only
    sl_unfold_words
    repeat rw [View.readAt_eq_ld]
    simp only [View.readAt_eq_ld, harg3.read_unread, harg4.read_unread, harg5.read_unread, harg6.read_unread, harg7.read_unread, harg8.read_unread, List.forall_mem_cons]
    refine ⟨fun j => ?_, fun j => ?_, fun _ h => absurd h List.not_mem_nil⟩
    · obtain ⟨z, r, d, rfl⟩ : ∃ (z : Fin 1) (r : Fin 512) (d : Fin 128), j = ix3 z r d :=
        ⟨j 0, j 1, j 2, by funext a; match a with | ⟨0, _⟩ => rfl | ⟨1, _⟩ => rfl | ⟨2, _⟩ => rfl⟩
      obtain rfl : z = 0 := Subsingleton.elim _ _
      refine Eq.trans ?_ (dif_neg (show ¬ (512 + 1 * r.val < 512) by omega)).symm
      have hj : (ix3 0 ⟨512 + 1 * r.val - 512, by omega⟩ ⟨0 + 1 * d.val, by omega⟩ : S1x512x128.Idx) = ix3 0 r d := by
        congr 1 <;> apply Fin.ext <;> dsimp only <;> omega
      refine Eq.trans ?_ (congrArg (wrote1 i x0 x1 x2 x3 x4 x5 (left c i arg3 harg3 arg4 harg4 arg5 harg5 arg6 harg6 arg7 harg7 arg8 harg8 arg9 harg9 x0 x1 x2 x3 x4 x5)) hj.symm)
      refine congrFun (?_ : _ = wrote1 i x0 x1 x2 x3 x4 x5 (left c i arg3 harg3 arg4 harg4 arg5 harg5 arg6 harg6 arg7 harg7 arg8 harg8 arg9 harg9 x0 x1 x2 x3 x4 x5)) (ix3 0 r d)
      unfold wrote1 last left
      rfl
    · obtain ⟨z, r, d, rfl⟩ : ∃ (z : Fin 1) (r : Fin 512) (d : Fin 128), j = ix3 z r d :=
        ⟨j 0, j 1, j 2, by funext a; match a with | ⟨0, _⟩ => rfl | ⟨1, _⟩ => rfl | ⟨2, _⟩ => rfl⟩
      obtain rfl : z = 0 := Subsingleton.elim _ _
      refine Eq.trans ?_ (dif_pos (show 0 + 1 * r.val < 512 by omega)).symm
      have hj : (ix3 0 ⟨0 + 1 * r.val, by omega⟩ ⟨0 + 1 * d.val, by omega⟩ : S1x512x128.Idx) = ix3 0 r d := by
        congr 1 <;> apply Fin.ext <;> dsimp only <;> omega
      refine Eq.trans ?_ (congrArg (wrote0 i x0 x1 x2 x3 x4 x5 (left c i arg3 harg3 arg4 harg4 arg5 harg5 arg6 harg6 arg7 harg7 arg8 harg8 arg9 harg9 x0 x1 x2 x3 x4 x5)) hj.symm)
      refine congrFun (?_ : _ = wrote0 i x0 x1 x2 x3 x4 x5 (left c i arg3 harg3 arg4 harg4 arg5 harg5 arg6 harg6 arg7 harg7 arg8 harg8 arg9 harg9 x0 x1 x2 x3 x4 x5)) (ix3 0 r d)
      unfold wrote0 left
      rfl
  case h =>
    intro r T0 T1 c0 c1 hT0 hq0 hT1 hq1
    have e : left c i arg3 harg3 arg4 harg4 arg5 harg5 arg6 harg6 arg7 harg7 arg8 harg8 arg9 harg9 x0 x1 x2 x3 x4 x5
        = st_k0_t1 (F := Ideal) Variants.none c none i arg3 harg3 arg4 harg4 arg5 harg5 arg6 harg6 arg7 harg7 arg8 harg8 arg9 harg9 (BitVec.ofNat 32 (i 1).val) (BitVec.ofNat 32 (i 2).val) (k0_pay28 (half0 (e := .bf16) x0)) (k0_pay29 (half1 (e := .bf16) x0)) (k0_pay30 i (half0 (e := .f32) x4)) (k0_pay31 i (half1 (e := .f32) x4)) rowNo colNo k0_pay32 k0_pay33 k0_pay34 k0_pay35 k0_pay36 k0_pay37 0#32 (Scalar.subi (Scalar.muli (BitVec.ofNat 32 (i 2).val) 2#32) 0#32) 1#32 (harg4.unread x1) (harg5.unread x2) (harg8.unread x5) start (k0_t1_loop i).trips := by
      unfold left
      rw [trips2_eq, st_k0_t2_zero]
    have hn : 1024 * (i 2).val = 512 * (k0_t1_loop i).trips := by rw [trips_eq]; omega
    rw [hn]
    exact loop_kept Variants.none c none i arg3 harg3 arg4 harg4 arg5 harg5 arg6 harg6 arg7 harg7 arg8 harg8 arg9 harg9 (BitVec.ofNat 32 (i 1).val) (BitVec.ofNat 32 (i 2).val) (k0_pay28 (half0 (e := .bf16) x0)) (k0_pay29 (half1 (e := .bf16) x0)) (k0_pay30 i (half0 (e := .f32) x4)) (k0_pay31 i (half1 (e := .f32) x4)) rowNo colNo k0_pay32 k0_pay33 k0_pay34 k0_pay35 k0_pay36 k0_pay37 0#32 (Scalar.subi (Scalar.muli (BitVec.ofNat 32 (i 2).val) 2#32) 0#32) 1#32 x1 x2 x5 r T0 T1 c0 c1 hT0 hq0 hT1 hq1 _ le_rfl _ e

/-- A row of the first half: the weighted sum over the keys up to its own, over the weights' sum, times the gate. -/
theorem out_at0 (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .bf16) (harg6 : arg6.IsWhole) (arg7 : Memref sig .tc .vmem S1x1024x128 .f32) (harg7 : arg7.IsWhole) (arg8 : Memref sig .tc .vmem S1x8x8192 .f32) (harg8 : arg8.IsWhole) (arg9 : Memref sig .tc .vmem S1x1024x128 .bf16) (harg9 : arg9.IsWhole)
    (x0 : FVec Ideal S1x1024x128 .bf16) (x1 x2 : FVec Ideal S1x8192x128 .bf16) (x3 : FVec Ideal S1x1024x128 .bf16) (x4 : FVec Ideal S1x1024x128 .f32) (x5 : FVec Ideal S1x8x8192 .f32)
    (r : Fin 512) (d : Fin 128) (T0 T1 : ℕ → ℝ) (c0 c1 : ℝ)
    (hT0 : Logits (k0_pay28 (half0 (e := .bf16) x0)) r x1 x5 (head i) T0) (hq0 : k0_pay30 i (half0 (e := .f32) x4) (ix2 r 0) = (c0 : EReal))
    (hT1 : Logits (k0_pay29 (half1 (e := .bf16) x0)) r x1 x5 (head i) T1) (hq1 : k0_pay31 i (half1 (e := .f32) x4) (ix2 r 0) = (c1 : EReal)) :
    (∃ β : ℝ, out0_A_6 (F := Ideal) c i arg3 harg3 arg4 harg4 arg5 harg5 arg6 harg6 arg7 harg7 arg8 harg8 arg9 harg9 x0 x1 x2 x3 x4 x5 (ix3 0 ⟨r.val, by omega⟩ d)
      = Ideal.div (∑ j ∈ Finset.range (1024 * (i 2).val + (r.val + 1)), ((power T0 c0 β j : ℝ) : EReal) * value x2 j d)
          (∑ j ∈ Finset.range (1024 * (i 2).val + (r.val + 1)), ((power T0 c0 β j : ℝ) : EReal))
        * gate (half0 (e := .bf16) x3 (ix3 0 r d)))
    ∧ ∃ β : ℝ, out0_A_6 (F := Ideal) c i arg3 harg3 arg4 harg4 arg5 harg5 arg6 harg6 arg7 harg7 arg8 harg8 arg9 harg9 x0 x1 x2 x3 x4 x5 (ix3 0 ⟨512 + r.val, by omega⟩ d)
      = Ideal.div (∑ j ∈ Finset.range (1024 * (i 2).val + 512 + (r.val + 1)), ((power T1 c1 β j : ℝ) : EReal) * value x2 j d)
          (∑ j ∈ Finset.range (1024 * (i 2).val + 512 + (r.val + 1)), ((power T1 c1 β j : ℝ) : EReal))
        * gate (half1 (e := .bf16) x3 (ix3 0 r d)) := by
  obtain ⟨s, hs, ho⟩ := out_eq c i arg3 harg3 arg4 harg4 arg5 harg5 arg6 harg6 arg7 harg7 arg8 harg8 arg9 harg9 x0 x1 x2 x3 x4 x5
  obtain ⟨k0, k1⟩ := hs r T0 T1 c0 c1 hT0 hq0 hT1 hq1
  have h2 : (i 2).val < 8 := (i 2).isLt
  have e0 := k0_off5_eq i 0
  have e1 := k0_off5_eq i 1
  have f0 := k0_off6_eq i 0
  have f1 := k0_off6_eq i 1
  have hk0 : RowsFrom x1 (1024 * (i 2).val) (rowsOwn i 0 x1) := rowsFrom_ld x1 _ _ e0 (k0_off5_inb i 0)
  have hv0 : RowsFrom x2 (1024 * (i 2).val) (rowsOwn i 0 x2) := rowsFrom_ld x2 _ _ e0 (k0_off5_inb i 0)
  have hc0 : GatesFrom x5 (head i) (1024 * (i 2).val) (gatesOwn i 0 x5) := gatesFrom_ld x5 _ (head i) _ f0 (k0_off6_inb i 0)
  have hk1 : RowsFrom x1 (1024 * (i 2).val + 512) (rowsOwn i 1 x1) := rowsFrom_ld x1 _ _ e1 (k0_off5_inb i 1)
  have hv1 : RowsFrom x2 (1024 * (i 2).val + 512) (rowsOwn i 1 x2) := rowsFrom_ld x2 _ _ e1 (k0_off5_inb i 1)
  have hc1 : GatesFrom x5 (head i) (1024 * (i 2).val + 512) (gatesOwn i 1 x5) := gatesFrom_ld x5 _ (head i) _ f1 (k0_off6_inb i 1)
  constructor
  · have k := kept_crossing _ _ _ _ _ _ _ _ r x1 x2 x5 (head i) T0 c0 _ hT0 hq0 (by omega) hk0 hv0 hc0 k0
    obtain ⟨β, hl, ha⟩ := k.sums (by omega)
    refine ⟨β, ?_⟩
    rw [ho, ← hl, ← ha]
    refine (dif_pos (show r.val < 512 from r.isLt)).trans ?_
    exact pay60_at _ _ _ r d
  · have k' := kept_below _ _ _ _ _ _ _ _ r x1 x2 x5 (head i) T1 c1 _ hT1 hq1 (by omega) hk0 hv0 hc0 k1
    have k := kept_crossing _ _ _ _ _ _ _ _ r x1 x2 x5 (head i) T1 c1 _ hT1 hq1 (by omega) hk1 hv1 hc1 k'
    obtain ⟨β, hl, ha⟩ := k.sums (by omega)
    refine ⟨β, ?_⟩
    rw [ho, ← hl, ← ha]
    refine (dif_neg (show ¬ 512 + r.val < 512 by omega)).trans ?_
    have hj : (ix3 0 ⟨512 + r.val - 512, by omega⟩ d : S1x512x128.Idx) = ix3 0 r d := by
      congr 1; apply Fin.ext; dsimp only; omega
    refine (congrArg (wrote1 i x0 x1 x2 x3 x4 x5 s) hj).trans ?_
    unfold wrote1
    rw [last_eq, early_max, early_sum, early_acc]
    exact pay60_at _ _ _ r d

end Cert.Proof.Online
-- ==== Proof.OnlineAnswer.lean ====
/-
  A ROW OF THE ONLINE ATTENTION IS THE ANSWER. With real queries, keys and gates' sums, a row's quotient of sums of
  powers of two is the mean of the values over the keys the row sees: the number taken off falls out of the quotient.
-/
module

public import proofs.«01_k».proof.Proof.Equation
public import proofs.«01_k».proof.Proof.OnlineBlock

@[expose] public section

set_option maxRecDepth 16384

noncomputable section

namespace Cert.Proof.Online

open Idealize.ShloMosaic Idealize.SL.Sem

section
open Cert.KernelIdeal

variable (q' k' : S4x8192x8x128.Idx → ℝ) (v : FVec Ideal S4x8192x8x128 .f32) (z : FVec Ideal S4x8192x1024 .f32)
  (g' : S4x8192x8.Idx → ℝ) (b : Fin 4) (h : Fin 8) (s : Fin 8192)

/-- The scaled product of a query and key `j`, to base two, less the key's gates' sum (zero beyond the last key). -/
def realLogit (j : ℕ) : ℝ :=
  if hj : j < 8192 then
    (Real.log 2)⁻¹ * ((∑ d : Fin 128, q' (ix4 b s h d) * k' (ix4 b ⟨j, hj⟩ h d)) * (√128)⁻¹)
      - g' (ix3 b ⟨j, hj⟩ h) * (Real.log 2)⁻¹
  else 0

/-- The kernel's scaled products are these real numbers. -/
theorem logit_real (j : Fin 8192) :
    (∑ d : Fin 128, hostY (up q') (up k') v z (ix3 b s ⟨128 * h.val + d.val, by omega⟩)
        * hostY (up q') (up k') v z (ix3 b j ⟨1024 + (128 * h.val + d.val), by omega⟩))
      - hostRow (up g') (ix3 b h j) = ((realLogit q' k' g' b h s j.val : ℝ) : EReal) := by
  rw [hostRow_at,
    Finset.sum_congr rfl fun d _ => show _ = (((q' (ix4 b s h d) * ((Real.log 2)⁻¹ * (√128)⁻¹)) * k' (ix4 b j h d) : ℝ) : EReal) by
      rw [hostY_q, hostY_k, EReal.coe_mul, EReal.coe_mul]; rfl,
    sum_real]
  show ((_ : ℝ) : EReal) - (g' (ix3 b j h) : EReal) * _ = _
  rw [← EReal.coe_mul, ← EReal.coe_sub]
  refine congrArg (fun x : ℝ => (x : EReal)) ?_
  unfold realLogit
  rw [dif_pos j.isLt,
    Finset.sum_congr rfl fun d _ => show _ = ((Real.log 2)⁻¹ * (√128)⁻¹) * (q' (ix4 b s h d) * k' (ix4 b j h d)) by ring,
    ← Finset.mul_sum]
  ring

/-- A key's power of two is its score's exponential, scaled. -/
theorem power_eq (β : ℝ) (j : Fin 8192) :
    power (realLogit q' k' g' b h s) (g' (ix3 b s h) * (Real.log 2)⁻¹) β j.val
      = Real.exp (-(Real.log 2 * β)) * Real.exp (score q' k' g' b h s j) := by
  rw [← rpow_two]
  unfold power realLogit
  rw [dif_pos j.isLt]
  refine congrArg (Real.rpow 2) ?_
  unfold score
  ring

/-- A row's quotient is the mean of the values over the keys it sees. -/
theorem quotient_eq (x2 : FVec Ideal S1x8192x128 .bf16) (d : Fin 128) (hx : ∀ j : Fin 8192, x2 (ix3 0 j d) = v (ix4 b j h d))
    (β : ℝ) (n : ℕ) (hn : n = s.val + 1) :
    Ideal.div (∑ j ∈ Finset.range n, ((power (realLogit q' k' g' b h s) (g' (ix3 b s h) * (Real.log 2)⁻¹) β j : ℝ) : EReal) * value x2 j d)
        (∑ j ∈ Finset.range n, ((power (realLogit q' k' g' b h s) (g' (ix3 b s h) * (Real.log 2)⁻¹) β j : ℝ) : EReal))
      = mean (seen s) (score q' k' g' b h s) (fun j => v (ix4 b j h d)) := by
  subst hn
  rw [← mean_of_scaled (seen s) (seen_nonempty s) _ _ (Real.exp (-(Real.log 2 * β))) (Real.exp_pos _)]
  refine congrArg₂ Ideal.div ?_ ?_
  · refine Eq.trans ?_ (sum_upto (fun j => ((Real.exp (-(Real.log 2 * β)) * Real.exp (score q' k' g' b h s j) : ℝ) : EReal) * v (ix4 b j h d)) s.val s.isLt)
    refine Finset.sum_congr rfl fun j hj => ?_
    have hj' : j < 8192 := by have := Finset.mem_range.mp hj; have := s.isLt; omega
    rw [dif_pos hj', ← power_eq]
    unfold value
    rw [dif_pos hj', hx]
  · refine Eq.trans ?_ (sum_upto (fun j => ((Real.exp (-(Real.log 2 * β)) * Real.exp (score q' k' g' b h s j) : ℝ) : EReal) * 1) s.val s.isLt)
    refine Finset.sum_congr rfl fun j hj => ?_
    have hj' : j < 8192 := by have := Finset.mem_range.mp hj; have := s.isLt; omega
    rw [dif_pos hj', ← power_eq, mul_one]

end

section
open Cert.OnlineIdeal Cert.OnlineIdeal.Gen

/-- A row of the first half of a block. -/
theorem half0_at {e : EltTy} (x : S1x1024x128.Idx → Elt Ideal e) (r : Fin 512) (d : Fin 128) :
    half0 x (ix3 0 r d) = x (ix3 0 ⟨r.val, by omega⟩ d) := by
  show x _ = x _
  refine congrArg x (funext fun a => Fin.ext ?_)
  match a with
  | ⟨0, _⟩ => rfl
  | ⟨1, _⟩ => show 0 + 1 * r.val = r.val; omega
  | ⟨2, _⟩ => show 0 + 1 * d.val = d.val; omega

/-- A row of the second half of a block. -/
theorem half1_at {e : EltTy} (x : S1x1024x128.Idx → Elt Ideal e) (r : Fin 512) (d : Fin 128) :
    half1 x (ix3 0 r d) = x (ix3 0 ⟨512 + r.val, by omega⟩ d) := by
  show x _ = x _
  refine congrArg x (funext fun a => Fin.ext ?_)
  match a with
  | ⟨0, _⟩ => rfl
  | ⟨1, _⟩ => show 512 + 1 * r.val = 512 + r.val; omega
  | ⟨2, _⟩ => show 0 + 1 * d.val = d.val; omega

/-- A row of the first half of the queries. -/
theorem pay28_at (x : FVec Ideal S1x1024x128 .bf16) (r : Fin 512) (d : Fin 128) :
    k0_pay28 (half0 (e := .bf16) x) (ix2 r d) = x (ix3 0 ⟨r.val, by omega⟩ d) := by
  pointwise [k0_pay28]
  rw [half0_at]

/-- A row of the second half of the queries. -/
theorem pay29_at (x : FVec Ideal S1x1024x128 .bf16) (r : Fin 512) (d : Fin 128) :
    k0_pay29 (half1 (e := .bf16) x) (ix2 r d) = x (ix3 0 ⟨512 + r.val, by omega⟩ d) := by
  pointwise [k0_pay29]
  rw [half1_at]

/-- The gates' sum of a row of the first half: the head's lane of the column. -/
theorem pay30_at (i : grid0.Coords) (x : FVec Ideal S1x1024x128 .f32) (r : Fin 512) :
    k0_pay30 i (half0 (e := .f32) x) (ix2 r 0) = x (ix3 0 ⟨r.val, by omega⟩ ⟨(head i).val, by omega⟩) := by
  pointwise [k0_pay30]
  rw [Finset.sum_eq_single (⟨(head i).val, by omega⟩ : Fin 128)]
  · rw [WordCmp.cmpi_eq_ofNat (by have := (head i).isLt; omega) (by have := (head i).isLt; omega), Scalar.select_decide, if_pos rfl, half0_at]
  · intro y _ hy
    have hy' : y.val ≠ (i 1).val := fun e => hy (Fin.ext e)
    rw [WordCmp.cmpi_eq_ofNat (by omega) (by have := (head i).isLt; omega), Scalar.select_decide, if_neg hy']
  · exact fun h => absurd (Finset.mem_univ _) h

/-- The gates' sum of a row of the second half. -/
theorem pay31_at (i : grid0.Coords) (x : FVec Ideal S1x1024x128 .f32) (r : Fin 512) :
    k0_pay31 i (half1 (e := .f32) x) (ix2 r 0) = x (ix3 0 ⟨512 + r.val, by omega⟩ ⟨(head i).val, by omega⟩) := by
  pointwise [k0_pay31]
  rw [Finset.sum_eq_single (⟨(head i).val, by omega⟩ : Fin 128)]
  · rw [WordCmp.cmpi_eq_ofNat (by have := (head i).isLt; omega) (by have := (head i).isLt; omega), Scalar.select_decide, if_pos rfl, half1_at]
  · intro y _ hy
    have hy' : y.val ≠ (i 1).val := fun e => hy (Fin.ext e)
    rw [WordCmp.cmpi_eq_ofNat (by omega) (by have := (head i).isLt; omega), Scalar.select_decide, if_neg hy']
  · exact fun h => absurd (Finset.mem_univ _) h

end

end Cert.Proof.Online
-- ==== Proof.OnlineArray.lean ====
/-
  FROM BLOCKS TO THE ARRAY of the online attention. Each grid point (batch, head, block of queries) writes its block of
  the result; with real queries, keys and gates' sums each block is the answer's, and so is the array.
-/
module

public import proofs.«01_k».proof.Proof.OnlineAnswer
public import Idealize.ShloMosaic.Lib.StableHlo.Run

@[expose] public section

set_option maxRecDepth 16384

noncomputable section

namespace Cert.Proof.Online

open Idealize.ShloMosaic Idealize.ShloMosaic.TcCoe Idealize.SL.Sem Cert.OnlineIdeal Cert.OnlineIdeal.Gen Idealize.ShloMosaic.StableHlo
open Idealize.ShloMosaic.Pipeline (Dat)

section
variable (m : (ℓ : Loc nD τ sig) → Buf (Elt Ideal) ℓ) (c : Dev nD)

/-- The joined array that the kernel finds. -/
theorem V_y : V m c main_v10 = hostY (m ((c : Thread nD τ).loc main_arg0)) (m ((c : Thread nD τ).loc main_arg1))
    (m ((c : Thread nD τ).loc main_arg2)) (m ((c : Thread nD τ).loc main_arg3)) := by
  unfold_abbrev_sides
  after_results
  rfl

/-- The columns of gates' sums that the kernel finds. -/
theorem V_col : V m c main_v14 = hostCol (m ((c : Thread nD τ).loc main_arg4)) := by
  unfold_abbrev_sides
  after_results
  rfl

/-- The rows of gates' sums that the kernel finds. -/
theorem V_row : V m c main_v17 = hostRow (m ((c : Thread nD τ).loc main_arg4)) := by
  unfold_abbrev_sides
  after_results
  rfl

/-- Where the blocks of a point lie. -/
theorem index_eq : ∀ t : Fin grid0.N,
    (win0_0.index t 0 = t.val / 64 ∧ win0_0.index t 1 = t.val % 8 ∧ win0_0.index t 2 = t.val / 8 % 8)
    ∧ (win0_1.index t 0 = t.val / 64 ∧ win0_1.index t 1 = 0 ∧ win0_1.index t 2 = 8 + t.val / 8 % 8)
    ∧ (win0_2.index t 0 = t.val / 64 ∧ win0_2.index t 1 = 0 ∧ win0_2.index t 2 = 16 + t.val / 8 % 8)
    ∧ (win0_3.index t 0 = t.val / 64 ∧ win0_3.index t 1 = t.val % 8 ∧ win0_3.index t 2 = 24 + t.val / 8 % 8)
    ∧ (win0_4.index t 0 = t.val / 64 ∧ win0_4.index t 1 = t.val % 8 ∧ win0_4.index t 2 = 0)
    ∧ (win0_5.index t 0 = t.val / 64 ∧ win0_5.index t 1 = 0 ∧ win0_5.index t 2 = 0)
    ∧ (win0_6.index t 0 = t.val / 64 ∧ win0_6.index t 1 = t.val % 8 ∧ win0_6.index t 2 = t.val / 8 % 8)
    ∧ (grid0.coords t 0).val = t.val / 64 ∧ (grid0.coords t 1).val = t.val / 8 % 8 ∧ (grid0.coords t 2).val = t.val % 8 := by
  decide +kernel

/-- The batch of a point. -/
def batch (t : Fin cfg0.N) : Fin 4 := ⟨t.val / 64, by have := t.isLt.trans_eq (show cfg0.N = 256 from N_0); omega⟩
/-- The head of a point. -/
def headOf (t : Fin cfg0.N) : Fin 8 := ⟨t.val / 8 % 8, by omega⟩
/-- The query at row `r` of a point's block. -/
def query (t : Fin cfg0.N) (r : Fin 1024) : Fin 8192 := ⟨1024 * (t.val % 8) + r.val, by omega⟩

/-- A point's block of queries. -/
theorem blk0 (t : Fin cfg0.N) (r : Fin 1024) (d : Fin 128) : iblk m c 0 t (ix3 0 r d)
    = V m c main_v10 (ix3 (batch t) (query t r) ⟨128 * (headOf t).val + d.val, by omega⟩) := by
  obtain ⟨⟨h0, h1, h2⟩, -⟩ := index_eq t
  unfold iblk
  rw [View.read_apply]
  show V m c main_v10 _ = _
  congr 1
  funext a
  apply Fin.ext
  match a with
  | ⟨0, _⟩ => show win0_0.index t 0 * 1 + 1 * 0 = t.val / 64; omega
  | ⟨1, _⟩ => show win0_0.index t 1 * 1024 + 1 * r.val = 1024 * (t.val % 8) + r.val; omega
  | ⟨2, _⟩ => show win0_0.index t 2 * 128 + 1 * d.val = 128 * (t.val / 8 % 8) + d.val; omega

/-- A point's keys. -/
theorem blk1 (t : Fin cfg0.N) (r : Fin 8192) (d : Fin 128) : iblk m c 1 t (ix3 0 r d)
    = V m c main_v10 (ix3 (batch t) r ⟨1024 + (128 * (headOf t).val + d.val), by omega⟩) := by
  obtain ⟨-, ⟨h0, h1, h2⟩, -⟩ := index_eq t
  unfold iblk
  rw [View.read_apply]
  show V m c main_v10 _ = _
  congr 1
  funext a
  apply Fin.ext
  match a with
  | ⟨0, _⟩ => show win0_1.index t 0 * 1 + 1 * 0 = t.val / 64; omega
  | ⟨1, _⟩ => show win0_1.index t 1 * 8192 + 1 * r.val = r.val; omega
  | ⟨2, _⟩ => show win0_1.index t 2 * 128 + 1 * d.val = 1024 + (128 * (t.val / 8 % 8) + d.val); omega

/-- A point's values. -/
theorem blk2 (t : Fin cfg0.N) (r : Fin 8192) (d : Fin 128) : iblk m c 2 t (ix3 0 r d)
    = V m c main_v10 (ix3 (batch t) r ⟨2048 + (128 * (headOf t).val + d.val), by omega⟩) := by
  obtain ⟨-, -, ⟨h0, h1, h2⟩, -⟩ := index_eq t
  unfold iblk
  rw [View.read_apply]
  show V m c main_v10 _ = _
  congr 1
  funext a
  apply Fin.ext
  match a with
  | ⟨0, _⟩ => show win0_2.index t 0 * 1 + 1 * 0 = t.val / 64; omega
  | ⟨1, _⟩ => show win0_2.index t 1 * 8192 + 1 * r.val = r.val; omega
  | ⟨2, _⟩ => show win0_2.index t 2 * 128 + 1 * d.val = 2048 + (128 * (t.val / 8 % 8) + d.val); omega

/-- A point's gates. -/
theorem blk3 (t : Fin cfg0.N) (r : Fin 1024) (d : Fin 128) : iblk m c 3 t (ix3 0 r d)
    = V m c main_v10 (ix3 (batch t) (query t r) ⟨3072 + (128 * (headOf t).val + d.val), by omega⟩) := by
  obtain ⟨-, -, -, ⟨h0, h1, h2⟩, -⟩ := index_eq t
  unfold iblk
  rw [View.read_apply]
  show V m c main_v10 _ = _
  congr 1
  funext a
  apply Fin.ext
  match a with
  | ⟨0, _⟩ => show win0_3.index t 0 * 1 + 1 * 0 = t.val / 64; omega
  | ⟨1, _⟩ => show win0_3.index t 1 * 1024 + 1 * r.val = 1024 * (t.val % 8) + r.val; omega
  | ⟨2, _⟩ => show win0_3.index t 2 * 128 + 1 * d.val = 3072 + (128 * (t.val / 8 % 8) + d.val); omega

/-- A point's columns of gates' sums. -/
theorem blk4 (t : Fin cfg0.N) (r : Fin 1024) (d : Fin 128) : iblk m c 4 t (ix3 0 r d)
    = V m c main_v14 (ix3 (batch t) (query t r) d) := by
  obtain ⟨-, -, -, -, ⟨h0, h1, h2⟩, -⟩ := index_eq t
  unfold iblk
  rw [View.read_apply]
  show V m c main_v14 _ = _
  congr 1
  funext a
  apply Fin.ext
  match a with
  | ⟨0, _⟩ => show win0_4.index t 0 * 1 + 1 * 0 = t.val / 64; omega
  | ⟨1, _⟩ => show win0_4.index t 1 * 1024 + 1 * r.val = 1024 * (t.val % 8) + r.val; omega
  | ⟨2, _⟩ => show win0_4.index t 2 * 128 + 1 * d.val = d.val; omega

/-- A point's rows of gates' sums. -/
theorem blk5 (t : Fin cfg0.N) (r : Fin 8) (d : Fin 8192) : iblk m c 5 t (ix3 0 r d)
    = V m c main_v17 (ix3 (batch t) r d) := by
  obtain ⟨-, -, -, -, -, ⟨h0, h1, h2⟩, -⟩ := index_eq t
  unfold iblk
  rw [View.read_apply]
  show V m c main_v17 _ = _
  congr 1
  funext a
  apply Fin.ext
  match a with
  | ⟨0, _⟩ => show win0_5.index t 0 * 1 + 1 * 0 = t.val / 64; omega
  | ⟨1, _⟩ => show win0_5.index t 1 * 8 + 1 * r.val = r.val; omega
  | ⟨2, _⟩ => show win0_5.index t 2 * 8192 + 1 * d.val = d.val; omega

variable (q' k' : S4x8192x8x128.Idx → ℝ) (v : FVec Ideal S4x8192x8x128 .f32) (z : FVec Ideal S4x8192x1024 .f32)
  (g' : S4x8192x8.Idx → ℝ)

/-- The answer as an array. -/
def answers : FVec Ideal S4x8192x1024 .bf16 := fun i =>
  answer q' k' v z g' (i 0) ⟨(i 2).val / 128, by have := (i 2).isLt; exact Nat.div_lt_of_lt_mul this⟩ (i 1)
    ⟨(i 2).val % 128, Nat.mod_lt _ (by norm_num)⟩

/-- Lane `128 e + d` of the array is lane `d` of head `e`. -/
theorem answers_at (b : Fin 4) (s : Fin 8192) (e : Fin 8) (d : Fin 128) (hn : 128 * e.val + d.val < 1024) :
    answers q' k' v z g' (ix3 b s ⟨128 * e.val + d.val, hn⟩) = answer q' k' v z g' b e s d := by
  have he : (128 * e.val + d.val) / 128 = e.val := by omega
  have hd : (128 * e.val + d.val) % 128 = d.val := by omega
  exact congrArg₂ (fun e' d' => answer q' k' v z g' b e' s d') (Fin.ext he) (Fin.ext hd)

variable (hY : V m c main_v10 = hostY (up q') (up k') v z) (hC : V m c main_v14 = hostCol (up g'))
  (hR : V m c main_v17 = hostRow (up g'))

include hY in
/-- The gate of a row. -/
theorem gate_eq (t : Fin cfg0.N) (r : Fin 1024) (d : Fin 128) : gate (iblk m c 3 t (ix3 0 r d))
    = z (ix3 (batch t) (query t r) ⟨128 * (headOf t).val + d.val, by omega⟩)
      * Ideal.div 1 (1 + Ideal.exp (-(z (ix3 (batch t) (query t r) ⟨128 * (headOf t).val + d.val, by omega⟩)))) := by
  rw [blk3, hY, hostY_z]
  unfold gate
  rw [exp2_neg]

include hY in
/-- A value of a point. -/
theorem value_eq (t : Fin cfg0.N) (j : Fin 8192) (d : Fin 128) :
    iblk m c 2 t (ix3 0 j d) = v (ix4 (batch t) j (headOf t) d) := by
  rw [blk2, hY, hostY_v]

include hY hR in
/-- The logits of a row whose queries are those at row `R` of the point's block. -/
theorem logits_of (t : Fin cfg0.N) (R : Fin 1024) (r : Fin 512) (q : FVec Ideal S512x128 .bf16)
    (h0 : ∀ d, q (ix2 r d) = iblk m c 0 t (ix3 0 R d)) :
    Logits q r (iblk m c 1 t) (iblk m c 5 t) (head (grid0.coords t)) (realLogit q' k' g' (batch t) (headOf t) (query t R)) := by
  obtain ⟨-, -, -, -, -, -, -, -, hh, -⟩ := index_eq t
  have hhead : head (grid0.coords t) = headOf t := Fin.ext hh
  intro j
  rw [hhead, ← logit_real q' k' v z g' (batch t) (headOf t) (query t R) j, blk5, hR,
    Finset.sum_congr rfl fun d _ => by rw [h0, blk0, blk1, hY]]

include hC in
/-- The gates' sum of a row. -/
theorem sum_of (t : Fin cfg0.N) (R : Fin 1024) :
    iblk m c 4 t (ix3 0 R ⟨(head (grid0.coords t)).val, by omega⟩)
      = ((g' (ix3 (batch t) (query t R) (headOf t)) * (Real.log 2)⁻¹ : ℝ) : EReal) := by
  obtain ⟨-, -, -, -, -, -, -, -, hh, -⟩ := index_eq t
  rw [blk4, hC]
  refine (congrArg (fun l => hostCol (up g') (ix3 (batch t) (query t R) l))
    (show (⟨(head (grid0.coords t)).val, by omega⟩ : Fin 128) = ⟨(headOf t).val, by omega⟩ from Fin.ext hh)).trans ?_
  refine (hostCol_at (up g') (batch t) (query t R) (headOf t)).trans ?_
  rw [EReal.coe_mul]
  rfl

include hY hC hR in
/-- A point's block is the answer's. -/
theorem block_eq (t : Fin cfg0.N) (R : Fin 1024) (d : Fin 128) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (ix3 0 R d)
      = answer q' k' v z g' (batch t) (headOf t) (query t R) d := by
  obtain ⟨-, -, -, -, -, -, -, -, -, hq⟩ := index_eq t
  have both := fun r : Fin 512 => out_at0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) r d
    (realLogit q' k' g' (batch t) (headOf t) (query t ⟨r.val, by omega⟩)) (realLogit q' k' g' (batch t) (headOf t) (query t ⟨512 + r.val, by omega⟩))
    (g' (ix3 (batch t) (query t ⟨r.val, by omega⟩) (headOf t)) * (Real.log 2)⁻¹) (g' (ix3 (batch t) (query t ⟨512 + r.val, by omega⟩) (headOf t)) * (Real.log 2)⁻¹)
    (logits_of m c q' k' v z g' hY hR t ⟨r.val, by omega⟩ r _ fun d => pay28_at _ r d)
    ((pay30_at _ _ r).trans (sum_of m c g' hC t _))
    (logits_of m c q' k' v z g' hY hR t ⟨512 + r.val, by omega⟩ r _ fun d => pay29_at _ r d)
    ((pay31_at _ _ r).trans (sum_of m c g' hC t _))
  by_cases hr : R.val < 512
  · obtain ⟨⟨β, e⟩, -⟩ := both ⟨R.val, hr⟩
    refine e.trans ?_
    rw [half0_at]
    unfold answer
    refine congrArg₂ (· * ·) ?_ (gate_eq m c q' k' v z hY t R d)
    exact quotient_eq q' k' v g' (batch t) (headOf t) (query t R) _ d (fun j => value_eq m c q' k' v z hY t j d) β _
      (by rw [hq]; show 1024 * (t.val % 8) + (R.val + 1) = 1024 * (t.val % 8) + R.val + 1; omega)
  · have h512 : ∀ r : Fin 512, 512 + r.val < 1024 := fun r => by have := r.isLt; omega
    obtain ⟨r, rfl⟩ : ∃ r : Fin 512, R = ⟨512 + r.val, h512 r⟩ :=
      ⟨⟨R.val - 512, by omega⟩, Fin.ext (by dsimp only; omega)⟩
    obtain ⟨-, β, e⟩ := both r
    refine e.trans ?_
    rw [half1_at]
    unfold answer
    refine congrArg₂ (· * ·) ?_ (gate_eq m c q' k' v z hY t _ d)
    exact quotient_eq q' k' v g' (batch t) (headOf t) (query t ⟨512 + r.val, by omega⟩) _ d (fun j => value_eq m c q' k' v z hY t j d) β _
      (by rw [hq]; show 1024 * (t.val % 8) + 512 + (r.val + 1) = 1024 * (t.val % 8) + (512 + r.val) + 1; omega)

include hY hC hR in
/-- What a point writes back is its block of the answer. -/
theorem flushed_eq (t : Fin cfg0.N) :
    (dats m 0 c).flushed 6 t = ((cfg0.win 6).blk t).view.read (Elt Ideal) (answers q' k' v z g') := by
  rw [Value.flushed6_A]
  funext j
  obtain ⟨-, -, -, -, -, -, ⟨o0, o1, o2⟩, -⟩ := index_eq t
  obtain ⟨y, r, d, rfl⟩ : ∃ (y : Fin 1) (r : Fin 1024) (d : Fin 128), j = ix3 y r d :=
    ⟨j 0, j 1, j 2, by funext a; match a with | ⟨0, _⟩ => rfl | ⟨1, _⟩ => rfl | ⟨2, _⟩ => rfl⟩
  obtain rfl : y = 0 := Subsingleton.elim _ _
  refine (block_eq m c q' k' v z g' hY hC hR t r d).trans ?_
  have key : ((cfg0.win 6).blk t).view.read (Elt Ideal) (answers q' k' v z g') (ix3 0 r d)
      = answers q' k' v z g' (ix3 (batch t) (query t r) ⟨128 * (headOf t).val + d.val, by omega⟩) := by
    rw [View.read_apply]
    show answers q' k' v z g' _ = _
    congr 1
    funext a
    apply Fin.ext
    match a with
    | ⟨0, _⟩ => show win0_6.index t 0 * 1 + 1 * 0 = t.val / 64; omega
    | ⟨1, _⟩ => show win0_6.index t 1 * 1024 + 1 * r.val = 1024 * (t.val % 8) + r.val; omega
    | ⟨2, _⟩ => show win0_6.index t 2 * 128 + 1 * d.val = 128 * (t.val / 8 % 8) + d.val; omega
  exact ((key.trans (answers_at q' k' v z g' (batch t) (query t r) (headOf t) d _)).symm)

include hY hC hR in
/-- So the result array ends holding the answer. -/
theorem final : (dats m 0 c).arrAt 6 cfg0.N = answers q' k' v z g' := by
  refine (dats m 0 c).arrAt_eq_of_cover 6 (answers q' k' v z g') (fun t _ => flushed_eq m c q' k' v z g' hY hC hR t) fun i => ?_
  have i0 : (i 0).val < 4 := (i 0).isLt
  have i1 : (i 1).val < 8192 := (i 1).isLt
  have i2 : (i 2).val < 1024 := (i 2).isLt
  have hN : cfg0.N = 256 := N_0
  let t : Fin cfg0.N := ⟨64 * (i 0).val + (8 * ((i 2).val / 128) + (i 1).val / 1024), by rw [hN]; omega⟩
  have ht : t.val = 64 * (i 0).val + (8 * ((i 2).val / 128) + (i 1).val / 1024) := rfl
  obtain ⟨-, -, -, -, -, -, ⟨o0, o1, o2⟩, -⟩ := index_eq t
  refine ⟨t, flush0_6 t, ?_⟩
  show i ∈ ((View.whole main_v18).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    omega
  | ⟨1, _⟩ =>
    show win0_6.index t 1 * 1024 ≤ (i 1).val ∧ (i 1).val < win0_6.index t 1 * 1024 + 1024
    omega
  | ⟨2, _⟩ =>
    show win0_6.index t 2 * 128 ≤ (i 2).val ∧ (i 2).val < win0_6.index t 2 * 128 + 128
    omega

end

end Cert.Proof.Online
-- ==== Proof.OnlineEquation.lean ====
/-
  BOTH SIDES OF THE ONLINE ATTENTION. The precondition is read (queries, keys and gates' sums are finite), and the
  kernel's array and the reference's are set equal: both are the answer.
-/
module

public import proofs.«01_k».proof.Proof.OnlineArray
public import proofs.«01_k».proof.Proof.Finite
public import proofs.«01_k».proof.Proof.Gen.Pre_finite_logits
public import proofs.«01_k».proof.Proof.Gen.OnlineReferenceIdeal.Read

@[expose] public section

noncomputable section

namespace Cert.Proof.Online

open Idealize.ShloMosaic Idealize.ShloMosaic.TcCoe Idealize.SL.Sem

/-- What the precondition says of a launch's arguments. -/
theorem reals_of_pre [Cert.Pre_finite_logits.Facts]
    (m : (ℓ : Loc Cert.OnlineIdeal.nD Cert.OnlineIdeal.τ Cert.OnlineIdeal.sig) → Buf (Elt Ideal) ℓ)
    (h : Cert.Pre_OnlineIdeal_finite_logits m) (c : Dev Cert.OnlineIdeal.nD) :
    ∃ (q k : Cert.OnlineIdeal.S4x8192x8x128.Idx → ℝ) (g : Cert.OnlineIdeal.S4x8192x8.Idx → ℝ),
      m ((c.tc : Thread Cert.OnlineIdeal.nD Cert.OnlineIdeal.τ).loc Cert.OnlineIdeal.main_arg0) = up q
      ∧ m ((c.tc : Thread Cert.OnlineIdeal.nD Cert.OnlineIdeal.τ).loc Cert.OnlineIdeal.main_arg1) = up k
      ∧ m ((c.tc : Thread Cert.OnlineIdeal.nD Cert.OnlineIdeal.τ).loc Cert.OnlineIdeal.main_arg4) = up g := by
  obtain ⟨h0, h1, h2⟩ := h c
  exact ⟨_, _, _, real_of_finite _ _ h0, real_of_finite _ _ h1, real_of_finite _ _ h2⟩

/-- This call's reference is the other call's: the bound's gains play no part in it. -/
theorem reference_eq (q k v : FVec Ideal Cert.ReferenceIdeal.S4x8192x8x128 .f32) (z : FVec Ideal Cert.ReferenceIdeal.S4x8192x1024 .f32)
    (g : FVec Ideal Cert.ReferenceIdeal.S4x8192x8 .f32) :
    Cert.OnlineReferenceIdeal.Read.val_main_v37 (F := Ideal) q k v z g = Cert.ReferenceIdeal.Read.val_main_v37 (F := Ideal) q k v z g := rfl

/-- What the kernel's array ends holding and what the reference's does are one array. -/
theorem arrays_eq (m : (ℓ : Loc Cert.OnlineIdeal.nD Cert.OnlineIdeal.τ Cert.OnlineIdeal.sig) → Buf (Elt Ideal) ℓ)
    (h : Cert.Pre_OnlineIdeal_finite_logits (hPre_finite_logits := Cert.Pre_finite_logits.Gen.facts) m) (c : Dev Cert.OnlineIdeal.nD) :
    Cert.OnlineReferenceIdeal.Read.val_main_v37 (F := Ideal)
        (m ((c : Thread Cert.OnlineIdeal.nD Cert.OnlineIdeal.τ).loc Cert.OnlineIdeal.main_arg0))
        (m ((c : Thread Cert.OnlineIdeal.nD Cert.OnlineIdeal.τ).loc Cert.OnlineIdeal.main_arg1))
        (m ((c : Thread Cert.OnlineIdeal.nD Cert.OnlineIdeal.τ).loc Cert.OnlineIdeal.main_arg2))
        (m ((c : Thread Cert.OnlineIdeal.nD Cert.OnlineIdeal.τ).loc Cert.OnlineIdeal.main_arg3))
        (m ((c : Thread Cert.OnlineIdeal.nD Cert.OnlineIdeal.τ).loc Cert.OnlineIdeal.main_arg4))
      = (Cert.OnlineIdeal.Gen.dats m 0 c).arrAt 6 Cert.OnlineIdeal.cfg0.N := by
  obtain ⟨q, k, g, hq, hk, hg⟩ := reals_of_pre m h c
  have hY := V_y m c
  have hC := V_col m c
  have hR := V_row m c
  rw [hq, hk] at hY
  rw [hg] at hC hR
  rw [final m c q k _ _ g hY hC hR, hq, hk, hg, reference_eq]
  generalize m ((c : Thread Cert.OnlineIdeal.nD Cert.OnlineIdeal.τ).loc Cert.OnlineIdeal.main_arg2) = v
  generalize m ((c : Thread Cert.OnlineIdeal.nD Cert.OnlineIdeal.τ).loc Cert.OnlineIdeal.main_arg3) = z
  funext i
  obtain ⟨b, s, n, rfl⟩ : ∃ (b : Fin 4) (s : Fin 8192) (n : Fin 1024), i = ix3 b s n :=
    ⟨i 0, i 1, i 2, by funext a; match a with | ⟨0, _⟩ => rfl | ⟨1, _⟩ => rfl | ⟨2, _⟩ => rfl⟩
  obtain ⟨e, d, hn⟩ : ∃ (e : Fin 8) (d : Fin 128), n = ⟨128 * e.val + d.val, by omega⟩ :=
    ⟨⟨n.val / 128, by omega⟩, ⟨n.val % 128, by omega⟩, Fin.ext (by dsimp only; omega)⟩
  subst hn
  exact (ref_eq q k v z g b e s d).trans (answers_at q k v z g b s e d _).symm

end Cert.Proof.Online
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontIdeal.Value
public import proofs.«01_k».proof.Proof.Gen.FrontReferenceIdeal
public import proofs.«01_k».proof.Proof.Gen.FrontReferenceIdeal.Run
public import proofs.«01_k».proof.Proof.Gen.FrontReferenceIdeal.Read
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxIdeal.Value
public import proofs.«01_k».proof.Proof.Gen.FoxReferenceIdeal
public import proofs.«01_k».proof.Proof.Gen.FoxReferenceIdeal.Run
public import proofs.«01_k».proof.Proof.Gen.FoxReferenceIdeal.Read
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstReferenceIdeal
public import proofs.«01_k».proof.Proof.Gen.FirstReferenceIdeal.Run
public import proofs.«01_k».proof.Proof.Gen.FirstReferenceIdeal.Read
public import proofs.«01_k».proof.Proof.Gen.Online
public import proofs.«01_k».proof.Proof.Gen.Online.Skeleton
public import proofs.«01_k».proof.Proof.Gen.Online.Loops
public import proofs.«01_k».proof.Proof.Gen.Online.Launch
public import proofs.«01_k».proof.Proof.Gen.Online.Points
public import proofs.«01_k».proof.Proof.Gen.Online.Frame
public import proofs.«01_k».proof.Proof.Gen.OnlineIdeal
public import proofs.«01_k».proof.Proof.Gen.OnlineIdeal.Skeleton
public import proofs.«01_k».proof.Proof.Gen.OnlineIdeal.Loops
public import proofs.«01_k».proof.Proof.Gen.OnlineIdeal.Launch
public import proofs.«01_k».proof.Proof.Gen.OnlineIdeal.Points
public import proofs.«01_k».proof.Proof.Gen.OnlineIdeal.Frame
public import proofs.«01_k».proof.Proof.Gen.OnlineIdeal.Value
public import proofs.«01_k».proof.Proof.Gen.OnlineReferenceIdeal
public import proofs.«01_k».proof.Proof.Gen.OnlineReferenceIdeal.Run
public import proofs.«01_k».proof.Proof.Gen.OnlineReferenceIdeal.Read
public import proofs.«01_k».proof.Proof.Gen.Pre_finite_logits
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Finite
public import proofs.«01_k».proof.Proof.FrontEquation
public import proofs.«01_k».proof.Proof.FoxEquation
public import proofs.«01_k».proof.Proof.FirstEquation
public import proofs.«01_k».proof.Proof.OnlineEquation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs and leaves its arguments and the counters as they were. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Lane `128 e + d` of the kernel's array is lane `d` of head `e`. -/
theorem attendArray_at (Y C R B) (b : Fin 4) (s : Fin 8192) (e : Fin 8) (d : Fin 128) (hn : 128 * e.val + d.val < 1024) :
    attendArray Y C R B (ix3 b s ⟨128 * e.val + d.val, hn⟩) = attend Y C R B b e s d := by
  have he : (128 * e.val + d.val) / 128 = e.val := by omega
  have hd : (128 * e.val + d.val) % 128 = d.val := by omega
  exact congrArg₂ (fun e' d' => attend Y C R B b e' s d') (Fin.ext he) (Fin.ext hd)

/-- What the kernel's array ends holding and what the reference's does are one array. -/
theorem arrays_eq (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Cert.ReferenceIdeal.Read.val_main_v37 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4)) = result m c := by
  obtain ⟨q, k, g, u, w, hq, hk, hg, hu, hw⟩ := reals_of_pre m h c
  obtain ⟨β, hβ⟩ := hostBound_real (up u) (up w) (fun i => ⟨u i, rfl⟩) (fun i => ⟨w i, rfl⟩)
  unfold result
  rw [V_y, V_col, V_row, V_bound, hq, hk, hg, hu, hw]
  generalize m ((c : Thread Cert.KernelIdeal.nD Cert.KernelIdeal.τ).loc Cert.KernelIdeal.main_arg2) = v
  generalize m ((c : Thread Cert.KernelIdeal.nD Cert.KernelIdeal.τ).loc Cert.KernelIdeal.main_arg3) = z
  funext i
  obtain ⟨b, s, n, rfl⟩ : ∃ (b : Fin 4) (s : Fin 8192) (n : Fin 1024), i = ix3 b s n :=
    ⟨i 0, i 1, i 2, by funext a; match a with | ⟨0, _⟩ => rfl | ⟨1, _⟩ => rfl | ⟨2, _⟩ => rfl⟩
  obtain ⟨e, d, hn⟩ : ∃ (e : Fin 8) (d : Fin 128), n = ⟨128 * e.val + d.val, by omega⟩ :=
    ⟨⟨n.val / 128, by omega⟩, ⟨n.val % 128, by omega⟩, Fin.ext (by dsimp only; omega)⟩
  subst hn
  refine (ref_eq q k v z g b e s d).trans ?_
  rw [attendArray_at]
  exact (attend_eq q k v z g (broadcastInDim Cert.KernelIdeal.S1x128 ![] Cert.KernelIdeal.Gen.bcast_S_S1x128
    (hostBound (up u) (up w))) β hβ b e s d).symm

/-- Over the reals, for finite queries, keys, gates' sums and gains, the kernel computes the reference. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨fun c => result m c, ?_, ?_⟩
  · exact (θ_run Cert.KernelIdeal.defs _ _).mono (fun r h c => ⟨(h c).1.trans (final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, -, -⟩ := hargs c
    rw [Cert.ReferenceIdeal.Read.val_main_v37_eq, e0, e1, e2, e3, e4]
    exact arrays_eq m hpre c

/-- The first projection's reference runs and leaves its arguments and the counters as they were. -/
theorem frame_front_reference : Cert.quiescent_FrontReferenceIdeal (hFrontReferenceIdeal := Cert.FrontReferenceIdeal.Gen.facts) := fun m ρ _ =>
  (θ_run Cert.FrontReferenceIdeal.defs _ _).mono (fun r h => ⟨fun c => (h c).2.2.2, sem_eq_zero_of_no_sems (by decide) r.2⟩)
    (Cert.FrontReferenceIdeal.Value.run (F := Ideal) m ρ)

/-- Over the reals, the first projection's kernel computes its reference, for all arguments. -/
theorem front_value : Cert.algebraic_FrontIdeal_FrontReferenceIdeal (hFrontIdeal := Cert.FrontIdeal.Gen.facts)
    (hFrontReferenceIdeal := Cert.FrontReferenceIdeal.Gen.facts) := by
  intro m ρ m' ρ' _ hargs
  refine ⟨fun c => Front.stream m c, fun c => Front.mains m c, fun c => Front.extras m c, ?_, ?_⟩
  · exact (θ_run Cert.FrontIdeal.defs _ _).mono (fun r h c => ⟨(h c).1.trans (Front.final7 m c),
      (h c).2.1.trans (Front.final8 m c), (h c).2.2.1.trans (Front.final9 m c), (h c).2.2.2⟩)
      (Cert.FrontIdeal.Value.run_blocks (F := Ideal) m ρ)
  · refine (θ_run Cert.FrontReferenceIdeal.defs _ _).mono (fun r h c => ⟨(h c).1.trans ?_, (h c).2.1.trans ?_,
      (h c).2.2.1.trans ?_, (h c).2.2.2⟩) (Cert.FrontReferenceIdeal.Value.run (F := Ideal) m' ρ')
    · obtain ⟨e0, e1, e2, e3, e4⟩ := hargs c
      rw [Cert.FrontReferenceIdeal.Read.val_main_v19_eq, e0, e1, e2]
      exact Front.stream_eq m c
    · obtain ⟨e0, e1, e2, e3, e4⟩ := hargs c
      rw [Cert.FrontReferenceIdeal.Read.val_main_v22_eq, e0, e1, e2, e3, e4]
      exact Front.mains_eq m c
    · obtain ⟨e0, e1, e2, e3, e4⟩ := hargs c
      rw [Cert.FrontReferenceIdeal.Read.val_main_v23_eq, e0, e1, e2, e3, e4]
      exact Front.extras_eq m c

/-- The attention layer's first projection's reference runs and leaves its arguments and the counters as they were. -/
theorem frame_fox_reference : Cert.quiescent_FoxReferenceIdeal (hFoxReferenceIdeal := Cert.FoxReferenceIdeal.Gen.facts) := fun m ρ _ =>
  (θ_run Cert.FoxReferenceIdeal.defs _ _).mono (fun r h => ⟨fun c => (h c).2.2.2.2, sem_eq_zero_of_no_sems (by decide) r.2⟩)
    (Cert.FoxReferenceIdeal.Value.run (F := Ideal) m ρ)

/-- Over the reals, the attention layer's first projection computes its reference, for all arguments. -/
theorem fox_value : Cert.algebraic_FoxIdeal_FoxReferenceIdeal (hFoxIdeal := Cert.FoxIdeal.Gen.facts)
    (hFoxReferenceIdeal := Cert.FoxReferenceIdeal.Gen.facts) := by
  intro m ρ m' ρ' _ hargs
  refine ⟨fun c => Fox.stream m c, fun c => Fox.mains m c, fun c => Fox.sums m c, fun c => Fox.headSums m c, ?_, ?_⟩
  · exact (θ_run Cert.FoxIdeal.defs _ _).mono (fun r h c => ⟨(h c).1.trans (Fox.final8 m c),
      (h c).2.1.trans (Fox.final9 m c), (h c).2.2.1.trans (Fox.final10 m c), (h c).2.2.2.1.trans (Fox.final11 m c), (h c).2.2.2.2⟩)
      (Cert.FoxIdeal.Value.run_blocks (F := Ideal) m ρ)
  · refine (θ_run Cert.FoxReferenceIdeal.defs _ _).mono (fun r h c => ⟨(h c).1.trans ?_, (h c).2.1.trans ?_,
      (h c).2.2.1.trans ?_, (h c).2.2.2.1.trans ?_, (h c).2.2.2.2⟩) (Cert.FoxReferenceIdeal.Value.run (F := Ideal) m' ρ')
    · obtain ⟨e0, e1, e2, e3, e4, e5, e6, e7⟩ := hargs c
      rw [Cert.FoxReferenceIdeal.Read.val_main_v68_eq, e0, e1, e2]
      exact Fox.stream_eq m c
    · obtain ⟨e0, e1, e2, e3, e4, e5, e6, e7⟩ := hargs c
      rw [Cert.FoxReferenceIdeal.Read.val_main_v69_eq, e0, e1, e2, e3, e4, e6, e7]
      exact Fox.mains_eq m c
    · obtain ⟨e0, e1, e2, e3, e4, e5, e6, e7⟩ := hargs c
      rw [Cert.FoxReferenceIdeal.Read.val_main_v70_eq, e0, e1, e2, e3, e4, e5]
      exact Fox.sums_eq m c
    · obtain ⟨e0, e1, e2, e3, e4, e5, e6, e7⟩ := hargs c
      rw [Cert.FoxReferenceIdeal.Read.val_main_v72_eq, e0, e1, e2, e3, e4, e5]
      exact Fox.headSums_eq m c

/-- The first layer's projection's reference runs and leaves its arguments and the counters as they were. -/
theorem frame_first_reference : Cert.quiescent_FirstReferenceIdeal (hFirstReferenceIdeal := Cert.FirstReferenceIdeal.Gen.facts) := fun m ρ _ =>
  (θ_run Cert.FirstReferenceIdeal.defs _ _).mono (fun r h => ⟨fun c => (h c).2.2.2, sem_eq_zero_of_no_sems (by decide) r.2⟩)
    (Cert.FirstReferenceIdeal.Value.run (F := Ideal) m ρ)

/-- Over the reals, the first layer's projection computes its reference, for all arguments. -/
theorem first_value : Cert.algebraic_FirstIdeal_FirstReferenceIdeal (hFirstIdeal := Cert.FirstIdeal.Gen.facts)
    (hFirstReferenceIdeal := Cert.FirstReferenceIdeal.Gen.facts) := by
  intro m ρ m' ρ' _ hargs
  refine ⟨fun c => First.mains m c, fun c => First.sums m c, fun c => First.headSums m c, ?_, ?_⟩
  · exact (θ_run Cert.FirstIdeal.defs _ _).mono (fun r h c => ⟨(h c).1.trans (First.final6 m c),
      (h c).2.1.trans (First.final7 m c), (h c).2.2.1.trans (First.final8 m c), (h c).2.2.2⟩)
      (Cert.FirstIdeal.Value.run_blocks (F := Ideal) m ρ)
  · refine (θ_run Cert.FirstReferenceIdeal.defs _ _).mono (fun r h c => ⟨(h c).1.trans ?_, (h c).2.1.trans ?_,
      (h c).2.2.1.trans ?_, (h c).2.2.2⟩) (Cert.FirstReferenceIdeal.Value.run (F := Ideal) m' ρ')
    · obtain ⟨e0, e1, e2, e3, e4, e5⟩ := hargs c
      rw [Cert.FirstReferenceIdeal.Read.val_main_v66_eq, e0, e1, e2, e4, e5]
      exact First.mains_eq m c
    · obtain ⟨e0, e1, e2, e3, e4, e5⟩ := hargs c
      rw [Cert.FirstReferenceIdeal.Read.val_main_v67_eq, e0, e1, e2, e3]
      exact First.sums_eq m c
    · obtain ⟨e0, e1, e2, e3, e4, e5⟩ := hargs c
      rw [Cert.FirstReferenceIdeal.Read.val_main_v69_eq, e0, e1, e2, e3]
      exact First.headSums_eq m c

/-- The online attention's reference runs and leaves its arguments and the counters as they were. -/
theorem frame_online_reference : Cert.quiescent_OnlineReferenceIdeal (hOnlineReferenceIdeal := Cert.OnlineReferenceIdeal.Gen.facts) := fun m ρ _ =>
  (θ_run Cert.OnlineReferenceIdeal.defs _ _).mono (fun r h => ⟨fun c => (h c).2, sem_eq_zero_of_no_sems (by decide) r.2⟩)
    (Cert.OnlineReferenceIdeal.Value.run (F := Ideal) m ρ)

/-- Over the reals, for finite queries, keys and gates' sums, the online attention computes the reference. -/
theorem online_value : Cert.algebraic_OnlineIdeal_OnlineReferenceIdeal_pre_finite_logits (hOnlineIdeal := Cert.OnlineIdeal.Gen.facts)
    (hOnlineReferenceIdeal := Cert.OnlineReferenceIdeal.Gen.facts) (hPre_finite_logits := Cert.Pre_finite_logits.Gen.facts) := by
  intro m ρ m' ρ' hpre hargs
  refine ⟨fun c => (Cert.OnlineIdeal.Gen.dats m 0 c).arrAt 6 Cert.OnlineIdeal.cfg0.N, ?_, ?_⟩
  · exact Cert.OnlineIdeal.Value.run_blocks (F := Ideal) m ρ
  · refine (θ_run Cert.OnlineReferenceIdeal.defs _ _).mono (fun r h c => ⟨(h c).1.trans ?_, (h c).2⟩)
      (Cert.OnlineReferenceIdeal.Value.run (F := Ideal) m' ρ')
    obtain ⟨e0, e1, e2, e3, e4⟩ := hargs c
    rw [Cert.OnlineReferenceIdeal.Read.val_main_v37_eq, e0, e1, e2, e3, e4]
    exact Online.arrays_eq m hpre c

/-- The claims of this directory, one after another. -/
theorem claim : Cert.Claim :=
  ⟨Cert.Kernel.Gen.facts, Cert.KernelIdeal.Gen.facts, Cert.ReferenceIdeal.Gen.facts, Cert.Front.Gen.facts,
    Cert.FrontIdeal.Gen.facts, Cert.FrontReferenceIdeal.Gen.facts, Cert.Fox.Gen.facts, Cert.FoxIdeal.Gen.facts,
    Cert.FoxReferenceIdeal.Gen.facts, Cert.First.Gen.facts, Cert.FirstIdeal.Gen.facts, Cert.FirstReferenceIdeal.Gen.facts,
    Cert.Online.Gen.facts, Cert.OnlineIdeal.Gen.facts, Cert.OnlineReferenceIdeal.Gen.facts,
    Cert.Pre_finite.Gen.facts, Cert.Pre_finite_logits.Gen.facts,
    fun m ρ _ => Cert.Kernel.Gen.frame m ρ, fun m ρ _ => Cert.KernelIdeal.Gen.frame m ρ,
    fun m ρ _ => Cert.KernelIdeal.Gen.frame m ρ, frame_reference,
    fun m ρ _ => frame_reference m ρ trivial,
    fun m ρ _ => Cert.Front.Gen.frame m ρ, fun m ρ _ => Cert.FrontIdeal.Gen.frame m ρ, frame_front_reference,
    fun m ρ _ => Cert.Fox.Gen.frame m ρ, fun m ρ _ => Cert.FoxIdeal.Gen.frame m ρ, frame_fox_reference,
    fun m ρ _ => Cert.First.Gen.frame m ρ, fun m ρ _ => Cert.FirstIdeal.Gen.frame m ρ, frame_first_reference,
    fun m ρ _ => Cert.Online.Gen.frame m ρ, fun m ρ _ => Cert.OnlineIdeal.Gen.frame m ρ,
    fun m ρ _ => Cert.OnlineIdeal.Gen.frame m ρ, frame_online_reference,
    fun m ρ _ => frame_online_reference m ρ trivial,
    IdealRules.named_const.statement Cert.KernelIdeal.κ "minus_log2e" .f32 0xBFB8AA3B#32 ((-((Real.log 2)⁻¹) : ℝ) : EReal) rfl,
    value, trivial, front_value,
    IdealRules.named_const.statement Cert.FoxIdeal.κ "log2e" .f32 0x3FB8AA3B#32 (((Real.log 2)⁻¹ : ℝ) : EReal) rfl, fox_value,
    IdealRules.named_const.statement Cert.FirstIdeal.κ "log2e" .f32 0x3FB8AA3B#32 (((Real.log 2)⁻¹ : ℝ) : EReal) rfl, first_value,
    IdealRules.named_const.statement Cert.OnlineIdeal.κ "minus_log2e" .f32 0xBFB8AA3B#32 ((-((Real.log 2)⁻¹) : ℝ) : EReal) rfl, online_value⟩

end Cert.Proof

end
